-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x1x5120 : Shape := ⟨3, ![3, 1, 5120]⟩
abbrev S4x27648x640 : Shape := ⟨3, ![4, 27648, 640]⟩
abbrev S27648x160 : Shape := ⟨2, ![27648, 160]⟩
abbrev S3x40x128 : Shape := ⟨3, ![3, 40, 128]⟩
abbrev S40x3x128 : Shape := ⟨3, ![40, 3, 128]⟩
abbrev S_ : Shape := ⟨0, ![]⟩
abbrev S40x8x128 : Shape := ⟨3, ![40, 8, 128]⟩
abbrev S320x128 : Shape := ⟨2, ![320, 128]⟩
abbrev S2x16x320x128 : Shape := ⟨4, ![2, 16, 320, 128]⟩
abbrev S80x32x1024 : Shape := ⟨3, ![80, 32, 1024]⟩
abbrev S80x32x128 : Shape := ⟨3, ![80, 32, 128]⟩
abbrev S2x320x1024 : Shape := ⟨3, ![2, 320, 1024]⟩
abbrev S128x128 : Shape := ⟨2, ![128, 128]⟩
abbrev S8x1024 : Shape := ⟨2, ![8, 1024]⟩
abbrev S1x128 : Shape := ⟨2, ![1, 128]⟩
abbrev S320 : Shape := ⟨1, ![320]⟩
abbrev S320x1 : Shape := ⟨2, ![320, 1]⟩
abbrev S1x1x320x128 : Shape := ⟨4, ![1, 1, 320, 128]⟩
abbrev S1x320x128 : Shape := ⟨3, ![1, 320, 128]⟩
abbrev S256x128 : Shape := ⟨2, ![256, 128]⟩
abbrev S1024x128 : Shape := ⟨2, ![1024, 128]⟩
abbrev S1x8x1024 : Shape := ⟨3, ![1, 8, 1024]⟩
abbrev S1x1024 : Shape := ⟨2, ![1, 1024]⟩
abbrev S32x1024 : Shape := ⟨2, ![32, 1024]⟩
abbrev S1x32x1024 : Shape := ⟨3, ![1, 32, 1024]⟩
abbrev S32x128 : Shape := ⟨2, ![32, 128]⟩
abbrev S1x32x128 : Shape := ⟨3, ![1, 32, 128]⟩
abbrev S27x3x4x256 : Shape := ⟨4, ![27, 3, 4, 256]⟩
abbrev S4x1024x640 : Shape := ⟨3, ![4, 1024, 640]⟩
abbrev S1x3x4x256 : Shape := ⟨4, ![1, 3, 4, 256]⟩
abbrev S4x2x640x128 : Shape := ⟨4, ![4, 2, 640, 128]⟩
abbrev S2x640x128 : Shape := ⟨3, ![2, 640, 128]⟩
abbrev S1x512x128 : Shape := ⟨3, ![1, 512, 128]⟩
abbrev S512x128 : Shape := ⟨2, ![512, 128]⟩
abbrev S1x1x128x128 : Shape := ⟨4, ![1, 1, 128, 128]⟩
abbrev S1x128x128 : Shape := ⟨3, ![1, 128, 128]⟩
abbrev S8x256 : Shape := ⟨2, ![8, 256]⟩
abbrev S1x1x8x128 : Shape := ⟨4, ![1, 1, 8, 128]⟩
abbrev S8x128 : Shape := ⟨2, ![8, 128]⟩
abbrev S32x256 : Shape := ⟨2, ![32, 256]⟩
abbrev S960x256 : Shape := ⟨2, ![960, 256]⟩
abbrev S1x32x960 : Shape := ⟨3, ![1, 32, 960]⟩
abbrev S32x960 : Shape := ⟨2, ![32, 960]⟩
abbrev S1x8x128 : Shape := ⟨3, ![1, 8, 128]⟩
abbrev S1x256 : Shape := ⟨2, ![1, 256]⟩
abbrev S4x256 : Shape := ⟨2, ![4, 256]⟩
abbrev S1x1x4x256 : Shape := ⟨4, ![1, 1, 4, 256]⟩
abbrev S27x3x4x2x128 : Shape := ⟨5, ![27, 3, 4, 2, 128]⟩
abbrev S3x27x2x128x4 : Shape := ⟨5, ![3, 27, 2, 128, 4]⟩
abbrev S3x1x27648 : Shape := ⟨3, ![3, 1, 27648]⟩
abbrev S2x16x40x8x2x2x8x4 : Shape := ⟨8, ![2, 16, 40, 8, 2, 2, 8, 4]⟩
abbrev S2x16x40x3x1x2x8x1 : Shape := ⟨8, ![2, 16, 40, 3, 1, 2, 8, 1]⟩
abbrev S2x16x40x3x2x8 : Shape := ⟨6, ![2, 16, 40, 3, 2, 8]⟩
abbrev S3x40x2x8x2x16 : Shape := ⟨6, ![3, 40, 2, 8, 2, 16]⟩
abbrev S3x1x1280x16 : Shape := ⟨4, ![3, 1, 1280, 16]⟩
abbrev S40x3x1 : Shape := ⟨3, ![40, 3, 1]⟩
abbrev S40x3 : Shape := ⟨2, ![40, 3]⟩
abbrev S3x40 : Shape := ⟨2, ![3, 40]⟩
abbrev S3x1x40 : Shape := ⟨3, ![3, 1, 40]⟩

abbrev nBuf : Space → Nat
  | .hbm => 29
  | .vmem => 24
  | .smem => 0
  | _ => 0

abbrev bufTy : (tb : Table) → Fin (tcTables nBuf tb) → BufTy
  | .hbm, ⟨0, _⟩ => ⟨S3x1x5120, .bf16⟩
  | .hbm, ⟨1, _⟩ => ⟨S4x27648x640, .i8⟩
  | .hbm, ⟨2, _⟩ => ⟨S27648x160, .f32⟩
  | .hbm, ⟨3, _⟩ => ⟨S27648x160, .f32⟩
  | .hbm, ⟨4, _⟩ => ⟨S3x40x128, .bf16⟩
  | .hbm, ⟨5, _⟩ => ⟨S40x3x128, .bf16⟩
  | .hbm, ⟨6, _⟩ => ⟨S_, .i32⟩
  | .hbm, ⟨7, _⟩ => ⟨S_, .bf16⟩
  | .hbm, ⟨8, _⟩ => ⟨S40x8x128, .bf16⟩
  | .hbm, ⟨9, _⟩ => ⟨S320x128, .bf16⟩
  | .hbm, ⟨10, _⟩ => ⟨S2x16x320x128, .i32⟩
  | .hbm, ⟨11, _⟩ => ⟨S320x128, .f32⟩
  | .hbm, ⟨12, _⟩ => ⟨S80x32x1024, .bf16⟩
  | .hbm, ⟨13, _⟩ => ⟨S80x32x128, .f32⟩
  | .hbm, ⟨14, _⟩ => ⟨S27x3x4x256, .bf16⟩
  | .hbm, ⟨15, _⟩ => ⟨S27x3x4x2x128, .bf16⟩
  | .hbm, ⟨16, _⟩ => ⟨S3x27x2x128x4, .bf16⟩
  | .hbm, ⟨17, _⟩ => ⟨S3x1x27648, .bf16⟩
  | .hbm, ⟨18, _⟩ => ⟨S2x16x40x8x2x2x8x4, .i32⟩
  | .hbm, ⟨19, _⟩ => ⟨S2x16x40x3x1x2x8x1, .i32⟩
  | .hbm, ⟨20, _⟩ => ⟨S2x16x40x3x2x8, .i32⟩
  | .hbm, ⟨21, _⟩ => ⟨S3x40x2x8x2x16, .i32⟩
  | .hbm, ⟨22, _⟩ => ⟨S3x1x1280x16, .i32⟩
  | .hbm, ⟨23, _⟩ => ⟨S3x1x1280x16, .i8⟩
  | .hbm, ⟨24, _⟩ => ⟨S40x8x128, .f32⟩
  | .hbm, ⟨25, _⟩ => ⟨S40x3x1, .f32⟩
  | .hbm, ⟨26, _⟩ => ⟨S40x3, .f32⟩
  | .hbm, ⟨27, _⟩ => ⟨S3x40, .f32⟩
  | .hbm, ⟨28, _⟩ => ⟨S3x1x40, .f32⟩
  | .local _ .vmem, ⟨0, _⟩ => ⟨S320x128, .bf16⟩
  | .local _ .vmem, ⟨1, _⟩ => ⟨S2x16x320x128, .i32⟩
  | .local _ .vmem, ⟨2, _⟩ => ⟨S320x128, .f32⟩
  | .local _ .vmem, ⟨3, _⟩ => ⟨S80x32x1024, .bf16⟩
  | .local _ .vmem, ⟨4, _⟩ => ⟨S80x32x128, .f32⟩
  | .local _ .vmem, ⟨5, _⟩ => ⟨S2x320x1024, .f32⟩
  | .local _ .vmem, ⟨6, _⟩ => ⟨S4x1024x640, .i8⟩
  | .local _ .vmem, ⟨7, _⟩ => ⟨S4x1024x640, .i8⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S80x32x1024, .bf16⟩
  | .local _ .vmem, ⟨17, _⟩ => ⟨S80x32x128, .f32⟩
  | .local _ .vmem, ⟨18, _⟩ => ⟨S320x128, .f32⟩
  | .local _ .vmem, ⟨19, _⟩ => ⟨S1x3x4x256, .bf16⟩
  | .local _ .vmem, ⟨20, _⟩ => ⟨S1x3x4x256, .bf16⟩
  | .local _ .vmem, ⟨21, _⟩ => ⟨S4x2x640x128, .i32⟩
  | .local _ .vmem, ⟨22, _⟩ => ⟨S2x640x128, .f32⟩
  | .local _ .vmem, ⟨23, _⟩ => ⟨S2x640x128, .f32⟩
  | _, _ => ⟨S3x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg8_1 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19

abbrev nD : Nat := 1
abbrev τ : Topo := Topo.v7x

variable {F : FTy → Type} [FloatOps F]

abbrev grid0 : Pipeline.Grid := .none

@[reducible] def k0_t1_loop : Scf.Loop 32 :=
  let c0_i32_300 : BitVec 32 := 0#32
  let c40_i32 : BitVec 32 := 40#32
  let v831 : BitVec 32 := Scalar.addi c0_i32_300 c40_i32
  let c1_i32_301 : BitVec 32 := 1#32
  ⟨c0_i32_300, v831, c1_i32_301⟩
def k0_mult1 (k0_t1 : Fin k0_t1_loop.trips) : BitVec 32 :=
  let c0_i32_300 : BitVec 32 := 0#32
  let c1_i32_301 : BitVec 32 := 1#32
  let arg6 : BitVec 32 := Scf.iv c0_i32_300 c1_i32_301 k0_t1
  let c8_i32_303 : BitVec 32 := 8#32
  let v832 : BitVec 32 := Scalar.muli arg6 c8_i32_303
  v832
def k0_off1 (k0_t1 : Fin k0_t1_loop.trips) : Fin 3 → Nat :=
  let c0_304 : Index := 0#32
  let c0_i32_300 : BitVec 32 := 0#32
  let c1_i32_301 : BitVec 32 := 1#32
  let arg6 : BitVec 32 := Scf.iv c0_i32_300 c1_i32_301 k0_t1
  let c8_i32_303 : BitVec 32 := 8#32
  let v832 : BitVec 32 := Scalar.muli arg6 c8_i32_303
  let v833 : BitVec 32 := v832
  let v834 : Index := Scalar.indexCast v833
  let c0_305 : Index := 0#32
  ![0, v834.toNat, 0]
def k0_mult2 (k0_t1 : Fin k0_t1_loop.trips) : BitVec 32 :=
  let c0_i32_300 : BitVec 32 := 0#32
  let c1_i32_301 : BitVec 32 := 1#32
  let arg6 : BitVec 32 := Scf.iv c0_i32_300 c1_i32_301 k0_t1
  let c8_i32_306 : BitVec 32 := 8#32
  let v840 : BitVec 32 := Scalar.muli arg6 c8_i32_306
  v840
def k0_mult3 (k0_t1 : Fin k0_t1_loop.trips) : BitVec 32 :=
  let c0_i32_300 : BitVec 32 := 0#32
  let c1_i32_301 : BitVec 32 := 1#32
  let arg6 : BitVec 32 := Scf.iv c0_i32_300 c1_i32_301 k0_t1
  let c8_i32_309 : BitVec 32 := 8#32
  let v848 : BitVec 32 := Scalar.muli arg6 c8_i32_309
  v848
def k0_off2 (k0_t1 : Fin k0_t1_loop.trips) (c0_i32_314 : BitVec 32) : Fin 3 → Nat :=
  let c2_i32_313 : BitVec 32 := 2#32
  let c0_i32_300 : BitVec 32 := 0#32
  let c1_i32_301 : BitVec 32 := 1#32
  let arg6 : BitVec 32 := Scf.iv c0_i32_300 c1_i32_301 k0_t1
  let v859 : BitVec 32 := Scalar.muli c2_i32_313 arg6
  let v860 : BitVec 32 := Scalar.addi v859 c0_i32_314
  let v861 : Index := Scalar.indexCast v860
  let c0_315 : Index := 0#32
  let c0_316 : Index := 0#32
  ![v861.toNat, 0, 0]
def k0_off3 (k0_t1 : Fin k0_t1_loop.trips) (c0_i32_319 : BitVec 32) : Fin 3 → Nat :=
  let c2_i32_318 : BitVec 32 := 2#32
  let c0_i32_300 : BitVec 32 := 0#32
  let c1_i32_301 : BitVec 32 := 1#32
  let arg6 : BitVec 32 := Scf.iv c0_i32_300 c1_i32_301 k0_t1
  let v866 : BitVec 32 := Scalar.muli c2_i32_318 arg6
  let v867 : BitVec 32 := Scalar.addi v866 c0_i32_319
  let v868 : Index := Scalar.indexCast v867
  let c0_320 : Index := 0#32
  let c0_321 : Index := 0#32
  ![v868.toNat, 0, 0]
def k0_mult4 (k0_t1 : Fin k0_t1_loop.trips) : BitVec 32 :=
  let c0_i32_300 : BitVec 32 := 0#32
  let c1_i32_301 : BitVec 32 := 1#32
  let arg6 : BitVec 32 := Scf.iv c0_i32_300 c1_i32_301 k0_t1
  let c8_i32_322 : BitVec 32 := 8#32
  let v872 : BitVec 32 := Scalar.muli arg6 c8_i32_322
  v872
def k0_off4 (k0_t1 : Fin k0_t1_loop.trips) : Fin 3 → Nat :=
  let c1_323 : Index := 1#32
  let c0_i32_300 : BitVec 32 := 0#32
  let c1_i32_301 : BitVec 32 := 1#32
  let arg6 : BitVec 32 := Scf.iv c0_i32_300 c1_i32_301 k0_t1
  let c8_i32_322 : BitVec 32 := 8#32
  let v872 : BitVec 32 := Scalar.muli arg6 c8_i32_322
  let v873 : BitVec 32 := v872
  let v874 : Index := Scalar.indexCast v873
  let c0_324 : Index := 0#32
  ![1, v874.toNat, 0]
def k0_mult5 (k0_t1 : Fin k0_t1_loop.trips) : BitVec 32 :=
  let c0_i32_300 : BitVec 32 := 0#32
  let c1_i32_301 : BitVec 32 := 1#32
  let arg6 : BitVec 32 := Scf.iv c0_i32_300 c1_i32_301 k0_t1
  let c8_i32_325 : BitVec 32 := 8#32
  let v880 : BitVec 32 := Scalar.muli arg6 c8_i32_325
  v880
def k0_mult6 (k0_t1 : Fin k0_t1_loop.trips) : BitVec 32 :=
  let c0_i32_300 : BitVec 32 := 0#32
  let c1_i32_301 : BitVec 32 := 1#32
  let arg6 : BitVec 32 := Scf.iv c0_i32_300 c1_i32_301 k0_t1
  let c8_i32_328 : BitVec 32 := 8#32
  let v888 : BitVec 32 := Scalar.muli arg6 c8_i32_328
  v888
abbrev stage0_0 : Fin 1 → Memref sig .tc .vmem S320x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x16x320x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S320x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S80x32x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S80x32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![27], ![false]⟩

@[reducible] def k1_t1_loop : Scf.Loop 32 :=
  let c0_i32 : BitVec 32 := 0#32
  let c40_i32 : BitVec 32 := 40#32
  let v459 : BitVec 32 := Scalar.addi c0_i32 c40_i32
  let c1_i32 : BitVec 32 := 1#32
  ⟨c0_i32, v459, c1_i32⟩
def k1_mult1 (k1_t1 : Fin k1_t1_loop.trips) : BitVec 32 :=
  let c2_i32 : BitVec 32 := 2#32
  let c0_i32 : BitVec 32 := 0#32
  let c1_i32 : BitVec 32 := 1#32
  let arg13 : BitVec 32 := Scf.iv c0_i32 c1_i32 k1_t1
  let v482 : BitVec 32 := Scalar.muli c2_i32 arg13
  let c0_i32_444 : BitVec 32 := 0#32
  let v483 : BitVec 32 := Scalar.addi v482 c0_i32_444
  let c8_i32 : BitVec 32 := 8#32
  let v484 : BitVec 32 := Scalar.muli v483 c8_i32
  v484
def k1_off1 (k1_t1 : Fin k1_t1_loop.trips) (c0_i32_444 : BitVec 32) : Fin 4 → Nat :=
  let c0_445 : Index := 0#32
  let c0_446 : Index := 0#32
  let c2_i32 : BitVec 32 := 2#32
  let c0_i32 : BitVec 32 := 0#32
  let c1_i32 : BitVec 32 := 1#32
  let arg13 : BitVec 32 := Scf.iv c0_i32 c1_i32 k1_t1
  let v482 : BitVec 32 := Scalar.muli c2_i32 arg13
  let v483 : BitVec 32 := Scalar.addi v482 c0_i32_444
  let c8_i32 : BitVec 32 := 8#32
  let v484 : BitVec 32 := Scalar.muli v483 c8_i32
  let v485 : BitVec 32 := v484
  let v486 : Index := Scalar.indexCast v485
  let c0_447 : Index := 0#32
  ![0, 0, v486.toNat, 0]
def k1_off2 (k1_t1 : Fin k1_t1_loop.trips) (c0_i32_444 : BitVec 32) : Fin 4 → Nat :=
  let c0_448 : Index := 0#32
  let c1_449 : Index := 1#32
  let c2_i32 : BitVec 32 := 2#32
  let c0_i32 : BitVec 32 := 0#32
  let c1_i32 : BitVec 32 := 1#32
  let arg13 : BitVec 32 := Scf.iv c0_i32 c1_i32 k1_t1
  let v482 : BitVec 32 := Scalar.muli c2_i32 arg13
  let v483 : BitVec 32 := Scalar.addi v482 c0_i32_444
  let c8_i32 : BitVec 32 := 8#32
  let v484 : BitVec 32 := Scalar.muli v483 c8_i32
  let v485 : BitVec 32 := v484
  let v489 : Index := Scalar.indexCast v485
  let c0_450 : Index := 0#32
  ![0, 1, v489.toNat, 0]
def k1_off3 (k1_t1 : Fin k1_t1_loop.trips) (c0_i32_444 : BitVec 32) : Fin 4 → Nat :=
  let c1_451 : Index := 1#32
  let c0_452 : Index := 0#32
  let c2_i32 : BitVec 32 := 2#32
  let c0_i32 : BitVec 32 := 0#32
  let c1_i32 : BitVec 32 := 1#32
  let arg13 : BitVec 32 := Scf.iv c0_i32 c1_i32 k1_t1
  let v482 : BitVec 32 := Scalar.muli c2_i32 arg13
  let v483 : BitVec 32 := Scalar.addi v482 c0_i32_444
  let c8_i32 : BitVec 32 := 8#32
  let v484 : BitVec 32 := Scalar.muli v483 c8_i32
  let v485 : BitVec 32 := v484
  let v493 : Index := Scalar.indexCast v485
  let c0_453 : Index := 0#32
  ![1, 0, v493.toNat, 0]
def k1_off4 (k1_t1 : Fin k1_t1_loop.trips) (c0_i32_444 : BitVec 32) : Fin 4 → Nat :=
  let c1_454 : Index := 1#32
  let c1_455 : Index := 1#32
  let c2_i32 : BitVec 32 := 2#32
  let c0_i32 : BitVec 32 := 0#32
  let c1_i32 : BitVec 32 := 1#32
  let arg13 : BitVec 32 := Scf.iv c0_i32 c1_i32 k1_t1
  let v482 : BitVec 32 := Scalar.muli c2_i32 arg13
  let v483 : BitVec 32 := Scalar.addi v482 c0_i32_444
  let c8_i32 : BitVec 32 := 8#32
  let v484 : BitVec 32 := Scalar.muli v483 c8_i32
  let v485 : BitVec 32 := v484
  let v496 : Index := Scalar.indexCast v485
  let c0_456 : Index := 0#32
  ![1, 1, v496.toNat, 0]
def k1_off5 (k1_t1 : Fin k1_t1_loop.trips) (c0_i32_444 : BitVec 32) : Fin 4 → Nat :=
  let c2_457 : Index := 2#32
  let c0_458 : Index := 0#32
  let c2_i32 : BitVec 32 := 2#32
  let c0_i32 : BitVec 32 := 0#32
  let c1_i32 : BitVec 32 := 1#32
  let arg13 : BitVec 32 := Scf.iv c0_i32 c1_i32 k1_t1
  let v482 : BitVec 32 := Scalar.muli c2_i32 arg13
  let v483 : BitVec 32 := Scalar.addi v482 c0_i32_444
  let c8_i32 : BitVec 32 := 8#32
  let v484 : BitVec 32 := Scalar.muli v483 c8_i32
  let v485 : BitVec 32 := v484
  let v500 : Index := Scalar.indexCast v485
  let c0_459 : Index := 0#32
  ![2, 0, v500.toNat, 0]
def k1_off6 (k1_t1 : Fin k1_t1_loop.trips) (c0_i32_444 : BitVec 32) : Fin 4 → Nat :=
  let c2_460 : Index := 2#32
  let c1_461 : Index := 1#32
  let c2_i32 : BitVec 32 := 2#32
  let c0_i32 : BitVec 32 := 0#32
  let c1_i32 : BitVec 32 := 1#32
  let arg13 : BitVec 32 := Scf.iv c0_i32 c1_i32 k1_t1
  let v482 : BitVec 32 := Scalar.muli c2_i32 arg13
  let v483 : BitVec 32 := Scalar.addi v482 c0_i32_444
  let c8_i32 : BitVec 32 := 8#32
  let v484 : BitVec 32 := Scalar.muli v483 c8_i32
  let v485 : BitVec 32 := v484
  let v503 : Index := Scalar.indexCast v485
  let c0_462 : Index := 0#32
  ![2, 1, v503.toNat, 0]
def k1_off7 (k1_t1 : Fin k1_t1_loop.trips) (c0_i32_444 : BitVec 32) : Fin 4 → Nat :=
  let c3_463 : Index := 3#32
  let c0_464 : Index := 0#32
  let c2_i32 : BitVec 32 := 2#32
  let c0_i32 : BitVec 32 := 0#32
  let c1_i32 : BitVec 32 := 1#32
  let arg13 : BitVec 32 := Scf.iv c0_i32 c1_i32 k1_t1
  let v482 : BitVec 32 := Scalar.muli c2_i32 arg13
  let v483 : BitVec 32 := Scalar.addi v482 c0_i32_444
  let c8_i32 : BitVec 32 := 8#32
  let v484 : BitVec 32 := Scalar.muli v483 c8_i32
  let v485 : BitVec 32 := v484
  let v507 : Index := Scalar.indexCast v485
  let c0_465 : Index := 0#32
  ![3, 0, v507.toNat, 0]
def k1_off8 (k1_t1 : Fin k1_t1_loop.trips) (c0_i32_444 : BitVec 32) : Fin 4 → Nat :=
  let c3_466 : Index := 3#32
  let c1_467 : Index := 1#32
  let c2_i32 : BitVec 32 := 2#32
  let c0_i32 : BitVec 32 := 0#32
  let c1_i32 : BitVec 32 := 1#32
  let arg13 : BitVec 32 := Scf.iv c0_i32 c1_i32 k1_t1
  let v482 : BitVec 32 := Scalar.muli c2_i32 arg13
  let v483 : BitVec 32 := Scalar.addi v482 c0_i32_444
  let c8_i32 : BitVec 32 := 8#32
  let v484 : BitVec 32 := Scalar.muli v483 c8_i32
  let v485 : BitVec 32 := v484
  let v510 : Index := Scalar.indexCast v485
  let c0_468 : Index := 0#32
  ![3, 1, v510.toNat, 0]
def k1_off9 (k1_t1 : Fin k1_t1_loop.trips) (c0_i32_444 : BitVec 32) : Fin 3 → Nat :=
  let c2_i32 : BitVec 32 := 2#32
  let c0_i32 : BitVec 32 := 0#32
  let c1_i32 : BitVec 32 := 1#32
  let arg13 : BitVec 32 := Scf.iv c0_i32 c1_i32 k1_t1
  let v482 : BitVec 32 := Scalar.muli c2_i32 arg13
  let v483 : BitVec 32 := Scalar.addi v482 c0_i32_444
  let v627 : Index := Scalar.indexCast v483
  let c0_480 : Index := 0#32
  let c0_481 : Index := 0#32
  ![v627.toNat, 0, 0]
def k1_off10 (k1_t1 : Fin k1_t1_loop.trips) (c0_i32_444 : BitVec 32) : Fin 3 → Nat :=
  let c0_483 : Index := 0#32
  let c2_i32 : BitVec 32 := 2#32
  let c0_i32 : BitVec 32 := 0#32
  let c1_i32 : BitVec 32 := 1#32
  let arg13 : BitVec 32 := Scf.iv c0_i32 c1_i32 k1_t1
  let v482 : BitVec 32 := Scalar.muli c2_i32 arg13
  let v483 : BitVec 32 := Scalar.addi v482 c0_i32_444
  let c8_i32 : BitVec 32 := 8#32
  let v484 : BitVec 32 := Scalar.muli v483 c8_i32
  let v485 : BitVec 32 := v484
  let v631 : Index := Scalar.indexCast v485
  let c0_484 : Index := 0#32
  ![0, v631.toNat, 0]
def k1_off11 (k1_t1 : Fin k1_t1_loop.trips) (c0_i32_444 : BitVec 32) : Fin 3 → Nat :=
  let c1_485 : Index := 1#32
  let c2_i32 : BitVec 32 := 2#32
  let c0_i32 : BitVec 32 := 0#32
  let c1_i32 : BitVec 32 := 1#32
  let arg13 : BitVec 32 := Scf.iv c0_i32 c1_i32 k1_t1
  let v482 : BitVec 32 := Scalar.muli c2_i32 arg13
  let v483 : BitVec 32 := Scalar.addi v482 c0_i32_444
  let c8_i32 : BitVec 32 := 8#32
  let v484 : BitVec 32 := Scalar.muli v483 c8_i32
  let v485 : BitVec 32 := v484
  let v634 : Index := Scalar.indexCast v485
  let c0_486 : Index := 0#32
  ![1, v634.toNat, 0]
def k1_off12 (k1_t1 : Fin k1_t1_loop.trips) (c0_i32_444 : BitVec 32) : Fin 3 → Nat :=
  let c2_i32 : BitVec 32 := 2#32
  let c0_i32 : BitVec 32 := 0#32
  let c1_i32 : BitVec 32 := 1#32
  let arg13 : BitVec 32 := Scf.iv c0_i32 c1_i32 k1_t1
  let v482 : BitVec 32 := Scalar.muli c2_i32 arg13
  let v483 : BitVec 32 := Scalar.addi v482 c0_i32_444
  let v645 : Index := Scalar.indexCast v483
  let c0_491 : Index := 0#32
  let c0_492 : Index := 0#32
  ![v645.toNat, 0, 0]
def k1_off13 (k1_t1 : Fin k1_t1_loop.trips) (c0_i32_444 : BitVec 32) : Fin 3 → Nat :=
  let c2_i32 : BitVec 32 := 2#32
  let c0_i32 : BitVec 32 := 0#32
  let c1_i32 : BitVec 32 := 1#32
  let arg13 : BitVec 32 := Scf.iv c0_i32 c1_i32 k1_t1
  let v482 : BitVec 32 := Scalar.muli c2_i32 arg13
  let v483 : BitVec 32 := Scalar.addi v482 c0_i32_444
  let v653 : Index := Scalar.indexCast v483
  let c8 : Index := 8#32
  let c0_493 : Index := 0#32
  ![v653.toNat, 8, 0]
def k1_off14 (k1_t1 : Fin k1_t1_loop.trips) (c0_i32_444 : BitVec 32) : Fin 3 → Nat :=
  let c2_i32 : BitVec 32 := 2#32
  let c0_i32 : BitVec 32 := 0#32
  let c1_i32 : BitVec 32 := 1#32
  let arg13 : BitVec 32 := Scf.iv c0_i32 c1_i32 k1_t1
  let v482 : BitVec 32 := Scalar.muli c2_i32 arg13
  let v483 : BitVec 32 := Scalar.addi v482 c0_i32_444
  let v661 : Index := Scalar.indexCast v483
  let c16 : Index := 16#32
  let c0_494 : Index := 0#32
  ![v661.toNat, 16, 0]
def k1_mult2 (k1_t1 : Fin k1_t1_loop.trips) : BitVec 32 :=
  let c2_i32_495 : BitVec 32 := 2#32
  let c0_i32 : BitVec 32 := 0#32
  let c1_i32 : BitVec 32 := 1#32
  let arg13 : BitVec 32 := Scf.iv c0_i32 c1_i32 k1_t1
  let v669 : BitVec 32 := Scalar.muli c2_i32_495 arg13
  let c1_i32_496 : BitVec 32 := 1#32
  let v670 : BitVec 32 := Scalar.addi v669 c1_i32_496
  let c8_i32_497 : BitVec 32 := 8#32
  let v671 : BitVec 32 := Scalar.muli v670 c8_i32_497
  v671
def k1_mult3 (k1_t1 : Fin k1_t1_loop.trips) : BitVec 32 :=
  let c0_i32 : BitVec 32 := 0#32
  let c1_i32 : BitVec 32 := 1#32
  let arg13 : BitVec 32 := Scf.iv c0_i32 c1_i32 k1_t1
  let c8_i32_551 : BitVec 32 := 8#32
  let v859 : BitVec 32 := Scalar.muli arg13 c8_i32_551
  v859
def k1_off15 (k1_t1 : Fin k1_t1_loop.trips) : Fin 2 → Nat :=
  let c0_i32 : BitVec 32 := 0#32
  let c1_i32 : BitVec 32 := 1#32
  let arg13 : BitVec 32 := Scf.iv c0_i32 c1_i32 k1_t1
  let c8_i32_551 : BitVec 32 := 8#32
  let v859 : BitVec 32 := Scalar.muli arg13 c8_i32_551
  let v860 : BitVec 32 := v859
  let v861 : Index := Scalar.indexCast v860
  let c0_552 : Index := 0#32
  ![v861.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S4x1024x640 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S80x32x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S80x32x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S320x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1x3x4x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== ReferenceIdeal.lean ====
abbrev S3x1x5120 : Shape := ⟨3, ![3, 1, 5120]⟩
abbrev S4x27648x640 : Shape := ⟨3, ![4, 27648, 640]⟩
abbrev S27648x160 : Shape := ⟨2, ![27648, 160]⟩
abbrev S3x1x1280x4 : Shape := ⟨4, ![3, 1, 1280, 4]⟩
abbrev S16 : Shape := ⟨1, ![16]⟩
abbrev S16x1 : Shape := ⟨2, ![16, 1]⟩
abbrev S4 : Shape := ⟨1, ![4]⟩
abbrev S1x4 : Shape := ⟨2, ![1, 4]⟩
abbrev S16x4 : Shape := ⟨2, ![16, 4]⟩
abbrev S_ : Shape := ⟨0, ![]⟩
abbrev S3x1x1280x16 : Shape := ⟨4, ![3, 1, 1280, 16]⟩
abbrev S3x1x1280x1 : Shape := ⟨4, ![3, 1, 1280, 1]⟩
abbrev S1x1x1x16 : Shape := ⟨4, ![1, 1, 1, 16]⟩
abbrev S3x1x40x512 : Shape := ⟨4, ![3, 1, 40, 512]⟩
abbrev S3x1x40 : Shape := ⟨3, ![3, 1, 40]⟩
abbrev S3x1x40x1 : Shape := ⟨4, ![3, 1, 40, 1]⟩
abbrev S3x1x640x2x16 : Shape := ⟨5, ![3, 1, 640, 2, 16]⟩
abbrev S640 : Shape := ⟨1, ![640]⟩
abbrev S1x1x640 : Shape := ⟨3, ![1, 1, 640]⟩
abbrev S3x1x640x1x16 : Shape := ⟨5, ![3, 1, 640, 1, 16]⟩
abbrev S3x1x640x16 : Shape := ⟨4, ![3, 1, 640, 16]⟩
abbrev S4x27648x640x1 : Shape := ⟨4, ![4, 27648, 640, 1]⟩
abbrev S4x27648x640x2 : Shape := ⟨4, ![4, 27648, 640, 2]⟩
abbrev S3x1x4x27648x640 : Shape := ⟨5, ![3, 1, 4, 27648, 640]⟩
abbrev S3x1x4x27648x160x4 : Shape := ⟨6, ![3, 1, 4, 27648, 160, 4]⟩
abbrev S3x1x4x27648x160 : Shape := ⟨5, ![3, 1, 4, 27648, 160]⟩
abbrev S4x1x1 : Shape := ⟨3, ![4, 1, 1]⟩
abbrev S1x1x4x1x1 : Shape := ⟨5, ![1, 1, 4, 1, 1]⟩
abbrev S3x1x27648x160 : Shape := ⟨4, ![3, 1, 27648, 160]⟩
abbrev S3x1x1280 : Shape := ⟨3, ![3, 1, 1280]⟩
abbrev S3x1x160x8 : Shape := ⟨4, ![3, 1, 160, 8]⟩
abbrev S3x1x160 : Shape := ⟨3, ![3, 1, 160]⟩
abbrev S1x1x27648x160 : Shape := ⟨4, ![1, 1, 27648, 160]⟩
abbrev S3x1x1x160 : Shape := ⟨4, ![3, 1, 1, 160]⟩
abbrev S3x1x27648x40x4 : Shape := ⟨5, ![3, 1, 27648, 40, 4]⟩
abbrev S27648x40x4 : Shape := ⟨3, ![27648, 40, 4]⟩
abbrev S27648x40x3x1 : Shape := ⟨4, ![27648, 40, 3, 1]⟩
abbrev S3x1x27648x40 : Shape := ⟨4, ![3, 1, 27648, 40]⟩
abbrev S3x1x27648 : Shape := ⟨3, ![3, 1, 27648]⟩

abbrev nBuf : Space → Nat
  | .hbm => 167
  | .vmem => 0
  | .smem => 0
  | _ => 0

abbrev hbmTy0_0 (i : Nat) : BufTy := match i % 128 with
  | 0 => ⟨S3x1x5120, .bf16⟩
  | 1 => ⟨S4x27648x640, .i8⟩
  | 2 => ⟨S27648x160, .f32⟩
  | 3 => ⟨S27648x160, .f32⟩
  | 4 => ⟨S3x1x5120, .f32⟩
  | 5 => ⟨S3x1x1280x4, .f32⟩
  | 6 => ⟨S16, .i32⟩
  | 7 => ⟨S16x1, .i32⟩
  | 8 => ⟨S4, .i32⟩
  | 9 => ⟨S1x4, .i32⟩
  | 10 => ⟨S16x4, .i32⟩
  | 11 => ⟨S16x4, .i32⟩
  | 12 => ⟨S16x4, .i32⟩
  | 13 => ⟨S_, .i32⟩
  | 14 => ⟨S16x4, .i32⟩
  | 15 => ⟨S16x4, .i32⟩
  | 16 => ⟨S16x4, .f32⟩
  | 17 => ⟨S_, .f32⟩
  | 18 => ⟨S3x1x1280x16, .f32⟩
  | 19 => ⟨S16x1, .f32⟩
  | 20 => ⟨S16, .f32⟩
  | 21 => ⟨S3x1x1280x1, .f32⟩
  | 22 => ⟨S1x1x1x16, .f32⟩
  | 23 => ⟨S3x1x1280x16, .f32⟩
  | 24 => ⟨S3x1x1280x16, .f32⟩
  | 25 => ⟨S3x1x1280x16, .f32⟩
  | 26 => ⟨S3x1x1280x16, .f32⟩
  | 27 => ⟨S16x1, .f32⟩
  | 28 => ⟨S16, .f32⟩
  | 29 => ⟨S3x1x1280x1, .f32⟩
  | 30 => ⟨S1x1x1x16, .f32⟩
  | 31 => ⟨S3x1x1280x16, .f32⟩
  | 32 => ⟨S3x1x1280x16, .f32⟩
  | 33 => ⟨S3x1x1280x16, .f32⟩
  | 34 => ⟨S3x1x1280x16, .f32⟩
  | 35 => ⟨S16x1, .f32⟩
  | 36 => ⟨S16, .f32⟩
  | 37 => ⟨S3x1x1280x1, .f32⟩
  | 38 => ⟨S1x1x1x16, .f32⟩
  | 39 => ⟨S3x1x1280x16, .f32⟩
  | 40 => ⟨S3x1x1280x16, .f32⟩
  | 41 => ⟨S3x1x1280x16, .f32⟩
  | 42 => ⟨S3x1x1280x16, .f32⟩
  | 43 => ⟨S16x1, .f32⟩
  | 44 => ⟨S16, .f32⟩
  | 45 => ⟨S3x1x1280x1, .f32⟩
  | 46 => ⟨S1x1x1x16, .f32⟩
  | 47 => ⟨S3x1x1280x16, .f32⟩
  | 48 => ⟨S3x1x1280x16, .f32⟩
  | 49 => ⟨S3x1x1280x16, .f32⟩
  | 50 => ⟨S3x1x1280x16, .f32⟩
  | 51 => ⟨S3x1x40x512, .f32⟩
  | 52 => ⟨S3x1x40x512, .f32⟩
  | 53 => ⟨S_, .f32⟩
  | 54 => ⟨S3x1x40, .f32⟩
  | 55 => ⟨S_, .f32⟩
  | 56 => ⟨S3x1x40, .f32⟩
  | 57 => ⟨S3x1x40, .i1⟩
  | 58 => ⟨S_, .f32⟩
  | 59 => ⟨S3x1x40, .f32⟩
  | 60 => ⟨S3x1x40, .f32⟩
  | 61 => ⟨S_, .f32⟩
  | 62 => ⟨S3x1x40, .f32⟩
  | 63 => ⟨S3x1x40, .f32⟩
  | 64 => ⟨S3x1x40x1, .f32⟩
  | 65 => ⟨S3x1x40x512, .f32⟩
  | 66 => ⟨S3x1x40x512, .f32⟩
  | 67 => ⟨S3x1x40x512, .f32⟩
  | 68 => ⟨S_, .f32⟩
  | 69 => ⟨S_, .f32⟩
  | 70 => ⟨S_, .f32⟩
  | 71 => ⟨S3x1x40x512, .f32⟩
  | 72 => ⟨S3x1x40x512, .f32⟩
  | 73 => ⟨S_, .f32⟩
  | 74 => ⟨S3x1x40x512, .f32⟩
  | 75 => ⟨S3x1x40x512, .f32⟩
  | 76 => ⟨S3x1x40x512, .i32⟩
  | 77 => ⟨S3x1x1280x16, .i32⟩
  | 78 => ⟨S3x1x1280x16, .i8⟩
  | 79 => ⟨S4x27648x640, .i32⟩
  | 80 => ⟨S_, .i32⟩
  | 81 => ⟨S4x27648x640, .i32⟩
  | 82 => ⟨S4x27648x640, .i32⟩
  | 83 => ⟨S_, .i32⟩
  | 84 => ⟨S4x27648x640, .i32⟩
  | 85 => ⟨S4x27648x640, .i32⟩
  | 86 => ⟨S3x1x640x2x16, .i8⟩
  | 87 => ⟨S640, .i32⟩
  | 88 => ⟨S1x1x640, .i32⟩
  | 89 => ⟨S3x1x640x1x16, .i8⟩
  | 90 => ⟨S3x1x640x16, .i8⟩
  | 91 => ⟨S_, .i32⟩
  | 92 => ⟨S1x1x640, .i32⟩
  | 93 => ⟨S1x1x640, .i1⟩
  | 94 => ⟨S_, .i32⟩
  | 95 => ⟨S1x1x640, .i32⟩
  | 96 => ⟨S1x1x640, .i32⟩
  | 97 => ⟨S1x1x640, .i32⟩
  | 98 => ⟨S_, .i32⟩
  | 99 => ⟨S4x27648x640, .i32⟩
  | 100 => ⟨S4x27648x640, .i1⟩
  | 101 => ⟨S_, .i32⟩
  | 102 => ⟨S4x27648x640, .i32⟩
  | 103 => ⟨S4x27648x640, .i32⟩
  | 104 => ⟨S4x27648x640, .i32⟩
  | 105 => ⟨S4x27648x640, .i32⟩
  | 106 => ⟨S4x27648x640x1, .i32⟩
  | 107 => ⟨S4x27648x640x1, .i32⟩
  | 108 => ⟨S4x27648x640x2, .i32⟩
  | 109 => ⟨S3x1x4x27648x640, .i8⟩
  | 110 => ⟨S3x1x640x1x16, .i8⟩
  | 111 => ⟨S3x1x640x16, .i8⟩
  | 112 => ⟨S_, .i32⟩
  | 113 => ⟨S1x1x640, .i32⟩
  | 114 => ⟨S1x1x640, .i1⟩
  | 115 => ⟨S_, .i32⟩
  | 116 => ⟨S1x1x640, .i32⟩
  | 117 => ⟨S1x1x640, .i32⟩
  | 118 => ⟨S1x1x640, .i32⟩
  | 119 => ⟨S_, .i32⟩
  | 120 => ⟨S4x27648x640, .i32⟩
  | 121 => ⟨S4x27648x640, .i1⟩
  | 122 => ⟨S_, .i32⟩
  | 123 => ⟨S4x27648x640, .i32⟩
  | 124 => ⟨S4x27648x640, .i32⟩
  | 125 => ⟨S4x27648x640, .i32⟩
  | 126 => ⟨S4x27648x640, .i32⟩
  | 127 => ⟨S4x27648x640x1, .i32⟩
  | _ => ⟨S3x1x5120, .bf16⟩

abbrev hbmTy0_1 (i : Nat) : BufTy := match i % 128 with
  | 0 => ⟨S4x27648x640x1, .i32⟩
  | 1 => ⟨S4x27648x640x2, .i32⟩
  | 2 => ⟨S3x1x4x27648x640, .i8⟩
  | 3 => ⟨S3x1x4x27648x640, .i32⟩
  | 4 => ⟨S3x1x4x27648x640, .i32⟩
  | 5 => ⟨S3x1x4x27648x640, .i32⟩
  | 6 => ⟨S3x1x4x27648x160x4, .i32⟩
  | 7 => ⟨S_, .i32⟩
  | 8 => ⟨S3x1x4x27648x160, .i32⟩
  | 9 => ⟨S4, .i32⟩
  | 10 => ⟨S_, .i32⟩
  | 11 => ⟨S4, .i32⟩
  | 12 => ⟨S4, .i32⟩
  | 13 => ⟨S4x1x1, .i32⟩
  | 14 => ⟨S1x1x4x1x1, .i32⟩
  | 15 => ⟨S3x1x4x27648x160, .i32⟩
  | 16 => ⟨S3x1x4x27648x160, .i32⟩
  | 17 => ⟨S_, .i32⟩
  | 18 => ⟨S3x1x27648x160, .i32⟩
  | 19 => ⟨S3x1x1280x1, .i8⟩
  | 20 => ⟨S3x1x1280, .i8⟩
  | 21 => ⟨S3x1x1280, .i32⟩
  | 22 => ⟨S3x1x160x8, .i32⟩
  | 23 => ⟨S_, .i32⟩
  | 24 => ⟨S3x1x160, .i32⟩
  | 25 => ⟨S3x1x27648x160, .f32⟩
  | 26 => ⟨S1x1x27648x160, .f32⟩
  | 27 => ⟨S3x1x160, .f32⟩
  | 28 => ⟨S3x1x1x160, .f32⟩
  | 29 => ⟨S3x1x27648x160, .f32⟩
  | 30 => ⟨S3x1x27648x160, .f32⟩
  | 31 => ⟨S3x1x27648x160, .f32⟩
  | 32 => ⟨S3x1x27648x160, .f32⟩
  | 33 => ⟨S3x1x27648x40x4, .f32⟩
  | 34 => ⟨S27648x40x4, .f32⟩
  | 35 => ⟨S27648x40x3x1, .f32⟩
  | 36 => ⟨S3x1x27648x40, .f32⟩
  | 37 => ⟨S3x1x27648, .f32⟩
  | 38 => ⟨S3x1x27648, .bf16⟩
  | _ => ⟨S3x1x5120, .bf16⟩

abbrev hbmTy (i : Nat) : BufTy := match i / 128 with
  | 0 => hbmTy0_0 i
  | 1 => hbmTy0_1 i
  | _ => ⟨S3x1x5120, .bf16⟩

abbrev bufTy : (tb : Table) → Fin (tcTables nBuf tb) → BufTy
  | .hbm, ⟨i, _⟩ => hbmTy i
  | _, _ => ⟨S3x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_cst_0 : Ref sig .tc := ⟨.hbm, 53, rfl⟩
abbrev main_v47 : Ref sig .tc := ⟨.hbm, 54, rfl⟩
abbrev main_cst_1 : Ref sig .tc := ⟨.hbm, 55, rfl⟩
abbrev main_v48 : Ref sig .tc := ⟨.hbm, 56, rfl⟩
abbrev main_v49 : Ref sig .tc := ⟨.hbm, 57, rfl⟩
abbrev main_cst_2 : Ref sig .tc := ⟨.hbm, 58, rfl⟩
abbrev main_v50 : Ref sig .tc := ⟨.hbm, 59, rfl⟩
abbrev main_v51 : Ref sig .tc := ⟨.hbm, 60, rfl⟩
abbrev main_cst_3 : Ref sig .tc := ⟨.hbm, 61, rfl⟩
abbrev main_call0_v0 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_4 : Ref sig .tc := ⟨.hbm, 68, rfl⟩
abbrev main_cst_5 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_c_6 : Ref sig .tc := ⟨.hbm, 80, rfl⟩
abbrev main_v62 : Ref sig .tc := ⟨.hbm, 81, rfl⟩
abbrev main_v63 : Ref sig .tc := ⟨.hbm, 82, rfl⟩
abbrev main_c_7 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_c_8 : Ref sig .tc := ⟨.hbm, 91, rfl⟩
abbrev main_v71 : Ref sig .tc := ⟨.hbm, 92, rfl⟩
abbrev main_v72 : Ref sig .tc := ⟨.hbm, 93, rfl⟩
abbrev main_c_9 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_c_10 : Ref sig .tc := ⟨.hbm, 98, rfl⟩
abbrev main_v76 : Ref sig .tc := ⟨.hbm, 99, rfl⟩
abbrev main_v77 : Ref sig .tc := ⟨.hbm, 100, rfl⟩
abbrev main_c_11 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_c_12 : Ref sig .tc := ⟨.hbm, 112, rfl⟩
abbrev main_v88 : Ref sig .tc := ⟨.hbm, 113, rfl⟩
abbrev main_v89 : Ref sig .tc := ⟨.hbm, 114, rfl⟩
abbrev main_c_13 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_c_14 : Ref sig .tc := ⟨.hbm, 119, rfl⟩
abbrev main_v93 : Ref sig .tc := ⟨.hbm, 120, rfl⟩
abbrev main_v94 : Ref sig .tc := ⟨.hbm, 121, rfl⟩
abbrev main_c_15 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_c_16 : Ref sig .tc := ⟨.hbm, 135, rfl⟩
abbrev main_v107 : Ref sig .tc := ⟨.hbm, 136, rfl⟩
abbrev main_v108 : Ref sig .tc := ⟨.hbm, 137, rfl⟩
abbrev main_c_17 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_c_18 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_c_19 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩

abbrev nD : Nat := 1
abbrev τ : Topo := Topo.v7x

variable {F : FTy → Type} [FloatOps F]
-- ==== Proof.Kernel.Run0.lean ====
/-
  The tables call: its body run on any staging memrefs, its proof data and its body obligation.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_tables` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 1, through which its contents are stated (`View.read_writes_of_cover`: the
    choice does not matter). -/
abbrev VO0_1 : View sig .tc .vmem S2x16x320x128 .i32 := (Memref.whole cc0_stg1_0 : Memref sig .tc .vmem S2x16x320x128 .i32).view
/-- One staging buffer of output window 2, through which its contents are stated (`View.read_writes_of_cover`: the
    choice does not matter). -/
abbrev VO0_2 : View sig .tc .vmem S320x128 .f32 := (Memref.whole cc0_stg2_0 : Memref sig .tc .vmem S320x128 .f32).view
/-- One staging buffer of output window 3, through which its contents are stated (`View.read_writes_of_cover`: the
    choice does not matter). -/
abbrev VO0_3 : View sig .tc .vmem S80x32x1024 .bf16 := (Memref.whole cc0_stg3_0 : Memref sig .tc .vmem S80x32x1024 .bf16).view
/-- One staging buffer of output window 4, through which its contents are stated (`View.read_writes_of_cover`: the
    choice does not matter). -/
abbrev VO0_4 : View sig .tc .vmem S80x32x128 .f32 := (Memref.whole cc0_stg4_0 : Memref sig .tc .vmem S80x32x128 .f32).view
/-- Each window's current staging memref at point `t`, spelled as the pipeline passes it (`bodyAt0`), and its wholeness. -/
abbrev ms0_0 (t : Fin cfg0.N) : Memref sig .tc .vmem S320x128 .bf16 := win0_0.stage (cfg0.slots t 0)
abbrev hs0_0 (t : Fin cfg0.N) : (ms0_0 t).IsWhole := hstage0_0 0
abbrev ms0_1 (t : Fin cfg0.N) : Memref sig .tc .vmem S2x16x320x128 .i32 := win0_1.stage (cfg0.slots t 1)
abbrev hs0_1 (t : Fin cfg0.N) : (ms0_1 t).IsWhole := hstage0_1 0
abbrev ms0_2 (t : Fin cfg0.N) : Memref sig .tc .vmem S320x128 .f32 := win0_2.stage (cfg0.slots t 2)
abbrev hs0_2 (t : Fin cfg0.N) : (ms0_2 t).IsWhole := hstage0_2 0
abbrev ms0_3 (t : Fin cfg0.N) : Memref sig .tc .vmem S80x32x1024 .bf16 := win0_3.stage (cfg0.slots t 3)
abbrev hs0_3 (t : Fin cfg0.N) : (ms0_3 t).IsWhole := hstage0_3 0
abbrev ms0_4 (t : Fin cfg0.N) : Memref sig .tc .vmem S80x32x128 .f32 := win0_4.stage (cfg0.slots t 4)
abbrev hs0_4 (t : Fin cfg0.N) : (ms0_4 t).IsWhole := hstage0_4 0
/-- The scratch operands: whole scoped buffers of the kernel's own, passed beside the windows. -/
abbrev scM0_0 : Memref sig .tc .vmem S2x320x1024 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (arg0 : Memref sig .tc .vmem S320x128 .bf16) (harg0 : arg0.IsWhole) (arg1 : Memref sig .tc .vmem S2x16x320x128 .i32) (harg1 : arg1.IsWhole) (arg2 : Memref sig .tc .vmem S320x128 .f32) (harg2 : arg2.IsWhole) (arg3 : Memref sig .tc .vmem S80x32x1024 .bf16) (harg3 : arg3.IsWhole) (arg4 : Memref sig .tc .vmem S80x32x128 .f32) (harg4 : arg4.IsWhole) (arg5 : Memref sig .tc .vmem S2x320x1024 .f32) (harg5 : arg5.IsWhole)
    (x0 : Vec F S320x128 .bf16) :
    Σ' (L1 : List (View.Piece (Elt F) S2x16x320x128 .i32)), Σ' (L2 : List (View.Piece (Elt F) S320x128 .f32)), Σ' (L3 : List (View.Piece (Elt F) S80x32x1024 .bf16)), { L4 : List (View.Piece (Elt F) S80x32x128 .f32) //
      ∀ (E : Set ℕ) (K : PUnit → sProp 𝕄),
        iprop(owns (c : Thread nD τ) arg0 fullShare x0 ∗ (∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg0 fullShare x0 ∗ (∃ f, arg1.view.loc (c : Thread nD τ) ↦[arg1.view.set]{fullShare} arg1.view.writes (Elt F) f L1) ∗ (∃ f, arg2.view.loc (c : Thread nD τ) ↦[arg2.view.set]{fullShare} arg2.view.writes (Elt F) f L2) ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ d, owns (c : Thread nD τ) arg5 fullShare d)) -∗ K ⟨⟩))
          ⊢ wp frame (wpE (defs₀ (F := F)) Variants.none c none) E (cc0_tables arg0 harg0 arg1 harg1 arg2 harg2 arg3 harg3 arg4 harg4 arg5 harg5) K } := by
  refine ⟨?_, ?_, ?_, ?_, fun E K => ?run⟩
  case run =>
    simp only [cc0_tables_eq_skeleton]; unfold cc0_tables_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%d1, %f1, -, H1⟩, ⟨%d2, %f2, -, H2⟩, ⟨%d3, %f3, -, H3⟩, ⟨%d4, %f4, -, H4⟩, ⟨%ds0, %fs0, -, HS0⟩, Hk⟩
    obtain rfl := harg0.eq_unread hf0
    sl_exec
    sl_step
    iapply Hk
    isplitl [H0]
    · iexists _; isplitr; · ipureintro; exact harg0.read_unread _
      iexact H0
    isplitl [H1]; · iexists _; iexact H1
    isplitl [H2]; · iexists _; iexact H2
    isplitl [H3]; · iexists _; iexact H3
    isplitl [H4]; · iexists _; iexact H4
    iexists _, _; isplitr; swap; · iexact HS0
    ipureintro; rfl

/-- The run's pieces for output 1 tile its block (32 stores of `S1x1x320x128`, checked by the kernel's evaluation: Lib/Ring.lean `Piece.tiledL`, linear in the pieces, through a loop's `@[irreducible]` trip theorem too), so they cover it. -/
theorem cover0_A_1 (c : Dev nD) (arg0 : Memref sig .tc .vmem S320x128 .bf16) (harg0 : arg0.IsWhole) (arg1 : Memref sig .tc .vmem S2x16x320x128 .i32) (harg1 : arg1.IsWhole) (arg2 : Memref sig .tc .vmem S320x128 .f32) (harg2 : arg2.IsWhole) (arg3 : Memref sig .tc .vmem S80x32x1024 .bf16) (harg3 : arg3.IsWhole) (arg4 : Memref sig .tc .vmem S80x32x128 .f32) (harg4 : arg4.IsWhole) (arg5 : Memref sig .tc .vmem S2x320x1024 .f32) (harg5 : arg5.IsWhole)
    (x0 : Vec F S320x128 .bf16) (y : S2x16x320x128.Idx) :
    ∃ pc ∈ (kernelRun0_A c arg0 harg0 arg1 harg1 arg2 harg2 arg3 harg3 arg4 harg4 arg5 harg5 x0).1, y ∈ pc.1.set :=
  View.cover_of_tiledL (kernelRun0_A c arg0 harg0 arg1 harg1 arg2 harg2 arg3 harg3 arg4 harg4 arg5 harg5 x0).1 S1x1x320x128.size (by sl_kernel_rfl) y

/-- What the run leaves in output 1's staging buffer: its pieces read back over junk. -/
def out0_A_1 (c : Dev nD) (arg0 : Memref sig .tc .vmem S320x128 .bf16) (harg0 : arg0.IsWhole) (arg1 : Memref sig .tc .vmem S2x16x320x128 .i32) (harg1 : arg1.IsWhole) (arg2 : Memref sig .tc .vmem S320x128 .f32) (harg2 : arg2.IsWhole) (arg3 : Memref sig .tc .vmem S80x32x1024 .bf16) (harg3 : arg3.IsWhole) (arg4 : Memref sig .tc .vmem S80x32x128 .f32) (harg4 : arg4.IsWhole) (arg5 : Memref sig .tc .vmem S2x320x1024 .f32) (harg5 : arg5.IsWhole)
    (x0 : Vec F S320x128 .bf16) : Vec F S2x16x320x128 .i32 :=
  VO0_1.read (Elt F) (VO0_1.writes (Elt F) VO0_1.junk (kernelRun0_A c arg0 harg0 arg1 harg1 arg2 harg2 arg3 harg3 arg4 harg4 arg5 harg5 x0).1)

/-- The run's pieces for output 2 tile its block (1 store of `S320x128`, checked by the kernel's evaluation: Lib/Ring.lean `Piece.tiledL`, linear in the pieces, through a loop's `@[irreducible]` trip theorem too), so they cover it. -/
theorem cover0_A_2 (c : Dev nD) (arg0 : Memref sig .tc .vmem S320x128 .bf16) (harg0 : arg0.IsWhole) (arg1 : Memref sig .tc .vmem S2x16x320x128 .i32) (harg1 : arg1.IsWhole) (arg2 : Memref sig .tc .vmem S320x128 .f32) (harg2 : arg2.IsWhole) (arg3 : Memref sig .tc .vmem S80x32x1024 .bf16) (harg3 : arg3.IsWhole) (arg4 : Memref sig .tc .vmem S80x32x128 .f32) (harg4 : arg4.IsWhole) (arg5 : Memref sig .tc .vmem S2x320x1024 .f32) (harg5 : arg5.IsWhole)
    (x0 : Vec F S320x128 .bf16) (y : S320x128.Idx) :
    ∃ pc ∈ (kernelRun0_A c arg0 harg0 arg1 harg1 arg2 harg2 arg3 harg3 arg4 harg4 arg5 harg5 x0).2.1, y ∈ pc.1.set :=
  View.cover_of_tiledL (kernelRun0_A c arg0 harg0 arg1 harg1 arg2 harg2 arg3 harg3 arg4 harg4 arg5 harg5 x0).2.1 S320x128.size (by sl_kernel_rfl) y

/-- What the run leaves in output 2's staging buffer: its pieces read back over junk. -/
def out0_A_2 (c : Dev nD) (arg0 : Memref sig .tc .vmem S320x128 .bf16) (harg0 : arg0.IsWhole) (arg1 : Memref sig .tc .vmem S2x16x320x128 .i32) (harg1 : arg1.IsWhole) (arg2 : Memref sig .tc .vmem S320x128 .f32) (harg2 : arg2.IsWhole) (arg3 : Memref sig .tc .vmem S80x32x1024 .bf16) (harg3 : arg3.IsWhole) (arg4 : Memref sig .tc .vmem S80x32x128 .f32) (harg4 : arg4.IsWhole) (arg5 : Memref sig .tc .vmem S2x320x1024 .f32) (harg5 : arg5.IsWhole)
    (x0 : Vec F S320x128 .bf16) : Vec F S320x128 .f32 :=
  VO0_2.read (Elt F) (VO0_2.writes (Elt F) VO0_2.junk (kernelRun0_A c arg0 harg0 arg1 harg1 arg2 harg2 arg3 harg3 arg4 harg4 arg5 harg5 x0).2.1)

/-- The run's pieces for output 3 tile its block (80 stores of `S1x32x1024`, checked by the kernel's evaluation: Lib/Ring.lean `Piece.tiledL`, linear in the pieces, through a loop's `@[irreducible]` trip theorem too), so they cover it. -/
theorem cover0_A_3 (c : Dev nD) (arg0 : Memref sig .tc .vmem S320x128 .bf16) (harg0 : arg0.IsWhole) (arg1 : Memref sig .tc .vmem S2x16x320x128 .i32) (harg1 : arg1.IsWhole) (arg2 : Memref sig .tc .vmem S320x128 .f32) (harg2 : arg2.IsWhole) (arg3 : Memref sig .tc .vmem S80x32x1024 .bf16) (harg3 : arg3.IsWhole) (arg4 : Memref sig .tc .vmem S80x32x128 .f32) (harg4 : arg4.IsWhole) (arg5 : Memref sig .tc .vmem S2x320x1024 .f32) (harg5 : arg5.IsWhole)
    (x0 : Vec F S320x128 .bf16) (y : S80x32x1024.Idx) :
    ∃ pc ∈ (kernelRun0_A c arg0 harg0 arg1 harg1 arg2 harg2 arg3 harg3 arg4 harg4 arg5 harg5 x0).2.2.1, y ∈ pc.1.set :=
  View.cover_of_tiledL (kernelRun0_A c arg0 harg0 arg1 harg1 arg2 harg2 arg3 harg3 arg4 harg4 arg5 harg5 x0).2.2.1 S1x32x1024.size (by sl_kernel_rfl) y

/-- What the run leaves in output 3's staging buffer: its pieces read back over junk. -/
def out0_A_3 (c : Dev nD) (arg0 : Memref sig .tc .vmem S320x128 .bf16) (harg0 : arg0.IsWhole) (arg1 : Memref sig .tc .vmem S2x16x320x128 .i32) (harg1 : arg1.IsWhole) (arg2 : Memref sig .tc .vmem S320x128 .f32) (harg2 : arg2.IsWhole) (arg3 : Memref sig .tc .vmem S80x32x1024 .bf16) (harg3 : arg3.IsWhole) (arg4 : Memref sig .tc .vmem S80x32x128 .f32) (harg4 : arg4.IsWhole) (arg5 : Memref sig .tc .vmem S2x320x1024 .f32) (harg5 : arg5.IsWhole)
    (x0 : Vec F S320x128 .bf16) : Vec F S80x32x1024 .bf16 :=
  VO0_3.read (Elt F) (VO0_3.writes (Elt F) VO0_3.junk (kernelRun0_A c arg0 harg0 arg1 harg1 arg2 harg2 arg3 harg3 arg4 harg4 arg5 harg5 x0).2.2.1)

/-- The run's pieces for output 4 tile its block (80 stores of `S1x32x128`, checked by the kernel's evaluation: Lib/Ring.lean `Piece.tiledL`, linear in the pieces, through a loop's `@[irreducible]` trip theorem too), so they cover it. -/
theorem cover0_A_4 (c : Dev nD) (arg0 : Memref sig .tc .vmem S320x128 .bf16) (harg0 : arg0.IsWhole) (arg1 : Memref sig .tc .vmem S2x16x320x128 .i32) (harg1 : arg1.IsWhole) (arg2 : Memref sig .tc .vmem S320x128 .f32) (harg2 : arg2.IsWhole) (arg3 : Memref sig .tc .vmem S80x32x1024 .bf16) (harg3 : arg3.IsWhole) (arg4 : Memref sig .tc .vmem S80x32x128 .f32) (harg4 : arg4.IsWhole) (arg5 : Memref sig .tc .vmem S2x320x1024 .f32) (harg5 : arg5.IsWhole)
    (x0 : Vec F S320x128 .bf16) (y : S80x32x128.Idx) :
    ∃ pc ∈ (kernelRun0_A c arg0 harg0 arg1 harg1 arg2 harg2 arg3 harg3 arg4 harg4 arg5 harg5 x0).2.2.2.1, y ∈ pc.1.set :=
  View.cover_of_tiledL (kernelRun0_A c arg0 harg0 arg1 harg1 arg2 harg2 arg3 harg3 arg4 harg4 arg5 harg5 x0).2.2.2.1 S1x32x128.size (by sl_kernel_rfl) y

/-- What the run leaves in output 4's staging buffer: its pieces read back over junk. -/
def out0_A_4 (c : Dev nD) (arg0 : Memref sig .tc .vmem S320x128 .bf16) (harg0 : arg0.IsWhole) (arg1 : Memref sig .tc .vmem S2x16x320x128 .i32) (harg1 : arg1.IsWhole) (arg2 : Memref sig .tc .vmem S320x128 .f32) (harg2 : arg2.IsWhole) (arg3 : Memref sig .tc .vmem S80x32x1024 .bf16) (harg3 : arg3.IsWhole) (arg4 : Memref sig .tc .vmem S80x32x128 .f32) (harg4 : arg4.IsWhole) (arg5 : Memref sig .tc .vmem S2x320x1024 .f32) (harg5 : arg5.IsWhole)
    (x0 : Vec F S320x128 .bf16) : Vec F S80x32x128 .f32 :=
  VO0_4.read (Elt F) (VO0_4.writes (Elt F) VO0_4.junk (kernelRun0_A c arg0 harg0 arg1 harg1 arg2 harg2 arg3 harg3 arg4 harg4 arg5 harg5 x0).2.2.2.1)

/-! ## What the outputs hold after each point -/

/-- What the outputs' staging buffers hold after the body at point `t` (as a tuple, in window order): the run's contents at
    the point's memrefs and input blocks. -/
def outsAt0 (c : Dev nD) (t : Fin cfg0.N) : Vec F S2x16x320x128 .i32 × Vec F S320x128 .f32 × Vec F S80x32x1024 .bf16 × Vec F S80x32x128 .f32 :=
  (out0_A_1 c (ms0_0 t) (hs0_0 t) (ms0_1 t) (hs0_1 t) (ms0_2 t) (hs0_2 t) (ms0_3 t) (hs0_3 t) (ms0_4 t) (hs0_4 t) scM0_0 (Memref.isWhole_whole _) (iblk0 V c 0 t), out0_A_2 c (ms0_0 t) (hs0_0 t) (ms0_1 t) (hs0_1 t) (ms0_2 t) (hs0_2 t) (ms0_3 t) (hs0_3 t) (ms0_4 t) (hs0_4 t) scM0_0 (Memref.isWhole_whole _) (iblk0 V c 0 t), out0_A_3 c (ms0_0 t) (hs0_0 t) (ms0_1 t) (hs0_1 t) (ms0_2 t) (hs0_2 t) (ms0_3 t) (hs0_3 t) (ms0_4 t) (hs0_4 t) scM0_0 (Memref.isWhole_whole _) (iblk0 V c 0 t), out0_A_4 c (ms0_0 t) (hs0_0 t) (ms0_1 t) (hs0_1 t) (ms0_2 t) (hs0_2 t) (ms0_3 t) (hs0_3 t) (ms0_4 t) (hs0_4 t) scM0_0 (Memref.isWhole_whole _) (iblk0 V c 0 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t).1
    | ⟨2, _⟩ => (outsAt0 V c t).2.1
    | ⟨3, _⟩ => (outsAt0 V c t).2.2.1
    | ⟨4, _⟩ => (outsAt0 V c t).2.2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t).1 := by dsimp only [dat0]
theorem after0_2 (c : Dev nD) (t : Fin cfg0.N) : (dat0 V c).after 2 t = (outsAt0 V c t).2.1 := by dsimp only [dat0]
theorem after0_3 (c : Dev nD) (t : Fin cfg0.N) : (dat0 V c).after 3 t = (outsAt0 V c t).2.2.1 := by dsimp only [dat0]
theorem after0_4 (c : Dev nD) (t : Fin cfg0.N) : (dat0 V c).after 4 t = (outsAt0 V c t).2.2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

/-- The body at any point: the inputs' memrefs hold their blocks (`before0_W`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3, after0_4]
  rw [show (dat0 V c).Φ t.castSucc = Pipeline.ΦA spec0 c from rfl, PhiA0_eq]
  unfold outsAt0
  unfold out0_A_1 out0_A_2 out0_A_3 out0_A_4; (try dsimp only)
  iintro ⟨⟨⟨HS0, HR1, HR2, HR3, HR4, HR5, HR6, HR7, HR8, HR9, HR10, HR11, HR12, HR13, HR14, HR15, HR16, HR17, HR18⟩, Hg⟩, Ho, ⟨%d0, H0⟩, ⟨%d1, H1⟩, ⟨%d2, H2⟩, ⟨%d3, H3⟩, ⟨%d4, H4⟩⟩
  iapply ((kernelRun0_A c _ _ _ _ _ _ _ _ _ _ _ _ (iblk0 V c 0 t)).2.2.2.2 Set.univ _)
  isplitl [H0]; · iexact H0
  isplitl [H1]; · iexists _; iexact H1
  isplitl [H2]; · iexists _; iexact H2
  isplitl [H3]; · iexists _; iexact H3
  isplitl [H4]; · iexists _; iexact H4
  isplitl [HS0]; · iexact HS0
  iintro ⟨H0, ⟨%e1, H1⟩, ⟨%e2, H2⟩, ⟨%e3, H3⟩, ⟨%e4, H4⟩, HS0⟩
  isplitl [HS0 HR1 HR2 HR3 HR4 HR5 HR6 HR7 HR8 HR9 HR10 HR11 HR12 HR13 HR14 HR15 HR16 HR17 HR18 Hg]
  · isplitl [HS0 HR1 HR2 HR3 HR4 HR5 HR6 HR7 HR8 HR9 HR10 HR11 HR12 HR13 HR14 HR15 HR16 HR17 HR18]
    · isplitl [HS0]
      · iexact HS0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HR13]
      · iexact HR13
      isplitl [HR14]
      · iexact HR14
      isplitl [HR15]
      · iexact HR15
      isplitl [HR16]
      · iexact HR16
      isplitl [HR17]
      · iexact HR17
      iexact HR18
    iexact Hg
  isplitl [Ho]; · iexact Ho
  isplitl [H0]; · iexact H0
  isplitl [H1]
  · unfold owns; iexists _; isplitr
    swap; · iexact H1
    ipureintro; exact View.read_writes_of_cover _ _ _ _ _ (cover0_A_1 c _ _ _ _ _ _ _ _ _ _ _ _ _)
  isplitl [H2]
  · unfold owns; iexists _; isplitr
    swap; · iexact H2
    ipureintro; exact View.read_writes_of_cover _ _ _ _ _ (cover0_A_2 c _ _ _ _ _ _ _ _ _ _ _ _ _)
  isplitl [H3]
  · unfold owns; iexists _; isplitr
    swap; · iexact H3
    ipureintro; exact View.read_writes_of_cover _ _ _ _ _ (cover0_A_3 c _ _ _ _ _ _ _ _ _ _ _ _ _)
  unfold owns; iexists _; isplitr
  swap; · iexact H4
  ipureintro; exact View.read_writes_of_cover _ _ _ _ _ (cover0_A_4 c _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Run

end
-- ==== Proof.Kernel.Run1.lean ====
/-
  The product call: its body run on any staging memrefs, its proof data and its body obligation.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_lut_matmul` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 8, through which its contents are stated (`View.read_writes_of_cover`: the
    choice does not matter). -/
abbrev VO1_8 : View sig .tc .vmem S1x3x4x256 .bf16 := (Memref.whole cc1_stg8_0 : Memref sig .tc .vmem S1x3x4x256 .bf16).view
/-- Each window's current staging memref at point `t`, spelled as the pipeline passes it (`bodyAt1`), and its wholeness. -/
abbrev ms1_0 (t : Fin cfg1.N) : Memref sig .tc .vmem S4x1024x640 .i8 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S80x32x1024 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S80x32x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S320x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x3x4x256 .bf16 := win1_8.stage (cfg1.slots t 8)
abbrev hs1_8 (t : Fin cfg1.N) : (ms1_8 t).IsWhole := hstage1_8 ((cfg1.slots t 8).cast nbuf1_8)
/-- The scratch operands: whole scoped buffers of the kernel's own, passed beside the windows. -/
abbrev scM1_0 : Memref sig .tc .vmem S4x2x640x128 .i32 := Memref.whole cc1_scratch0
abbrev scM1_1 : Memref sig .tc .vmem S2x640x128 .f32 := Memref.whole cc1_scratch1
abbrev scM1_2 : Memref sig .tc .vmem S2x640x128 .f32 := Memref.whole cc1_scratch2

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

-- (the run's proof term is large: the definition's epilogue — `abstractNestedProofs` — walks it past the default budget)
set_option maxHeartbeats 1416000 in set_option sl_exec.stridedRows true in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .vmem S4x1024x640 .i8) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S80x32x1024 .bf16) (harg6 : arg6.IsWhole) (arg7 : Memref sig .tc .vmem S80x32x128 .f32) (harg7 : arg7.IsWhole) (arg8 : Memref sig .tc .vmem S320x128 .f32) (harg8 : arg8.IsWhole) (arg9 : Memref sig .tc .vmem S1x3x4x256 .bf16) (harg9 : arg9.IsWhole) (arg10 : Memref sig .tc .vmem S4x2x640x128 .i32) (harg10 : arg10.IsWhole) (arg11 : Memref sig .tc .vmem S2x640x128 .f32) (harg11 : arg11.IsWhole) (arg12 : Memref sig .tc .vmem S2x640x128 .f32) (harg12 : arg12.IsWhole)
    (x0 : Vec F S4x1024x640 .i8) (x1 : Vec F S1024x128 .f32) (x2 : Vec F S1024x128 .f32) (x3 : Vec F S1024x128 .f32) (x4 : Vec F S1024x128 .f32) (x5 : Vec F S80x32x1024 .bf16) (x6 : Vec F S80x32x128 .f32) (x7 : Vec F S320x128 .f32) :
    { L8 : List (View.Piece (Elt F) S1x3x4x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc1_lut_matmul i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc1_lut_matmul_eq_skeleton]; unfold cc1_lut_matmul_skel
    simp only [k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- The run's pieces for output 8 tile its block (3 stores of `S1x1x4x256`, checked by the kernel's evaluation: Lib/Ring.lean `Piece.tiledL`, linear in the pieces, through a loop's `@[irreducible]` trip theorem too), so they cover it. -/
theorem cover1_A_8 (c : Dev nD) (i : grid1.Coords) (arg1 : Memref sig .tc .vmem S4x1024x640 .i8) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S80x32x1024 .bf16) (harg6 : arg6.IsWhole) (arg7 : Memref sig .tc .vmem S80x32x128 .f32) (harg7 : arg7.IsWhole) (arg8 : Memref sig .tc .vmem S320x128 .f32) (harg8 : arg8.IsWhole) (arg9 : Memref sig .tc .vmem S1x3x4x256 .bf16) (harg9 : arg9.IsWhole) (arg10 : Memref sig .tc .vmem S4x2x640x128 .i32) (harg10 : arg10.IsWhole) (arg11 : Memref sig .tc .vmem S2x640x128 .f32) (harg11 : arg11.IsWhole) (arg12 : Memref sig .tc .vmem S2x640x128 .f32) (harg12 : arg12.IsWhole)
    (x0 : Vec F S4x1024x640 .i8) (x1 : Vec F S1024x128 .f32) (x2 : Vec F S1024x128 .f32) (x3 : Vec F S1024x128 .f32) (x4 : Vec F S1024x128 .f32) (x5 : Vec F S80x32x1024 .bf16) (x6 : Vec F S80x32x128 .f32) (x7 : Vec F S320x128 .f32) (y : S1x3x4x256.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6 x7).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6 x7).1 S1x1x4x256.size (by sl_kernel_rfl) y

/-- What the run leaves in output 8's staging buffer: its pieces read back over junk. -/
def out1_A_8 (c : Dev nD) (i : grid1.Coords) (arg1 : Memref sig .tc .vmem S4x1024x640 .i8) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S80x32x1024 .bf16) (harg6 : arg6.IsWhole) (arg7 : Memref sig .tc .vmem S80x32x128 .f32) (harg7 : arg7.IsWhole) (arg8 : Memref sig .tc .vmem S320x128 .f32) (harg8 : arg8.IsWhole) (arg9 : Memref sig .tc .vmem S1x3x4x256 .bf16) (harg9 : arg9.IsWhole) (arg10 : Memref sig .tc .vmem S4x2x640x128 .i32) (harg10 : arg10.IsWhole) (arg11 : Memref sig .tc .vmem S2x640x128 .f32) (harg11 : arg11.IsWhole) (arg12 : Memref sig .tc .vmem S2x640x128 .f32) (harg12 : arg12.IsWhole)
    (x0 : Vec F S4x1024x640 .i8) (x1 : Vec F S1024x128 .f32) (x2 : Vec F S1024x128 .f32) (x3 : Vec F S1024x128 .f32) (x4 : Vec F S1024x128 .f32) (x5 : Vec F S80x32x1024 .bf16) (x6 : Vec F S80x32x128 .f32) (x7 : Vec F S320x128 .f32) : Vec F S1x3x4x256 .bf16 :=
  VO1_8.read (Elt F) (VO1_8.writes (Elt F) VO1_8.junk (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6 x7).1)

end Regions

end Cert.Kernel.Run

end
-- ==== Proof.Kernel.Edge1.lean ====
/-
  The product call at the last columns of the scales and the zero points: what the body leaves does not depend on
  the staging columns past the arrays' end, hence its proof data and its body obligation.
-/
module

public import proofs.«01_k».proof.Proof.Kernel.Run1
public import proofs.«01_k».proof.Proof.Gen.Kernel.Launch
public import Idealize.ShloMosaic.Lib.WholeRead
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The result does not depend on the columns past the arrays' end -/

/-- The high half's payload reads the first 32 columns of the rows it is given. -/
theorem pay_hi_congr {v v' : Vec F S128x128 .f32} (h : ∀ j : S128x128.Idx, (j 1).val < 32 → v j = v' j) :
    k1_pay207 v = k1_pay207 v' := by
  unfold k1_pay207
  dsimp only
  congr 1
  funext j
  unfold extractStridedSlice transpose
  dsimp only
  refine h _ ?_
  have := (j 0).isLt
  have h0 : S32x128.size 0 = 32 := rfl
  change 0 + (j 0).val < 32
  omega

/-- Two contents of a whole memref that agree on the first 32 columns give the high half's payload of a load of
    every fourth row alike. -/
theorem pay_load_congr {m : Memref sig .tc .vmem S1024x128 .f32} (hm : m.IsWhole) (o : ℕ)
    (inb) {x x' : Vec F S1024x128 .f32} (h : ∀ j : S1024x128.Idx, (j 1).val < 32 → x j = x' j) :
    k1_pay207 (View.readAt (Elt F) m.view (⟨![o, 0], S128x128.size, ![4, 1], inb⟩ : LoadRect S1024x128) (hm.unread x))
      = k1_pay207 (View.readAt (Elt F) m.view (⟨![o, 0], S128x128.size, ![4, 1], inb⟩ : LoadRect S1024x128) (hm.unread x')) := by
  refine pay_hi_congr fun j hj => ?_
  rw [hm.readAt_unread, hm.readAt_unread]
  refine h _ ?_
  show 0 + 1 * (j 1).val < 32
  omega

theorem HS1_congr (c : Dev nD) {arg2 : Memref sig .tc .vmem S1024x128 .f32} (harg2 : arg2.IsWhole)
    {arg3 : Memref sig .tc .vmem S1024x128 .f32} (harg3 : arg3.IsWhole) (x1 : Vec F S1024x128 .f32) {x2 x2' : Vec F S1024x128 .f32}
    (h : ∀ j : S1024x128.Idx, (j 1).val < 32 → x2 j = x2' j) :
    kernelRun1_A.sl.HS1_16 c arg2 harg2 arg3 harg3 x1 x2 = kernelRun1_A.sl.HS1_16 c arg2 harg2 arg3 harg3 x1 x2' := by
  unfold kernelRun1_A.sl.HS1_16
  congr 1
  · congr 1; exact pay_load_congr harg3 515 _ h
  congr 2
  · congr 1; exact pay_load_congr harg3 514 _ h
  congr 2
  · congr 1; exact pay_load_congr harg3 513 _ h
  congr 2
  · congr 1; exact pay_load_congr harg3 512 _ h
  congr 2
  · congr 1; exact pay_load_congr harg3 3 _ h
  congr 2
  · congr 1; exact pay_load_congr harg3 2 _ h
  congr 2
  · congr 1; exact pay_load_congr harg3 1 _ h
  congr 2
  · congr 1; exact pay_load_congr harg3 0 _ h

theorem HS2_congr (c : Dev nD) {arg4 : Memref sig .tc .vmem S1024x128 .f32} (harg4 : arg4.IsWhole)
    {arg5 : Memref sig .tc .vmem S1024x128 .f32} (harg5 : arg5.IsWhole) (x3 : Vec F S1024x128 .f32) {x4 x4' : Vec F S1024x128 .f32}
    (h : ∀ j : S1024x128.Idx, (j 1).val < 32 → x4 j = x4' j) :
    kernelRun1_A.sl.HS2_16 c arg4 harg4 arg5 harg5 x3 x4 = kernelRun1_A.sl.HS2_16 c arg4 harg4 arg5 harg5 x3 x4' := by
  unfold kernelRun1_A.sl.HS2_16
  congr 1
  · congr 1; exact pay_load_congr harg5 515 _ h
  congr 2
  · congr 1; exact pay_load_congr harg5 514 _ h
  congr 2
  · congr 1; exact pay_load_congr harg5 513 _ h
  congr 2
  · congr 1; exact pay_load_congr harg5 512 _ h
  congr 2
  · congr 1; exact pay_load_congr harg5 3 _ h
  congr 2
  · congr 1; exact pay_load_congr harg5 2 _ h
  congr 2
  · congr 1; exact pay_load_congr harg5 1 _ h
  congr 2
  · congr 1; exact pay_load_congr harg5 0 _ h

/-- A trip does not read the columns loaded last before the loop. -/
theorem trip_free (𝒱 : Variants) (c : Dev nD) (bd : Option 𝒱.V) (i : grid1.Coords) (arg1 : Memref sig .tc .vmem S4x1024x640 .i8) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S80x32x1024 .bf16) (harg6 : arg6.IsWhole) (arg7 : Memref sig .tc .vmem S80x32x128 .f32) (harg7 : arg7.IsWhole) (arg8 : Memref sig .tc .vmem S320x128 .f32) (harg8 : arg8.IsWhole) (arg9 : Memref sig .tc .vmem S1x3x4x256 .bf16) (harg9 : arg9.IsWhole) (arg10 : Memref sig .tc .vmem S4x2x640x128 .i32) (harg10 : arg10.IsWhole) (arg11 : Memref sig .tc .vmem S2x640x128 .f32) (harg11 : arg11.IsWhole) (arg12 : Memref sig .tc .vmem S2x640x128 .f32) (harg12 : arg12.IsWhole)
    (v450 v450' : Vec F S128x128 .f32) (X6 : BufTy.Contents (Elt F) arg6.view.ty) (X7 : BufTy.Contents (Elt F) arg7.view.ty)
    (X8 : BufTy.Contents (Elt F) arg8.view.ty) (X10 : BufTy.Contents (Elt F) arg10.view.ty)
    (X11 : BufTy.Contents (Elt F) arg11.view.ty) (X12 : BufTy.Contents (Elt F) arg12.view.ty) (k : Fin k1_t1_loop.trips) :
    (trip_k1_t1 𝒱 c bd i arg1 harg1 arg2 harg2 arg3 harg3 arg4 harg4 arg5 harg5 arg6 harg6 arg7 harg7 arg8 harg8 arg9 harg9 arg10 harg10 arg11 harg11 arg12 harg12 v450 X6 X7 X8 X10 X11 X12 k).1 = (trip_k1_t1 𝒱 c bd i arg1 harg1 arg2 harg2 arg3 harg3 arg4 harg4 arg5 harg5 arg6 harg6 arg7 harg7 arg8 harg8 arg9 harg9 arg10 harg10 arg11 harg11 arg12 harg12 v450' X6 X7 X8 X10 X11 X12 k).1 := by
  unfold trip_k1_t1
  rfl

/-- Nor does the loop. -/
theorem st_free (𝒱 : Variants) (c : Dev nD) (bd : Option 𝒱.V) (i : grid1.Coords) (arg1 : Memref sig .tc .vmem S4x1024x640 .i8) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S80x32x1024 .bf16) (harg6 : arg6.IsWhole) (arg7 : Memref sig .tc .vmem S80x32x128 .f32) (harg7 : arg7.IsWhole) (arg8 : Memref sig .tc .vmem S320x128 .f32) (harg8 : arg8.IsWhole) (arg9 : Memref sig .tc .vmem S1x3x4x256 .bf16) (harg9 : arg9.IsWhole) (arg10 : Memref sig .tc .vmem S4x2x640x128 .i32) (harg10 : arg10.IsWhole) (arg11 : Memref sig .tc .vmem S2x640x128 .f32) (harg11 : arg11.IsWhole) (arg12 : Memref sig .tc .vmem S2x640x128 .f32) (harg12 : arg12.IsWhole)
    (v450 v450' : Vec F S128x128 .f32) (X6 : BufTy.Contents (Elt F) arg6.view.ty) (X7 : BufTy.Contents (Elt F) arg7.view.ty)
    (X8 : BufTy.Contents (Elt F) arg8.view.ty) (X10 : BufTy.Contents (Elt F) arg10.view.ty)
    (X11 : BufTy.Contents (Elt F) arg11.view.ty) (X12 : BufTy.Contents (Elt F) arg12.view.ty)
    (init : FVec F S8x256 .f32 × FVec F S8x256 .f32 × FVec F S8x256 .f32) (n : ℕ) :
    st_k1_t1 𝒱 c bd i arg1 harg1 arg2 harg2 arg3 harg3 arg4 harg4 arg5 harg5 arg6 harg6 arg7 harg7 arg8 harg8 arg9 harg9 arg10 harg10 arg11 harg11 arg12 harg12 v450 X6 X7 X8 X10 X11 X12 init n = st_k1_t1 𝒱 c bd i arg1 harg1 arg2 harg2 arg3 harg3 arg4 harg4 arg5 harg5 arg6 harg6 arg7 harg7 arg8 harg8 arg9 harg9 arg10 harg10 arg11 harg11 arg12 harg12 v450' X6 X7 X8 X10 X11 X12 init n := by
  induction n with
  | zero => unfold st_k1_t1; rfl
  | succ n ih =>
    unfold st_k1_t1
    rw [ih]
    unfold st_k1_t1Step
    split
    · exact congrFun (trip_free 𝒱 c bd i arg1 harg1 arg2 harg2 arg3 harg3 arg4 harg4 arg5 harg5 arg6 harg6 arg7 harg7 arg8 harg8 arg9 harg9 arg10 harg10 arg11 harg11 arg12 harg12 v450 v450' X6 X7 X8 X10 X11 X12 _) _
    · rfl

/-- The body's result does not depend on the high windows' columns past the first 32. -/
theorem out1_congr (c : Dev nD) (i : grid1.Coords) (arg1 : Memref sig .tc .vmem S4x1024x640 .i8) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S80x32x1024 .bf16) (harg6 : arg6.IsWhole) (arg7 : Memref sig .tc .vmem S80x32x128 .f32) (harg7 : arg7.IsWhole) (arg8 : Memref sig .tc .vmem S320x128 .f32) (harg8 : arg8.IsWhole) (arg9 : Memref sig .tc .vmem S1x3x4x256 .bf16) (harg9 : arg9.IsWhole) (arg10 : Memref sig .tc .vmem S4x2x640x128 .i32) (harg10 : arg10.IsWhole) (arg11 : Memref sig .tc .vmem S2x640x128 .f32) (harg11 : arg11.IsWhole) (arg12 : Memref sig .tc .vmem S2x640x128 .f32) (harg12 : arg12.IsWhole)
    (x0 : Vec F S4x1024x640 .i8) (x1 x2 x2' x3 x4 x4' : Vec F S1024x128 .f32) (x5 : Vec F S80x32x1024 .bf16)
    (x6 : Vec F S80x32x128 .f32) (x7 : Vec F S320x128 .f32)
    (h2 : ∀ j : S1024x128.Idx, (j 1).val < 32 → x2 j = x2' j) (h4 : ∀ j : S1024x128.Idx, (j 1).val < 32 → x4 j = x4' j) :
    (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6 x7).1 = (kernelRun1_A c i arg1 harg1 arg2 harg2 arg3 harg3 arg4 harg4 arg5 harg5 arg6 harg6 arg7 harg7 arg8 harg8 arg9 harg9 arg10 harg10 arg11 harg11 arg12 harg12 x0 x1 x2' x3 x4' x5 x6 x7).1 := by
  unfold kernelRun1_A
  dsimp only
  rw [HS1_congr c harg2 harg3 x1 h2, HS2_congr c harg4 harg5 x3 h4]
  simp only [st_free Variants.none c none i arg1 harg1 arg2 harg2 arg3 harg3 arg4 harg4 arg5 harg5 arg6 harg6 arg7 harg7 arg8 harg8 arg9 harg9 arg10 harg10 arg11 harg11 arg12 harg12 (kernelRun1_A.sl.r_13 c arg5 harg5 x4) (kernelRun1_A.sl.r_13 c arg5 harg5 x4')]

end Cert.Kernel.Run

end
-- ==== Proof.Kernel.Body1.lean ====
/-
  The product call's proof data and its body obligation: the four windows on the scales and the zero points are
  stated on the columns inside their arrays only.
-/
module

public import proofs.«01_k».proof.Proof.Kernel.Edge1
public import proofs.«01_k».proof.Proof.Gen.Kernel.Launch
public import Idealize.ShloMosaic.Lib.WholeRead
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-- Window 1's block filled out past the array's end with zeros, which nothing reads. -/
def xin1_1 (c : Dev nD) (t : Fin cfg1.N) : Vec F S1024x128 .f32 :=
  win1_1.fill (grid1.coords t) (fun _ => Scalar.ofBits .f32 0#32) (iblk1 V c 1 t)

theorem xsize1_1 : ∀ (t : Fin grid1.N) (a : Fin 2), win1_1.xsize (grid1.coords t) a = (![1024, 128] : Fin 2 → ℕ) a := by
  decide +kernel

/-- What window 1 holds on the array's columns is the block, whatever the columns past them hold. -/
theorem fill1_1 (c : Dev nD) (t : Fin cfg1.N) (d : Vec F S1024x128 .f32) (j : S1024x128.Idx) (hj : (j 1).val < 128) :
    win1_1.fill (grid1.coords t) d (iblk1 V c 1 t) j = xin1_1 V c t j := by
  have hm : win1_1.moved (grid1.coords t) j = true := (Pipeline.Window.moved_iff win1_1 (grid1.coords t) j).mpr fun a => by
    rw [xsize1_1]
    have h0 := (j 0).isLt
    fin_cases a
    · exact h0
    · exact hj
  unfold xin1_1 Pipeline.Window.fill
  rw [dif_pos hm, dif_pos hm]

theorem fill1_1_eq (c : Dev nD) (t : Fin cfg1.N) (d : Vec F S1024x128 .f32) :
    win1_1.fill (grid1.coords t) d (iblk1 V c 1 t) = xin1_1 V c t :=
  funext fun j => fill1_1 V c t d j (j 1).isLt

/-- Window 2's block filled out past the array's end with zeros, which nothing reads. -/
def xin1_2 (c : Dev nD) (t : Fin cfg1.N) : Vec F S1024x128 .f32 :=
  win1_2.fill (grid1.coords t) (fun _ => Scalar.ofBits .f32 0#32) (iblk1 V c 2 t)

theorem xsize1_2 : ∀ (t : Fin grid1.N) (a : Fin 2), win1_2.xsize (grid1.coords t) a = (![1024, 32] : Fin 2 → ℕ) a := by
  decide +kernel

/-- What window 2 holds on the array's columns is the block, whatever the columns past them hold. -/
theorem fill1_2 (c : Dev nD) (t : Fin cfg1.N) (d : Vec F S1024x128 .f32) (j : S1024x128.Idx) (hj : (j 1).val < 32) :
    win1_2.fill (grid1.coords t) d (iblk1 V c 2 t) j = xin1_2 V c t j := by
  have hm : win1_2.moved (grid1.coords t) j = true := (Pipeline.Window.moved_iff win1_2 (grid1.coords t) j).mpr fun a => by
    rw [xsize1_2]
    have h0 := (j 0).isLt
    fin_cases a
    · exact h0
    · exact hj
  unfold xin1_2 Pipeline.Window.fill
  rw [dif_pos hm, dif_pos hm]

/-- Window 3's block filled out past the array's end with zeros, which nothing reads. -/
def xin1_3 (c : Dev nD) (t : Fin cfg1.N) : Vec F S1024x128 .f32 :=
  win1_3.fill (grid1.coords t) (fun _ => Scalar.ofBits .f32 0#32) (iblk1 V c 3 t)

theorem xsize1_3 : ∀ (t : Fin grid1.N) (a : Fin 2), win1_3.xsize (grid1.coords t) a = (![1024, 128] : Fin 2 → ℕ) a := by
  decide +kernel

/-- What window 3 holds on the array's columns is the block, whatever the columns past them hold. -/
theorem fill1_3 (c : Dev nD) (t : Fin cfg1.N) (d : Vec F S1024x128 .f32) (j : S1024x128.Idx) (hj : (j 1).val < 128) :
    win1_3.fill (grid1.coords t) d (iblk1 V c 3 t) j = xin1_3 V c t j := by
  have hm : win1_3.moved (grid1.coords t) j = true := (Pipeline.Window.moved_iff win1_3 (grid1.coords t) j).mpr fun a => by
    rw [xsize1_3]
    have h0 := (j 0).isLt
    fin_cases a
    · exact h0
    · exact hj
  unfold xin1_3 Pipeline.Window.fill
  rw [dif_pos hm, dif_pos hm]

theorem fill1_3_eq (c : Dev nD) (t : Fin cfg1.N) (d : Vec F S1024x128 .f32) :
    win1_3.fill (grid1.coords t) d (iblk1 V c 3 t) = xin1_3 V c t :=
  funext fun j => fill1_3 V c t d j (j 1).isLt

/-- Window 4's block filled out past the array's end with zeros, which nothing reads. -/
def xin1_4 (c : Dev nD) (t : Fin cfg1.N) : Vec F S1024x128 .f32 :=
  win1_4.fill (grid1.coords t) (fun _ => Scalar.ofBits .f32 0#32) (iblk1 V c 4 t)

theorem xsize1_4 : ∀ (t : Fin grid1.N) (a : Fin 2), win1_4.xsize (grid1.coords t) a = (![1024, 32] : Fin 2 → ℕ) a := by
  decide +kernel

/-- What window 4 holds on the array's columns is the block, whatever the columns past them hold. -/
theorem fill1_4 (c : Dev nD) (t : Fin cfg1.N) (d : Vec F S1024x128 .f32) (j : S1024x128.Idx) (hj : (j 1).val < 32) :
    win1_4.fill (grid1.coords t) d (iblk1 V c 4 t) j = xin1_4 V c t j := by
  have hm : win1_4.moved (grid1.coords t) j = true := (Pipeline.Window.moved_iff win1_4 (grid1.coords t) j).mpr fun a => by
    rw [xsize1_4]
    have h0 := (j 0).isLt
    fin_cases a
    · exact h0
    · exact hj
  unfold xin1_4 Pipeline.Window.fill
  rw [dif_pos hm, dif_pos hm]

/-! ## What the outputs hold after each point -/

/-- What the outputs' staging buffers hold after the body at point `t`: the run's contents at
    the point's memrefs and input blocks. -/
def outsAt1 (c : Dev nD) (t : Fin cfg1.N) : Vec F S1x3x4x256 .bf16 :=
  out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) (iblk1 V c 0 t) (xin1_1 V c t) (xin1_2 V c t) (xin1_3 V c t) (xin1_4 V c t) (iblk1 V c 5 t) (iblk1 V c 6 t) (iblk1 V c 7 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; each input's share of its array
    (`Pipeline.shareOf`: the full share of an array several windows stage, dealt among them). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => xin1_1 V c t
    | ⟨2, _⟩ => xin1_2 V c t
    | ⟨3, _⟩ => xin1_3 V c t
    | ⟨4, _⟩ => xin1_4 V c t
    | ⟨5, _⟩ => iblk1 V c 5 t
    | ⟨6, _⟩ => iblk1 V c 6 t
    | ⟨7, _⟩ => iblk1 V c 7 t
    | ⟨8, _⟩ => (outsAt1 V c t)
  Φ _ := Pipeline.ΦA spec1 c
  q w := Pipeline.shareOf spec1 w
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = xin1_1 V c t := by dsimp only [dat1]
theorem after1_2 (c : Dev nD) (t : Fin cfg1.N) : (dat1 V c).after 2 t = xin1_2 V c t := by dsimp only [dat1]
theorem after1_3 (c : Dev nD) (t : Fin cfg1.N) : (dat1 V c).after 3 t = xin1_3 V c t := by dsimp only [dat1]
theorem after1_4 (c : Dev nD) (t : Fin cfg1.N) : (dat1 V c).after 4 t = xin1_4 V c t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) :
    (dat1 V c).before 1 t d = win1_1.fill (grid1.coords t) d (iblk1 V c 1 t) := by
  unfold Dat.before; rw [if_pos (fetch1_1 t)]
  unfold Dat.fetched Dat.blockOf iblk1
  rw [A_eq1]
theorem before1_2 (c : Dev nD) (t : Fin cfg1.N) (d) :
    (dat1 V c).before 2 t d = win1_2.fill (grid1.coords t) d (iblk1 V c 2 t) := by
  unfold Dat.before; rw [if_pos (fetch1_2 t)]
  unfold Dat.fetched Dat.blockOf iblk1
  rw [A_eq1]
theorem before1_3 (c : Dev nD) (t : Fin cfg1.N) (d) :
    (dat1 V c).before 3 t d = win1_3.fill (grid1.coords t) d (iblk1 V c 3 t) := by
  unfold Dat.before; rw [if_pos (fetch1_3 t)]
  unfold Dat.fetched Dat.blockOf iblk1
  rw [A_eq1]
theorem before1_4 (c : Dev nD) (t : Fin cfg1.N) (d) :
    (dat1 V c).before 4 t d = win1_4.fill (grid1.coords t) d (iblk1 V c 4 t) := by
  unfold Dat.before; rw [if_pos (fetch1_4 t)]
  unfold Dat.fetched Dat.blockOf iblk1
  rw [A_eq1]
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ (∃ d, owns (c : Thread nD τ) (ms1_1 t) fullShare (win1_1.fill (grid1.coords t) d (win1_1.cut (grid1.coords t) ((dat1 V c).after 1 t))))
    ∗ (∃ d, owns (c : Thread nD τ) (ms1_2 t) fullShare (win1_2.fill (grid1.coords t) d (win1_2.cut (grid1.coords t) ((dat1 V c).after 2 t))))
    ∗ (∃ d, owns (c : Thread nD τ) (ms1_3 t) fullShare (win1_3.fill (grid1.coords t) d (win1_3.cut (grid1.coords t) ((dat1 V c).after 3 t))))
    ∗ (∃ d, owns (c : Thread nD τ) (ms1_4 t) fullShare (win1_4.fill (grid1.coords t) d (win1_4.cut (grid1.coords t) ((dat1 V c).after 4 t))))
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

set_option maxHeartbeats 1200000 in
/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  rw [show (dat1 V c).Φ t.castSucc = Pipeline.ΦA spec1 c from rfl, PhiA1_eq]
  unfold outsAt1
  unfold out1_A_8
  iintro ⟨⟨⟨HR0, HR1, HR2, HR3, HR4, HR5, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [fill1_1_eq V c t d1, fill1_3_eq V c t d3]
  rw [← out1_congr c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) (iblk1 V c 0 t) (xin1_1 V c t) (win1_2.fill (grid1.coords t) d2 (iblk1 V c 2 t)) (xin1_2 V c t) (xin1_3 V c t) (win1_4.fill (grid1.coords t) d4 (iblk1 V c 4 t)) (xin1_4 V c t) (iblk1 V c 5 t) (iblk1 V c 6 t) (iblk1 V c 7 t) (fun j hj => fill1_2 V c t d2 j hj) (fun j hj => fill1_4 V c t d4 j hj)]
  iapply ((kernelRun1_A c (grid1.coords t) _ _ _ _ _ _ _ _ _ _ _ _ _ _ _ _ _ _ _ _ _ _ _ _ (iblk1 V c 0 t) (xin1_1 V c t) (win1_2.fill (grid1.coords t) d2 (iblk1 V c 2 t)) (xin1_3 V c t) (win1_4.fill (grid1.coords t) d4 (iblk1 V c 4 t)) (iblk1 V c 5 t) (iblk1 V c 6 t) (iblk1 V c 7 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  iintro ⟨H0, H1, H2, H3, H4, H5, H6, H7, ⟨%e8, H8⟩, HS0, HS1, HS2⟩
  isplitl [HR0 HR1 HR2 HR3 HR4 HR5 HS0 HS1 HS2 Hg]
  · isplitl [HR0 HR1 HR2 HR3 HR4 HR5 HS0 HS1 HS2]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HS0]
      · iexact HS0
      isplitl [HS1]
      · iexact HS1
      iexact HS2
    iexact Hg
  isplitl [Ho]; · iexact Ho
  isplitl [H0]; · iexact H0
  isplitl [H1]; · iexists xin1_1 V c t; rw [win1_1.fill_cut]; iexact H1
  isplitl [H2]; · iexists d2; unfold xin1_2; rw [win1_2.cut_fill]; iexact H2
  isplitl [H3]; · iexists xin1_3 V c t; rw [win1_3.fill_cut]; iexact H3
  isplitl [H4]; · iexists d4; unfold xin1_4; rw [win1_4.cut_fill]; iexact H4
  isplitl [H5]; · iexact H5
  isplitl [H6]; · iexact H6
  isplitl [H7]; · iexact H7
  unfold owns; iexists _; isplitr
  swap; · iexact H8
  ipureintro; exact View.read_writes_of_cover _ _ _ _ _ (cover1_A_8 c (grid1.coords t) _ _ _ _ _ _ _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligationLoose (dat1 (F := F) V c) (defs₀ (F := F)) Variants.none () Set.univ := fun t => by
  rw [bigSep_W1, bigSep_W1, defs₀_row1]
  exact triple_restated (sound_body1 V c t) rfl .rfl fun _ => .rfl

end Regions

end Cert.Kernel.Run

end
-- ==== Proof.Kernel.Frame.lean ====
/-
  The whole run: the two calls among the host stretches, and what every buffer holds at the end.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import proofs.«01_k».proof.Proof.Kernel.Run0
public import proofs.«01_k».proof.Proof.Kernel.Body1
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_c]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_v2]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v3]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v6, main_v7, main_v8, main_v9, main_v10, main_v11, main_v12, main_v13, main_v14, main_v15, main_v16, main_v17, main_v18, main_v19]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2` (region 0's entry). -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded: `Dat.arrAt … N`), every other buffer as entered (Lib/Pipeline/FrameSuffix.lean `withArrays`) (region 1's entry). -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A reference that is none of region 0's OUTPUT arrays keeps its entry contents across it: an input window's
    array is never written back (`Dat.arrAt_in`, `A_eq0`); any other buffer is left as is. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact (dat1 (V4 m ρ) c).withArrays_arrAt launch₀1.sharedIn _ (A_eq1 (V4 m ρ) c) w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- A reference that is none of region 1's OUTPUT arrays keeps its entry contents across it: an input window's
    array is never written back (`Dat.arrAt_in`, `A_eq1`); any other buffer is left as is. -/
theorem W5_of (c : Dev nD) (r : Ref sig .tc) (h : ∀ w : Fin cfg1.W, Pipeline.arrRef spec1 w = r → (cfg1.win w).isOut = false) :
    W5 m ρ c (Proc.devRef .tc r) = W4 m ρ c (Proc.devRef .tc r) := by
  by_cases hw : ∃ w : Fin cfg1.W, Pipeline.arrRef spec1 w = r
  · obtain ⟨w, rfl⟩ := hw
    exact (W5_arr m ρ c w).trans (((dat1 (V4 m ρ) c).arrAt_in w (h w rfl) _).trans (A_eq1 (V4 m ρ) c w))
  · exact W5_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn1 a ha)).trans (W4_args m ρ c a ha)
/-- The same read at the TensorCore's references (region 1's exit contents). -/
abbrev V5 : (c : Dev nD) → (b : Ref sig .tc) → Buf (Elt F) ((c : Thread nD τ).loc b) := fun c b => W5 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After `hostOps2`. -/
abbrev W6 : Dev nD → Valuation τ sig (Elt F) := fun c => StableHlo.after hostOps2 (W5 m ρ c)
/-- A reference `hostOps2` does not write keeps its contents across it. -/
theorem W6_of (c : Dev nD) (r : Ref sig .tc) (h : r ∉ hostOps2_W) : W6 m ρ c (Proc.devRef .tc r) = W5 m ρ c (Proc.devRef .tc r) :=
  StableHlo.after_of_writes_sub hostOps2 _ hostOps2_writes h
theorem W6_args (c : Dev nD) : ∀ a ∈ argRefs, W6 m ρ c (Proc.devRef .tc a) = m ((c : Thread nD τ).loc a) :=
  fun a ha => (W6_of m ρ c a (hostOps2_args a ha)).trans (W5_args m ρ c a ha)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W4`, left at `W5`
    (what the next segment is entered from). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := body_obligation1 (V4 m ρ) c
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V4 m ρ c) (A_eq1 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ),
    .host (hseg hostOps2 hostOps2_sub hostOps2_fresh (W5 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_Kernel`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W6_<arg>`;
    the kit shows every counter at zero except the TensorCores' unscoped ones, of which there are none. Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨(h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h => h.1) (frame m ρ)

end Cert.Kernel.Run

end
-- ==== Proof.KernelIdeal.Run0.lean ====
/-
  The tables call: its body run on any staging memrefs, its proof data and its body obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_tables` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 1, through which its contents are stated (`View.read_writes_of_cover`: the
    choice does not matter). -/
abbrev VO0_1 : View sig .tc .vmem S2x16x320x128 .i32 := (Memref.whole cc0_stg1_0 : Memref sig .tc .vmem S2x16x320x128 .i32).view
/-- One staging buffer of output window 2, through which its contents are stated (`View.read_writes_of_cover`: the
    choice does not matter). -/
abbrev VO0_2 : View sig .tc .vmem S320x128 .f32 := (Memref.whole cc0_stg2_0 : Memref sig .tc .vmem S320x128 .f32).view
/-- One staging buffer of output window 3, through which its contents are stated (`View.read_writes_of_cover`: the
    choice does not matter). -/
abbrev VO0_3 : View sig .tc .vmem S80x32x1024 .bf16 := (Memref.whole cc0_stg3_0 : Memref sig .tc .vmem S80x32x1024 .bf16).view
/-- One staging buffer of output window 4, through which its contents are stated (`View.read_writes_of_cover`: the
    choice does not matter). -/
abbrev VO0_4 : View sig .tc .vmem S80x32x128 .f32 := (Memref.whole cc0_stg4_0 : Memref sig .tc .vmem S80x32x128 .f32).view
/-- Each window's current staging memref at point `t`, spelled as the pipeline passes it (`bodyAt0`), and its wholeness. -/
abbrev ms0_0 (t : Fin cfg0.N) : Memref sig .tc .vmem S320x128 .bf16 := win0_0.stage (cfg0.slots t 0)
abbrev hs0_0 (t : Fin cfg0.N) : (ms0_0 t).IsWhole := hstage0_0 0
abbrev ms0_1 (t : Fin cfg0.N) : Memref sig .tc .vmem S2x16x320x128 .i32 := win0_1.stage (cfg0.slots t 1)
abbrev hs0_1 (t : Fin cfg0.N) : (ms0_1 t).IsWhole := hstage0_1 0
abbrev ms0_2 (t : Fin cfg0.N) : Memref sig .tc .vmem S320x128 .f32 := win0_2.stage (cfg0.slots t 2)
abbrev hs0_2 (t : Fin cfg0.N) : (ms0_2 t).IsWhole := hstage0_2 0
abbrev ms0_3 (t : Fin cfg0.N) : Memref sig .tc .vmem S80x32x1024 .bf16 := win0_3.stage (cfg0.slots t 3)
abbrev hs0_3 (t : Fin cfg0.N) : (ms0_3 t).IsWhole := hstage0_3 0
abbrev ms0_4 (t : Fin cfg0.N) : Memref sig .tc .vmem S80x32x128 .f32 := win0_4.stage (cfg0.slots t 4)
abbrev hs0_4 (t : Fin cfg0.N) : (ms0_4 t).IsWhole := hstage0_4 0
/-- The scratch operands: whole scoped buffers of the kernel's own, passed beside the windows. -/
abbrev scM0_0 : Memref sig .tc .vmem S2x320x1024 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (arg0 : Memref sig .tc .vmem S320x128 .bf16) (harg0 : arg0.IsWhole) (arg1 : Memref sig .tc .vmem S2x16x320x128 .i32) (harg1 : arg1.IsWhole) (arg2 : Memref sig .tc .vmem S320x128 .f32) (harg2 : arg2.IsWhole) (arg3 : Memref sig .tc .vmem S80x32x1024 .bf16) (harg3 : arg3.IsWhole) (arg4 : Memref sig .tc .vmem S80x32x128 .f32) (harg4 : arg4.IsWhole) (arg5 : Memref sig .tc .vmem S2x320x1024 .f32) (harg5 : arg5.IsWhole)
    (x0 : Vec F S320x128 .bf16) :
    Σ' (L1 : List (View.Piece (Elt F) S2x16x320x128 .i32)), Σ' (L2 : List (View.Piece (Elt F) S320x128 .f32)), Σ' (L3 : List (View.Piece (Elt F) S80x32x1024 .bf16)), { L4 : List (View.Piece (Elt F) S80x32x128 .f32) //
      ∀ (E : Set ℕ) (K : PUnit → sProp 𝕄),
        iprop(owns (c : Thread nD τ) arg0 fullShare x0 ∗ (∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg0 fullShare x0 ∗ (∃ f, arg1.view.loc (c : Thread nD τ) ↦[arg1.view.set]{fullShare} arg1.view.writes (Elt F) f L1) ∗ (∃ f, arg2.view.loc (c : Thread nD τ) ↦[arg2.view.set]{fullShare} arg2.view.writes (Elt F) f L2) ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ d, owns (c : Thread nD τ) arg5 fullShare d)) -∗ K ⟨⟩))
          ⊢ wp frame (wpE (defs₀ (F := F)) Variants.none c none) E (cc0_tables arg0 harg0 arg1 harg1 arg2 harg2 arg3 harg3 arg4 harg4 arg5 harg5) K } := by
  refine ⟨?_, ?_, ?_, ?_, fun E K => ?run⟩
  case run =>
    simp only [cc0_tables_eq_skeleton]; unfold cc0_tables_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%d1, %f1, -, H1⟩, ⟨%d2, %f2, -, H2⟩, ⟨%d3, %f3, -, H3⟩, ⟨%d4, %f4, -, H4⟩, ⟨%ds0, %fs0, -, HS0⟩, Hk⟩
    obtain rfl := harg0.eq_unread hf0
    sl_exec
    sl_step
    iapply Hk
    isplitl [H0]
    · iexists _; isplitr; · ipureintro; exact harg0.read_unread _
      iexact H0
    isplitl [H1]; · iexists _; iexact H1
    isplitl [H2]; · iexists _; iexact H2
    isplitl [H3]; · iexists _; iexact H3
    isplitl [H4]; · iexists _; iexact H4
    iexists _, _; isplitr; swap; · iexact HS0
    ipureintro; rfl

/-- The run's pieces for output 1 tile its block (32 stores of `S1x1x320x128`, checked by the kernel's evaluation: Lib/Ring.lean `Piece.tiledL`, linear in the pieces, through a loop's `@[irreducible]` trip theorem too), so they cover it. -/
theorem cover0_A_1 (c : Dev nD) (arg0 : Memref sig .tc .vmem S320x128 .bf16) (harg0 : arg0.IsWhole) (arg1 : Memref sig .tc .vmem S2x16x320x128 .i32) (harg1 : arg1.IsWhole) (arg2 : Memref sig .tc .vmem S320x128 .f32) (harg2 : arg2.IsWhole) (arg3 : Memref sig .tc .vmem S80x32x1024 .bf16) (harg3 : arg3.IsWhole) (arg4 : Memref sig .tc .vmem S80x32x128 .f32) (harg4 : arg4.IsWhole) (arg5 : Memref sig .tc .vmem S2x320x1024 .f32) (harg5 : arg5.IsWhole)
    (x0 : Vec F S320x128 .bf16) (y : S2x16x320x128.Idx) :
    ∃ pc ∈ (kernelRun0_A c arg0 harg0 arg1 harg1 arg2 harg2 arg3 harg3 arg4 harg4 arg5 harg5 x0).1, y ∈ pc.1.set :=
  View.cover_of_tiledL (kernelRun0_A c arg0 harg0 arg1 harg1 arg2 harg2 arg3 harg3 arg4 harg4 arg5 harg5 x0).1 S1x1x320x128.size (by sl_kernel_rfl) y

/-- What the run leaves in output 1's staging buffer: its pieces read back over junk. -/
def out0_A_1 (c : Dev nD) (arg0 : Memref sig .tc .vmem S320x128 .bf16) (harg0 : arg0.IsWhole) (arg1 : Memref sig .tc .vmem S2x16x320x128 .i32) (harg1 : arg1.IsWhole) (arg2 : Memref sig .tc .vmem S320x128 .f32) (harg2 : arg2.IsWhole) (arg3 : Memref sig .tc .vmem S80x32x1024 .bf16) (harg3 : arg3.IsWhole) (arg4 : Memref sig .tc .vmem S80x32x128 .f32) (harg4 : arg4.IsWhole) (arg5 : Memref sig .tc .vmem S2x320x1024 .f32) (harg5 : arg5.IsWhole)
    (x0 : Vec F S320x128 .bf16) : Vec F S2x16x320x128 .i32 :=
  VO0_1.read (Elt F) (VO0_1.writes (Elt F) VO0_1.junk (kernelRun0_A c arg0 harg0 arg1 harg1 arg2 harg2 arg3 harg3 arg4 harg4 arg5 harg5 x0).1)

/-- The run's pieces for output 2 tile its block (1 store of `S320x128`, checked by the kernel's evaluation: Lib/Ring.lean `Piece.tiledL`, linear in the pieces, through a loop's `@[irreducible]` trip theorem too), so they cover it. -/
theorem cover0_A_2 (c : Dev nD) (arg0 : Memref sig .tc .vmem S320x128 .bf16) (harg0 : arg0.IsWhole) (arg1 : Memref sig .tc .vmem S2x16x320x128 .i32) (harg1 : arg1.IsWhole) (arg2 : Memref sig .tc .vmem S320x128 .f32) (harg2 : arg2.IsWhole) (arg3 : Memref sig .tc .vmem S80x32x1024 .bf16) (harg3 : arg3.IsWhole) (arg4 : Memref sig .tc .vmem S80x32x128 .f32) (harg4 : arg4.IsWhole) (arg5 : Memref sig .tc .vmem S2x320x1024 .f32) (harg5 : arg5.IsWhole)
    (x0 : Vec F S320x128 .bf16) (y : S320x128.Idx) :
    ∃ pc ∈ (kernelRun0_A c arg0 harg0 arg1 harg1 arg2 harg2 arg3 harg3 arg4 harg4 arg5 harg5 x0).2.1, y ∈ pc.1.set :=
  View.cover_of_tiledL (kernelRun0_A c arg0 harg0 arg1 harg1 arg2 harg2 arg3 harg3 arg4 harg4 arg5 harg5 x0).2.1 S320x128.size (by sl_kernel_rfl) y

/-- What the run leaves in output 2's staging buffer: its pieces read back over junk. -/
def out0_A_2 (c : Dev nD) (arg0 : Memref sig .tc .vmem S320x128 .bf16) (harg0 : arg0.IsWhole) (arg1 : Memref sig .tc .vmem S2x16x320x128 .i32) (harg1 : arg1.IsWhole) (arg2 : Memref sig .tc .vmem S320x128 .f32) (harg2 : arg2.IsWhole) (arg3 : Memref sig .tc .vmem S80x32x1024 .bf16) (harg3 : arg3.IsWhole) (arg4 : Memref sig .tc .vmem S80x32x128 .f32) (harg4 : arg4.IsWhole) (arg5 : Memref sig .tc .vmem S2x320x1024 .f32) (harg5 : arg5.IsWhole)
    (x0 : Vec F S320x128 .bf16) : Vec F S320x128 .f32 :=
  VO0_2.read (Elt F) (VO0_2.writes (Elt F) VO0_2.junk (kernelRun0_A c arg0 harg0 arg1 harg1 arg2 harg2 arg3 harg3 arg4 harg4 arg5 harg5 x0).2.1)

/-- The run's pieces for output 3 tile its block (80 stores of `S1x32x1024`, checked by the kernel's evaluation: Lib/Ring.lean `Piece.tiledL`, linear in the pieces, through a loop's `@[irreducible]` trip theorem too), so they cover it. -/
theorem cover0_A_3 (c : Dev nD) (arg0 : Memref sig .tc .vmem S320x128 .bf16) (harg0 : arg0.IsWhole) (arg1 : Memref sig .tc .vmem S2x16x320x128 .i32) (harg1 : arg1.IsWhole) (arg2 : Memref sig .tc .vmem S320x128 .f32) (harg2 : arg2.IsWhole) (arg3 : Memref sig .tc .vmem S80x32x1024 .bf16) (harg3 : arg3.IsWhole) (arg4 : Memref sig .tc .vmem S80x32x128 .f32) (harg4 : arg4.IsWhole) (arg5 : Memref sig .tc .vmem S2x320x1024 .f32) (harg5 : arg5.IsWhole)
    (x0 : Vec F S320x128 .bf16) (y : S80x32x1024.Idx) :
    ∃ pc ∈ (kernelRun0_A c arg0 harg0 arg1 harg1 arg2 harg2 arg3 harg3 arg4 harg4 arg5 harg5 x0).2.2.1, y ∈ pc.1.set :=
  View.cover_of_tiledL (kernelRun0_A c arg0 harg0 arg1 harg1 arg2 harg2 arg3 harg3 arg4 harg4 arg5 harg5 x0).2.2.1 S1x32x1024.size (by sl_kernel_rfl) y

/-- What the run leaves in output 3's staging buffer: its pieces read back over junk. -/
def out0_A_3 (c : Dev nD) (arg0 : Memref sig .tc .vmem S320x128 .bf16) (harg0 : arg0.IsWhole) (arg1 : Memref sig .tc .vmem S2x16x320x128 .i32) (harg1 : arg1.IsWhole) (arg2 : Memref sig .tc .vmem S320x128 .f32) (harg2 : arg2.IsWhole) (arg3 : Memref sig .tc .vmem S80x32x1024 .bf16) (harg3 : arg3.IsWhole) (arg4 : Memref sig .tc .vmem S80x32x128 .f32) (harg4 : arg4.IsWhole) (arg5 : Memref sig .tc .vmem S2x320x1024 .f32) (harg5 : arg5.IsWhole)
    (x0 : Vec F S320x128 .bf16) : Vec F S80x32x1024 .bf16 :=
  VO0_3.read (Elt F) (VO0_3.writes (Elt F) VO0_3.junk (kernelRun0_A c arg0 harg0 arg1 harg1 arg2 harg2 arg3 harg3 arg4 harg4 arg5 harg5 x0).2.2.1)

/-- The run's pieces for output 4 tile its block (80 stores of `S1x32x128`, checked by the kernel's evaluation: Lib/Ring.lean `Piece.tiledL`, linear in the pieces, through a loop's `@[irreducible]` trip theorem too), so they cover it. -/
theorem cover0_A_4 (c : Dev nD) (arg0 : Memref sig .tc .vmem S320x128 .bf16) (harg0 : arg0.IsWhole) (arg1 : Memref sig .tc .vmem S2x16x320x128 .i32) (harg1 : arg1.IsWhole) (arg2 : Memref sig .tc .vmem S320x128 .f32) (harg2 : arg2.IsWhole) (arg3 : Memref sig .tc .vmem S80x32x1024 .bf16) (harg3 : arg3.IsWhole) (arg4 : Memref sig .tc .vmem S80x32x128 .f32) (harg4 : arg4.IsWhole) (arg5 : Memref sig .tc .vmem S2x320x1024 .f32) (harg5 : arg5.IsWhole)
    (x0 : Vec F S320x128 .bf16) (y : S80x32x128.Idx) :
    ∃ pc ∈ (kernelRun0_A c arg0 harg0 arg1 harg1 arg2 harg2 arg3 harg3 arg4 harg4 arg5 harg5 x0).2.2.2.1, y ∈ pc.1.set :=
  View.cover_of_tiledL (kernelRun0_A c arg0 harg0 arg1 harg1 arg2 harg2 arg3 harg3 arg4 harg4 arg5 harg5 x0).2.2.2.1 S1x32x128.size (by sl_kernel_rfl) y

/-- What the run leaves in output 4's staging buffer: its pieces read back over junk. -/
def out0_A_4 (c : Dev nD) (arg0 : Memref sig .tc .vmem S320x128 .bf16) (harg0 : arg0.IsWhole) (arg1 : Memref sig .tc .vmem S2x16x320x128 .i32) (harg1 : arg1.IsWhole) (arg2 : Memref sig .tc .vmem S320x128 .f32) (harg2 : arg2.IsWhole) (arg3 : Memref sig .tc .vmem S80x32x1024 .bf16) (harg3 : arg3.IsWhole) (arg4 : Memref sig .tc .vmem S80x32x128 .f32) (harg4 : arg4.IsWhole) (arg5 : Memref sig .tc .vmem S2x320x1024 .f32) (harg5 : arg5.IsWhole)
    (x0 : Vec F S320x128 .bf16) : Vec F S80x32x128 .f32 :=
  VO0_4.read (Elt F) (VO0_4.writes (Elt F) VO0_4.junk (kernelRun0_A c arg0 harg0 arg1 harg1 arg2 harg2 arg3 harg3 arg4 harg4 arg5 harg5 x0).2.2.2.1)

/-! ## What the outputs hold after each point -/

/-- What the outputs' staging buffers hold after the body at point `t` (as a tuple, in window order): the run's contents at
    the point's memrefs and input blocks. -/
def outsAt0 (c : Dev nD) (t : Fin cfg0.N) : Vec F S2x16x320x128 .i32 × Vec F S320x128 .f32 × Vec F S80x32x1024 .bf16 × Vec F S80x32x128 .f32 :=
  (out0_A_1 c (ms0_0 t) (hs0_0 t) (ms0_1 t) (hs0_1 t) (ms0_2 t) (hs0_2 t) (ms0_3 t) (hs0_3 t) (ms0_4 t) (hs0_4 t) scM0_0 (Memref.isWhole_whole _) (iblk0 V c 0 t), out0_A_2 c (ms0_0 t) (hs0_0 t) (ms0_1 t) (hs0_1 t) (ms0_2 t) (hs0_2 t) (ms0_3 t) (hs0_3 t) (ms0_4 t) (hs0_4 t) scM0_0 (Memref.isWhole_whole _) (iblk0 V c 0 t), out0_A_3 c (ms0_0 t) (hs0_0 t) (ms0_1 t) (hs0_1 t) (ms0_2 t) (hs0_2 t) (ms0_3 t) (hs0_3 t) (ms0_4 t) (hs0_4 t) scM0_0 (Memref.isWhole_whole _) (iblk0 V c 0 t), out0_A_4 c (ms0_0 t) (hs0_0 t) (ms0_1 t) (hs0_1 t) (ms0_2 t) (hs0_2 t) (ms0_3 t) (hs0_3 t) (ms0_4 t) (hs0_4 t) scM0_0 (Memref.isWhole_whole _) (iblk0 V c 0 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t).1
    | ⟨2, _⟩ => (outsAt0 V c t).2.1
    | ⟨3, _⟩ => (outsAt0 V c t).2.2.1
    | ⟨4, _⟩ => (outsAt0 V c t).2.2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t).1 := by dsimp only [dat0]
theorem after0_2 (c : Dev nD) (t : Fin cfg0.N) : (dat0 V c).after 2 t = (outsAt0 V c t).2.1 := by dsimp only [dat0]
theorem after0_3 (c : Dev nD) (t : Fin cfg0.N) : (dat0 V c).after 3 t = (outsAt0 V c t).2.2.1 := by dsimp only [dat0]
theorem after0_4 (c : Dev nD) (t : Fin cfg0.N) : (dat0 V c).after 4 t = (outsAt0 V c t).2.2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

/-- The body at any point: the inputs' memrefs hold their blocks (`before0_W`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3, after0_4]
  rw [show (dat0 V c).Φ t.castSucc = Pipeline.ΦA spec0 c from rfl, PhiA0_eq]
  unfold outsAt0
  unfold out0_A_1 out0_A_2 out0_A_3 out0_A_4; (try dsimp only)
  iintro ⟨⟨⟨HS0, HR1, HR2, HR3, HR4, HR5, HR6, HR7, HR8, HR9, HR10, HR11, HR12, HR13, HR14, HR15, HR16, HR17, HR18⟩, Hg⟩, Ho, ⟨%d0, H0⟩, ⟨%d1, H1⟩, ⟨%d2, H2⟩, ⟨%d3, H3⟩, ⟨%d4, H4⟩⟩
  iapply ((kernelRun0_A c _ _ _ _ _ _ _ _ _ _ _ _ (iblk0 V c 0 t)).2.2.2.2 Set.univ _)
  isplitl [H0]; · iexact H0
  isplitl [H1]; · iexists _; iexact H1
  isplitl [H2]; · iexists _; iexact H2
  isplitl [H3]; · iexists _; iexact H3
  isplitl [H4]; · iexists _; iexact H4
  isplitl [HS0]; · iexact HS0
  iintro ⟨H0, ⟨%e1, H1⟩, ⟨%e2, H2⟩, ⟨%e3, H3⟩, ⟨%e4, H4⟩, HS0⟩
  isplitl [HS0 HR1 HR2 HR3 HR4 HR5 HR6 HR7 HR8 HR9 HR10 HR11 HR12 HR13 HR14 HR15 HR16 HR17 HR18 Hg]
  · isplitl [HS0 HR1 HR2 HR3 HR4 HR5 HR6 HR7 HR8 HR9 HR10 HR11 HR12 HR13 HR14 HR15 HR16 HR17 HR18]
    · isplitl [HS0]
      · iexact HS0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HR13]
      · iexact HR13
      isplitl [HR14]
      · iexact HR14
      isplitl [HR15]
      · iexact HR15
      isplitl [HR16]
      · iexact HR16
      isplitl [HR17]
      · iexact HR17
      iexact HR18
    iexact Hg
  isplitl [Ho]; · iexact Ho
  isplitl [H0]; · iexact H0
  isplitl [H1]
  · unfold owns; iexists _; isplitr
    swap; · iexact H1
    ipureintro; exact View.read_writes_of_cover _ _ _ _ _ (cover0_A_1 c _ _ _ _ _ _ _ _ _ _ _ _ _)
  isplitl [H2]
  · unfold owns; iexists _; isplitr
    swap; · iexact H2
    ipureintro; exact View.read_writes_of_cover _ _ _ _ _ (cover0_A_2 c _ _ _ _ _ _ _ _ _ _ _ _ _)
  isplitl [H3]
  · unfold owns; iexists _; isplitr
    swap; · iexact H3
    ipureintro; exact View.read_writes_of_cover _ _ _ _ _ (cover0_A_3 c _ _ _ _ _ _ _ _ _ _ _ _ _)
  unfold owns; iexists _; isplitr
  swap; · iexact H4
  ipureintro; exact View.read_writes_of_cover _ _ _ _ _ (cover0_A_4 c _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Run

end
-- ==== Proof.KernelIdeal.Run1.lean ====
/-
  The product call: its body run on any staging memrefs, its proof data and its body obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_lut_matmul` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 8, through which its contents are stated (`View.read_writes_of_cover`: the
    choice does not matter). -/
abbrev VO1_8 : View sig .tc .vmem S1x3x4x256 .bf16 := (Memref.whole cc1_stg8_0 : Memref sig .tc .vmem S1x3x4x256 .bf16).view
/-- Each window's current staging memref at point `t`, spelled as the pipeline passes it (`bodyAt1`), and its wholeness. -/
abbrev ms1_0 (t : Fin cfg1.N) : Memref sig .tc .vmem S4x1024x640 .i8 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S80x32x1024 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S80x32x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S320x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x3x4x256 .bf16 := win1_8.stage (cfg1.slots t 8)
abbrev hs1_8 (t : Fin cfg1.N) : (ms1_8 t).IsWhole := hstage1_8 ((cfg1.slots t 8).cast nbuf1_8)
/-- The scratch operands: whole scoped buffers of the kernel's own, passed beside the windows. -/
abbrev scM1_0 : Memref sig .tc .vmem S4x2x640x128 .i32 := Memref.whole cc1_scratch0
abbrev scM1_1 : Memref sig .tc .vmem S2x640x128 .f32 := Memref.whole cc1_scratch1
abbrev scM1_2 : Memref sig .tc .vmem S2x640x128 .f32 := Memref.whole cc1_scratch2

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

-- (the run's proof term is large: the definition's epilogue — `abstractNestedProofs` — walks it past the default budget)
set_option maxHeartbeats 1416000 in set_option sl_exec.stridedRows true in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .vmem S4x1024x640 .i8) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S80x32x1024 .bf16) (harg6 : arg6.IsWhole) (arg7 : Memref sig .tc .vmem S80x32x128 .f32) (harg7 : arg7.IsWhole) (arg8 : Memref sig .tc .vmem S320x128 .f32) (harg8 : arg8.IsWhole) (arg9 : Memref sig .tc .vmem S1x3x4x256 .bf16) (harg9 : arg9.IsWhole) (arg10 : Memref sig .tc .vmem S4x2x640x128 .i32) (harg10 : arg10.IsWhole) (arg11 : Memref sig .tc .vmem S2x640x128 .f32) (harg11 : arg11.IsWhole) (arg12 : Memref sig .tc .vmem S2x640x128 .f32) (harg12 : arg12.IsWhole)
    (x0 : Vec F S4x1024x640 .i8) (x1 : Vec F S1024x128 .f32) (x2 : Vec F S1024x128 .f32) (x3 : Vec F S1024x128 .f32) (x4 : Vec F S1024x128 .f32) (x5 : Vec F S80x32x1024 .bf16) (x6 : Vec F S80x32x128 .f32) (x7 : Vec F S320x128 .f32) :
    { L8 : List (View.Piece (Elt F) S1x3x4x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc1_lut_matmul i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc1_lut_matmul_eq_skeleton]; unfold cc1_lut_matmul_skel
    simp only [k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- The run's pieces for output 8 tile its block (3 stores of `S1x1x4x256`, checked by the kernel's evaluation: Lib/Ring.lean `Piece.tiledL`, linear in the pieces, through a loop's `@[irreducible]` trip theorem too), so they cover it. -/
theorem cover1_A_8 (c : Dev nD) (i : grid1.Coords) (arg1 : Memref sig .tc .vmem S4x1024x640 .i8) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S80x32x1024 .bf16) (harg6 : arg6.IsWhole) (arg7 : Memref sig .tc .vmem S80x32x128 .f32) (harg7 : arg7.IsWhole) (arg8 : Memref sig .tc .vmem S320x128 .f32) (harg8 : arg8.IsWhole) (arg9 : Memref sig .tc .vmem S1x3x4x256 .bf16) (harg9 : arg9.IsWhole) (arg10 : Memref sig .tc .vmem S4x2x640x128 .i32) (harg10 : arg10.IsWhole) (arg11 : Memref sig .tc .vmem S2x640x128 .f32) (harg11 : arg11.IsWhole) (arg12 : Memref sig .tc .vmem S2x640x128 .f32) (harg12 : arg12.IsWhole)
    (x0 : Vec F S4x1024x640 .i8) (x1 : Vec F S1024x128 .f32) (x2 : Vec F S1024x128 .f32) (x3 : Vec F S1024x128 .f32) (x4 : Vec F S1024x128 .f32) (x5 : Vec F S80x32x1024 .bf16) (x6 : Vec F S80x32x128 .f32) (x7 : Vec F S320x128 .f32) (y : S1x3x4x256.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6 x7).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6 x7).1 S1x1x4x256.size (by sl_kernel_rfl) y

/-- What the run leaves in output 8's staging buffer: its pieces read back over junk. -/
def out1_A_8 (c : Dev nD) (i : grid1.Coords) (arg1 : Memref sig .tc .vmem S4x1024x640 .i8) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S80x32x1024 .bf16) (harg6 : arg6.IsWhole) (arg7 : Memref sig .tc .vmem S80x32x128 .f32) (harg7 : arg7.IsWhole) (arg8 : Memref sig .tc .vmem S320x128 .f32) (harg8 : arg8.IsWhole) (arg9 : Memref sig .tc .vmem S1x3x4x256 .bf16) (harg9 : arg9.IsWhole) (arg10 : Memref sig .tc .vmem S4x2x640x128 .i32) (harg10 : arg10.IsWhole) (arg11 : Memref sig .tc .vmem S2x640x128 .f32) (harg11 : arg11.IsWhole) (arg12 : Memref sig .tc .vmem S2x640x128 .f32) (harg12 : arg12.IsWhole)
    (x0 : Vec F S4x1024x640 .i8) (x1 : Vec F S1024x128 .f32) (x2 : Vec F S1024x128 .f32) (x3 : Vec F S1024x128 .f32) (x4 : Vec F S1024x128 .f32) (x5 : Vec F S80x32x1024 .bf16) (x6 : Vec F S80x32x128 .f32) (x7 : Vec F S320x128 .f32) : Vec F S1x3x4x256 .bf16 :=
  VO1_8.read (Elt F) (VO1_8.writes (Elt F) VO1_8.junk (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6 x7).1)

end Regions

end Cert.KernelIdeal.Run

end
-- ==== Proof.KernelIdeal.Edge1.lean ====
/-
  The product call at the last columns of the scales and the zero points: what the body leaves does not depend on
  the staging columns past the arrays' end, hence its proof data and its body obligation.
-/
module

public import proofs.«01_k».proof.Proof.KernelIdeal.Run1
public import proofs.«01_k».proof.Proof.Gen.KernelIdeal.Launch
public import Idealize.ShloMosaic.Lib.WholeRead
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The result does not depend on the columns past the arrays' end -/

/-- The high half's payload reads the first 32 columns of the rows it is given. -/
theorem pay_hi_congr {v v' : Vec F S128x128 .f32} (h : ∀ j : S128x128.Idx, (j 1).val < 32 → v j = v' j) :
    k1_pay207 v = k1_pay207 v' := by
  unfold k1_pay207
  dsimp only
  congr 1
  funext j
  unfold extractStridedSlice transpose
  dsimp only
  refine h _ ?_
  have := (j 0).isLt
  have h0 : S32x128.size 0 = 32 := rfl
  change 0 + (j 0).val < 32
  omega

/-- Two contents of a whole memref that agree on the first 32 columns give the high half's payload of a load of
    every fourth row alike. -/
theorem pay_load_congr {m : Memref sig .tc .vmem S1024x128 .f32} (hm : m.IsWhole) (o : ℕ)
    (inb) {x x' : Vec F S1024x128 .f32} (h : ∀ j : S1024x128.Idx, (j 1).val < 32 → x j = x' j) :
    k1_pay207 (View.readAt (Elt F) m.view (⟨![o, 0], S128x128.size, ![4, 1], inb⟩ : LoadRect S1024x128) (hm.unread x))
      = k1_pay207 (View.readAt (Elt F) m.view (⟨![o, 0], S128x128.size, ![4, 1], inb⟩ : LoadRect S1024x128) (hm.unread x')) := by
  refine pay_hi_congr fun j hj => ?_
  rw [hm.readAt_unread, hm.readAt_unread]
  refine h _ ?_
  show 0 + 1 * (j 1).val < 32
  omega

theorem HS1_congr (c : Dev nD) {arg2 : Memref sig .tc .vmem S1024x128 .f32} (harg2 : arg2.IsWhole)
    {arg3 : Memref sig .tc .vmem S1024x128 .f32} (harg3 : arg3.IsWhole) (x1 : Vec F S1024x128 .f32) {x2 x2' : Vec F S1024x128 .f32}
    (h : ∀ j : S1024x128.Idx, (j 1).val < 32 → x2 j = x2' j) :
    kernelRun1_A.sl.HS1_16 c arg2 harg2 arg3 harg3 x1 x2 = kernelRun1_A.sl.HS1_16 c arg2 harg2 arg3 harg3 x1 x2' := by
  unfold kernelRun1_A.sl.HS1_16
  congr 1
  · congr 1; exact pay_load_congr harg3 515 _ h
  congr 2
  · congr 1; exact pay_load_congr harg3 514 _ h
  congr 2
  · congr 1; exact pay_load_congr harg3 513 _ h
  congr 2
  · congr 1; exact pay_load_congr harg3 512 _ h
  congr 2
  · congr 1; exact pay_load_congr harg3 3 _ h
  congr 2
  · congr 1; exact pay_load_congr harg3 2 _ h
  congr 2
  · congr 1; exact pay_load_congr harg3 1 _ h
  congr 2
  · congr 1; exact pay_load_congr harg3 0 _ h

theorem HS2_congr (c : Dev nD) {arg4 : Memref sig .tc .vmem S1024x128 .f32} (harg4 : arg4.IsWhole)
    {arg5 : Memref sig .tc .vmem S1024x128 .f32} (harg5 : arg5.IsWhole) (x3 : Vec F S1024x128 .f32) {x4 x4' : Vec F S1024x128 .f32}
    (h : ∀ j : S1024x128.Idx, (j 1).val < 32 → x4 j = x4' j) :
    kernelRun1_A.sl.HS2_16 c arg4 harg4 arg5 harg5 x3 x4 = kernelRun1_A.sl.HS2_16 c arg4 harg4 arg5 harg5 x3 x4' := by
  unfold kernelRun1_A.sl.HS2_16
  congr 1
  · congr 1; exact pay_load_congr harg5 515 _ h
  congr 2
  · congr 1; exact pay_load_congr harg5 514 _ h
  congr 2
  · congr 1; exact pay_load_congr harg5 513 _ h
  congr 2
  · congr 1; exact pay_load_congr harg5 512 _ h
  congr 2
  · congr 1; exact pay_load_congr harg5 3 _ h
  congr 2
  · congr 1; exact pay_load_congr harg5 2 _ h
  congr 2
  · congr 1; exact pay_load_congr harg5 1 _ h
  congr 2
  · congr 1; exact pay_load_congr harg5 0 _ h

/-- A trip does not read the columns loaded last before the loop. -/
theorem trip_free (𝒱 : Variants) (c : Dev nD) (bd : Option 𝒱.V) (i : grid1.Coords) (arg1 : Memref sig .tc .vmem S4x1024x640 .i8) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S80x32x1024 .bf16) (harg6 : arg6.IsWhole) (arg7 : Memref sig .tc .vmem S80x32x128 .f32) (harg7 : arg7.IsWhole) (arg8 : Memref sig .tc .vmem S320x128 .f32) (harg8 : arg8.IsWhole) (arg9 : Memref sig .tc .vmem S1x3x4x256 .bf16) (harg9 : arg9.IsWhole) (arg10 : Memref sig .tc .vmem S4x2x640x128 .i32) (harg10 : arg10.IsWhole) (arg11 : Memref sig .tc .vmem S2x640x128 .f32) (harg11 : arg11.IsWhole) (arg12 : Memref sig .tc .vmem S2x640x128 .f32) (harg12 : arg12.IsWhole)
    (v450 v450' : Vec F S128x128 .f32) (X6 : BufTy.Contents (Elt F) arg6.view.ty) (X7 : BufTy.Contents (Elt F) arg7.view.ty)
    (X8 : BufTy.Contents (Elt F) arg8.view.ty) (X10 : BufTy.Contents (Elt F) arg10.view.ty)
    (X11 : BufTy.Contents (Elt F) arg11.view.ty) (X12 : BufTy.Contents (Elt F) arg12.view.ty) (k : Fin k1_t1_loop.trips) :
    (trip_k1_t1 𝒱 c bd i arg1 harg1 arg2 harg2 arg3 harg3 arg4 harg4 arg5 harg5 arg6 harg6 arg7 harg7 arg8 harg8 arg9 harg9 arg10 harg10 arg11 harg11 arg12 harg12 v450 X6 X7 X8 X10 X11 X12 k).1 = (trip_k1_t1 𝒱 c bd i arg1 harg1 arg2 harg2 arg3 harg3 arg4 harg4 arg5 harg5 arg6 harg6 arg7 harg7 arg8 harg8 arg9 harg9 arg10 harg10 arg11 harg11 arg12 harg12 v450' X6 X7 X8 X10 X11 X12 k).1 := by
  unfold trip_k1_t1
  rfl

/-- Nor does the loop. -/
theorem st_free (𝒱 : Variants) (c : Dev nD) (bd : Option 𝒱.V) (i : grid1.Coords) (arg1 : Memref sig .tc .vmem S4x1024x640 .i8) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S80x32x1024 .bf16) (harg6 : arg6.IsWhole) (arg7 : Memref sig .tc .vmem S80x32x128 .f32) (harg7 : arg7.IsWhole) (arg8 : Memref sig .tc .vmem S320x128 .f32) (harg8 : arg8.IsWhole) (arg9 : Memref sig .tc .vmem S1x3x4x256 .bf16) (harg9 : arg9.IsWhole) (arg10 : Memref sig .tc .vmem S4x2x640x128 .i32) (harg10 : arg10.IsWhole) (arg11 : Memref sig .tc .vmem S2x640x128 .f32) (harg11 : arg11.IsWhole) (arg12 : Memref sig .tc .vmem S2x640x128 .f32) (harg12 : arg12.IsWhole)
    (v450 v450' : Vec F S128x128 .f32) (X6 : BufTy.Contents (Elt F) arg6.view.ty) (X7 : BufTy.Contents (Elt F) arg7.view.ty)
    (X8 : BufTy.Contents (Elt F) arg8.view.ty) (X10 : BufTy.Contents (Elt F) arg10.view.ty)
    (X11 : BufTy.Contents (Elt F) arg11.view.ty) (X12 : BufTy.Contents (Elt F) arg12.view.ty)
    (init : FVec F S8x256 .f32 × FVec F S8x256 .f32 × FVec F S8x256 .f32) (n : ℕ) :
    st_k1_t1 𝒱 c bd i arg1 harg1 arg2 harg2 arg3 harg3 arg4 harg4 arg5 harg5 arg6 harg6 arg7 harg7 arg8 harg8 arg9 harg9 arg10 harg10 arg11 harg11 arg12 harg12 v450 X6 X7 X8 X10 X11 X12 init n = st_k1_t1 𝒱 c bd i arg1 harg1 arg2 harg2 arg3 harg3 arg4 harg4 arg5 harg5 arg6 harg6 arg7 harg7 arg8 harg8 arg9 harg9 arg10 harg10 arg11 harg11 arg12 harg12 v450' X6 X7 X8 X10 X11 X12 init n := by
  induction n with
  | zero => unfold st_k1_t1; rfl
  | succ n ih =>
    unfold st_k1_t1
    rw [ih]
    unfold st_k1_t1Step
    split
    · exact congrFun (trip_free 𝒱 c bd i arg1 harg1 arg2 harg2 arg3 harg3 arg4 harg4 arg5 harg5 arg6 harg6 arg7 harg7 arg8 harg8 arg9 harg9 arg10 harg10 arg11 harg11 arg12 harg12 v450 v450' X6 X7 X8 X10 X11 X12 _) _
    · rfl

/-- The body's result does not depend on the high windows' columns past the first 32. -/
theorem out1_congr (c : Dev nD) (i : grid1.Coords) (arg1 : Memref sig .tc .vmem S4x1024x640 .i8) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S80x32x1024 .bf16) (harg6 : arg6.IsWhole) (arg7 : Memref sig .tc .vmem S80x32x128 .f32) (harg7 : arg7.IsWhole) (arg8 : Memref sig .tc .vmem S320x128 .f32) (harg8 : arg8.IsWhole) (arg9 : Memref sig .tc .vmem S1x3x4x256 .bf16) (harg9 : arg9.IsWhole) (arg10 : Memref sig .tc .vmem S4x2x640x128 .i32) (harg10 : arg10.IsWhole) (arg11 : Memref sig .tc .vmem S2x640x128 .f32) (harg11 : arg11.IsWhole) (arg12 : Memref sig .tc .vmem S2x640x128 .f32) (harg12 : arg12.IsWhole)
    (x0 : Vec F S4x1024x640 .i8) (x1 x2 x2' x3 x4 x4' : Vec F S1024x128 .f32) (x5 : Vec F S80x32x1024 .bf16)
    (x6 : Vec F S80x32x128 .f32) (x7 : Vec F S320x128 .f32)
    (h2 : ∀ j : S1024x128.Idx, (j 1).val < 32 → x2 j = x2' j) (h4 : ∀ j : S1024x128.Idx, (j 1).val < 32 → x4 j = x4' j) :
    (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6 x7).1 = (kernelRun1_A c i arg1 harg1 arg2 harg2 arg3 harg3 arg4 harg4 arg5 harg5 arg6 harg6 arg7 harg7 arg8 harg8 arg9 harg9 arg10 harg10 arg11 harg11 arg12 harg12 x0 x1 x2' x3 x4' x5 x6 x7).1 := by
  unfold kernelRun1_A
  dsimp only
  rw [HS1_congr c harg2 harg3 x1 h2, HS2_congr c harg4 harg5 x3 h4]
  simp only [st_free Variants.none c none i arg1 harg1 arg2 harg2 arg3 harg3 arg4 harg4 arg5 harg5 arg6 harg6 arg7 harg7 arg8 harg8 arg9 harg9 arg10 harg10 arg11 harg11 arg12 harg12 (kernelRun1_A.sl.r_13 c arg5 harg5 x4) (kernelRun1_A.sl.r_13 c arg5 harg5 x4')]

end Cert.KernelIdeal.Run

end
-- ==== Proof.KernelIdeal.Body1.lean ====
/-
  The product call's proof data and its body obligation: the four windows on the scales and the zero points are
  stated on the columns inside their arrays only.
-/
module

public import proofs.«01_k».proof.Proof.KernelIdeal.Edge1
public import proofs.«01_k».proof.Proof.Gen.KernelIdeal.Launch
public import Idealize.ShloMosaic.Lib.WholeRead
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-- Window 1's block filled out past the array's end with zeros, which nothing reads. -/
def xin1_1 (c : Dev nD) (t : Fin cfg1.N) : Vec F S1024x128 .f32 :=
  win1_1.fill (grid1.coords t) (fun _ => Scalar.ofBits .f32 0#32) (iblk1 V c 1 t)

theorem xsize1_1 : ∀ (t : Fin grid1.N) (a : Fin 2), win1_1.xsize (grid1.coords t) a = (![1024, 128] : Fin 2 → ℕ) a := by
  decide +kernel

/-- What window 1 holds on the array's columns is the block, whatever the columns past them hold. -/
theorem fill1_1 (c : Dev nD) (t : Fin cfg1.N) (d : Vec F S1024x128 .f32) (j : S1024x128.Idx) (hj : (j 1).val < 128) :
    win1_1.fill (grid1.coords t) d (iblk1 V c 1 t) j = xin1_1 V c t j := by
  have hm : win1_1.moved (grid1.coords t) j = true := (Pipeline.Window.moved_iff win1_1 (grid1.coords t) j).mpr fun a => by
    rw [xsize1_1]
    have h0 := (j 0).isLt
    fin_cases a
    · exact h0
    · exact hj
  unfold xin1_1 Pipeline.Window.fill
  rw [dif_pos hm, dif_pos hm]

theorem fill1_1_eq (c : Dev nD) (t : Fin cfg1.N) (d : Vec F S1024x128 .f32) :
    win1_1.fill (grid1.coords t) d (iblk1 V c 1 t) = xin1_1 V c t :=
  funext fun j => fill1_1 V c t d j (j 1).isLt

/-- Window 2's block filled out past the array's end with zeros, which nothing reads. -/
def xin1_2 (c : Dev nD) (t : Fin cfg1.N) : Vec F S1024x128 .f32 :=
  win1_2.fill (grid1.coords t) (fun _ => Scalar.ofBits .f32 0#32) (iblk1 V c 2 t)

theorem xsize1_2 : ∀ (t : Fin grid1.N) (a : Fin 2), win1_2.xsize (grid1.coords t) a = (![1024, 32] : Fin 2 → ℕ) a := by
  decide +kernel

/-- What window 2 holds on the array's columns is the block, whatever the columns past them hold. -/
theorem fill1_2 (c : Dev nD) (t : Fin cfg1.N) (d : Vec F S1024x128 .f32) (j : S1024x128.Idx) (hj : (j 1).val < 32) :
    win1_2.fill (grid1.coords t) d (iblk1 V c 2 t) j = xin1_2 V c t j := by
  have hm : win1_2.moved (grid1.coords t) j = true := (Pipeline.Window.moved_iff win1_2 (grid1.coords t) j).mpr fun a => by
    rw [xsize1_2]
    have h0 := (j 0).isLt
    fin_cases a
    · exact h0
    · exact hj
  unfold xin1_2 Pipeline.Window.fill
  rw [dif_pos hm, dif_pos hm]

/-- Window 3's block filled out past the array's end with zeros, which nothing reads. -/
def xin1_3 (c : Dev nD) (t : Fin cfg1.N) : Vec F S1024x128 .f32 :=
  win1_3.fill (grid1.coords t) (fun _ => Scalar.ofBits .f32 0#32) (iblk1 V c 3 t)

theorem xsize1_3 : ∀ (t : Fin grid1.N) (a : Fin 2), win1_3.xsize (grid1.coords t) a = (![1024, 128] : Fin 2 → ℕ) a := by
  decide +kernel

/-- What window 3 holds on the array's columns is the block, whatever the columns past them hold. -/
theorem fill1_3 (c : Dev nD) (t : Fin cfg1.N) (d : Vec F S1024x128 .f32) (j : S1024x128.Idx) (hj : (j 1).val < 128) :
    win1_3.fill (grid1.coords t) d (iblk1 V c 3 t) j = xin1_3 V c t j := by
  have hm : win1_3.moved (grid1.coords t) j = true := (Pipeline.Window.moved_iff win1_3 (grid1.coords t) j).mpr fun a => by
    rw [xsize1_3]
    have h0 := (j 0).isLt
    fin_cases a
    · exact h0
    · exact hj
  unfold xin1_3 Pipeline.Window.fill
  rw [dif_pos hm, dif_pos hm]

theorem fill1_3_eq (c : Dev nD) (t : Fin cfg1.N) (d : Vec F S1024x128 .f32) :
    win1_3.fill (grid1.coords t) d (iblk1 V c 3 t) = xin1_3 V c t :=
  funext fun j => fill1_3 V c t d j (j 1).isLt

/-- Window 4's block filled out past the array's end with zeros, which nothing reads. -/
def xin1_4 (c : Dev nD) (t : Fin cfg1.N) : Vec F S1024x128 .f32 :=
  win1_4.fill (grid1.coords t) (fun _ => Scalar.ofBits .f32 0#32) (iblk1 V c 4 t)

theorem xsize1_4 : ∀ (t : Fin grid1.N) (a : Fin 2), win1_4.xsize (grid1.coords t) a = (![1024, 32] : Fin 2 → ℕ) a := by
  decide +kernel

/-- What window 4 holds on the array's columns is the block, whatever the columns past them hold. -/
theorem fill1_4 (c : Dev nD) (t : Fin cfg1.N) (d : Vec F S1024x128 .f32) (j : S1024x128.Idx) (hj : (j 1).val < 32) :
    win1_4.fill (grid1.coords t) d (iblk1 V c 4 t) j = xin1_4 V c t j := by
  have hm : win1_4.moved (grid1.coords t) j = true := (Pipeline.Window.moved_iff win1_4 (grid1.coords t) j).mpr fun a => by
    rw [xsize1_4]
    have h0 := (j 0).isLt
    fin_cases a
    · exact h0
    · exact hj
  unfold xin1_4 Pipeline.Window.fill
  rw [dif_pos hm, dif_pos hm]

/-! ## What the outputs hold after each point -/

/-- What the outputs' staging buffers hold after the body at point `t`: the run's contents at
    the point's memrefs and input blocks. -/
def outsAt1 (c : Dev nD) (t : Fin cfg1.N) : Vec F S1x3x4x256 .bf16 :=
  out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) (iblk1 V c 0 t) (xin1_1 V c t) (xin1_2 V c t) (xin1_3 V c t) (xin1_4 V c t) (iblk1 V c 5 t) (iblk1 V c 6 t) (iblk1 V c 7 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; each input's share of its array
    (`Pipeline.shareOf`: the full share of an array several windows stage, dealt among them). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => xin1_1 V c t
    | ⟨2, _⟩ => xin1_2 V c t
    | ⟨3, _⟩ => xin1_3 V c t
    | ⟨4, _⟩ => xin1_4 V c t
    | ⟨5, _⟩ => iblk1 V c 5 t
    | ⟨6, _⟩ => iblk1 V c 6 t
    | ⟨7, _⟩ => iblk1 V c 7 t
    | ⟨8, _⟩ => (outsAt1 V c t)
  Φ _ := Pipeline.ΦA spec1 c
  q w := Pipeline.shareOf spec1 w
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = xin1_1 V c t := by dsimp only [dat1]
theorem after1_2 (c : Dev nD) (t : Fin cfg1.N) : (dat1 V c).after 2 t = xin1_2 V c t := by dsimp only [dat1]
theorem after1_3 (c : Dev nD) (t : Fin cfg1.N) : (dat1 V c).after 3 t = xin1_3 V c t := by dsimp only [dat1]
theorem after1_4 (c : Dev nD) (t : Fin cfg1.N) : (dat1 V c).after 4 t = xin1_4 V c t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) :
    (dat1 V c).before 1 t d = win1_1.fill (grid1.coords t) d (iblk1 V c 1 t) := by
  unfold Dat.before; rw [if_pos (fetch1_1 t)]
  unfold Dat.fetched Dat.blockOf iblk1
  rw [A_eq1]
theorem before1_2 (c : Dev nD) (t : Fin cfg1.N) (d) :
    (dat1 V c).before 2 t d = win1_2.fill (grid1.coords t) d (iblk1 V c 2 t) := by
  unfold Dat.before; rw [if_pos (fetch1_2 t)]
  unfold Dat.fetched Dat.blockOf iblk1
  rw [A_eq1]
theorem before1_3 (c : Dev nD) (t : Fin cfg1.N) (d) :
    (dat1 V c).before 3 t d = win1_3.fill (grid1.coords t) d (iblk1 V c 3 t) := by
  unfold Dat.before; rw [if_pos (fetch1_3 t)]
  unfold Dat.fetched Dat.blockOf iblk1
  rw [A_eq1]
theorem before1_4 (c : Dev nD) (t : Fin cfg1.N) (d) :
    (dat1 V c).before 4 t d = win1_4.fill (grid1.coords t) d (iblk1 V c 4 t) := by
  unfold Dat.before; rw [if_pos (fetch1_4 t)]
  unfold Dat.fetched Dat.blockOf iblk1
  rw [A_eq1]
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ (∃ d, owns (c : Thread nD τ) (ms1_1 t) fullShare (win1_1.fill (grid1.coords t) d (win1_1.cut (grid1.coords t) ((dat1 V c).after 1 t))))
    ∗ (∃ d, owns (c : Thread nD τ) (ms1_2 t) fullShare (win1_2.fill (grid1.coords t) d (win1_2.cut (grid1.coords t) ((dat1 V c).after 2 t))))
    ∗ (∃ d, owns (c : Thread nD τ) (ms1_3 t) fullShare (win1_3.fill (grid1.coords t) d (win1_3.cut (grid1.coords t) ((dat1 V c).after 3 t))))
    ∗ (∃ d, owns (c : Thread nD τ) (ms1_4 t) fullShare (win1_4.fill (grid1.coords t) d (win1_4.cut (grid1.coords t) ((dat1 V c).after 4 t))))
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

set_option maxHeartbeats 1200000 in
/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  rw [show (dat1 V c).Φ t.castSucc = Pipeline.ΦA spec1 c from rfl, PhiA1_eq]
  unfold outsAt1
  unfold out1_A_8
  iintro ⟨⟨⟨HR0, HR1, HR2, HR3, HR4, HR5, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [fill1_1_eq V c t d1, fill1_3_eq V c t d3]
  rw [← out1_congr c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) (iblk1 V c 0 t) (xin1_1 V c t) (win1_2.fill (grid1.coords t) d2 (iblk1 V c 2 t)) (xin1_2 V c t) (xin1_3 V c t) (win1_4.fill (grid1.coords t) d4 (iblk1 V c 4 t)) (xin1_4 V c t) (iblk1 V c 5 t) (iblk1 V c 6 t) (iblk1 V c 7 t) (fun j hj => fill1_2 V c t d2 j hj) (fun j hj => fill1_4 V c t d4 j hj)]
  iapply ((kernelRun1_A c (grid1.coords t) _ _ _ _ _ _ _ _ _ _ _ _ _ _ _ _ _ _ _ _ _ _ _ _ (iblk1 V c 0 t) (xin1_1 V c t) (win1_2.fill (grid1.coords t) d2 (iblk1 V c 2 t)) (xin1_3 V c t) (win1_4.fill (grid1.coords t) d4 (iblk1 V c 4 t)) (iblk1 V c 5 t) (iblk1 V c 6 t) (iblk1 V c 7 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  iintro ⟨H0, H1, H2, H3, H4, H5, H6, H7, ⟨%e8, H8⟩, HS0, HS1, HS2⟩
  isplitl [HR0 HR1 HR2 HR3 HR4 HR5 HS0 HS1 HS2 Hg]
  · isplitl [HR0 HR1 HR2 HR3 HR4 HR5 HS0 HS1 HS2]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HS0]
      · iexact HS0
      isplitl [HS1]
      · iexact HS1
      iexact HS2
    iexact Hg
  isplitl [Ho]; · iexact Ho
  isplitl [H0]; · iexact H0
  isplitl [H1]; · iexists xin1_1 V c t; rw [win1_1.fill_cut]; iexact H1
  isplitl [H2]; · iexists d2; unfold xin1_2; rw [win1_2.cut_fill]; iexact H2
  isplitl [H3]; · iexists xin1_3 V c t; rw [win1_3.fill_cut]; iexact H3
  isplitl [H4]; · iexists d4; unfold xin1_4; rw [win1_4.cut_fill]; iexact H4
  isplitl [H5]; · iexact H5
  isplitl [H6]; · iexact H6
  isplitl [H7]; · iexact H7
  unfold owns; iexists _; isplitr
  swap; · iexact H8
  ipureintro; exact View.read_writes_of_cover _ _ _ _ _ (cover1_A_8 c (grid1.coords t) _ _ _ _ _ _ _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligationLoose (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Run

end
-- ==== Proof.KernelIdeal.Frame.lean ====
/-
  The whole run: the two calls among the host stretches, and what every buffer holds at the end.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import proofs.«01_k».proof.Proof.KernelIdeal.Run0
public import proofs.«01_k».proof.Proof.KernelIdeal.Body1
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_c]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_v2]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v3]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v6, main_v7, main_v8, main_v9, main_v10, main_v11, main_v12, main_v13, main_v14, main_v15, main_v16, main_v17, main_v18, main_v19]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2` (region 0's entry). -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded: `Dat.arrAt … N`), every other buffer as entered (Lib/Pipeline/FrameSuffix.lean `withArrays`) (region 1's entry). -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A reference that is none of region 0's OUTPUT arrays keeps its entry contents across it: an input window's
    array is never written back (`Dat.arrAt_in`, `A_eq0`); any other buffer is left as is. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact (dat1 (V4 m ρ) c).withArrays_arrAt launch₀1.sharedIn _ (A_eq1 (V4 m ρ) c) w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- A reference that is none of region 1's OUTPUT arrays keeps its entry contents across it: an input window's
    array is never written back (`Dat.arrAt_in`, `A_eq1`); any other buffer is left as is. -/
theorem W5_of (c : Dev nD) (r : Ref sig .tc) (h : ∀ w : Fin cfg1.W, Pipeline.arrRef spec1 w = r → (cfg1.win w).isOut = false) :
    W5 m ρ c (Proc.devRef .tc r) = W4 m ρ c (Proc.devRef .tc r) := by
  by_cases hw : ∃ w : Fin cfg1.W, Pipeline.arrRef spec1 w = r
  · obtain ⟨w, rfl⟩ := hw
    exact (W5_arr m ρ c w).trans (((dat1 (V4 m ρ) c).arrAt_in w (h w rfl) _).trans (A_eq1 (V4 m ρ) c w))
  · exact W5_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn1 a ha)).trans (W4_args m ρ c a ha)
/-- The same read at the TensorCore's references (region 1's exit contents). -/
abbrev V5 : (c : Dev nD) → (b : Ref sig .tc) → Buf (Elt F) ((c : Thread nD τ).loc b) := fun c b => W5 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After `hostOps2`. -/
abbrev W6 : Dev nD → Valuation τ sig (Elt F) := fun c => StableHlo.after hostOps2 (W5 m ρ c)
/-- A reference `hostOps2` does not write keeps its contents across it. -/
theorem W6_of (c : Dev nD) (r : Ref sig .tc) (h : r ∉ hostOps2_W) : W6 m ρ c (Proc.devRef .tc r) = W5 m ρ c (Proc.devRef .tc r) :=
  StableHlo.after_of_writes_sub hostOps2 _ hostOps2_writes h
theorem W6_args (c : Dev nD) : ∀ a ∈ argRefs, W6 m ρ c (Proc.devRef .tc a) = m ((c : Thread nD τ).loc a) :=
  fun a ha => (W6_of m ρ c a (hostOps2_args a ha)).trans (W5_args m ρ c a ha)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W4`, left at `W5`
    (what the next segment is entered from). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := body_obligation1 (V4 m ρ) c
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V4 m ρ c) (A_eq1 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ),
    .host (hseg hostOps2 hostOps2_sub hostOps2_fresh (W5 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_KernelIdeal`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W6_<arg>`;
    the kit shows every counter at zero except the TensorCores' unscoped ones, of which there are none. Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨(h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h => h.1) (frame m ρ)

end Cert.KernelIdeal.Run

end
-- ==== Proof.Spec.lean ====
module
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.IdealHost
public import Idealize.ShloMosaic.PureOps.Ideal.Laws
@[expose] public section

/-! The table of one group of 128 channels, its scale and its codes, and the arithmetic the two programs share. -/
namespace Cert.Spec
open Idealize.ShloMosaic

/-- The sum of those of four values whose bit is set in `e`. -/
noncomputable def tab (a : Fin 4 → EReal) (e : ℕ) : EReal :=
  ((((if e.testBit 0 then a 0 else 0) + if e.testBit 1 then a 1 else 0) + if e.testBit 2 then a 2 else 0)
    + if e.testBit 3 then a 3 else 0)

/-- The absolute value as the programs take it. -/
noncomputable def ab (x : EReal) : EReal := max x (-x)

theorem ab_zero : ab 0 = 0 := by simp [ab]
theorem ab_nonneg (x : EReal) : 0 ≤ ab x := by
  rcases le_total 0 x with h | h
  · exact le_max_of_le_left h
  · exact le_max_of_le_right (EReal.neg_nonneg.2 h)

/-- Channel `i` of quad `q`. -/
def chan (q : Fin 32) (i : Fin 4) : Fin 128 := ⟨4 * q.val + i.val, by omega⟩

/-- Entry `e` of the table of quad `q` of a group. -/
noncomputable def gtab (u : Fin 128 → EReal) (q : Fin 32) (e : ℕ) : EReal := tab (fun i => u (chan q i)) e

/-- The largest absolute table entry of a group. -/
noncomputable def gmax (u : Fin 128 → EReal) : EReal :=
  (Finset.univ : Finset (Fin 32 × Fin 16)).sup fun p => ab (gtab u p.1 p.2.val)

/-- The scale of a group. -/
noncomputable def gscale (u : Fin 128 → EReal) : EReal :=
  if gmax u = 0 then 1 else Ideal.div (gmax u) ((127 : ℝ) : EReal)

/-- Round and clip. -/
noncomputable def rc (v : EReal) : EReal :=
  min ((127 : ℝ) : EReal) (max ((-127 : ℝ) : EReal) (Ideal.liftRound Ideal.roundHalfEven v))

/-- Round and clip, as an integer. -/
noncomputable def rcZ : EReal → ℤ
  | ⊥ => -127
  | ⊤ => 127
  | (r : ℝ) => min 127 (max (-127) (Ideal.roundHalfEven r))

@[simp] theorem rcZ_bot : rcZ ⊥ = -127 := rfl
@[simp] theorem rcZ_top : rcZ ⊤ = 127 := rfl
@[simp] theorem rcZ_coe (r : ℝ) : rcZ (r : EReal) = min 127 (max (-127) (Ideal.roundHalfEven r)) := rfl
theorem rcZ_zero : rcZ 0 = 0 := by
  have h2 : Ideal.roundHalfEven (0 : ℝ) = 0 := by simp [Ideal.roundHalfEven]
  show rcZ ((0 : ℝ) : EReal) = 0
  rw [rcZ_coe, h2]; rfl

theorem rc_eq (v : EReal) : rc v = ((rcZ v : ℝ) : EReal) := by
  induction v using EReal.rec with
  | bot => simp [rc]; try norm_cast
  | top => simp [rc]; try norm_cast
  | coe r =>
    simp only [rc, rcZ_coe, Ideal.liftRound_coe]
    push_cast
    rfl

theorem rcZ_le (v : EReal) : rcZ v ≤ 127 := by
  induction v using EReal.rec with
  | bot => simp
  | top => simp
  | coe r => exact min_le_left _ _

theorem le_rcZ (v : EReal) : -127 ≤ rcZ v := by
  induction v using EReal.rec with
  | bot => simp
  | top => simp
  | coe r => exact le_min (by norm_num) (le_max_left _ _)

/-- The integer code of entry `e` of quad `q` of a group. -/
noncomputable def gz (u : Fin 128 → EReal) (q : Fin 32) (e : ℕ) : ℤ := rcZ (Ideal.div (gtab u q e) (gscale u))

theorem gz_le (u : Fin 128 → EReal) (q : Fin 32) (e : ℕ) : gz u q e ≤ 127 := rcZ_le _
theorem le_gz (u : Fin 128 → EReal) (q : Fin 32) (e : ℕ) : -127 ≤ gz u q e := le_rcZ _

theorem fptosi32 (z : ℤ) (h : z ≤ 127) (h' : -127 ≤ z) : Ideal.fptosi 32 (((z : ℝ)) : EReal) = BitVec.ofInt 32 z := by
  have e : Ideal.fptosi 32 (((z : ℝ)) : EReal) = BitVec.ofInt 32 (max (-(2 ^ (32 - 1) : Nat))
      (min ((2 ^ (32 - 1) : Nat) - 1) (if 0 ≤ (z : ℝ) then ⌊(z : ℝ)⌋ else ⌈(z : ℝ)⌉))) := rfl
  rw [e, Int.floor_intCast, Int.ceil_intCast, ite_self]
  congr 1
  norm_num
  omega

theorem gscale_ne_zero (u : Fin 128 → EReal) (h : 0 ≤ gmax u) : gscale u ≠ 0 := by
  unfold gscale
  split
  · simp
  · rename_i hm
    have hp : 0 < gmax u := lt_of_le_of_ne h (Ne.symm hm)
    have h127 : ((127 : ℝ) : EReal) ≠ 0 := by norm_num
    simp only [Ideal.div, if_neg h127]
    have : (0 : EReal) < (((127 : ℝ) : EReal))⁻¹ := by
      rw [← EReal.coe_inv]; norm_num
    exact (EReal.mul_pos hp this).ne'

theorem gmax_nonneg (u : Fin 128 → EReal) : 0 ≤ gmax u :=
  le_trans (ab_nonneg _) (Finset.le_sup (f := fun p : Fin 32 × Fin 16 => ab (gtab u p.1 p.2.val)) (Finset.mem_univ (0, 0)))

theorem gscale_pos (u : Fin 128 → EReal) : 0 < gscale u := by
  refine lt_of_le_of_ne ?_ (Ne.symm (gscale_ne_zero u (gmax_nonneg u)))
  unfold gscale
  split
  · simp
  · have h127 : ((127 : ℝ) : EReal) ≠ 0 := by norm_num
    simp only [Ideal.div, if_neg h127]
    refine mul_nonneg (gmax_nonneg u) ?_
    rw [← EReal.coe_inv]; norm_num

theorem gz_zero (u : Fin 128 → EReal) (q : Fin 32) : gz u q 0 = 0 := by
  have h : gtab u q 0 = 0 := by simp [gtab, tab]
  rw [gz, h, Ideal.div, if_neg (gscale_pos u).ne', zero_mul, rcZ_zero]

/-- With an infinite scale every code of the group is zero. -/
theorem gz_of_top (u : Fin 128 → EReal) (h : gscale u = ⊤) (q : Fin 32) (e : ℕ) : gz u q e = 0 := by
  rw [gz, h, Ideal.div, if_neg (by simp), EReal.inv_top, mul_zero, rcZ_zero]

theorem gtab_0 (u : Fin 128 → EReal) (q : Fin 32) : gtab u q 0 = 0 := by simp [gtab, tab, Nat.testBit]
theorem gtab_1 (u : Fin 128 → EReal) (q : Fin 32) : gtab u q 1 = u (chan q 0) := by simp [gtab, tab, Nat.testBit]
theorem gtab_2 (u : Fin 128 → EReal) (q : Fin 32) : gtab u q 2 = u (chan q 1) := by simp [gtab, tab, Nat.testBit]
theorem gtab_3 (u : Fin 128 → EReal) (q : Fin 32) : gtab u q 3 = u (chan q 0) + u (chan q 1) := by simp [gtab, tab, Nat.testBit]
theorem gtab_4 (u : Fin 128 → EReal) (q : Fin 32) : gtab u q 4 = u (chan q 2) := by simp [gtab, tab, Nat.testBit]
theorem gtab_5 (u : Fin 128 → EReal) (q : Fin 32) : gtab u q 5 = u (chan q 0) + u (chan q 2) := by simp [gtab, tab, Nat.testBit]
theorem gtab_6 (u : Fin 128 → EReal) (q : Fin 32) : gtab u q 6 = u (chan q 1) + u (chan q 2) := by simp [gtab, tab, Nat.testBit]
theorem gtab_7 (u : Fin 128 → EReal) (q : Fin 32) : gtab u q 7 = u (chan q 0) + u (chan q 1) + u (chan q 2) := by simp [gtab, tab, Nat.testBit]
theorem gtab_8 (u : Fin 128 → EReal) (q : Fin 32) : gtab u q 8 = u (chan q 3) := by simp [gtab, tab, Nat.testBit]
theorem gtab_9 (u : Fin 128 → EReal) (q : Fin 32) : gtab u q 9 = u (chan q 0) + u (chan q 3) := by simp [gtab, tab, Nat.testBit]
theorem gtab_10 (u : Fin 128 → EReal) (q : Fin 32) : gtab u q 10 = u (chan q 1) + u (chan q 3) := by simp [gtab, tab, Nat.testBit]
theorem gtab_11 (u : Fin 128 → EReal) (q : Fin 32) : gtab u q 11 = u (chan q 0) + u (chan q 1) + u (chan q 3) := by simp [gtab, tab, Nat.testBit]
theorem gtab_12 (u : Fin 128 → EReal) (q : Fin 32) : gtab u q 12 = u (chan q 2) + u (chan q 3) := by simp [gtab, tab, Nat.testBit]
theorem gtab_13 (u : Fin 128 → EReal) (q : Fin 32) : gtab u q 13 = u (chan q 0) + u (chan q 2) + u (chan q 3) := by simp [gtab, tab, Nat.testBit]
theorem gtab_14 (u : Fin 128 → EReal) (q : Fin 32) : gtab u q 14 = u (chan q 1) + u (chan q 2) + u (chan q 3) := by simp [gtab, tab, Nat.testBit]
theorem gtab_15 (u : Fin 128 → EReal) (q : Fin 32) : gtab u q 15 = u (chan q 0) + u (chan q 1) + u (chan q 2) + u (chan q 3) := by simp [gtab, tab, Nat.testBit]

theorem max_chain (f : Fin 16 → EReal) (h0 : f 0 = 0) (hp : ∀ e, 0 ≤ f e) : max (max (max (max (max (max (max (max (max (max (max (max (max (max (f 1) (f 2)) (f 3)) (f 4)) (f 5)) (f 6)) (f 7)) (f 8)) (f 9)) (f 10)) (f 11)) (f 12)) (f 13)) (f 14)) (f 15) = (Finset.univ : Finset (Fin 16)).sup f := by
  refine le_antisymm ?_ (Finset.sup_le fun e _ => ?_)
  · repeat' apply max_le
    all_goals exact Finset.le_sup (f := f) (Finset.mem_univ _)
  · have h1 : f 1 ≤ max (max (max (max (max (max (max (max (max (max (max (max (max (max (f 1) (f 2)) (f 3)) (f 4)) (f 5)) (f 6)) (f 7)) (f 8)) (f 9)) (f 10)) (f 11)) (f 12)) (f 13)) (f 14)) (f 15) := by simp only [le_max_iff, le_refl, true_or, or_true]
    have h2 : f 0 ≤ max (max (max (max (max (max (max (max (max (max (max (max (max (max (f 1) (f 2)) (f 3)) (f 4)) (f 5)) (f 6)) (f 7)) (f 8)) (f 9)) (f 10)) (f 11)) (f 12)) (f 13)) (f 14)) (f 15) := h0 ▸ le_trans (hp 1) h1
    fin_cases e
    · exact h2
    all_goals first | exact h1 | (simp only [le_max_iff]; simp)

theorem le_gmax (u : Fin 128 → EReal) (q : Fin 32) (e : Fin 16) : ab (gtab u q e.val) ≤ gmax u := by
  have h := Finset.le_sup (f := fun p : Fin 32 × Fin 16 => ab (gtab u p.1 p.2.val)) (Finset.mem_univ (q, e))
  rw [gmax]
  exact h

theorem gmax_le (u : Fin 128 → EReal) (b : EReal) (h : ∀ (q : Fin 32) (e : Fin 16), ab (gtab u q e.val) ≤ b) : gmax u ≤ b :=
  Finset.sup_le fun p _ => h p.1 p.2

theorem le_sup2 {ι κ : Type} [Fintype ι] [Fintype κ] (f : ι → κ → EReal) (i : ι) (k : κ) :
    f i k ≤ (Finset.univ : Finset ι).sup fun i => (Finset.univ : Finset κ).sup fun k => f i k :=
  le_trans (Finset.le_sup (f := fun k => f i k) (Finset.mem_univ k))
    (Finset.le_sup (f := fun i => (Finset.univ : Finset κ).sup fun k => f i k) (Finset.mem_univ i))

/-- One stage of the in-place difference over the subsets. -/
def mobSt (i : ℕ) (f : ℕ → ℤ) (e : ℕ) : ℤ := if e.testBit i then f e - f (e ^^^ (1 <<< i)) else f e

/-- The signed sum of `f` over the subsets of `S`. -/
def mob (f : ℕ → ℤ) (S : ℕ) : ℤ := mobSt 3 (mobSt 2 (mobSt 1 (mobSt 0 f))) S

theorem mob_1 (f : ℕ → ℤ) : mob f 1 = f 1 - f 0 := by simp [mob, mobSt, Nat.testBit]; try ring
theorem mob_2 (f : ℕ → ℤ) : mob f 2 = f 2 - f 0 := by simp [mob, mobSt, Nat.testBit]; try ring
theorem mob_3 (f : ℕ → ℤ) : mob f 3 = f 0 + f 3 - f 1 - f 2 := by simp [mob, mobSt, Nat.testBit]; try ring
theorem mob_4 (f : ℕ → ℤ) : mob f 4 = f 4 - f 0 := by simp [mob, mobSt, Nat.testBit]; try ring
theorem mob_5 (f : ℕ → ℤ) : mob f 5 = f 0 + f 5 - f 1 - f 4 := by simp [mob, mobSt, Nat.testBit]; try ring
theorem mob_6 (f : ℕ → ℤ) : mob f 6 = f 0 + f 6 - f 2 - f 4 := by simp [mob, mobSt, Nat.testBit]; try ring
theorem mob_7 (f : ℕ → ℤ) : mob f 7 = f 1 + f 2 + f 4 + f 7 - f 0 - f 3 - f 5 - f 6 := by simp [mob, mobSt, Nat.testBit]; try ring
theorem mob_8 (f : ℕ → ℤ) : mob f 8 = f 8 - f 0 := by simp [mob, mobSt, Nat.testBit]; try ring
theorem mob_9 (f : ℕ → ℤ) : mob f 9 = f 0 + f 9 - f 1 - f 8 := by simp [mob, mobSt, Nat.testBit]; try ring
theorem mob_10 (f : ℕ → ℤ) : mob f 10 = f 0 + f 10 - f 2 - f 8 := by simp [mob, mobSt, Nat.testBit]; try ring
theorem mob_11 (f : ℕ → ℤ) : mob f 11 = f 1 + f 2 + f 8 + f 11 - f 0 - f 3 - f 9 - f 10 := by simp [mob, mobSt, Nat.testBit]; try ring
theorem mob_12 (f : ℕ → ℤ) : mob f 12 = f 0 + f 12 - f 4 - f 8 := by simp [mob, mobSt, Nat.testBit]; try ring
theorem mob_13 (f : ℕ → ℤ) : mob f 13 = f 1 + f 4 + f 8 + f 13 - f 0 - f 5 - f 9 - f 12 := by simp [mob, mobSt, Nat.testBit]; try ring
theorem mob_14 (f : ℕ → ℤ) : mob f 14 = f 2 + f 4 + f 8 + f 14 - f 0 - f 6 - f 10 - f 12 := by simp [mob, mobSt, Nat.testBit]; try ring
theorem mob_15 (f : ℕ → ℤ) : mob f 15 = f 0 + f 3 + f 5 + f 6 + f 9 + f 10 + f 12 + f 15 - f 1 - f 2 - f 4 - f 7 - f 8 - f 11 - f 13 - f 14 := by simp [mob, mobSt, Nat.testBit]; try ring

/-- The subset a block of 64 columns belongs to. -/
def subs (i : ℕ) : ℕ := [1, 2, 4, 8, 3, 5, 6, 9, 10, 12, 7, 11, 13, 14, 15].getD i 15

end Cert.Spec
-- ==== Proof.KernelIdeal.Tabs.lean ====
module
public import proofs.«01_k».proof.Proof.KernelIdeal.Run0
public import proofs.«01_k».proof.Proof.Spec
public import Idealize.ShloMosaic.Lib.WholeRead
@[expose] public section

/-! What the tables body computes, entry by entry: the table sums, the scale and the codes. -/
namespace Cert.KernelIdeal.Run
open Idealize.ShloMosaic Idealize.ShloMosaic.TcCoe Cert.KernelIdeal.Gen Idealize.SL Idealize.ShloMosaic.ValueIdx Cert.Spec

/-- The 128 channels in one row of the tables call's argument. -/
def row (x0 : Vec Ideal S320x128 .bf16) (r : Fin 320) : Fin 128 → EReal := fun l => x0 (ix2 r l)

/-- The quad a lane of half group `j2` holds. -/
def kq (j2 : Fin 2) (l : Fin 128) : Fin 32 := ⟨16 * j2.val + 2 * (l.val / 4 % 8) + l.val / 32 % 2, by omega⟩

theorem scalar_zero : (Scalar.ofBits .f32 0x00000000#32 : Ideal .f32) = 0 := Ideal.ofBits_zero_f32
theorem ofBits_127 : (Scalar.ofBits .f32 0x42FE0000#32 : Ideal .f32) = ((127 : ℝ) : EReal) := by
  show Ideal.ofBits .f32 _ = _
  simp [Ideal.ofBits, Ideal.ieee, -EReal.coe_mul]; norm_num
theorem ofBits_neg127 : (Scalar.ofBits .f32 0xC2FE0000#32 : Ideal .f32) = ((-127 : ℝ) : EReal) := by
  show Ideal.ofBits .f32 _ = _
  simp [Ideal.ofBits, Ideal.ieee, -EReal.coe_mul, -EReal.coe_neg]; norm_num
theorem ofBits_neg_inf : (FloatOps.ofBits .f32 0xFF800000#32 : Ideal .f32) = ⊥ := by
  show Ideal.ofBits .f32 _ = _
  simp [Ideal.ofBits, Ideal.ieee]

/-- A product with a one-hot matrix picks out one column. -/
theorem onehot_apply (x : FVec Ideal S320x128 .bf16) (w : IVec S128x128 32) (j : S320x128.Idx) (f : Fin 128)
    (hw : ∀ k : Fin 128, w (ix2 k (j 1)) = BitVec.ofNat 32 f.val) :
    matmul dot_S320x128_S128x128_S320x128_1_0_0_1_n_n none x
      (truncf .bf16 (sitofp .f32 (extui 32 (cmpi .eq kernelRun0_A.sl.v0 w) natLt_1_32)) bitsLt_bf16_f32)
      (constant S320x128 .f32 0x00000000#32) j = x (ix2 (j 0) f) := by
  rw [eq_ix2 j]
  refine (Ideal.matmul_plain_apply (M := 320) (K := 128) (N := 128) none x _ _ (j 0) (j 1)).trans ?_
  rw [constant_apply, Ideal.ofBits_zero_f32, zero_add, Finset.sum_eq_single f]
  · have : (truncf .bf16 (sitofp .f32 (extui 32 (cmpi .eq kernelRun0_A.sl.v0 w) natLt_1_32)) bitsLt_bf16_f32 : FVec Ideal S128x128 .bf16) (ix2 f (j 1)) = 1 := by
      rw [truncf_apply, sitofp_apply, extui_apply]
      have e : cmpi .eq kernelRun0_A.sl.v0 w (ix2 f (j 1)) = 1#1 := by
        show IntOp.cmpi .eq (BitVec.ofNat 32 (0 * 128 + f.val)) (w (ix2 f (j 1))) = 1#1
        rw [hw, zero_mul, zero_add]
        exact congrArg BitVec.ofBool (beq_self_eq_true _)
      rw [e]
      show (((BitVec.setWidth 32 1#1).toInt : ℝ) : EReal) = 1
      norm_num
    rw [this, mul_one]
  · intro k _ hk
    have : (truncf .bf16 (sitofp .f32 (extui 32 (cmpi .eq kernelRun0_A.sl.v0 w) natLt_1_32)) bitsLt_bf16_f32 : FVec Ideal S128x128 .bf16) (ix2 k (j 1)) = 0 := by
      rw [truncf_apply, sitofp_apply, extui_apply]
      have e : cmpi .eq kernelRun0_A.sl.v0 w (ix2 k (j 1)) = 0#1 := by
        show IntOp.cmpi .eq (BitVec.ofNat 32 (0 * 128 + k.val)) (w (ix2 k (j 1))) = 0#1
        rw [hw]
        have : BitVec.ofNat 32 (0 * 128 + k.val) ≠ BitVec.ofNat 32 f.val := by
          intro h
          have := congrArg BitVec.toNat h
          simp only [BitVec.toNat_ofNat] at this
          have h1 := k.isLt; have h2 := f.isLt
          exact hk (Fin.ext (by omega))
        show BitVec.ofBool (_ == _) = 0#1
        rw [beq_eq_false_iff_ne.2 this]; rfl
      rw [e]
      show (((BitVec.setWidth 32 0#1).toInt : ℝ) : EReal) = 0
      norm_num
    rw [this, mul_zero]
  · intro h; exact absurd (Finset.mem_univ _) h

variable (c : Dev nD) (arg0 : Memref sig .tc .vmem S320x128 .bf16) (harg0 : arg0.IsWhole) (x0 : Vec Ideal S320x128 .bf16)

/-- The whole argument, loaded. -/
theorem r_eq : kernelRun0_A.sl.r c arg0 harg0 x0 = x0 := by
  rw [kernelRun0_A.sl.r, k0_pay16]
  funext j
  refine (congrFun (shapeCast_self _ _) j).trans ?_
  refine (Memref.IsWhole.readAt_unread harg0 x0 (Rect.unit ![0, 0] S320x128.size inb_S320x128_S320x128_0_0).toLoadRect j).trans (congrArg x0 ?_)
  funext a
  apply Fin.ext
  match a with
  | ⟨0, _⟩ => exact (Nat.zero_add _).trans (Nat.one_mul _)
  | ⟨1, _⟩ => exact (Nat.zero_add _).trans (Nat.one_mul _)

theorem r_1_apply (j : S320x128.Idx) : kernelRun0_A.sl.r_1 c arg0 harg0 x0 j = row x0 (j 0) (chan (kq 0 (j 1)) 0) := by
  refine (onehot_apply (kernelRun0_A.sl.r c arg0 harg0 x0) _ j (chan (kq 0 (j 1)) 0) ?_).trans (by rw [r_eq]; rfl)
  intro k
  generalize j 1 = l
  change Fin 128 at l
  revert l
  exact (by decide +kernel : ∀ l : Fin 128, (addi (addi (addi (broadcast S128x128 0#32) (muli (broadcast S128x128 8#32) k0_pay13)) (muli (broadcast S128x128 4#32) k0_pay12)) (broadcast S128x128 0#32)) (ix2 0 l) = BitVec.ofNat 32 (chan (kq 0 l) 0).val)

theorem r_2_apply (j : S320x128.Idx) : kernelRun0_A.sl.r_2 c arg0 harg0 x0 j = row x0 (j 0) (chan (kq 0 (j 1)) 1) := by
  refine (onehot_apply (kernelRun0_A.sl.r c arg0 harg0 x0) _ j (chan (kq 0 (j 1)) 1) ?_).trans (by rw [r_eq]; rfl)
  intro k
  generalize j 1 = l
  change Fin 128 at l
  revert l
  exact (by decide +kernel : ∀ l : Fin 128, (addi (addi (addi (broadcast S128x128 0#32) (muli (broadcast S128x128 8#32) k0_pay13)) (muli (broadcast S128x128 4#32) k0_pay12)) (broadcast S128x128 1#32)) (ix2 0 l) = BitVec.ofNat 32 (chan (kq 0 l) 1).val)

theorem r_3_apply (j : S320x128.Idx) : kernelRun0_A.sl.r_3 c arg0 harg0 x0 j = row x0 (j 0) (chan (kq 0 (j 1)) 2) := by
  refine (onehot_apply (kernelRun0_A.sl.r c arg0 harg0 x0) _ j (chan (kq 0 (j 1)) 2) ?_).trans (by rw [r_eq]; rfl)
  intro k
  generalize j 1 = l
  change Fin 128 at l
  revert l
  exact (by decide +kernel : ∀ l : Fin 128, (addi (addi (addi (broadcast S128x128 0#32) (muli (broadcast S128x128 8#32) k0_pay13)) (muli (broadcast S128x128 4#32) k0_pay12)) (broadcast S128x128 2#32)) (ix2 0 l) = BitVec.ofNat 32 (chan (kq 0 l) 2).val)

theorem r_4_apply (j : S320x128.Idx) : kernelRun0_A.sl.r_4 c arg0 harg0 x0 j = row x0 (j 0) (chan (kq 0 (j 1)) 3) := by
  refine (onehot_apply (kernelRun0_A.sl.r c arg0 harg0 x0) _ j (chan (kq 0 (j 1)) 3) ?_).trans (by rw [r_eq]; rfl)
  intro k
  generalize j 1 = l
  change Fin 128 at l
  revert l
  exact (by decide +kernel : ∀ l : Fin 128, (addi (addi (addi (broadcast S128x128 0#32) (muli (broadcast S128x128 8#32) k0_pay13)) (muli (broadcast S128x128 4#32) k0_pay12)) (broadcast S128x128 3#32)) (ix2 0 l) = BitVec.ofNat 32 (chan (kq 0 l) 3).val)

theorem r_22_apply (j : S320x128.Idx) : kernelRun0_A.sl.r_22 c arg0 harg0 x0 j = row x0 (j 0) (chan (kq 1 (j 1)) 0) := by
  refine (onehot_apply (kernelRun0_A.sl.r c arg0 harg0 x0) _ j (chan (kq 1 (j 1)) 0) ?_).trans (by rw [r_eq]; rfl)
  intro k
  generalize j 1 = l
  change Fin 128 at l
  revert l
  exact (by decide +kernel : ∀ l : Fin 128, (addi (addi (addi (broadcast S128x128 64#32) (muli (broadcast S128x128 8#32) k0_pay13)) (muli (broadcast S128x128 4#32) k0_pay12)) (broadcast S128x128 0#32)) (ix2 0 l) = BitVec.ofNat 32 (chan (kq 1 l) 0).val)

theorem r_23_apply (j : S320x128.Idx) : kernelRun0_A.sl.r_23 c arg0 harg0 x0 j = row x0 (j 0) (chan (kq 1 (j 1)) 1) := by
  refine (onehot_apply (kernelRun0_A.sl.r c arg0 harg0 x0) _ j (chan (kq 1 (j 1)) 1) ?_).trans (by rw [r_eq]; rfl)
  intro k
  generalize j 1 = l
  change Fin 128 at l
  revert l
  exact (by decide +kernel : ∀ l : Fin 128, (addi (addi (addi (broadcast S128x128 64#32) (muli (broadcast S128x128 8#32) k0_pay13)) (muli (broadcast S128x128 4#32) k0_pay12)) (broadcast S128x128 1#32)) (ix2 0 l) = BitVec.ofNat 32 (chan (kq 1 l) 1).val)

theorem r_24_apply (j : S320x128.Idx) : kernelRun0_A.sl.r_24 c arg0 harg0 x0 j = row x0 (j 0) (chan (kq 1 (j 1)) 2) := by
  refine (onehot_apply (kernelRun0_A.sl.r c arg0 harg0 x0) _ j (chan (kq 1 (j 1)) 2) ?_).trans (by rw [r_eq]; rfl)
  intro k
  generalize j 1 = l
  change Fin 128 at l
  revert l
  exact (by decide +kernel : ∀ l : Fin 128, (addi (addi (addi (broadcast S128x128 64#32) (muli (broadcast S128x128 8#32) k0_pay13)) (muli (broadcast S128x128 4#32) k0_pay12)) (broadcast S128x128 2#32)) (ix2 0 l) = BitVec.ofNat 32 (chan (kq 1 l) 2).val)

theorem r_25_apply (j : S320x128.Idx) : kernelRun0_A.sl.r_25 c arg0 harg0 x0 j = row x0 (j 0) (chan (kq 1 (j 1)) 3) := by
  refine (onehot_apply (kernelRun0_A.sl.r c arg0 harg0 x0) _ j (chan (kq 1 (j 1)) 3) ?_).trans (by rw [r_eq]; rfl)
  intro k
  generalize j 1 = l
  change Fin 128 at l
  revert l
  exact (by decide +kernel : ∀ l : Fin 128, (addi (addi (addi (broadcast S128x128 64#32) (muli (broadcast S128x128 8#32) k0_pay13)) (muli (broadcast S128x128 4#32) k0_pay12)) (broadcast S128x128 3#32)) (ix2 0 l) = BitVec.ofNat 32 (chan (kq 1 l) 3).val)

theorem r_5_apply (j : S320x128.Idx) : kernelRun0_A.sl.r_5 c arg0 harg0 x0 j = gtab (row x0 (j 0)) (kq 0 (j 1)) 1 := by
  show ((Scalar.ofBits .f32 0x00000000#32 : Ideal .f32) + kernelRun0_A.sl.r_1 c arg0 harg0 x0 j) = _
  rw [scalar_zero, zero_add, r_1_apply, gtab_1]

theorem r_6_apply (j : S320x128.Idx) : kernelRun0_A.sl.r_6 c arg0 harg0 x0 j = gtab (row x0 (j 0)) (kq 0 (j 1)) 2 := by
  show ((Scalar.ofBits .f32 0x00000000#32 : Ideal .f32) + kernelRun0_A.sl.r_2 c arg0 harg0 x0 j) = _
  rw [scalar_zero, zero_add, r_2_apply, gtab_2]

theorem r_7_apply (j : S320x128.Idx) : kernelRun0_A.sl.r_7 c arg0 harg0 x0 j = gtab (row x0 (j 0)) (kq 0 (j 1)) 3 := by
  show (((Scalar.ofBits .f32 0x00000000#32 : Ideal .f32) + kernelRun0_A.sl.r_1 c arg0 harg0 x0 j) + kernelRun0_A.sl.r_2 c arg0 harg0 x0 j) = _
  rw [scalar_zero, zero_add, r_1_apply, r_2_apply, gtab_3]

theorem r_8_apply (j : S320x128.Idx) : kernelRun0_A.sl.r_8 c arg0 harg0 x0 j = gtab (row x0 (j 0)) (kq 0 (j 1)) 4 := by
  show ((Scalar.ofBits .f32 0x00000000#32 : Ideal .f32) + kernelRun0_A.sl.r_3 c arg0 harg0 x0 j) = _
  rw [scalar_zero, zero_add, r_3_apply, gtab_4]

theorem r_9_apply (j : S320x128.Idx) : kernelRun0_A.sl.r_9 c arg0 harg0 x0 j = gtab (row x0 (j 0)) (kq 0 (j 1)) 5 := by
  show (((Scalar.ofBits .f32 0x00000000#32 : Ideal .f32) + kernelRun0_A.sl.r_1 c arg0 harg0 x0 j) + kernelRun0_A.sl.r_3 c arg0 harg0 x0 j) = _
  rw [scalar_zero, zero_add, r_1_apply, r_3_apply, gtab_5]

theorem r_10_apply (j : S320x128.Idx) : kernelRun0_A.sl.r_10 c arg0 harg0 x0 j = gtab (row x0 (j 0)) (kq 0 (j 1)) 6 := by
  show (((Scalar.ofBits .f32 0x00000000#32 : Ideal .f32) + kernelRun0_A.sl.r_2 c arg0 harg0 x0 j) + kernelRun0_A.sl.r_3 c arg0 harg0 x0 j) = _
  rw [scalar_zero, zero_add, r_2_apply, r_3_apply, gtab_6]

theorem r_11_apply (j : S320x128.Idx) : kernelRun0_A.sl.r_11 c arg0 harg0 x0 j = gtab (row x0 (j 0)) (kq 0 (j 1)) 7 := by
  show ((((Scalar.ofBits .f32 0x00000000#32 : Ideal .f32) + kernelRun0_A.sl.r_1 c arg0 harg0 x0 j) + kernelRun0_A.sl.r_2 c arg0 harg0 x0 j) + kernelRun0_A.sl.r_3 c arg0 harg0 x0 j) = _
  rw [scalar_zero, zero_add, r_1_apply, r_2_apply, r_3_apply, gtab_7]

theorem r_12_apply (j : S320x128.Idx) : kernelRun0_A.sl.r_12 c arg0 harg0 x0 j = gtab (row x0 (j 0)) (kq 0 (j 1)) 8 := by
  show ((Scalar.ofBits .f32 0x00000000#32 : Ideal .f32) + kernelRun0_A.sl.r_4 c arg0 harg0 x0 j) = _
  rw [scalar_zero, zero_add, r_4_apply, gtab_8]

theorem r_13_apply (j : S320x128.Idx) : kernelRun0_A.sl.r_13 c arg0 harg0 x0 j = gtab (row x0 (j 0)) (kq 0 (j 1)) 9 := by
  show (((Scalar.ofBits .f32 0x00000000#32 : Ideal .f32) + kernelRun0_A.sl.r_1 c arg0 harg0 x0 j) + kernelRun0_A.sl.r_4 c arg0 harg0 x0 j) = _
  rw [scalar_zero, zero_add, r_1_apply, r_4_apply, gtab_9]

theorem r_14_apply (j : S320x128.Idx) : kernelRun0_A.sl.r_14 c arg0 harg0 x0 j = gtab (row x0 (j 0)) (kq 0 (j 1)) 10 := by
  show (((Scalar.ofBits .f32 0x00000000#32 : Ideal .f32) + kernelRun0_A.sl.r_2 c arg0 harg0 x0 j) + kernelRun0_A.sl.r_4 c arg0 harg0 x0 j) = _
  rw [scalar_zero, zero_add, r_2_apply, r_4_apply, gtab_10]

theorem r_15_apply (j : S320x128.Idx) : kernelRun0_A.sl.r_15 c arg0 harg0 x0 j = gtab (row x0 (j 0)) (kq 0 (j 1)) 11 := by
  show ((((Scalar.ofBits .f32 0x00000000#32 : Ideal .f32) + kernelRun0_A.sl.r_1 c arg0 harg0 x0 j) + kernelRun0_A.sl.r_2 c arg0 harg0 x0 j) + kernelRun0_A.sl.r_4 c arg0 harg0 x0 j) = _
  rw [scalar_zero, zero_add, r_1_apply, r_2_apply, r_4_apply, gtab_11]

theorem r_16_apply (j : S320x128.Idx) : kernelRun0_A.sl.r_16 c arg0 harg0 x0 j = gtab (row x0 (j 0)) (kq 0 (j 1)) 12 := by
  show (((Scalar.ofBits .f32 0x00000000#32 : Ideal .f32) + kernelRun0_A.sl.r_3 c arg0 harg0 x0 j) + kernelRun0_A.sl.r_4 c arg0 harg0 x0 j) = _
  rw [scalar_zero, zero_add, r_3_apply, r_4_apply, gtab_12]

theorem r_18_apply (j : S320x128.Idx) : kernelRun0_A.sl.r_18 c arg0 harg0 x0 j = gtab (row x0 (j 0)) (kq 0 (j 1)) 13 := by
  show ((((Scalar.ofBits .f32 0x00000000#32 : Ideal .f32) + kernelRun0_A.sl.r_1 c arg0 harg0 x0 j) + kernelRun0_A.sl.r_3 c arg0 harg0 x0 j) + kernelRun0_A.sl.r_4 c arg0 harg0 x0 j) = _
  rw [scalar_zero, zero_add, r_1_apply, r_3_apply, r_4_apply, gtab_13]

theorem r_19_apply (j : S320x128.Idx) : kernelRun0_A.sl.r_19 c arg0 harg0 x0 j = gtab (row x0 (j 0)) (kq 0 (j 1)) 14 := by
  show ((((Scalar.ofBits .f32 0x00000000#32 : Ideal .f32) + kernelRun0_A.sl.r_2 c arg0 harg0 x0 j) + kernelRun0_A.sl.r_3 c arg0 harg0 x0 j) + kernelRun0_A.sl.r_4 c arg0 harg0 x0 j) = _
  rw [scalar_zero, zero_add, r_2_apply, r_3_apply, r_4_apply, gtab_14]

theorem r_20_apply (j : S320x128.Idx) : kernelRun0_A.sl.r_20 c arg0 harg0 x0 j = gtab (row x0 (j 0)) (kq 0 (j 1)) 15 := by
  show (((((Scalar.ofBits .f32 0x00000000#32 : Ideal .f32) + kernelRun0_A.sl.r_1 c arg0 harg0 x0 j) + kernelRun0_A.sl.r_2 c arg0 harg0 x0 j) + kernelRun0_A.sl.r_3 c arg0 harg0 x0 j) + kernelRun0_A.sl.r_4 c arg0 harg0 x0 j) = _
  rw [scalar_zero, zero_add, r_1_apply, r_2_apply, r_3_apply, r_4_apply, gtab_15]

theorem r_26_apply (j : S320x128.Idx) : kernelRun0_A.sl.r_26 c arg0 harg0 x0 j = gtab (row x0 (j 0)) (kq 1 (j 1)) 1 := by
  show ((Scalar.ofBits .f32 0x00000000#32 : Ideal .f32) + kernelRun0_A.sl.r_22 c arg0 harg0 x0 j) = _
  rw [scalar_zero, zero_add, r_22_apply, gtab_1]

theorem r_27_apply (j : S320x128.Idx) : kernelRun0_A.sl.r_27 c arg0 harg0 x0 j = gtab (row x0 (j 0)) (kq 1 (j 1)) 2 := by
  show ((Scalar.ofBits .f32 0x00000000#32 : Ideal .f32) + kernelRun0_A.sl.r_23 c arg0 harg0 x0 j) = _
  rw [scalar_zero, zero_add, r_23_apply, gtab_2]

theorem r_28_apply (j : S320x128.Idx) : kernelRun0_A.sl.r_28 c arg0 harg0 x0 j = gtab (row x0 (j 0)) (kq 1 (j 1)) 3 := by
  show (((Scalar.ofBits .f32 0x00000000#32 : Ideal .f32) + kernelRun0_A.sl.r_22 c arg0 harg0 x0 j) + kernelRun0_A.sl.r_23 c arg0 harg0 x0 j) = _
  rw [scalar_zero, zero_add, r_22_apply, r_23_apply, gtab_3]

theorem r_29_apply (j : S320x128.Idx) : kernelRun0_A.sl.r_29 c arg0 harg0 x0 j = gtab (row x0 (j 0)) (kq 1 (j 1)) 4 := by
  show ((Scalar.ofBits .f32 0x00000000#32 : Ideal .f32) + kernelRun0_A.sl.r_24 c arg0 harg0 x0 j) = _
  rw [scalar_zero, zero_add, r_24_apply, gtab_4]

theorem r_30_apply (j : S320x128.Idx) : kernelRun0_A.sl.r_30 c arg0 harg0 x0 j = gtab (row x0 (j 0)) (kq 1 (j 1)) 5 := by
  show (((Scalar.ofBits .f32 0x00000000#32 : Ideal .f32) + kernelRun0_A.sl.r_22 c arg0 harg0 x0 j) + kernelRun0_A.sl.r_24 c arg0 harg0 x0 j) = _
  rw [scalar_zero, zero_add, r_22_apply, r_24_apply, gtab_5]

theorem r_31_apply (j : S320x128.Idx) : kernelRun0_A.sl.r_31 c arg0 harg0 x0 j = gtab (row x0 (j 0)) (kq 1 (j 1)) 6 := by
  show (((Scalar.ofBits .f32 0x00000000#32 : Ideal .f32) + kernelRun0_A.sl.r_23 c arg0 harg0 x0 j) + kernelRun0_A.sl.r_24 c arg0 harg0 x0 j) = _
  rw [scalar_zero, zero_add, r_23_apply, r_24_apply, gtab_6]

theorem r_32_apply (j : S320x128.Idx) : kernelRun0_A.sl.r_32 c arg0 harg0 x0 j = gtab (row x0 (j 0)) (kq 1 (j 1)) 7 := by
  show ((((Scalar.ofBits .f32 0x00000000#32 : Ideal .f32) + kernelRun0_A.sl.r_22 c arg0 harg0 x0 j) + kernelRun0_A.sl.r_23 c arg0 harg0 x0 j) + kernelRun0_A.sl.r_24 c arg0 harg0 x0 j) = _
  rw [scalar_zero, zero_add, r_22_apply, r_23_apply, r_24_apply, gtab_7]

theorem r_33_apply (j : S320x128.Idx) : kernelRun0_A.sl.r_33 c arg0 harg0 x0 j = gtab (row x0 (j 0)) (kq 1 (j 1)) 8 := by
  show ((Scalar.ofBits .f32 0x00000000#32 : Ideal .f32) + kernelRun0_A.sl.r_25 c arg0 harg0 x0 j) = _
  rw [scalar_zero, zero_add, r_25_apply, gtab_8]

theorem r_34_apply (j : S320x128.Idx) : kernelRun0_A.sl.r_34 c arg0 harg0 x0 j = gtab (row x0 (j 0)) (kq 1 (j 1)) 9 := by
  show (((Scalar.ofBits .f32 0x00000000#32 : Ideal .f32) + kernelRun0_A.sl.r_22 c arg0 harg0 x0 j) + kernelRun0_A.sl.r_25 c arg0 harg0 x0 j) = _
  rw [scalar_zero, zero_add, r_22_apply, r_25_apply, gtab_9]

theorem r_35_apply (j : S320x128.Idx) : kernelRun0_A.sl.r_35 c arg0 harg0 x0 j = gtab (row x0 (j 0)) (kq 1 (j 1)) 10 := by
  show (((Scalar.ofBits .f32 0x00000000#32 : Ideal .f32) + kernelRun0_A.sl.r_23 c arg0 harg0 x0 j) + kernelRun0_A.sl.r_25 c arg0 harg0 x0 j) = _
  rw [scalar_zero, zero_add, r_23_apply, r_25_apply, gtab_10]

theorem r_36_apply (j : S320x128.Idx) : kernelRun0_A.sl.r_36 c arg0 harg0 x0 j = gtab (row x0 (j 0)) (kq 1 (j 1)) 11 := by
  show ((((Scalar.ofBits .f32 0x00000000#32 : Ideal .f32) + kernelRun0_A.sl.r_22 c arg0 harg0 x0 j) + kernelRun0_A.sl.r_23 c arg0 harg0 x0 j) + kernelRun0_A.sl.r_25 c arg0 harg0 x0 j) = _
  rw [scalar_zero, zero_add, r_22_apply, r_23_apply, r_25_apply, gtab_11]

theorem r_37_apply (j : S320x128.Idx) : kernelRun0_A.sl.r_37 c arg0 harg0 x0 j = gtab (row x0 (j 0)) (kq 1 (j 1)) 12 := by
  show (((Scalar.ofBits .f32 0x00000000#32 : Ideal .f32) + kernelRun0_A.sl.r_24 c arg0 harg0 x0 j) + kernelRun0_A.sl.r_25 c arg0 harg0 x0 j) = _
  rw [scalar_zero, zero_add, r_24_apply, r_25_apply, gtab_12]

theorem r_38_apply (j : S320x128.Idx) : kernelRun0_A.sl.r_38 c arg0 harg0 x0 j = gtab (row x0 (j 0)) (kq 1 (j 1)) 13 := by
  show ((((Scalar.ofBits .f32 0x00000000#32 : Ideal .f32) + kernelRun0_A.sl.r_22 c arg0 harg0 x0 j) + kernelRun0_A.sl.r_24 c arg0 harg0 x0 j) + kernelRun0_A.sl.r_25 c arg0 harg0 x0 j) = _
  rw [scalar_zero, zero_add, r_22_apply, r_24_apply, r_25_apply, gtab_13]

theorem r_39_apply (j : S320x128.Idx) : kernelRun0_A.sl.r_39 c arg0 harg0 x0 j = gtab (row x0 (j 0)) (kq 1 (j 1)) 14 := by
  show ((((Scalar.ofBits .f32 0x00000000#32 : Ideal .f32) + kernelRun0_A.sl.r_23 c arg0 harg0 x0 j) + kernelRun0_A.sl.r_24 c arg0 harg0 x0 j) + kernelRun0_A.sl.r_25 c arg0 harg0 x0 j) = _
  rw [scalar_zero, zero_add, r_23_apply, r_24_apply, r_25_apply, gtab_14]

theorem r_40_apply (j : S320x128.Idx) : kernelRun0_A.sl.r_40 c arg0 harg0 x0 j = gtab (row x0 (j 0)) (kq 1 (j 1)) 15 := by
  show (((((Scalar.ofBits .f32 0x00000000#32 : Ideal .f32) + kernelRun0_A.sl.r_22 c arg0 harg0 x0 j) + kernelRun0_A.sl.r_23 c arg0 harg0 x0 j) + kernelRun0_A.sl.r_24 c arg0 harg0 x0 j) + kernelRun0_A.sl.r_25 c arg0 harg0 x0 j) = _
  rw [scalar_zero, zero_add, r_22_apply, r_23_apply, r_24_apply, r_25_apply, gtab_15]

/-- The largest absolute table entry a lane of half group 0 holds. -/
theorem lane_max_0 (r : Fin 320) (l : Fin 128) : max (max (max (max (max (max (max (max (max (max (max (max (max (max (ab (kernelRun0_A.sl.r_5 c arg0 harg0 x0 (ix2 r l))) (ab (kernelRun0_A.sl.r_6 c arg0 harg0 x0 (ix2 r l)))) (ab (kernelRun0_A.sl.r_7 c arg0 harg0 x0 (ix2 r l)))) (ab (kernelRun0_A.sl.r_8 c arg0 harg0 x0 (ix2 r l)))) (ab (kernelRun0_A.sl.r_9 c arg0 harg0 x0 (ix2 r l)))) (ab (kernelRun0_A.sl.r_10 c arg0 harg0 x0 (ix2 r l)))) (ab (kernelRun0_A.sl.r_11 c arg0 harg0 x0 (ix2 r l)))) (ab (kernelRun0_A.sl.r_12 c arg0 harg0 x0 (ix2 r l)))) (ab (kernelRun0_A.sl.r_13 c arg0 harg0 x0 (ix2 r l)))) (ab (kernelRun0_A.sl.r_14 c arg0 harg0 x0 (ix2 r l)))) (ab (kernelRun0_A.sl.r_15 c arg0 harg0 x0 (ix2 r l)))) (ab (kernelRun0_A.sl.r_16 c arg0 harg0 x0 (ix2 r l)))) (ab (kernelRun0_A.sl.r_18 c arg0 harg0 x0 (ix2 r l)))) (ab (kernelRun0_A.sl.r_19 c arg0 harg0 x0 (ix2 r l)))) (ab (kernelRun0_A.sl.r_20 c arg0 harg0 x0 (ix2 r l))) = (Finset.univ : Finset (Fin 16)).sup fun e => ab (gtab (row x0 r) (kq 0 l) e.val) := by
  rw [r_5_apply, r_6_apply, r_7_apply, r_8_apply, r_9_apply, r_10_apply, r_11_apply, r_12_apply, r_13_apply, r_14_apply, r_15_apply, r_16_apply, r_18_apply, r_19_apply, r_20_apply]
  exact max_chain (fun e => ab (gtab (row x0 r) (kq 0 l) e.val)) (by simp [gtab_0, ab_zero]) (fun _ => ab_nonneg _)

/-- The largest absolute table entry a lane of half group 1 holds. -/
theorem lane_max_1 (r : Fin 320) (l : Fin 128) : max (max (max (max (max (max (max (max (max (max (max (max (max (max (ab (kernelRun0_A.sl.r_26 c arg0 harg0 x0 (ix2 r l))) (ab (kernelRun0_A.sl.r_27 c arg0 harg0 x0 (ix2 r l)))) (ab (kernelRun0_A.sl.r_28 c arg0 harg0 x0 (ix2 r l)))) (ab (kernelRun0_A.sl.r_29 c arg0 harg0 x0 (ix2 r l)))) (ab (kernelRun0_A.sl.r_30 c arg0 harg0 x0 (ix2 r l)))) (ab (kernelRun0_A.sl.r_31 c arg0 harg0 x0 (ix2 r l)))) (ab (kernelRun0_A.sl.r_32 c arg0 harg0 x0 (ix2 r l)))) (ab (kernelRun0_A.sl.r_33 c arg0 harg0 x0 (ix2 r l)))) (ab (kernelRun0_A.sl.r_34 c arg0 harg0 x0 (ix2 r l)))) (ab (kernelRun0_A.sl.r_35 c arg0 harg0 x0 (ix2 r l)))) (ab (kernelRun0_A.sl.r_36 c arg0 harg0 x0 (ix2 r l)))) (ab (kernelRun0_A.sl.r_37 c arg0 harg0 x0 (ix2 r l)))) (ab (kernelRun0_A.sl.r_38 c arg0 harg0 x0 (ix2 r l)))) (ab (kernelRun0_A.sl.r_39 c arg0 harg0 x0 (ix2 r l)))) (ab (kernelRun0_A.sl.r_40 c arg0 harg0 x0 (ix2 r l))) = (Finset.univ : Finset (Fin 16)).sup fun e => ab (gtab (row x0 r) (kq 1 l) e.val) := by
  rw [r_26_apply, r_27_apply, r_28_apply, r_29_apply, r_30_apply, r_31_apply, r_32_apply, r_33_apply, r_34_apply, r_35_apply, r_36_apply, r_37_apply, r_38_apply, r_39_apply, r_40_apply]
  exact max_chain (fun e => ab (gtab (row x0 r) (kq 1 l) e.val)) (by simp [gtab_0, ab_zero]) (fun _ => ab_nonneg _)

theorem absf_ab (v : FVec Ideal S320x128 .f32) (j : S320x128.Idx) : absf v j = ab (v j) := rfl

/-- A row maximum is the largest of the lanes' values. -/
theorem rowmax_apply (v : FVec Ideal S320x128 .f32) (r : Fin 320) :
    shapeCast S320x1 (multiReduction .maximumf [1] S320 v 0xFF800000#32 reduces_S320x128_S320 (.inl rfl) rfl) shapeCasts_S320_S320x1 (ix2 r 0)
      = (Finset.univ : Finset (Fin 128)).sup fun l => v (ix2 r l) := by
  refine (shapeCast_a_a1_apply _ shapeCasts_S320_S320x1 r 0).trans ?_
  refine (Ideal.multiReduction_maximumf_single v _ reduces_S320x128_S320 (.inl rfl) rfl (ix1 r)).trans ?_
  rw [show (FloatOps.ofBits .f32 (FKind.maximumf.neutral .f32 (.inl rfl)) : Ideal .f32) = ⊥ from ofBits_neg_inf]
  have e : (v ∘ reduces_S320x128_S320.lift (ix1 r)) = fun l : Fin 128 => v (ix2 r l) := by
    funext l
    refine congrArg v ?_
    funext a
    match a with
    | ⟨0, _⟩ => rfl
    | ⟨1, _⟩ => rfl
  rw [e]; rfl

theorem r_21_apply (r : Fin 320) : kernelRun0_A.sl.r_21 c arg0 harg0 x0 (ix2 r 0)
    = (Finset.univ : Finset (Fin 128)).sup fun l => (Finset.univ : Finset (Fin 16)).sup fun e => ab (gtab (row x0 r) (kq 0 l) e.val) := by
  rw [kernelRun0_A.sl.r_21, k0_pay41, rowmax_apply]
  refine Finset.sup_congr rfl fun l _ => ?_
  rw [← lane_max_0 c arg0 harg0 x0 r l]
  simp only [maximumf_apply, absf_ab, kernelRun0_A.sl.r_18, kernelRun0_A.sl.r_19, kernelRun0_A.sl.r_20]

theorem kq_surj (q : Fin 32) : ∃ j2 : Fin 2, ∃ l : Fin 128, kq j2 l = q := by revert q; decide +kernel

/-- The two half groups' maxima make the group's. -/
theorem gmax_halves (u : Fin 128 → EReal) :
    max ((Finset.univ : Finset (Fin 128)).sup fun l => (Finset.univ : Finset (Fin 16)).sup fun e => ab (gtab u (kq 1 l) e.val))
      ((Finset.univ : Finset (Fin 128)).sup fun l => (Finset.univ : Finset (Fin 16)).sup fun e => ab (gtab u (kq 0 l) e.val)) = gmax u := by
  refine le_antisymm (max_le ?_ ?_) ?_
  · exact Finset.sup_le fun l _ => Finset.sup_le fun e _ => le_gmax u (kq 1 l) e
  · exact Finset.sup_le fun l _ => Finset.sup_le fun e _ => le_gmax u (kq 0 l) e
  · refine gmax_le u _ fun q e => ?_
    obtain ⟨j2, l, h⟩ := kq_surj q
    rw [← h]
    have key : ∀ j : Fin 2, ab (gtab u (kq j l) e.val) ≤
        (Finset.univ : Finset (Fin 128)).sup fun l => (Finset.univ : Finset (Fin 16)).sup fun e => ab (gtab u (kq j l) e.val) := fun j =>
      le_sup2 (fun l (e : Fin 16) => ab (gtab u (kq j l) e.val)) l e
    rcases (by omega : j2 = 0 ∨ j2 = 1) with rfl | rfl
    · exact le_max_of_le_right (key 0)
    · exact le_max_of_le_left (key 1)

/-- The scale of a row. -/
theorem r_41_apply (r : Fin 320) : kernelRun0_A.sl.r_41 c arg0 harg0 x0 (ix2 r 0) = gscale (row x0 r) := by
  have hm : ∀ m : EReal, Scalar.select (FloatOps.cmpf (F := Ideal) (φ := .f32) .oeq m (Scalar.ofBits .f32 0x00000000#32 : Ideal .f32))
      (Scalar.ofBits .f32 0x3F800000#32 : Ideal .f32) (Ideal.div m (Scalar.ofBits .f32 0x42FE0000#32 : Ideal .f32))
      = if m = 0 then 1 else Ideal.div m ((127 : ℝ) : EReal) := by
    intro m
    rw [scalar_zero, ofBits_127]
    have h1 : (Scalar.ofBits .f32 0x3F800000#32 : Ideal .f32) = 1 := Ideal.ofBits_one_f32
    rw [h1]
    show Scalar.select (BitVec.ofBool (decide (m = 0))) _ _ = _
    by_cases h : m = 0
    · simp only [h, decide_true, if_true]; rfl
    · simp only [h, decide_false, if_false]; rfl
  rw [kernelRun0_A.sl.r_41, k0_pay64]
  refine (hm _).trans ?_
  rw [maximumf_apply, r_21_apply, rowmax_apply]
  have e : ((Finset.univ : Finset (Fin 128)).sup fun l => max (max (max (max (max (max (max (max (max (max (max (max (max (max (ab (kernelRun0_A.sl.r_26 c arg0 harg0 x0 (ix2 r l))) (ab (kernelRun0_A.sl.r_27 c arg0 harg0 x0 (ix2 r l)))) (ab (kernelRun0_A.sl.r_28 c arg0 harg0 x0 (ix2 r l)))) (ab (kernelRun0_A.sl.r_29 c arg0 harg0 x0 (ix2 r l)))) (ab (kernelRun0_A.sl.r_30 c arg0 harg0 x0 (ix2 r l)))) (ab (kernelRun0_A.sl.r_31 c arg0 harg0 x0 (ix2 r l)))) (ab (kernelRun0_A.sl.r_32 c arg0 harg0 x0 (ix2 r l)))) (ab (kernelRun0_A.sl.r_33 c arg0 harg0 x0 (ix2 r l)))) (ab (kernelRun0_A.sl.r_34 c arg0 harg0 x0 (ix2 r l)))) (ab (kernelRun0_A.sl.r_35 c arg0 harg0 x0 (ix2 r l)))) (ab (kernelRun0_A.sl.r_36 c arg0 harg0 x0 (ix2 r l)))) (ab (kernelRun0_A.sl.r_37 c arg0 harg0 x0 (ix2 r l)))) (ab (kernelRun0_A.sl.r_38 c arg0 harg0 x0 (ix2 r l)))) (ab (kernelRun0_A.sl.r_39 c arg0 harg0 x0 (ix2 r l)))) (ab (kernelRun0_A.sl.r_40 c arg0 harg0 x0 (ix2 r l))))
      = (Finset.univ : Finset (Fin 128)).sup fun l => (Finset.univ : Finset (Fin 16)).sup fun e => ab (gtab (row x0 r) (kq 1 l) e.val) :=
    Finset.sup_congr rfl fun l _ => lane_max_1 c arg0 harg0 x0 r l
  simp only [maximumf_apply, absf_ab]
  rw [gscale, ← gmax_halves, ← e]
  rfl
end Cert.KernelIdeal.Run
-- ==== Proof.Ref.Tables.lean ====
module
public import proofs.«01_k».proof.Proof.Gen.ReferenceIdeal.Read
public import proofs.«01_k».proof.Proof.KernelIdeal.Tabs
@[expose] public section

/-! The reference's tables, scale and codes, entry by entry. -/
namespace Cert.RefVal
open Idealize.ShloMosaic Idealize.ShloMosaic.TcCoe Idealize.SL Idealize.ShloMosaic.ValueIdx Cert.Spec
open Cert.ReferenceIdeal Cert.ReferenceIdeal.Gen Cert.ReferenceIdeal.Read

/-- The 128 channels of group `g` of activation row `t`. -/
def xrow (X : S3x1x5120.Idx → EReal) (t : Fin 3) (g : Fin 40) : Fin 128 → EReal := fun l => X (ix3 t 0 ⟨128 * g.val + l.val, by omega⟩)

theorem bit_const : ∀ e : Fin 16, ∀ i : Fin 4, IntOp.andi (IntOp.shrsi .host (BitVec.ofNat 32 e.val) (BitVec.ofNat 32 i.val)) 1#32 = if e.val.testBit i.val then 1#32 else 0#32 := by decide

theorem v11_at (e : Fin 16) (i : Fin 4) : (val_main_v11 (F := Ideal) (ix2 e i) : EReal) = if e.val.testBit i.val then 1 else 0 := by
  rw [val_main_v11_apply, val_main_v10_apply, val_main_v8_apply, val_main_v6_apply, val_main_v3_apply, val_main_v7_apply, val_main_v5_apply, val_main_v4_apply, val_main_v9_apply]
  show ((BitVec.toInt (IntOp.andi (IntOp.shrsi .host (BitVec.ofNat 32 e.val) (BitVec.ofNat 32 i.val)) 1#32) : ℝ) : EReal) = _
  rw [bit_const]
  split <;> norm_num

variable (X : S3x1x5120.Idx → EReal)

theorem v1_at (t : Fin 3) (q : Fin 1280) (i : Fin 4) : (val_main_v1 (F := Ideal) X (ix4 t 0 q i) : EReal) = xrow X t ⟨q.val / 32, by omega⟩ (chan ⟨q.val % 32, by omega⟩ i) := by
  rw [val_main_v1_apply, val_main_v0_apply]
  refine congrArg X (funext fun a => ?_)
  match a with
  | ⟨0, _⟩ => exact Fin.ext (by show (((t.val * 1 + 0) * 1280 + q.val) * 4 + i.val) / 5120 = t.val; omega)
  | ⟨1, _⟩ => rfl
  | ⟨2, _⟩ => exact Fin.ext (by show (((t.val * 1 + 0) * 1280 + q.val) * 4 + i.val) % 5120 = 128 * (q.val / 32) + (4 * (q.val % 32) + i.val); omega)

theorem v17_at (t : Fin 3) (q : Fin 1280) (e : Fin 16) : (val_main_v17 (F := Ideal) (ix4 t 0 q e) : EReal) = if e.val.testBit 0 then 1 else 0 := by
  rw [val_main_v17_apply, val_main_v16_apply, val_main_v14_apply, val_main_v13_apply]
  refine Eq.trans (congrArg (val_main_v11 (F := Ideal)) (funext fun a => ?_)) (v11_at e 0)
  match a with
  | ⟨0, _⟩ => exact Fin.ext (Nat.div_one _)
  | ⟨1, _⟩ => rfl

theorem v18_at (t : Fin 3) (q : Fin 1280) (e : Fin 16) : (val_main_v18 (F := Ideal) X (ix4 t 0 q e) : EReal) = xrow X t ⟨q.val / 32, by omega⟩ (chan ⟨q.val % 32, by omega⟩ 0) := by
  rw [val_main_v18_apply, val_main_v15_apply]
  refine Eq.trans (congrArg (val_main_v1 (F := Ideal) X) (funext fun a => ?_)) (v1_at X t q 0)
  match a with
  | ⟨0, _⟩ => rfl
  | ⟨1, _⟩ => rfl
  | ⟨2, _⟩ => rfl
  | ⟨3, _⟩ => rfl

theorem v25_at (t : Fin 3) (q : Fin 1280) (e : Fin 16) : (val_main_v25 (F := Ideal) (ix4 t 0 q e) : EReal) = if e.val.testBit 1 then 1 else 0 := by
  rw [val_main_v25_apply, val_main_v24_apply, val_main_v22_apply, val_main_v21_apply]
  refine Eq.trans (congrArg (val_main_v11 (F := Ideal)) (funext fun a => ?_)) (v11_at e 1)
  match a with
  | ⟨0, _⟩ => exact Fin.ext (Nat.div_one _)
  | ⟨1, _⟩ => rfl

theorem v26_at (t : Fin 3) (q : Fin 1280) (e : Fin 16) : (val_main_v26 (F := Ideal) X (ix4 t 0 q e) : EReal) = xrow X t ⟨q.val / 32, by omega⟩ (chan ⟨q.val % 32, by omega⟩ 1) := by
  rw [val_main_v26_apply, val_main_v23_apply]
  refine Eq.trans (congrArg (val_main_v1 (F := Ideal) X) (funext fun a => ?_)) (v1_at X t q 1)
  match a with
  | ⟨0, _⟩ => rfl
  | ⟨1, _⟩ => rfl
  | ⟨2, _⟩ => rfl
  | ⟨3, _⟩ => rfl

theorem v33_at (t : Fin 3) (q : Fin 1280) (e : Fin 16) : (val_main_v33 (F := Ideal) (ix4 t 0 q e) : EReal) = if e.val.testBit 2 then 1 else 0 := by
  rw [val_main_v33_apply, val_main_v32_apply, val_main_v30_apply, val_main_v29_apply]
  refine Eq.trans (congrArg (val_main_v11 (F := Ideal)) (funext fun a => ?_)) (v11_at e 2)
  match a with
  | ⟨0, _⟩ => exact Fin.ext (Nat.div_one _)
  | ⟨1, _⟩ => rfl

theorem v34_at (t : Fin 3) (q : Fin 1280) (e : Fin 16) : (val_main_v34 (F := Ideal) X (ix4 t 0 q e) : EReal) = xrow X t ⟨q.val / 32, by omega⟩ (chan ⟨q.val % 32, by omega⟩ 2) := by
  rw [val_main_v34_apply, val_main_v31_apply]
  refine Eq.trans (congrArg (val_main_v1 (F := Ideal) X) (funext fun a => ?_)) (v1_at X t q 2)
  match a with
  | ⟨0, _⟩ => rfl
  | ⟨1, _⟩ => rfl
  | ⟨2, _⟩ => rfl
  | ⟨3, _⟩ => rfl

theorem v41_at (t : Fin 3) (q : Fin 1280) (e : Fin 16) : (val_main_v41 (F := Ideal) (ix4 t 0 q e) : EReal) = if e.val.testBit 3 then 1 else 0 := by
  rw [val_main_v41_apply, val_main_v40_apply, val_main_v38_apply, val_main_v37_apply]
  refine Eq.trans (congrArg (val_main_v11 (F := Ideal)) (funext fun a => ?_)) (v11_at e 3)
  match a with
  | ⟨0, _⟩ => exact Fin.ext (Nat.div_one _)
  | ⟨1, _⟩ => rfl

theorem v42_at (t : Fin 3) (q : Fin 1280) (e : Fin 16) : (val_main_v42 (F := Ideal) X (ix4 t 0 q e) : EReal) = xrow X t ⟨q.val / 32, by omega⟩ (chan ⟨q.val % 32, by omega⟩ 3) := by
  rw [val_main_v42_apply, val_main_v39_apply]
  refine Eq.trans (congrArg (val_main_v1 (F := Ideal) X) (funext fun a => ?_)) (v1_at X t q 3)
  match a with
  | ⟨0, _⟩ => rfl
  | ⟨1, _⟩ => rfl
  | ⟨2, _⟩ => rfl
  | ⟨3, _⟩ => rfl

theorem v12_at (j : S3x1x1280x16.Idx) : (val_main_v12 (F := Ideal) j : EReal) = 0 := (val_main_v12_apply j).trans Cert.KernelIdeal.Run.scalar_zero

theorem v44_at (t : Fin 3) (q : Fin 1280) (e : Fin 16) : (val_main_v44 (F := Ideal) X (ix4 t 0 q e) : EReal) = gtab (xrow X t ⟨q.val / 32, by omega⟩) ⟨q.val % 32, by omega⟩ e.val := by
  rw [val_main_v44_apply, val_main_v36_apply, val_main_v28_apply, val_main_v20_apply, val_main_v19_apply, val_main_v27_apply, val_main_v35_apply, val_main_v43_apply]
  show ((((val_main_v12 (F := Ideal) (ix4 t 0 q e) : EReal) + (val_main_v17 (F := Ideal) (ix4 t 0 q e) : EReal) * (val_main_v18 (F := Ideal) X (ix4 t 0 q e) : EReal))
    + (val_main_v25 (F := Ideal) (ix4 t 0 q e) : EReal) * (val_main_v26 (F := Ideal) X (ix4 t 0 q e) : EReal))
    + (val_main_v33 (F := Ideal) (ix4 t 0 q e) : EReal) * (val_main_v34 (F := Ideal) X (ix4 t 0 q e) : EReal))
    + (val_main_v41 (F := Ideal) (ix4 t 0 q e) : EReal) * (val_main_v42 (F := Ideal) X (ix4 t 0 q e) : EReal) = _
  rw [v12_at, v17_at, v25_at, v33_at, v41_at, v18_at, v26_at, v34_at, v42_at, zero_add]
  simp only [ite_mul, one_mul, zero_mul]
  rfl

theorem v45_at (t : Fin 3) (g : Fin 40) (k : Fin 512) : (val_main_v45 (F := Ideal) X (ix4 t 0 g k) : EReal) = gtab (xrow X t g) ⟨k.val / 16, by omega⟩ (k.val % 16) := by
  rw [val_main_v45_apply]
  refine Eq.trans (congrArg (val_main_v44 (F := Ideal) X) (a₂ := ix4 t 0 ⟨32 * g.val + k.val / 16, by omega⟩ ⟨k.val % 16, by omega⟩) (funext fun a => ?_)) ((v44_at X t _ _).trans ?_)
  · match a with
    | ⟨0, _⟩ => exact Fin.ext (by show (((t.val * 1 + 0) * 40 + g.val) * 512 + k.val) / 20480 = t.val; omega)
    | ⟨1, _⟩ => rfl
    | ⟨2, _⟩ => exact Fin.ext (by show (((t.val * 1 + 0) * 40 + g.val) * 512 + k.val) / 16 % 1280 = 32 * g.val + k.val / 16; omega)
    | ⟨3, _⟩ => exact Fin.ext (by show (((t.val * 1 + 0) * 40 + g.val) * 512 + k.val) % 16 = k.val % 16; omega)
  · have h1 : (⟨(32 * g.val + k.val / 16) / 32, by omega⟩ : Fin 40) = g := Fin.ext (by show (32 * g.val + k.val / 16) / 32 = g.val; omega)
    have h2 : (⟨(32 * g.val + k.val / 16) % 32, by omega⟩ : Fin 32) = ⟨k.val / 16, by omega⟩ := Fin.ext (by show (32 * g.val + k.val / 16) % 32 = k.val / 16; omega)
    show gtab (xrow X t ⟨(32 * g.val + k.val / 16) / 32, _⟩) ⟨(32 * g.val + k.val / 16) % 32, _⟩ (k.val % 16) = _
    rw [h1, h2]

theorem red47 : Shape.Reduces S3x1x40x512 [3] S3x1x40 := by decide

theorem v47_at (t : Fin 3) (g : Fin 40) : (val_main_v47 (F := Ideal) X (ix3 t 0 g) : EReal) = gmax (xrow X t g) := by
  have h0 : (val_main_v47 (F := Ideal) X (ix3 t 0 g) : EReal) = (Finset.univ : Finset (Fin 512)).sup fun k => ab (gtab (xrow X t g) ⟨k.val / 16, by omega⟩ (k.val % 16)) := by
    unfold val_main_v47
    refine (Host.reduce_eq_fold_single (max : EReal → EReal → EReal) (val_main_v46 (F := Ideal) X) (val_main_cst_0 (F := Ideal)) reducesTo_S3x1x40x512_S3x1x40_d3 red47 h_S_ (ix3 t 0 g)).trans ?_
    have hi : (val_main_cst_0 (F := Ideal) (Shape.Idx.first h_S_) : EReal) = ⊥ := Cert.KernelIdeal.Run.ofBits_neg_inf
    rw [hi]
    have e : (val_main_v46 (F := Ideal) X ∘ red47.lift (ix3 t 0 g)) = fun k : Fin 512 => ab (gtab (xrow X t g) ⟨k.val / 16, by omega⟩ (k.val % 16)) := by
      funext k
      have hl : red47.lift (ix3 t 0 g) k = ix4 t 0 g k := by
        funext a
        match a with
        | ⟨0, _⟩ => rfl
        | ⟨1, _⟩ => rfl
        | ⟨2, _⟩ => rfl
        | ⟨3, _⟩ => rfl
      show val_main_v46 (F := Ideal) X (red47.lift (ix3 t 0 g) k) = _
      rw [hl]
      exact congrArg ab (v45_at X t g k)
    rw [e]; rfl
  rw [h0]
  refine le_antisymm (Finset.sup_le fun k _ => le_gmax _ _ ⟨k.val % 16, by omega⟩) (gmax_le _ _ fun q e => ?_)
  have := Finset.le_sup (f := fun k : Fin 512 => ab (gtab (xrow X t g) ⟨k.val / 16, by omega⟩ (k.val % 16))) (Finset.mem_univ ⟨16 * q.val + e.val, by omega⟩)
  refine le_trans (le_of_eq ?_) this
  have h1 : (⟨(16 * q.val + e.val) / 16, by omega⟩ : Fin 32) = q := Fin.ext (by show (16 * q.val + e.val) / 16 = q.val; omega)
  have h2 : (16 * q.val + e.val) % 16 = e.val := by omega
  show _ = ab (gtab (xrow X t g) ⟨(16 * q.val + e.val) / 16, _⟩ ((16 * q.val + e.val) % 16))
  rw [h1, h2]

theorem v52_at (t : Fin 3) (g : Fin 40) : (val_main_v52 (F := Ideal) X (ix3 t 0 g) : EReal) = gscale (xrow X t g) := by
  have hm : ∀ m : EReal, Scalar.select (FloatOps.cmpf (F := Ideal) (φ := .f32) .oeq m (Scalar.ofBits .f32 0x00000000#32 : Ideal .f32))
      (Scalar.ofBits .f32 0x3F800000#32 : Ideal .f32) (Ideal.div m (Scalar.ofBits .f32 0x42FE0000#32 : Ideal .f32))
      = if m = 0 then 1 else Ideal.div m ((127 : ℝ) : EReal) := by
    intro m
    rw [Cert.KernelIdeal.Run.scalar_zero, Cert.KernelIdeal.Run.ofBits_127]
    have h1 : (Scalar.ofBits .f32 0x3F800000#32 : Ideal .f32) = 1 := Ideal.ofBits_one_f32
    rw [h1]
    show Scalar.select (BitVec.ofBool (decide (m = 0))) _ _ = _
    by_cases h : m = 0
    · simp only [h, decide_true, if_true]; rfl
    · simp only [h, decide_false, if_false]; rfl
  rw [val_main_v52_apply, val_main_v49_apply, val_main_v51_apply, val_main_v48_apply, val_main_v50_apply, val_main_call0_v0_apply]
  refine (hm (val_main_v47 (F := Ideal) X (ix3 t 0 g))).trans ?_
  rw [v47_at]
  rfl

theorem v57_at (t : Fin 3) (g : Fin 40) (k : Fin 512) : (val_main_v57 (F := Ideal) X (ix4 t 0 g k) : EReal) = ((gz (xrow X t g) ⟨k.val / 16, by omega⟩ (k.val % 16) : ℝ) : EReal) := by
  refine Eq.trans ?_ (rc_eq _)
  rw [← v45_at X t g k, ← v52_at X t g]
  have h54 : val_main_v54 (F := Ideal) X (ix4 t 0 g k) = val_main_v52 (F := Ideal) X (ix3 t 0 g) := by
    rw [val_main_v54_apply, val_main_v53_apply]
    refine congrArg (val_main_v52 (F := Ideal) X) (funext fun a => ?_)
    match a with
    | ⟨0, _⟩ => rfl
    | ⟨1, _⟩ => rfl
    | ⟨2, _⟩ => rfl
  rw [← h54]
  rw [val_main_v57_apply, val_main_call2_v2_apply, val_main_v56_apply, val_main_v55_apply, val_main_call2_v4_apply, val_main_call2_v1_apply]
  unfold rc
  rw [← Cert.KernelIdeal.Run.ofBits_127, ← Cert.KernelIdeal.Run.ofBits_neg127]
  generalize val_main_v45 (F := Ideal) X (ix4 t 0 g k) = p
  generalize val_main_v54 (F := Ideal) X (ix4 t 0 g k) = q
  rfl

theorem v58_at (t : Fin 3) (g : Fin 40) (k : Fin 512) : val_main_v58 (F := Ideal) X (ix4 t 0 g k) = BitVec.ofInt 32 (gz (xrow X t g) ⟨k.val / 16, by omega⟩ (k.val % 16)) := by
  rw [val_main_v58_apply, v57_at]
  exact fptosi32 _ (gz_le _ _ _) (le_gz _ _ _)

theorem v59_at (t : Fin 3) (q : Fin 1280) (e : Fin 16) : val_main_v59 (F := Ideal) X (ix4 t 0 q e) = BitVec.ofInt 32 (gz (xrow X t ⟨q.val / 32, by omega⟩) ⟨q.val % 32, by omega⟩ e.val) := by
  rw [val_main_v59_apply]
  refine Eq.trans (congrArg (val_main_v58 (F := Ideal) X) (a₂ := ix4 t 0 ⟨q.val / 32, by omega⟩ ⟨16 * (q.val % 32) + e.val, by omega⟩) (funext fun a => ?_)) ((v58_at X t _ _).trans ?_)
  · match a with
    | ⟨0, _⟩ => exact Fin.ext (by show (((t.val * 1 + 0) * 1280 + q.val) * 16 + e.val) / 20480 = t.val; omega)
    | ⟨1, _⟩ => rfl
    | ⟨2, _⟩ => exact Fin.ext (by show (((t.val * 1 + 0) * 1280 + q.val) * 16 + e.val) / 512 % 40 = q.val / 32; omega)
    | ⟨3, _⟩ => exact Fin.ext (by show (((t.val * 1 + 0) * 1280 + q.val) * 16 + e.val) % 512 = 16 * (q.val % 32) + e.val; omega)
  · have h1 : (⟨(16 * (q.val % 32) + e.val) / 16, by omega⟩ : Fin 32) = ⟨q.val % 32, by omega⟩ := Fin.ext (by show (16 * (q.val % 32) + e.val) / 16 = q.val % 32; omega)
    have h2 : (16 * (q.val % 32) + e.val) % 16 = e.val := by omega
    show BitVec.ofInt 32 (gz (xrow X t ⟨q.val / 32, _⟩) ⟨(16 * (q.val % 32) + e.val) / 16, _⟩ ((16 * (q.val % 32) + e.val) % 16)) = _
    rw [h1, h2]

theorem v60_at (t : Fin 3) (q : Fin 1280) (e : Fin 16) : val_main_v60 (F := Ideal) X (ix4 t 0 q e) = (BitVec.ofInt 32 (gz (xrow X t ⟨q.val / 32, by omega⟩) ⟨q.val % 32, by omega⟩ e.val)).setWidth 8 := by
  rw [val_main_v60_apply, v59_at]
end Cert.RefVal
-- ==== Proof.Pieces.lean ====
module
public import Idealize.ShloMosaic.Lib.WritesUnit
public import Idealize.ShloMosaic.Lib.Writes
public import Idealize.ShloMosaic.Lib.ValueLayout
public import Idealize.ShloMosaic.Lib.ValueIdxCoords
public import Idealize.ShloMosaic.Lib.Exec.Geometry
@[expose] public section

/-! Reading a buffer filled piece by piece, when every piece carries the values of one function. -/
namespace Cert.Pieces
open Idealize.ShloMosaic Idealize.ShloMosaic.ValueIdx

variable {Val : EltTy → Type} {sig : RefSig} {κ : Kind} {sp : Space} {s : Shape} {e : EltTy}

/-- If every piece carries `G`'s values, an index some piece covers reads `G`. -/
theorem read_writes_eq (v : View sig κ sp s e) (f : v.ty.Contents Val) (G : s.Idx → Val e) (y : s.Idx) :
    ∀ L : List (View.Piece Val s e), (∀ p ∈ L, ∀ x, p.2 x = G (p.1.emb x)) → (∃ p ∈ L, y ∈ p.1.set) →
      v.read Val (v.writes Val f L) y = G y
  | [], _, h => by obtain ⟨_, hm, _⟩ := h; exact absurd hm List.not_mem_nil
  | p :: L, hp, h => by
    by_cases hy : y ∈ p.1.set
    · obtain ⟨x, rfl⟩ : ∃ x, p.1.emb x = y := p.1.exists_idx_of_mem hy
      rw [View.read_writes_cons_emb]
      exact hp p List.mem_cons_self x
    · have hy' : y ∉ Finset.univ.map p.1.emb := by rwa [Rect.map_emb_univ]
      rw [View.writes_cons, View.read_slice_write_of_not_mem p.1 _ _ _ hy']
      refine read_writes_eq v f G y L (fun p' h' => hp p' (List.mem_cons_of_mem _ h')) ?_
      obtain ⟨p', hm, hy''⟩ := h
      rcases List.mem_cons.mp hm with rfl | hm
      · exact absurd hy'' hy
      · exact ⟨p', hm, hy''⟩

theorem shapeCast_ab_11ab_apply {α : Type} {a b : ℕ} (x : (⟨2, ![a, b]⟩ : Shape).Idx → α)
    (h : (⟨2, ![a, b]⟩ : Shape).ShapeCasts ⟨4, ![1, 1, a, b]⟩) (j : (⟨4, ![1, 1, a, b]⟩ : Shape).Idx) :
    shapeCast ⟨4, ![1, 1, a, b]⟩ x h j = x (ix2 (j 2) (j 3)) :=
  shapeCast_apply x h _ _ (by
    have h0 : (j 0).val = 0 := Nat.lt_one_iff.1 (j 0).isLt
    have h1 : (j 1).val = 0 := Nat.lt_one_iff.1 (j 1).isLt
    rw [Shape.rowMajor_val_four, Shape.rowMajor_val_two]
    show (j 2).val * b + (j 3).val = (((j 0).val * 1 + (j 1).val) * a + (j 2).val) * b + (j 3).val
    rw [h0, h1]; simp)

theorem shapeCast_ab_1ab_apply' {α : Type} {a b : ℕ} (x : (⟨2, ![a, b]⟩ : Shape).Idx → α)
    (h : (⟨2, ![a, b]⟩ : Shape).ShapeCasts ⟨3, ![1, a, b]⟩) (j : (⟨3, ![1, a, b]⟩ : Shape).Idx) :
    shapeCast ⟨3, ![1, a, b]⟩ x h j = x (ix2 (j 1) (j 2)) := by
  rw [eq_ix3 j]
  exact shapeCast_ab_1ab_apply x h _ _ _

end Cert.Pieces
-- ==== Proof.KernelIdeal.Codes.lean ====
module
public import proofs.«01_k».proof.Proof.KernelIdeal.Tabs
public import proofs.«01_k».proof.Proof.Pieces
@[expose] public section

/-! The codes and the scales the tables body leaves, entry by entry. -/
namespace Cert.KernelIdeal.Run
open Idealize.ShloMosaic Idealize.ShloMosaic.TcCoe Cert.KernelIdeal.Gen Idealize.SL Idealize.ShloMosaic.ValueIdx Cert.Spec Cert.Pieces

/-- The integer codes of the row and lane an index names, in half group `j2`. -/
noncomputable def cz (x0 : Vec Ideal S320x128 .bf16) (j2 : Fin 2) (r : Fin 320) (l : Fin 128) (e : ℕ) : ℤ := gz (row x0 r) (kq j2 l) e

/-- An integer as an extended real. -/
noncomputable def zr (z : ℤ) : EReal := ((z : ℝ) : EReal)

theorem zr_sub (a b : ℤ) : zr a - zr b = zr (a - b) := by simp [zr]

theorem bcol (s : FVec Ideal S320x1 .f32) (j : S320x128.Idx) : broadcastTo S320x128 s broadcasts_S320x1_S320x128 j = s (ix2 (j 0) 0) := by
  refine congrArg s (funext fun a => ?_)
  match a with
  | ⟨0, _⟩ => rfl
  | ⟨1, _⟩ => rfl

theorem code_eq (v : FVec Ideal S320x128 .f32) (s : FVec Ideal S320x1 .f32) (j : S320x128.Idx) (u : Fin 128 → EReal) (hs : s (ix2 (j 0) 0) = gscale u)
    (q : Fin 32) (e : ℕ) (ht : v j = gtab u q e) :
    minimumf (broadcast S320x128 (Scalar.ofBits .f32 0x42FE0000#32 : Ideal .f32)) (maximumf (broadcast S320x128 (Scalar.ofBits .f32 0xC2FE0000#32 : Ideal .f32))
      (roundeven (divf v (broadcastTo S320x128 s broadcasts_S320x1_S320x128)))) j = zr (gz u q e) := by
  rw [minimumf_apply, maximumf_apply, broadcast_apply, broadcast_apply, ofBits_127, ofBits_neg127]
  have hb : broadcastTo S320x128 s broadcasts_S320x1_S320x128 j = gscale u := (bcol s j).trans hs
  refine Eq.trans ?_ (rc_eq _)
  rw [← hb, ← ht]
  rfl

variable (c : Dev nD) (arg0 : Memref sig .tc .vmem S320x128 .bf16) (harg0 : arg0.IsWhole) (x0 : Vec Ideal S320x128 .bf16)

theorem r_43_apply (r : Fin 320) (l : Fin 128) : kernelRun0_A.sl.r_43 c arg0 harg0 x0 (ix2 r l) = zr (cz x0 0 r l 0) := by
  simp only [kernelRun0_A.sl.r_43, k0_pay68, k0_pay67, kernelRun0_A.sl.r_42, k0_pay66, k0_pay24, k0_pay62]
  exact code_eq _ (kernelRun0_A.sl.r_41 c arg0 harg0 x0) (ix2 r l) (row x0 r) (r_41_apply c arg0 harg0 x0 r) (kq 0 l) 0 (((scalar_zero).trans (gtab_0 _ _).symm))

theorem r_44_apply (r : Fin 320) (l : Fin 128) : kernelRun0_A.sl.r_44 c arg0 harg0 x0 (ix2 r l) = zr (cz x0 0 r l 1) := by
  simp only [kernelRun0_A.sl.r_44, k0_pay69]
  exact code_eq _ (kernelRun0_A.sl.r_41 c arg0 harg0 x0) (ix2 r l) (row x0 r) (r_41_apply c arg0 harg0 x0 r) (kq 0 l) 1 (r_5_apply c arg0 harg0 x0 (ix2 r l))

theorem r_45_apply (r : Fin 320) (l : Fin 128) : kernelRun0_A.sl.r_45 c arg0 harg0 x0 (ix2 r l) = zr (cz x0 0 r l 2) := by
  simp only [kernelRun0_A.sl.r_45, k0_pay70]
  exact code_eq _ (kernelRun0_A.sl.r_41 c arg0 harg0 x0) (ix2 r l) (row x0 r) (r_41_apply c arg0 harg0 x0 r) (kq 0 l) 2 (r_6_apply c arg0 harg0 x0 (ix2 r l))

theorem r_46_apply (r : Fin 320) (l : Fin 128) : kernelRun0_A.sl.r_46 c arg0 harg0 x0 (ix2 r l) = zr (cz x0 0 r l 3) := by
  simp only [kernelRun0_A.sl.r_46, k0_pay71]
  exact code_eq _ (kernelRun0_A.sl.r_41 c arg0 harg0 x0) (ix2 r l) (row x0 r) (r_41_apply c arg0 harg0 x0 r) (kq 0 l) 3 (r_7_apply c arg0 harg0 x0 (ix2 r l))

theorem r_47_apply (r : Fin 320) (l : Fin 128) : kernelRun0_A.sl.r_47 c arg0 harg0 x0 (ix2 r l) = zr (cz x0 0 r l 4) := by
  simp only [kernelRun0_A.sl.r_47, k0_pay72]
  exact code_eq _ (kernelRun0_A.sl.r_41 c arg0 harg0 x0) (ix2 r l) (row x0 r) (r_41_apply c arg0 harg0 x0 r) (kq 0 l) 4 (r_8_apply c arg0 harg0 x0 (ix2 r l))

theorem r_48_apply (r : Fin 320) (l : Fin 128) : kernelRun0_A.sl.r_48 c arg0 harg0 x0 (ix2 r l) = zr (cz x0 0 r l 5) := by
  simp only [kernelRun0_A.sl.r_48, k0_pay73]
  exact code_eq _ (kernelRun0_A.sl.r_41 c arg0 harg0 x0) (ix2 r l) (row x0 r) (r_41_apply c arg0 harg0 x0 r) (kq 0 l) 5 (r_9_apply c arg0 harg0 x0 (ix2 r l))

theorem r_49_apply (r : Fin 320) (l : Fin 128) : kernelRun0_A.sl.r_49 c arg0 harg0 x0 (ix2 r l) = zr (cz x0 0 r l 6) := by
  simp only [kernelRun0_A.sl.r_49, k0_pay74]
  exact code_eq _ (kernelRun0_A.sl.r_41 c arg0 harg0 x0) (ix2 r l) (row x0 r) (r_41_apply c arg0 harg0 x0 r) (kq 0 l) 6 (r_10_apply c arg0 harg0 x0 (ix2 r l))

theorem r_51_apply (r : Fin 320) (l : Fin 128) : kernelRun0_A.sl.r_51 c arg0 harg0 x0 (ix2 r l) = zr (cz x0 0 r l 7) := by
  simp only [kernelRun0_A.sl.r_51, k0_pay76, kernelRun0_A.sl.cst_96, kernelRun0_A.sl.cst_97, kernelRun0_A.sl.r_50, k0_pay75]
  exact code_eq _ (kernelRun0_A.sl.r_41 c arg0 harg0 x0) (ix2 r l) (row x0 r) (r_41_apply c arg0 harg0 x0 r) (kq 0 l) 7 (r_11_apply c arg0 harg0 x0 (ix2 r l))

theorem r_52_apply (r : Fin 320) (l : Fin 128) : kernelRun0_A.sl.r_52 c arg0 harg0 x0 (ix2 r l) = zr (cz x0 0 r l 8) := by
  simp only [kernelRun0_A.sl.r_52, k0_pay77]
  exact code_eq _ (kernelRun0_A.sl.r_41 c arg0 harg0 x0) (ix2 r l) (row x0 r) (r_41_apply c arg0 harg0 x0 r) (kq 0 l) 8 (r_12_apply c arg0 harg0 x0 (ix2 r l))

theorem r_53_apply (r : Fin 320) (l : Fin 128) : kernelRun0_A.sl.r_53 c arg0 harg0 x0 (ix2 r l) = zr (cz x0 0 r l 9) := by
  simp only [kernelRun0_A.sl.r_53, k0_pay78]
  exact code_eq _ (kernelRun0_A.sl.r_41 c arg0 harg0 x0) (ix2 r l) (row x0 r) (r_41_apply c arg0 harg0 x0 r) (kq 0 l) 9 (r_13_apply c arg0 harg0 x0 (ix2 r l))

theorem r_54_apply (r : Fin 320) (l : Fin 128) : kernelRun0_A.sl.r_54 c arg0 harg0 x0 (ix2 r l) = zr (cz x0 0 r l 10) := by
  simp only [kernelRun0_A.sl.r_54, k0_pay79]
  exact code_eq _ (kernelRun0_A.sl.r_41 c arg0 harg0 x0) (ix2 r l) (row x0 r) (r_41_apply c arg0 harg0 x0 r) (kq 0 l) 10 (r_14_apply c arg0 harg0 x0 (ix2 r l))

theorem r_55_apply (r : Fin 320) (l : Fin 128) : kernelRun0_A.sl.r_55 c arg0 harg0 x0 (ix2 r l) = zr (cz x0 0 r l 11) := by
  simp only [kernelRun0_A.sl.r_55, k0_pay80]
  exact code_eq _ (kernelRun0_A.sl.r_41 c arg0 harg0 x0) (ix2 r l) (row x0 r) (r_41_apply c arg0 harg0 x0 r) (kq 0 l) 11 (r_15_apply c arg0 harg0 x0 (ix2 r l))

theorem r_56_apply (r : Fin 320) (l : Fin 128) : kernelRun0_A.sl.r_56 c arg0 harg0 x0 (ix2 r l) = zr (cz x0 0 r l 12) := by
  simp only [kernelRun0_A.sl.r_56, k0_pay81]
  exact code_eq _ (kernelRun0_A.sl.r_41 c arg0 harg0 x0) (ix2 r l) (row x0 r) (r_41_apply c arg0 harg0 x0 r) (kq 0 l) 12 (r_16_apply c arg0 harg0 x0 (ix2 r l))

theorem r_57_apply (r : Fin 320) (l : Fin 128) : kernelRun0_A.sl.r_57 c arg0 harg0 x0 (ix2 r l) = zr (cz x0 0 r l 13) := by
  simp only [kernelRun0_A.sl.r_57, k0_pay82]
  exact code_eq _ (kernelRun0_A.sl.r_41 c arg0 harg0 x0) (ix2 r l) (row x0 r) (r_41_apply c arg0 harg0 x0 r) (kq 0 l) 13 (r_18_apply c arg0 harg0 x0 (ix2 r l))

theorem r_59_apply (r : Fin 320) (l : Fin 128) : kernelRun0_A.sl.r_59 c arg0 harg0 x0 (ix2 r l) = zr (cz x0 0 r l 14) := by
  simp only [kernelRun0_A.sl.r_59, k0_pay84, kernelRun0_A.sl.r_58, k0_pay83]
  exact code_eq _ (kernelRun0_A.sl.r_41 c arg0 harg0 x0) (ix2 r l) (row x0 r) (r_41_apply c arg0 harg0 x0 r) (kq 0 l) 14 (r_19_apply c arg0 harg0 x0 (ix2 r l))

theorem r_60_apply (r : Fin 320) (l : Fin 128) : kernelRun0_A.sl.r_60 c arg0 harg0 x0 (ix2 r l) = zr (cz x0 0 r l 15) := by
  simp only [kernelRun0_A.sl.r_60, k0_pay85]
  exact code_eq _ (kernelRun0_A.sl.r_41 c arg0 harg0 x0) (ix2 r l) (row x0 r) (r_41_apply c arg0 harg0 x0 r) (kq 0 l) 15 (r_20_apply c arg0 harg0 x0 (ix2 r l))

theorem r_81_apply (r : Fin 320) (l : Fin 128) : kernelRun0_A.sl.r_81 c arg0 harg0 x0 (ix2 r l) = zr (cz x0 1 r l 0) := by
  simp only [kernelRun0_A.sl.r_81, k0_pay130, k0_pay47]
  exact code_eq _ (kernelRun0_A.sl.r_41 c arg0 harg0 x0) (ix2 r l) (row x0 r) (r_41_apply c arg0 harg0 x0 r) (kq 1 l) 0 (((scalar_zero).trans (gtab_0 _ _).symm))

theorem r_82_apply (r : Fin 320) (l : Fin 128) : kernelRun0_A.sl.r_82 c arg0 harg0 x0 (ix2 r l) = zr (cz x0 1 r l 1) := by
  simp only [kernelRun0_A.sl.r_82, k0_pay131]
  exact code_eq _ (kernelRun0_A.sl.r_41 c arg0 harg0 x0) (ix2 r l) (row x0 r) (r_41_apply c arg0 harg0 x0 r) (kq 1 l) 1 (r_26_apply c arg0 harg0 x0 (ix2 r l))

theorem r_83_apply (r : Fin 320) (l : Fin 128) : kernelRun0_A.sl.r_83 c arg0 harg0 x0 (ix2 r l) = zr (cz x0 1 r l 2) := by
  simp only [kernelRun0_A.sl.r_83, k0_pay132]
  exact code_eq _ (kernelRun0_A.sl.r_41 c arg0 harg0 x0) (ix2 r l) (row x0 r) (r_41_apply c arg0 harg0 x0 r) (kq 1 l) 2 (r_27_apply c arg0 harg0 x0 (ix2 r l))

theorem r_85_apply (r : Fin 320) (l : Fin 128) : kernelRun0_A.sl.r_85 c arg0 harg0 x0 (ix2 r l) = zr (cz x0 1 r l 3) := by
  simp only [kernelRun0_A.sl.r_85, k0_pay134, kernelRun0_A.sl.r_84, k0_pay133]
  exact code_eq _ (kernelRun0_A.sl.r_41 c arg0 harg0 x0) (ix2 r l) (row x0 r) (r_41_apply c arg0 harg0 x0 r) (kq 1 l) 3 (r_28_apply c arg0 harg0 x0 (ix2 r l))

theorem r_86_apply (r : Fin 320) (l : Fin 128) : kernelRun0_A.sl.r_86 c arg0 harg0 x0 (ix2 r l) = zr (cz x0 1 r l 4) := by
  simp only [kernelRun0_A.sl.r_86, k0_pay135]
  exact code_eq _ (kernelRun0_A.sl.r_41 c arg0 harg0 x0) (ix2 r l) (row x0 r) (r_41_apply c arg0 harg0 x0 r) (kq 1 l) 4 (r_29_apply c arg0 harg0 x0 (ix2 r l))

theorem r_87_apply (r : Fin 320) (l : Fin 128) : kernelRun0_A.sl.r_87 c arg0 harg0 x0 (ix2 r l) = zr (cz x0 1 r l 5) := by
  simp only [kernelRun0_A.sl.r_87, k0_pay136]
  exact code_eq _ (kernelRun0_A.sl.r_41 c arg0 harg0 x0) (ix2 r l) (row x0 r) (r_41_apply c arg0 harg0 x0 r) (kq 1 l) 5 (r_30_apply c arg0 harg0 x0 (ix2 r l))

theorem r_88_apply (r : Fin 320) (l : Fin 128) : kernelRun0_A.sl.r_88 c arg0 harg0 x0 (ix2 r l) = zr (cz x0 1 r l 6) := by
  simp only [kernelRun0_A.sl.r_88, k0_pay137]
  exact code_eq _ (kernelRun0_A.sl.r_41 c arg0 harg0 x0) (ix2 r l) (row x0 r) (r_41_apply c arg0 harg0 x0 r) (kq 1 l) 6 (r_31_apply c arg0 harg0 x0 (ix2 r l))

theorem r_89_apply (r : Fin 320) (l : Fin 128) : kernelRun0_A.sl.r_89 c arg0 harg0 x0 (ix2 r l) = zr (cz x0 1 r l 7) := by
  simp only [kernelRun0_A.sl.r_89, k0_pay138]
  exact code_eq _ (kernelRun0_A.sl.r_41 c arg0 harg0 x0) (ix2 r l) (row x0 r) (r_41_apply c arg0 harg0 x0 r) (kq 1 l) 7 (r_32_apply c arg0 harg0 x0 (ix2 r l))

theorem r_90_apply (r : Fin 320) (l : Fin 128) : kernelRun0_A.sl.r_90 c arg0 harg0 x0 (ix2 r l) = zr (cz x0 1 r l 8) := by
  simp only [kernelRun0_A.sl.r_90, k0_pay139]
  exact code_eq _ (kernelRun0_A.sl.r_41 c arg0 harg0 x0) (ix2 r l) (row x0 r) (r_41_apply c arg0 harg0 x0 r) (kq 1 l) 8 (r_33_apply c arg0 harg0 x0 (ix2 r l))

theorem r_92_apply (r : Fin 320) (l : Fin 128) : kernelRun0_A.sl.r_92 c arg0 harg0 x0 (ix2 r l) = zr (cz x0 1 r l 9) := by
  simp only [kernelRun0_A.sl.r_92, k0_pay141, kernelRun0_A.sl.cst_97, kernelRun0_A.sl.r_91, k0_pay140]
  exact code_eq _ (kernelRun0_A.sl.r_41 c arg0 harg0 x0) (ix2 r l) (row x0 r) (r_41_apply c arg0 harg0 x0 r) (kq 1 l) 9 (r_34_apply c arg0 harg0 x0 (ix2 r l))

theorem r_93_apply (r : Fin 320) (l : Fin 128) : kernelRun0_A.sl.r_93 c arg0 harg0 x0 (ix2 r l) = zr (cz x0 1 r l 10) := by
  simp only [kernelRun0_A.sl.r_93, k0_pay142]
  exact code_eq _ (kernelRun0_A.sl.r_41 c arg0 harg0 x0) (ix2 r l) (row x0 r) (r_41_apply c arg0 harg0 x0 r) (kq 1 l) 10 (r_35_apply c arg0 harg0 x0 (ix2 r l))

theorem r_94_apply (r : Fin 320) (l : Fin 128) : kernelRun0_A.sl.r_94 c arg0 harg0 x0 (ix2 r l) = zr (cz x0 1 r l 11) := by
  simp only [kernelRun0_A.sl.r_94, k0_pay143]
  exact code_eq _ (kernelRun0_A.sl.r_41 c arg0 harg0 x0) (ix2 r l) (row x0 r) (r_41_apply c arg0 harg0 x0 r) (kq 1 l) 11 (r_36_apply c arg0 harg0 x0 (ix2 r l))

theorem r_95_apply (r : Fin 320) (l : Fin 128) : kernelRun0_A.sl.r_95 c arg0 harg0 x0 (ix2 r l) = zr (cz x0 1 r l 12) := by
  simp only [kernelRun0_A.sl.r_95, k0_pay144]
  exact code_eq _ (kernelRun0_A.sl.r_41 c arg0 harg0 x0) (ix2 r l) (row x0 r) (r_41_apply c arg0 harg0 x0 r) (kq 1 l) 12 (r_37_apply c arg0 harg0 x0 (ix2 r l))

theorem r_96_apply (r : Fin 320) (l : Fin 128) : kernelRun0_A.sl.r_96 c arg0 harg0 x0 (ix2 r l) = zr (cz x0 1 r l 13) := by
  simp only [kernelRun0_A.sl.r_96, k0_pay145]
  exact code_eq _ (kernelRun0_A.sl.r_41 c arg0 harg0 x0) (ix2 r l) (row x0 r) (r_41_apply c arg0 harg0 x0 r) (kq 1 l) 13 (r_38_apply c arg0 harg0 x0 (ix2 r l))

theorem r_97_apply (r : Fin 320) (l : Fin 128) : kernelRun0_A.sl.r_97 c arg0 harg0 x0 (ix2 r l) = zr (cz x0 1 r l 14) := by
  simp only [kernelRun0_A.sl.r_97, k0_pay146]
  exact code_eq _ (kernelRun0_A.sl.r_41 c arg0 harg0 x0) (ix2 r l) (row x0 r) (r_41_apply c arg0 harg0 x0 r) (kq 1 l) 14 (r_39_apply c arg0 harg0 x0 (ix2 r l))

theorem r_98_apply (r : Fin 320) (l : Fin 128) : kernelRun0_A.sl.r_98 c arg0 harg0 x0 (ix2 r l) = zr (cz x0 1 r l 15) := by
  simp only [kernelRun0_A.sl.r_98, k0_pay147]
  exact code_eq _ (kernelRun0_A.sl.r_41 c arg0 harg0 x0) (ix2 r l) (row x0 r) (r_41_apply c arg0 harg0 x0 r) (kq 1 l) 15 (r_40_apply c arg0 harg0 x0 (ix2 r l))

theorem mask_apply (i : S320x128.Idx) :
    broadcastTo S320x128 (shapeCast S1x128 k0_pay15 shapeCasts_S1x128_S1x128) broadcasts_S1x128_S320x128 i = if (i 1).val < 64 then 1#1 else 0#1 := by
  rw [shapeCast_self]
  refine (show _ = k0_pay15 (ix2 0 (i 1)) from congrArg k0_pay15 (funext fun a => ?_)).trans ?_
  · match a with
    | ⟨0, _⟩ => rfl
    | ⟨1, _⟩ => rfl
  · generalize i 1 = l
    change Fin 128 at l
    revert l
    decide +kernel

theorem cpay_1_7 (u : Fin 1) (r : Fin 320) (l : Fin 128) : k0_pay2 k0_pay15 (kernelRun0_A.sl.r_114 c arg0 harg0 x0) (ix3 u r l)
    = zr (mob (cz x0 1 r l) (if l.val < 64 then 15 else 15)) := by
  simp only [k0_pay2, kernelRun0_A.sl.r_114, k0_pay186, k0_pay170, k0_pay174, k0_pay169, k0_pay178, k0_pay168, k0_pay172, k0_pay167]
  rw [shapeCast_ab_1ab_apply, select_apply, mask_apply, ix2_1]
  by_cases h : l.val < 64
  · rw [if_pos h, if_pos h, select_one]
    simp only [subf_apply, r_81_apply, r_82_apply, r_83_apply, r_85_apply, r_86_apply, r_87_apply, r_88_apply, r_89_apply, r_90_apply, r_92_apply, r_93_apply, r_94_apply, r_95_apply, r_96_apply, r_97_apply, r_98_apply, zr_sub]
    exact congrArg zr (by rw [mob_15]; try ring)
  · rw [if_neg h, if_neg h, select_zero]
    simp only [subf_apply, r_81_apply, r_82_apply, r_83_apply, r_85_apply, r_86_apply, r_87_apply, r_88_apply, r_89_apply, r_90_apply, r_92_apply, r_93_apply, r_94_apply, r_95_apply, r_96_apply, r_97_apply, r_98_apply, zr_sub]
    exact congrArg zr (by rw [mob_15]; try ring)

theorem cpay_1_6 (u : Fin 1) (r : Fin 320) (l : Fin 128) : k0_pay1 (kernelRun0_A.sl.r_116 c arg0 harg0 x0) (ix3 u r l)
    = zr (mob (cz x0 1 r l) (if l.val < 64 then 13 else 14)) := by
  simp only [k0_pay1, kernelRun0_A.sl.r_116, k0_pay194, kernelRun0_A.sl.r_113, k0_pay185, kernelRun0_A.sl.r_112, k0_pay184, k0_pay173, k0_pay177, k0_pay171, k0_pay170, k0_pay169, k0_pay176, k0_pay168, k0_pay167]
  rw [shapeCast_ab_1ab_apply, select_apply, mask_apply, ix2_1]
  by_cases h : l.val < 64
  · rw [if_pos h, if_pos h, select_one]
    simp only [subf_apply, r_81_apply, r_82_apply, r_83_apply, r_86_apply, r_87_apply, r_88_apply, r_90_apply, r_92_apply, r_93_apply, r_95_apply, r_96_apply, r_97_apply, zr_sub]
    exact congrArg zr (by rw [mob_13]; try ring)
  · rw [if_neg h, if_neg h, select_zero]
    simp only [subf_apply, r_81_apply, r_82_apply, r_83_apply, r_86_apply, r_87_apply, r_88_apply, r_90_apply, r_92_apply, r_93_apply, r_95_apply, r_96_apply, r_97_apply, zr_sub]
    exact congrArg zr (by rw [mob_14]; try ring)

theorem cpay_1_5 (u : Fin 1) (r : Fin 320) (l : Fin 128) : k0_pay193 k0_pay15 (kernelRun0_A.sl.r_106 c arg0 harg0 x0) (kernelRun0_A.sl.r_110 c arg0 harg0 x0) (ix3 u r l)
    = zr (mob (cz x0 1 r l) (if l.val < 64 then 7 else 11)) := by
  simp only [k0_pay193, kernelRun0_A.sl.r_110, k0_pay182, kernelRun0_A.sl.r_106, k0_pay178, k0_pay174, k0_pay169, k0_pay172, k0_pay167, k0_pay168]
  rw [shapeCast_ab_1ab_apply, select_apply, mask_apply, ix2_1]
  by_cases h : l.val < 64
  · rw [if_pos h, if_pos h, select_one]
    simp only [subf_apply, r_81_apply, r_82_apply, r_83_apply, r_85_apply, r_86_apply, r_87_apply, r_88_apply, r_89_apply, r_90_apply, r_92_apply, r_93_apply, r_94_apply, zr_sub]
    exact congrArg zr (by rw [mob_7]; try ring)
  · rw [if_neg h, if_neg h, select_zero]
    simp only [subf_apply, r_81_apply, r_82_apply, r_83_apply, r_85_apply, r_86_apply, r_87_apply, r_88_apply, r_89_apply, r_90_apply, r_92_apply, r_93_apply, r_94_apply, zr_sub]
    exact congrArg zr (by rw [mob_11]; try ring)

theorem cpay_1_4 (u : Fin 1) (r : Fin 320) (l : Fin 128) : k0_pay192 k0_pay15 (kernelRun0_A.sl.r_109 c arg0 harg0 x0) (kernelRun0_A.sl.r_111 c arg0 harg0 x0) (ix3 u r l)
    = zr (mob (cz x0 1 r l) (if l.val < 64 then 10 else 12)) := by
  simp only [k0_pay192, kernelRun0_A.sl.r_111, k0_pay183, kernelRun0_A.sl.r_109, k0_pay181, k0_pay175, k0_pay173, k0_pay171]
  rw [shapeCast_ab_1ab_apply, select_apply, mask_apply, ix2_1]
  by_cases h : l.val < 64
  · rw [if_pos h, if_pos h, select_one]
    simp only [subf_apply, r_81_apply, r_83_apply, r_86_apply, r_90_apply, r_93_apply, r_95_apply, zr_sub]
    exact congrArg zr (by rw [mob_10]; try ring)
  · rw [if_neg h, if_neg h, select_zero]
    simp only [subf_apply, r_81_apply, r_83_apply, r_86_apply, r_90_apply, r_93_apply, r_95_apply, zr_sub]
    exact congrArg zr (by rw [mob_12]; try ring)

theorem cpay_1_3 (u : Fin 1) (r : Fin 320) (l : Fin 128) : k0_pay191 k0_pay15 (kernelRun0_A.sl.r_105 c arg0 harg0 x0) (kernelRun0_A.sl.r_108 c arg0 harg0 x0) (ix3 u r l)
    = zr (mob (cz x0 1 r l) (if l.val < 64 then 6 else 9)) := by
  simp only [k0_pay191, kernelRun0_A.sl.r_108, k0_pay180, kernelRun0_A.sl.r_105, k0_pay177, k0_pay169, k0_pay167, k0_pay171]
  rw [shapeCast_ab_1ab_apply, select_apply, mask_apply, ix2_1]
  by_cases h : l.val < 64
  · rw [if_pos h, if_pos h, select_one]
    simp only [subf_apply, r_81_apply, r_82_apply, r_83_apply, r_86_apply, r_88_apply, r_90_apply, r_92_apply, zr_sub]
    exact congrArg zr (by rw [mob_6]; try ring)
  · rw [if_neg h, if_neg h, select_zero]
    simp only [subf_apply, r_81_apply, r_82_apply, r_83_apply, r_86_apply, r_88_apply, r_90_apply, r_92_apply, zr_sub]
    exact congrArg zr (by rw [mob_9]; try ring)

theorem cpay_1_2 (u : Fin 1) (r : Fin 320) (l : Fin 128) : k0_pay190 k0_pay15 (kernelRun0_A.sl.r_102 c arg0 harg0 x0) (kernelRun0_A.sl.r_104 c arg0 harg0 x0) (ix3 u r l)
    = zr (mob (cz x0 1 r l) (if l.val < 64 then 3 else 5)) := by
  simp only [k0_pay190, kernelRun0_A.sl.r_104, k0_pay176, kernelRun0_A.sl.r_102, k0_pay172, k0_pay168, k0_pay167]
  rw [shapeCast_ab_1ab_apply, select_apply, mask_apply, ix2_1]
  by_cases h : l.val < 64
  · rw [if_pos h, if_pos h, select_one]
    simp only [subf_apply, r_81_apply, r_82_apply, r_83_apply, r_85_apply, r_86_apply, r_87_apply, zr_sub]
    exact congrArg zr (by rw [mob_3]; try ring)
  · rw [if_neg h, if_neg h, select_zero]
    simp only [subf_apply, r_81_apply, r_82_apply, r_83_apply, r_85_apply, r_86_apply, r_87_apply, zr_sub]
    exact congrArg zr (by rw [mob_5]; try ring)

theorem cpay_1_1 (u : Fin 1) (r : Fin 320) (l : Fin 128) : k0_pay189 k0_pay15 (kernelRun0_A.sl.r_103 c arg0 harg0 x0) (kernelRun0_A.sl.r_107 c arg0 harg0 x0) (ix3 u r l)
    = zr (mob (cz x0 1 r l) (if l.val < 64 then 4 else 8)) := by
  simp only [k0_pay189, kernelRun0_A.sl.r_107, k0_pay179, kernelRun0_A.sl.r_103, k0_pay175]
  rw [shapeCast_ab_1ab_apply, select_apply, mask_apply, ix2_1]
  by_cases h : l.val < 64
  · rw [if_pos h, if_pos h, select_one]
    simp only [subf_apply, r_81_apply, r_86_apply, r_90_apply, zr_sub]
    exact congrArg zr (by rw [mob_4]; try ring)
  · rw [if_neg h, if_neg h, select_zero]
    simp only [subf_apply, r_81_apply, r_86_apply, r_90_apply, zr_sub]
    exact congrArg zr (by rw [mob_8]; try ring)

theorem cpay_1_0 (u : Fin 1) (r : Fin 320) (l : Fin 128) : k0_pay188 (kernelRun0_A.sl.r_115 c arg0 harg0 x0) (ix3 u r l)
    = zr (mob (cz x0 1 r l) (if l.val < 64 then 1 else 2)) := by
  simp only [k0_pay188, kernelRun0_A.sl.r_115, k0_pay187, k0_pay167, k0_pay171]
  rw [shapeCast_ab_1ab_apply, select_apply, mask_apply, ix2_1]
  by_cases h : l.val < 64
  · rw [if_pos h, if_pos h, select_one]
    simp only [subf_apply, r_81_apply, r_82_apply, r_83_apply, zr_sub]
    exact congrArg zr (by rw [mob_1]; try ring)
  · rw [if_neg h, if_neg h, select_zero]
    simp only [subf_apply, r_81_apply, r_82_apply, r_83_apply, zr_sub]
    exact congrArg zr (by rw [mob_2]; try ring)

theorem cpay_0_7 (u : Fin 1) (r : Fin 320) (l : Fin 128) : k0_pay129 k0_pay15 (kernelRun0_A.sl.r_79 c arg0 harg0 x0) (ix3 u r l)
    = zr (mob (cz x0 0 r l) (if l.val < 64 then 15 else 15)) := by
  simp only [k0_pay129, kernelRun0_A.sl.r_79, k0_pay120, kernelRun0_A.sl.r_75, k0_pay116, kernelRun0_A.sl.r_71, k0_pay112, kernelRun0_A.sl.r_69, k0_pay110, k0_pay104, k0_pay108, k0_pay103, k0_pay106, k0_pay105]
  rw [shapeCast_ab_1ab_apply, select_apply, mask_apply, ix2_1]
  by_cases h : l.val < 64
  · rw [if_pos h, if_pos h, select_one]
    simp only [subf_apply, r_43_apply, r_44_apply, r_45_apply, r_46_apply, r_47_apply, r_48_apply, r_49_apply, r_51_apply, r_52_apply, r_53_apply, r_54_apply, r_55_apply, r_56_apply, r_57_apply, r_59_apply, r_60_apply, zr_sub]
    exact congrArg zr (by rw [mob_15]; try ring)
  · rw [if_neg h, if_neg h, select_zero]
    simp only [subf_apply, r_43_apply, r_44_apply, r_45_apply, r_46_apply, r_47_apply, r_48_apply, r_49_apply, r_51_apply, r_52_apply, r_53_apply, r_54_apply, r_55_apply, r_56_apply, r_57_apply, r_59_apply, r_60_apply, zr_sub]
    exact congrArg zr (by rw [mob_15]; try ring)

theorem cpay_0_6 (u : Fin 1) (r : Fin 320) (l : Fin 128) : k0_pay128 k0_pay15 (kernelRun0_A.sl.r_77 c arg0 harg0 x0) (kernelRun0_A.sl.r_78 c arg0 harg0 x0) (ix3 u r l)
    = zr (mob (cz x0 0 r l) (if l.val < 64 then 13 else 14)) := by
  simp only [k0_pay128, kernelRun0_A.sl.r_78, k0_pay119, kernelRun0_A.sl.r_74, k0_pay115, kernelRun0_A.sl.r_70, k0_pay111, kernelRun0_A.sl.r_68, k0_pay109, kernelRun0_A.sl.r_77, k0_pay118, kernelRun0_A.sl.r_73, k0_pay114, kernelRun0_A.sl.r_65, k0_pay106, kernelRun0_A.sl.r_64, k0_pay105, k0_pay107, k0_pay104, k0_pay103]
  rw [shapeCast_ab_1ab_apply, select_apply, mask_apply, ix2_1]
  by_cases h : l.val < 64
  · rw [if_pos h, if_pos h, select_one]
    simp only [subf_apply, r_43_apply, r_44_apply, r_45_apply, r_47_apply, r_48_apply, r_49_apply, r_52_apply, r_53_apply, r_54_apply, r_56_apply, r_57_apply, r_59_apply, zr_sub]
    exact congrArg zr (by rw [mob_13]; try ring)
  · rw [if_neg h, if_neg h, select_zero]
    simp only [subf_apply, r_43_apply, r_44_apply, r_45_apply, r_47_apply, r_48_apply, r_49_apply, r_52_apply, r_53_apply, r_54_apply, r_56_apply, r_57_apply, r_59_apply, zr_sub]
    exact congrArg zr (by rw [mob_14]; try ring)

theorem cpay_0_5 (u : Fin 1) (r : Fin 320) (l : Fin 128) : k0_pay127 k0_pay15 (kernelRun0_A.sl.r_75 c arg0 harg0 x0) (kernelRun0_A.sl.r_76 c arg0 harg0 x0) (ix3 u r l)
    = zr (mob (cz x0 0 r l) (if l.val < 64 then 7 else 11)) := by
  simp only [k0_pay127, kernelRun0_A.sl.r_76, k0_pay117, kernelRun0_A.sl.r_69, k0_pay110, kernelRun0_A.sl.r_67, k0_pay108, kernelRun0_A.sl.r_75, k0_pay116, k0_pay105, k0_pay103, k0_pay104]
  rw [shapeCast_ab_1ab_apply, select_apply, mask_apply, ix2_1]
  by_cases h : l.val < 64
  · rw [if_pos h, if_pos h, select_one]
    simp only [subf_apply, r_43_apply, r_44_apply, r_45_apply, r_46_apply, r_47_apply, r_48_apply, r_49_apply, r_51_apply, r_52_apply, r_53_apply, r_54_apply, r_55_apply, zr_sub]
    exact congrArg zr (by rw [mob_7]; try ring)
  · rw [if_neg h, if_neg h, select_zero]
    simp only [subf_apply, r_43_apply, r_44_apply, r_45_apply, r_46_apply, r_47_apply, r_48_apply, r_49_apply, r_51_apply, r_52_apply, r_53_apply, r_54_apply, r_55_apply, zr_sub]
    exact congrArg zr (by rw [mob_11]; try ring)

theorem cpay_0_4 (u : Fin 1) (r : Fin 320) (l : Fin 128) : k0_pay126 (kernelRun0_A.sl.r_80 c arg0 harg0 x0) (ix3 u r l)
    = zr (mob (cz x0 0 r l) (if l.val < 64 then 10 else 12)) := by
  simp only [k0_pay126, kernelRun0_A.sl.r_80, k0_pay125, kernelRun0_A.sl.r_72, k0_pay113, kernelRun0_A.sl.r_68, k0_pay109, kernelRun0_A.sl.r_66, k0_pay107]
  rw [shapeCast_ab_1ab_apply, select_apply, mask_apply, ix2_1]
  by_cases h : l.val < 64
  · rw [if_pos h, if_pos h, select_one]
    simp only [subf_apply, r_43_apply, r_45_apply, r_47_apply, r_52_apply, r_54_apply, r_56_apply, zr_sub]
    exact congrArg zr (by rw [mob_10]; try ring)
  · rw [if_neg h, if_neg h, select_zero]
    simp only [subf_apply, r_43_apply, r_45_apply, r_47_apply, r_52_apply, r_54_apply, r_56_apply, zr_sub]
    exact congrArg zr (by rw [mob_12]; try ring)

theorem cpay_0_3 (u : Fin 1) (r : Fin 320) (l : Fin 128) : k0_pay124 k0_pay15 (kernelRun0_A.sl.r_63 c arg0 harg0 x0) (kernelRun0_A.sl.r_64 c arg0 harg0 x0) (kernelRun0_A.sl.r_74 c arg0 harg0 x0) (ix3 u r l)
    = zr (mob (cz x0 0 r l) (if l.val < 64 then 6 else 9)) := by
  simp only [k0_pay124, kernelRun0_A.sl.r_74, k0_pay115, kernelRun0_A.sl.r_64, k0_pay105, kernelRun0_A.sl.r_63, k0_pay103, k0_pay107]
  rw [shapeCast_ab_1ab_apply, select_apply, mask_apply, ix2_1]
  by_cases h : l.val < 64
  · rw [if_pos h, if_pos h, select_one]
    simp only [subf_apply, r_43_apply, r_44_apply, r_45_apply, r_47_apply, r_49_apply, r_52_apply, r_53_apply, zr_sub]
    exact congrArg zr (by rw [mob_6]; try ring)
  · rw [if_neg h, if_neg h, select_zero]
    simp only [subf_apply, r_43_apply, r_44_apply, r_45_apply, r_47_apply, r_49_apply, r_52_apply, r_53_apply, zr_sub]
    exact congrArg zr (by rw [mob_9]; try ring)

theorem cpay_0_2 (u : Fin 1) (r : Fin 320) (l : Fin 128) : k0_pay123 k0_pay15 (kernelRun0_A.sl.r_67 c arg0 harg0 x0) (kernelRun0_A.sl.r_73 c arg0 harg0 x0) (ix3 u r l)
    = zr (mob (cz x0 0 r l) (if l.val < 64 then 3 else 5)) := by
  simp only [k0_pay123, kernelRun0_A.sl.r_73, k0_pay114, kernelRun0_A.sl.r_67, k0_pay108, k0_pay104, k0_pay103]
  rw [shapeCast_ab_1ab_apply, select_apply, mask_apply, ix2_1]
  by_cases h : l.val < 64
  · rw [if_pos h, if_pos h, select_one]
    simp only [subf_apply, r_43_apply, r_44_apply, r_45_apply, r_46_apply, r_47_apply, r_48_apply, zr_sub]
    exact congrArg zr (by rw [mob_3]; try ring)
  · rw [if_neg h, if_neg h, select_zero]
    simp only [subf_apply, r_43_apply, r_44_apply, r_45_apply, r_46_apply, r_47_apply, r_48_apply, zr_sub]
    exact congrArg zr (by rw [mob_5]; try ring)

theorem cpay_0_1 (u : Fin 1) (r : Fin 320) (l : Fin 128) : k0_pay122 k0_pay15 (kernelRun0_A.sl.r_43 c arg0 harg0 x0) (kernelRun0_A.sl.r_52 c arg0 harg0 x0) (kernelRun0_A.sl.r_72 c arg0 harg0 x0) (ix3 u r l)
    = zr (mob (cz x0 0 r l) (if l.val < 64 then 4 else 8)) := by
  simp only [k0_pay122, kernelRun0_A.sl.r_72, k0_pay113]
  rw [shapeCast_ab_1ab_apply, select_apply, mask_apply, ix2_1]
  by_cases h : l.val < 64
  · rw [if_pos h, if_pos h, select_one]
    simp only [subf_apply, r_43_apply, r_47_apply, r_52_apply, zr_sub]
    exact congrArg zr (by rw [mob_4]; try ring)
  · rw [if_neg h, if_neg h, select_zero]
    simp only [subf_apply, r_43_apply, r_47_apply, r_52_apply, zr_sub]
    exact congrArg zr (by rw [mob_8]; try ring)

theorem cpay_0_0 (u : Fin 1) (r : Fin 320) (l : Fin 128) : k0_pay121 k0_pay15 (kernelRun0_A.sl.r_63 c arg0 harg0 x0) (kernelRun0_A.sl.r_66 c arg0 harg0 x0) (ix3 u r l)
    = zr (mob (cz x0 0 r l) (if l.val < 64 then 1 else 2)) := by
  simp only [k0_pay121, kernelRun0_A.sl.r_66, k0_pay107, kernelRun0_A.sl.r_63, k0_pay103]
  rw [shapeCast_ab_1ab_apply, select_apply, mask_apply, ix2_1]
  by_cases h : l.val < 64
  · rw [if_pos h, if_pos h, select_one]
    simp only [subf_apply, r_43_apply, r_44_apply, r_45_apply, zr_sub]
    exact congrArg zr (by rw [mob_1]; try ring)
  · rw [if_neg h, if_neg h, select_zero]
    simp only [subf_apply, r_43_apply, r_44_apply, r_45_apply, zr_sub]
    exact congrArg zr (by rw [mob_2]; try ring)
end Cert.KernelIdeal.Run
-- ==== Proof.Ref.Gather.lean ====
module
public import proofs.«01_k».proof.Proof.Ref.Tables
public import proofs.«01_k».proof.Proof.KernelIdeal.Codes
public import Idealize.ShloMosaic.Lib.ValueIdxRank6
@[expose] public section

/-! The codes the reference gathers, entry by entry. -/
namespace Cert.RefVal
open Idealize.ShloMosaic Idealize.ShloMosaic.TcCoe Idealize.SL Idealize.ShloMosaic.ValueIdx Cert.Spec
open Cert.ReferenceIdeal Cert.ReferenceIdeal.Gen Cert.ReferenceIdeal.Read

theorem gath_nat (j N : ℕ) (h : j < N) (hN : N < 2 ^ 31) : min (BitVec.ofNat 32 j).toInt.toNat (N - 1) = j := by
  have : (BitVec.ofNat 32 j).toInt = (j : ℤ) := by
    have h31 : (2 : ℕ) ^ 31 = 2147483648 := by norm_num
    have hn : (BitVec.ofNat 32 j).toNat = j := by rw [BitVec.toNat_ofNat]; exact Nat.mod_eq_of_lt (by norm_num; omega)
    rw [BitVec.toInt_eq_toNat_of_lt (by rw [hn]; norm_num; omega), hn]
  rw [this, Int.toNat_natCast]; omega

theorem gath (y : S3x1x640x16.Idx → BitVec 8) (idx : IVec S4x27648x640x2 32) (t : Fin 3) (p : Fin 4) (n : Fin 27648) (j : Fin 640) (e : Fin 16)
    (h0 : idx (ix4 p n j 0) = BitVec.ofNat 32 j.val) (h1 : idx (ix4 p n j 1) = BitVec.ofNat 32 e.val) :
    Host.gather gather_S3x1x640x16_S4x27648x640x2_S3x1x4x27648x640_01_23_n_n_23_3_3111 y idx (ix5 t 0 p n j) = y (ix4 t 0 j e) := by
  unfold Host.gather
  refine congrArg y (funext fun a => Fin.ext ?_)
  show GatherDims.start _ (ix5 t 0 p n j) idx a + GatherDims.batchCoord _ (ix5 t 0 p n j) a + GatherDims.offCoord _ (ix5 t 0 p n j) a = _
  rw [GatherDims.batchCoord_eq_zero _ _ _ List.not_mem_nil, Nat.add_zero]
  have h4 : a = 0 ∨ a = 1 ∨ a = 2 ∨ a = 3 := by
    match a with
    | ⟨0, _⟩ => exact .inl rfl
    | ⟨1, _⟩ => exact .inr (.inl rfl)
    | ⟨2, _⟩ => exact .inr (.inr (.inl rfl))
    | ⟨3, _⟩ => exact .inr (.inr (.inr rfl))
  rcases h4 with rfl | rfl | rfl | rfl
  · unfold GatherDims.start
    refine (congrArg (· + _) (dif_neg (show (0 : Fin 4) ∉ ([2, 3] : List (Fin 4)) by decide))).trans ?_
    show 0 + t.val = t.val
    omega
  · unfold GatherDims.start
    refine (congrArg (· + _) (dif_neg (show (1 : Fin 4) ∉ ([2, 3] : List (Fin 4)) by decide))).trans ?_
    rfl
  · rw [GatherDims.offCoord_eq_zero _ _ _ (fun h => ((GatherDims.mem_sKept _ _).mp h).1 (show (2 : Fin 4) ∈ ([2, 3] : List (Fin 4)) by decide)), Nat.add_zero]
    unfold GatherDims.start
    refine (dif_pos (show (2 : Fin 4) ∈ ([2, 3] : List (Fin 4)) by decide)).trans ?_
    have hsi : ∀ h, gather_S3x1x640x16_S4x27648x640x2_S3x1x4x27648x640_01_23_n_n_23_3_3111.siIdx (ix5 t 0 p n j) ⟨List.idxOf (2 : Fin 4) [2, 3], h⟩ = ix4 p n j 0 := by
      intro h
      funext b
      match b with
      | ⟨0, _⟩ => rfl
      | ⟨1, _⟩ => rfl
      | ⟨2, _⟩ => rfl
      | ⟨3, _⟩ => rfl
    refine Eq.trans (congrArg (fun z => min (idx z).toInt.toNat (640 - 1)) (hsi _)) ?_
    show min (idx (ix4 p n j 0)).toInt.toNat (640 - 1) = _
    rw [h0]
    exact gath_nat j.val 640 j.isLt (by norm_num)
  · rw [GatherDims.offCoord_eq_zero _ _ _ (fun h => ((GatherDims.mem_sKept _ _).mp h).1 (show (3 : Fin 4) ∈ ([2, 3] : List (Fin 4)) by decide)), Nat.add_zero]
    unfold GatherDims.start
    refine (dif_pos (show (3 : Fin 4) ∈ ([2, 3] : List (Fin 4)) by decide)).trans ?_
    have hsi : ∀ h, gather_S3x1x640x16_S4x27648x640x2_S3x1x4x27648x640_01_23_n_n_23_3_3111.siIdx (ix5 t 0 p n j) ⟨List.idxOf (3 : Fin 4) [2, 3], h⟩ = ix4 p n j 1 := by
      intro h
      funext b
      match b with
      | ⟨0, _⟩ => rfl
      | ⟨1, _⟩ => rfl
      | ⟨2, _⟩ => rfl
      | ⟨3, _⟩ => rfl
    refine Eq.trans (congrArg (fun z => min (idx z).toInt.toNat (16 - 1)) (hsi _)) ?_
    show min (idx (ix4 p n j 1)).toInt.toNat (16 - 1) = _
    rw [h1]
    exact gath_nat e.val 16 e.isLt (by norm_num)

theorem lo_const : ∀ b : BitVec 8, Scalar.select (IntOp.cmpi .slt (IntOp.andi (b.setWidth 32) 15#32) 0#32) (IntOp.addi (IntOp.andi (b.setWidth 32) 15#32) 16#32) (IntOp.andi (b.setWidth 32) 15#32)
    = BitVec.ofNat 32 (b.toNat % 16) := by decide +kernel
theorem hi_const : ∀ b : BitVec 8, Scalar.select (IntOp.cmpi .slt (IntOp.shrsi .host (b.setWidth 32) 4#32) 0#32) (IntOp.addi (IntOp.shrsi .host (b.setWidth 32) 4#32) 16#32) (IntOp.shrsi .host (b.setWidth 32) 4#32)
    = BitVec.ofNat 32 (b.toNat / 16) := by decide +kernel
theorem col_const : ∀ j : Fin 640, Scalar.select (IntOp.cmpi .slt (BitVec.ofNat 32 j.val) 0#32) (IntOp.addi (BitVec.ofNat 32 j.val) 640#32) (BitVec.ofNat 32 j.val) = BitVec.ofNat 32 j.val := by decide +kernel

theorem nib_hi (b : BitVec 8) : b.toNat / 16 < 16 := by have := b.isLt; omega

variable (X : S3x1x5120.Idx → EReal) (P : S4x27648x640.Idx → BitVec 8)

theorem v80_at (i : S4x27648x640.Idx) : val_main_v80 (F := Ideal) P i = BitVec.ofNat 32 ((P i).toNat % 16) := by
  rw [val_main_v80_apply, val_main_v77_apply, val_main_v79_apply, val_main_v63_apply, val_main_v61_apply, val_main_v62_apply, val_main_v76_apply, val_main_v78_apply]
  exact lo_const (P i)
theorem v97_at (i : S4x27648x640.Idx) : val_main_v97 (F := Ideal) P i = BitVec.ofNat 32 ((P i).toNat / 16) := by
  rw [val_main_v97_apply, val_main_v94_apply, val_main_v96_apply, val_main_v65_apply, val_main_v61_apply, val_main_v64_apply, val_main_v93_apply, val_main_v95_apply]
  exact hi_const (P i)
theorem v82_at (p : Fin 4) (n : Fin 27648) (j : Fin 640) : val_main_v82 (F := Ideal) (ix4 p n j 0) = BitVec.ofNat 32 j.val := by
  rw [val_main_v82_apply, val_main_v81_apply, val_main_v75_apply, val_main_v72_apply, val_main_v74_apply, val_main_v68_apply, val_main_v67_apply, val_main_v71_apply, val_main_v73_apply]
  exact col_const j
theorem v99_at (p : Fin 4) (n : Fin 27648) (j : Fin 640) : val_main_v99 (F := Ideal) (ix4 p n j 0) = BitVec.ofNat 32 j.val := by
  rw [val_main_v99_apply, val_main_v98_apply, val_main_v92_apply, val_main_v89_apply, val_main_v91_apply, val_main_v68_apply, val_main_v67_apply, val_main_v88_apply, val_main_v90_apply]
  exact col_const j
theorem v83_at (p : Fin 4) (n : Fin 27648) (j : Fin 640) : val_main_v83 (F := Ideal) P (ix4 p n j 0) = BitVec.ofNat 32 ((P (ix3 p n j)).toNat % 16) := by
  rw [val_main_v83_apply, v80_at]
  refine congrArg (fun i => BitVec.ofNat 32 ((P i).toNat % 16)) (funext fun a => ?_)
  match a with
  | ⟨0, _⟩ => rfl
  | ⟨1, _⟩ => rfl
  | ⟨2, _⟩ => rfl
theorem v100_at (p : Fin 4) (n : Fin 27648) (j : Fin 640) : val_main_v100 (F := Ideal) P (ix4 p n j 0) = BitVec.ofNat 32 ((P (ix3 p n j)).toNat / 16) := by
  rw [val_main_v100_apply, v97_at]
  refine congrArg (fun i => BitVec.ofNat 32 ((P i).toNat / 16)) (funext fun a => ?_)
  match a with
  | ⟨0, _⟩ => rfl
  | ⟨1, _⟩ => rfl
  | ⟨2, _⟩ => rfl

theorem cat_0 (x₁ x₂ : S4x27648x640x1.Idx → BitVec 32) (h) (p : Fin 4) (n : Fin 27648) (j : Fin 640) :
    concatenate S4x27648x640x2 3 [⟨S4x27648x640x1, x₁⟩, ⟨S4x27648x640x1, x₂⟩] h (ix4 p n j 0) = x₁ (ix4 p n j 0) :=
  concatenate_pair_apply_left (t := S4x27648x640x2) 3 x₁ x₂ h (ix4 p n j 0) rfl (ix4 p n j 0) fun b => by
    match b with
    | ⟨0, _⟩ => rfl
    | ⟨1, _⟩ => rfl
    | ⟨2, _⟩ => rfl
    | ⟨3, _⟩ => rfl
theorem cat_1 (x₁ x₂ : S4x27648x640x1.Idx → BitVec 32) (h) (p : Fin 4) (n : Fin 27648) (j : Fin 640) :
    concatenate S4x27648x640x2 3 [⟨S4x27648x640x1, x₁⟩, ⟨S4x27648x640x1, x₂⟩] h (ix4 p n j 1) = x₂ (ix4 p n j 0) := by
  refine concatenate_pair_apply_right (t := S4x27648x640x2) 3 x₁ x₂ h (ix4 p n j 1) rfl rfl (ix4 p n j 0) (fun b hb => ?_) ?_
  · match b, hb with
    | ⟨0, _⟩, _ => rfl
    | ⟨1, _⟩, _ => rfl
    | ⟨2, _⟩, _ => rfl
    | ⟨3, _⟩, h => exact absurd rfl h
  · rfl

/-- The code of entry `e` of the table of quad `q` of activation row `t`. -/
noncomputable def zc (t : Fin 3) (q : Fin 1280) (e : ℕ) : ℤ := gz (xrow X t ⟨q.val / 32, by omega⟩) ⟨q.val % 32, by omega⟩ e

theorem sext (z : ℤ) (h : z ≤ 127) (h' : -127 ≤ z) : ((BitVec.ofInt 32 z).setWidth 8).signExtend 32 = BitVec.ofInt 32 z := by
  obtain ⟨n, hn⟩ : ∃ n : ℕ, z = (n : ℤ) - 127 := ⟨(z + 127).toNat, by omega⟩
  have : n < 255 := by omega
  subst hn
  have key : ∀ k : Fin 255, ((BitVec.ofInt 32 ((k.val : ℤ) - 127)).setWidth 8).signExtend 32 = BitVec.ofInt 32 ((k.val : ℤ) - 127) := by decide +kernel
  exact key ⟨n, this⟩

theorem v66_at (t : Fin 3) (j : Fin 640) (r : Fin 2) (e : Fin 16) : val_main_v66 (F := Ideal) X (ix5 t 0 j r e) = (BitVec.ofInt 32 (zc X t ⟨2 * j.val + r.val, by omega⟩ e.val)).setWidth 8 := by
  rw [val_main_v66_apply]
  refine Eq.trans (congrArg (val_main_v60 (F := Ideal) X) (a₂ := ix4 t 0 ⟨2 * j.val + r.val, by omega⟩ e) (funext fun a => ?_)) (v60_at X t _ e)
  match a with
  | ⟨0, _⟩ => exact Fin.ext (by show ((((t.val * 1 + 0) * 640 + j.val) * 2 + r.val) * 16 + e.val) / 20480 = t.val; omega)
  | ⟨1, _⟩ => rfl
  | ⟨2, _⟩ => exact Fin.ext (by show ((((t.val * 1 + 0) * 640 + j.val) * 2 + r.val) * 16 + e.val) / 16 % 1280 = 2 * j.val + r.val; omega)
  | ⟨3, _⟩ => exact Fin.ext (by show ((((t.val * 1 + 0) * 640 + j.val) * 2 + r.val) * 16 + e.val) % 16 = e.val; omega)

theorem v70_at (t : Fin 3) (j : Fin 640) (e : Fin 16) : (val_main_v70 (F := Ideal) X (ix4 t 0 j e)).signExtend 32 = BitVec.ofInt 32 (zc X t ⟨2 * j.val + 0, by omega⟩ e.val) := by
  have h : val_main_v70 (F := Ideal) X (ix4 t 0 j e) = val_main_v66 (F := Ideal) X (ix5 t 0 j 0 e) := by
    rw [val_main_v70_apply, val_main_v69_apply]
    refine congrArg (val_main_v66 (F := Ideal) X) (funext fun a => ?_)
    match a with
    | ⟨0, _⟩ => exact Fin.ext (by show (((t.val * 1 + 0) * 640 + j.val) * 16 + e.val) / 10240 = t.val; omega)
    | ⟨1, _⟩ => rfl
    | ⟨2, _⟩ => exact Fin.ext (by show (((t.val * 1 + 0) * 640 + j.val) * 16 + e.val) / 16 % 640 = j.val; omega)
    | ⟨3, _⟩ => rfl
    | ⟨4, _⟩ => exact Fin.ext (by show (((t.val * 1 + 0) * 640 + j.val) * 16 + e.val) % 16 = e.val; omega)
  rw [h, v66_at]
  exact sext _ (gz_le _ _ _) (le_gz _ _ _)

theorem v87_at (t : Fin 3) (j : Fin 640) (e : Fin 16) : (val_main_v87 (F := Ideal) X (ix4 t 0 j e)).signExtend 32 = BitVec.ofInt 32 (zc X t ⟨2 * j.val + 1, by omega⟩ e.val) := by
  have h : val_main_v87 (F := Ideal) X (ix4 t 0 j e) = val_main_v66 (F := Ideal) X (ix5 t 0 j 1 e) := by
    rw [val_main_v87_apply, val_main_v86_apply]
    refine congrArg (val_main_v66 (F := Ideal) X) (funext fun a => ?_)
    match a with
    | ⟨0, _⟩ => exact Fin.ext (by show (((t.val * 1 + 0) * 640 + j.val) * 16 + e.val) / 10240 = t.val; omega)
    | ⟨1, _⟩ => rfl
    | ⟨2, _⟩ => exact Fin.ext (by show (((t.val * 1 + 0) * 640 + j.val) * 16 + e.val) / 16 % 640 = j.val; omega)
    | ⟨3, _⟩ => rfl
    | ⟨4, _⟩ => exact Fin.ext (by show (((t.val * 1 + 0) * 640 + j.val) * 16 + e.val) % 16 = e.val; omega)
  rw [h, v66_at]
  exact sext _ (gz_le _ _ _) (le_gz _ _ _)

theorem v103_at (t : Fin 3) (p : Fin 4) (n : Fin 27648) (j : Fin 640) :
    val_main_v103 (F := Ideal) X P (ix5 t 0 p n j) = BitVec.ofInt 32 (zc X t ⟨2 * j.val + 0, by omega⟩ ((P (ix3 p n j)).toNat % 16)) := by
  rw [val_main_v103_apply, ← v70_at X t j ⟨(P (ix3 p n j)).toNat % 16, Nat.mod_lt _ (by norm_num)⟩]
  refine congrArg (BitVec.signExtend 32) ?_
  exact gath _ _ t p n j ⟨(P (ix3 p n j)).toNat % 16, Nat.mod_lt _ (by norm_num)⟩ ((cat_0 _ _ _ p n j).trans (v82_at p n j)) ((cat_1 _ _ _ p n j).trans (v83_at P p n j))
theorem v104_at (t : Fin 3) (p : Fin 4) (n : Fin 27648) (j : Fin 640) :
    val_main_v104 (F := Ideal) X P (ix5 t 0 p n j) = BitVec.ofInt 32 (zc X t ⟨2 * j.val + 1, by omega⟩ ((P (ix3 p n j)).toNat / 16)) := by
  rw [val_main_v104_apply, ← v87_at X t j ⟨(P (ix3 p n j)).toNat / 16, nib_hi _⟩]
  refine congrArg (BitVec.signExtend 32) ?_
  exact gath _ _ t p n j ⟨(P (ix3 p n j)).toNat / 16, nib_hi _⟩ ((cat_0 _ _ _ p n j).trans (v99_at p n j)) ((cat_1 _ _ _ p n j).trans (v100_at P p n j))
end Cert.RefVal
-- ==== Proof.Ref.Sums.lean ====
module
public import proofs.«01_k».proof.Proof.Ref.Gather
@[expose] public section

/-! The reference's integer sums and its result, entry by entry. -/
namespace Cert.RefVal
open Idealize.ShloMosaic Idealize.ShloMosaic.TcCoe Idealize.SL Idealize.ShloMosaic.ValueIdx Cert.Spec
open Cert.ReferenceIdeal Cert.ReferenceIdeal.Gen Cert.ReferenceIdeal.Read
open Cert.KernelIdeal.Run (zr)

theorem fold_int {ι : Type} [DecidableEq ι] (s : Finset ι) (f : ι → ℤ) : s.fold IntOp.addi (0#32) (fun k => BitVec.ofInt 32 (f k)) = BitVec.ofInt 32 (∑ k ∈ s, f k) := by
  induction s using Finset.induction_on with
  | empty => rfl
  | insert a s ha ih =>
    rw [Finset.fold_insert ha, Finset.sum_insert ha, ih, BitVec.ofInt_add]
    rfl

theorem toInt_small (z : ℤ) (h : z ≤ 100000) (h' : -100000 ≤ z) : (BitVec.ofInt 32 z).toInt = z := by
  rw [BitVec.toInt_ofInt]
  have : ((2 ^ 32 : ℕ) : ℤ) = 4294967296 := by norm_num
  unfold Int.bmod
  rw [this]
  show (if z % 4294967296 < (4294967296 + 1) / 2 then z % 4294967296 else z % 4294967296 - 4294967296) = z
  split <;> omega

variable (X : S3x1x5120.Idx → EReal) (P : S4x27648x640.Idx → BitVec 8)

/-- The two codes a byte of plane `p` selects, added. -/
noncomputable def two (t : Fin 3) (p : Fin 4) (n : Fin 27648) (j : Fin 640) : ℤ :=
  zc X t ⟨2 * j.val, by omega⟩ ((P (ix3 p n j)).toNat % 16) + zc X t ⟨2 * j.val + 1, by omega⟩ ((P (ix3 p n j)).toNat / 16)
/-- The weighted sum over planes and bytes of one weight group. -/
noncomputable def Rsum (t : Fin 3) (n : Fin 27648) (G : Fin 160) : ℤ :=
  ∑ p : Fin 4, (∑ s : Fin 4, two X P t p n ⟨4 * G.val + s.val, by omega⟩) * 2 ^ p.val
/-- The sum of the last entries of one weight group. -/
noncomputable def Zs (t : Fin 3) (G : Fin 160) : ℤ := ∑ s : Fin 8, zc X t ⟨8 * G.val + s.val, by omega⟩ 15

theorem zc_le (t : Fin 3) (q : Fin 1280) (e : ℕ) : zc X t q e ≤ 127 := gz_le _ _ _
theorem le_zc (t : Fin 3) (q : Fin 1280) (e : ℕ) : -127 ≤ zc X t q e := le_gz _ _ _

theorem v105_at (t : Fin 3) (p : Fin 4) (n : Fin 27648) (j : Fin 640) : val_main_v105 (F := Ideal) X P (ix5 t 0 p n j) = BitVec.ofInt 32 (two X P t p n j) := by
  rw [val_main_v105_apply, v103_at, v104_at, two, BitVec.ofInt_add]
  rfl

theorem v106_at (t : Fin 3) (p : Fin 4) (n : Fin 27648) (G : Fin 160) (s : Fin 4) :
    val_main_v106 (F := Ideal) X P (ix6 t 0 p n G s) = BitVec.ofInt 32 (two X P t p n ⟨4 * G.val + s.val, by omega⟩) := by
  rw [← v105_at]
  unfold val_main_v106
  generalize val_main_v105 (F := Ideal) X P = y
  refine shapeCast_apply y shapeCasts_S3x1x4x27648x640_S3x1x4x27648x160x4 (ix6 t 0 p n G s) (ix5 t 0 p n ⟨4 * G.val + s.val, by omega⟩) ?_
  rw [Shape.rowMajor_val_six, Shape.rowMajor_val_five]
  show (((t.val * 1 + 0) * 4 + p.val) * 27648 + n.val) * 640 + (4 * G.val + s.val) = ((((t.val * 1 + 0) * 4 + p.val) * 27648 + n.val) * 160 + G.val) * 4 + s.val
  omega

theorem red107 : Shape.Reduces S3x1x4x27648x160x4 [5] S3x1x4x27648x160 := by decide
theorem red115 : Shape.Reduces S3x1x4x27648x160 [2] S3x1x27648x160 := by decide
theorem red120 : Shape.Reduces S3x1x160x8 [3] S3x1x160 := by decide

theorem v107_at (t : Fin 3) (p : Fin 4) (n : Fin 27648) (G : Fin 160) :
    val_main_v107 (F := Ideal) X P (ix5 t 0 p n G) = BitVec.ofInt 32 (∑ s : Fin 4, two X P t p n ⟨4 * G.val + s.val, by omega⟩) := by
  unfold val_main_v107
  refine (Host.reduce_eq_fold_single IntOp.addi (val_main_v106 (F := Ideal) X P) (val_main_c_16 (F := Ideal)) reducesTo_S3x1x4x27648x160x4_S3x1x4x27648x160_d5 red107 h_S_ (ix5 t 0 p n G)).trans ?_
  rw [← fold_int]
  have e : (val_main_v106 (F := Ideal) X P ∘ red107.lift (ix5 t 0 p n G)) = fun s : Fin 4 => BitVec.ofInt 32 (two X P t p n ⟨4 * G.val + s.val, by omega⟩) := by
    funext s
    have hl : red107.lift (ix5 t 0 p n G) s = ix6 t 0 p n G s := by
      funext a
      match a with
      | ⟨0, _⟩ => rfl
      | ⟨1, _⟩ => rfl
      | ⟨2, _⟩ => rfl
      | ⟨3, _⟩ => rfl
      | ⟨4, _⟩ => rfl
      | ⟨5, _⟩ => rfl
    exact (congrArg (val_main_v106 (F := Ideal) X P) hl).trans (v106_at X P t p n G s)
  rw [e]; rfl

theorem shl_const : ∀ p : Fin 4, IntOp.shli .host 1#32 (BitVec.ofNat 32 p.val) = BitVec.ofInt 32 (2 ^ p.val) := by decide

theorem v113_at (t : Fin 3) (p : Fin 4) (n : Fin 27648) (G : Fin 160) : val_main_v113 (F := Ideal) (ix5 t 0 p n G) = BitVec.ofInt 32 (2 ^ p.val) := by
  rw [val_main_v113_apply, val_main_v112_apply, val_main_v111_apply, val_main_v110_apply, val_main_v109_apply, val_main_v108_apply]
  exact shl_const p

theorem v115_at (t : Fin 3) (n : Fin 27648) (G : Fin 160) : val_main_v115 (F := Ideal) X P (ix4 t 0 n G) = BitVec.ofInt 32 (Rsum X P t n G) := by
  unfold val_main_v115 Rsum
  refine (Host.reduce_eq_fold_single IntOp.addi (val_main_v114 (F := Ideal) X P) (val_main_c_18 (F := Ideal)) reducesTo_S3x1x4x27648x160_S3x1x27648x160_d2 red115 h_S_ (ix4 t 0 n G)).trans ?_
  rw [← fold_int]
  have e : (val_main_v114 (F := Ideal) X P ∘ red115.lift (ix4 t 0 n G)) = fun p : Fin 4 => BitVec.ofInt 32 ((∑ s : Fin 4, two X P t p n ⟨4 * G.val + s.val, by omega⟩) * 2 ^ p.val) := by
    funext p
    have hl : red115.lift (ix4 t 0 n G) p = ix5 t 0 p n G := by
      funext a
      match a with
      | ⟨0, _⟩ => rfl
      | ⟨1, _⟩ => rfl
      | ⟨2, _⟩ => rfl
      | ⟨3, _⟩ => rfl
      | ⟨4, _⟩ => rfl
    refine (congrArg (val_main_v114 (F := Ideal) X P) hl).trans ?_
    refine (val_main_v114_apply (F := Ideal) X P (ix5 t 0 p n G)).trans ?_
    rw [v107_at X P t p n G, v113_at t p n G, BitVec.ofInt_mul]
    rfl
  rw [e]; rfl

theorem v118_at (t : Fin 3) (q : Fin 1280) : val_main_v118 (F := Ideal) X (ix3 t 0 q) = BitVec.ofInt 32 (zc X t q 15) := by
  have h : val_main_v117 (F := Ideal) X (ix3 t 0 q) = val_main_v60 (F := Ideal) X (ix4 t 0 q 15) := by
    rw [val_main_v117_apply, val_main_v116_apply]
    refine congrArg (val_main_v60 (F := Ideal) X) (funext fun a => ?_)
    match a with
    | ⟨0, _⟩ => exact Fin.ext (by show ((t.val * 1 + 0) * 1280 + q.val) / 1280 = t.val; omega)
    | ⟨1, _⟩ => rfl
    | ⟨2, _⟩ => exact Fin.ext (by show ((t.val * 1 + 0) * 1280 + q.val) / 1 % 1280 = q.val; omega)
    | ⟨3, _⟩ => rfl
  rw [val_main_v118_apply, h, v60_at]
  exact sext _ (gz_le _ _ _) (le_gz _ _ _)

theorem v119_at (t : Fin 3) (G : Fin 160) (s : Fin 8) : val_main_v119 (F := Ideal) X (ix4 t 0 G s) = BitVec.ofInt 32 (zc X t ⟨8 * G.val + s.val, by omega⟩ 15) := by
  rw [val_main_v119_apply, ← v118_at]
  refine congrArg (val_main_v118 (F := Ideal) X) (funext fun a => ?_)
  match a with
  | ⟨0, _⟩ => exact Fin.ext (by show (((t.val * 1 + 0) * 160 + G.val) * 8 + s.val) / 1280 = t.val; omega)
  | ⟨1, _⟩ => rfl
  | ⟨2, _⟩ => exact Fin.ext (by show (((t.val * 1 + 0) * 160 + G.val) * 8 + s.val) % 1280 = 8 * G.val + s.val; omega)

theorem v120_at (t : Fin 3) (G : Fin 160) : val_main_v120 (F := Ideal) X (ix3 t 0 G) = BitVec.ofInt 32 (Zs X t G) := by
  unfold val_main_v120 Zs
  refine (Host.reduce_eq_fold_single IntOp.addi (val_main_v119 (F := Ideal) X) (val_main_c_19 (F := Ideal)) reducesTo_S3x1x160x8_S3x1x160_d3 red120 h_S_ (ix3 t 0 G)).trans ?_
  rw [← fold_int]
  have e : (val_main_v119 (F := Ideal) X ∘ red120.lift (ix3 t 0 G)) = fun s : Fin 8 => BitVec.ofInt 32 (zc X t ⟨8 * G.val + s.val, by omega⟩ 15) := by
    funext s
    have hl : red120.lift (ix3 t 0 G) s = ix4 t 0 G s := by
      funext a
      match a with
      | ⟨0, _⟩ => rfl
      | ⟨1, _⟩ => rfl
      | ⟨2, _⟩ => rfl
      | ⟨3, _⟩ => rfl
    exact (congrArg (val_main_v119 (F := Ideal) X) hl).trans (v119_at X t G s)
  rw [e]; rfl

theorem Rsum_small (t : Fin 3) (n : Fin 27648) (G : Fin 160) : (BitVec.ofInt 32 (Rsum X P t n G)).toInt = Rsum X P t n G := by
  have hb : ∀ p j, two X P t p n j ≤ 254 ∧ -254 ≤ two X P t p n j := fun p j => by
    unfold two
    have := zc_le X t ⟨2 * j.val, by omega⟩ ((P (ix3 p n j)).toNat % 16); have := zc_le X t ⟨2 * j.val + 1, by omega⟩ ((P (ix3 p n j)).toNat / 16)
    have := le_zc X t ⟨2 * j.val, by omega⟩ ((P (ix3 p n j)).toNat % 16); have := le_zc X t ⟨2 * j.val + 1, by omega⟩ ((P (ix3 p n j)).toNat / 16)
    omega
  have hs : ∀ p : Fin 4, (∑ s : Fin 4, two X P t p n ⟨4 * G.val + s.val, by omega⟩) ≤ 1016 ∧ -1016 ≤ ∑ s : Fin 4, two X P t p n ⟨4 * G.val + s.val, by omega⟩ := fun p => by
    rw [Fin.sum_univ_four]
    have h0 := hb p ⟨4 * G.val + (0 : Fin 4).val, by omega⟩; have h1 := hb p ⟨4 * G.val + (1 : Fin 4).val, by omega⟩
    have h2 := hb p ⟨4 * G.val + (2 : Fin 4).val, by omega⟩; have h3 := hb p ⟨4 * G.val + (3 : Fin 4).val, by omega⟩
    constructor <;> linarith [h0.1, h0.2, h1.1, h1.2, h2.1, h2.2, h3.1, h3.2]
  have h0 := hs 0; have h1 := hs 1; have h2 := hs 2; have h3 := hs 3
  apply toInt_small
  · unfold Rsum; rw [Fin.sum_univ_four]; norm_num; linarith [h0.1, h1.1, h2.1, h3.1]
  · unfold Rsum; rw [Fin.sum_univ_four]; norm_num; linarith [h0.2, h1.2, h2.2, h3.2]

theorem Zs_small (t : Fin 3) (G : Fin 160) : (BitVec.ofInt 32 (Zs X t G)).toInt = Zs X t G := by
  apply toInt_small
  · refine le_trans (Finset.sum_le_card_nsmul _ _ 127 fun s _ => zc_le X t _ 15) ?_
    simp
  · refine le_trans ?_ (Finset.card_nsmul_le_sum _ _ (-127) fun s _ => le_zc X t _ 15)
    simp

variable (WS WZ : S27648x160.Idx → EReal)

theorem v128_at (t : Fin 3) (n : Fin 27648) (G : Fin 160) :
    (val_main_v128 (F := Ideal) X P WZ (ix4 t 0 n G) : EReal) = zr (Rsum X P t n G) - WZ (ix2 n G) * zr (Zs X t G) := by
  have h1 : (val_main_v121 (F := Ideal) X P (ix4 t 0 n G) : EReal) = zr (Rsum X P t n G) := by
    rw [val_main_v121_apply, v115_at]
    show (((BitVec.ofInt 32 (Rsum X P t n G)).toInt : ℝ) : EReal) = _
    rw [Rsum_small]; rfl
  have h2 : (val_main_v125 (F := Ideal) WZ (ix4 t 0 n G) : EReal) = WZ (ix2 n G) := by
    rw [val_main_v125_apply, val_main_v122_apply]
    refine congrArg WZ (funext fun a => ?_)
    match a with
    | ⟨0, _⟩ => rfl
    | ⟨1, _⟩ => rfl
  have h3 : (val_main_v126 (F := Ideal) X (ix4 t 0 n G) : EReal) = zr (Zs X t G) := by
    rw [val_main_v126_apply, val_main_v124_apply, val_main_v123_apply]
    have : val_main_v120 (F := Ideal) X (idx_main_v124 (idx_main_v126 (ix4 t 0 n G))) = BitVec.ofInt 32 (Zs X t G) := by
      refine Eq.trans (congrArg (val_main_v120 (F := Ideal) X) (funext fun a => ?_)) (v120_at X t G)
      match a with
      | ⟨0, _⟩ => rfl
      | ⟨1, _⟩ => rfl
      | ⟨2, _⟩ => rfl
    rw [this]
    show (((BitVec.ofInt 32 (Zs X t G)).toInt : ℝ) : EReal) = _
    rw [Zs_small]; rfl
  rw [val_main_v128_apply, val_main_v127_apply, ← h1, ← h2, ← h3]
  rfl

theorem v134_at (t : Fin 3) (n : Fin 27648) :
    (val_main_v134 (F := Ideal) X P WS WZ (ix3 t 0 n) : EReal)
      = ∑ g : Fin 40, gscale (xrow X t g) * ∑ k : Fin 4, (zr (Rsum X P t n ⟨4 * g.val + k.val, by omega⟩) - WZ (ix2 n ⟨4 * g.val + k.val, by omega⟩) * zr (Zs X t ⟨4 * g.val + k.val, by omega⟩))
          * WS (ix2 n ⟨4 * g.val + k.val, by omega⟩) := by
  rw [val_main_v134_apply]
  show (val_main_v133 (F := Ideal) X P WS WZ (ix3 t 0 n) : EReal) = _
  rw [val_main_v133_apply]
  refine Finset.sum_congr rfl fun g _ => ?_
  have h1 : (val_main_v52 (F := Ideal) X (lidx_main_v133 (ix3 t 0 n) g) : EReal) = gscale (xrow X t g) := by
    refine Eq.trans (congrArg (val_main_v52 (F := Ideal) X) (funext fun a => ?_)) (v52_at X t g)
    match a with
    | ⟨0, _⟩ => rfl
    | ⟨1, _⟩ => rfl
    | ⟨2, _⟩ => rfl
  rw [h1, val_main_v132_apply, val_main_v131_apply]
  refine congrArg (gscale (xrow X t g) * ·) (Finset.sum_congr rfl fun k _ => ?_)
  rw [← v128_at, val_main_v129_apply, val_main_v130_apply]
  refine congrArg₂ (fun a b : EReal => a * b) (congrArg (val_main_v128 (F := Ideal) X P WZ) (funext fun a => ?_)) (congrArg WS (funext fun a => ?_))
  · match a with
    | ⟨0, _⟩ => exact Fin.ext (by show ((((t.val * 1 + 0) * 27648 + n.val) * 40 + g.val) * 4 + k.val) / 4423680 = t.val; omega)
    | ⟨1, _⟩ => rfl
    | ⟨2, _⟩ => exact Fin.ext (by show ((((t.val * 1 + 0) * 27648 + n.val) * 40 + g.val) * 4 + k.val) / 160 % 27648 = n.val; omega)
    | ⟨3, _⟩ => exact Fin.ext (by show ((((t.val * 1 + 0) * 27648 + n.val) * 40 + g.val) * 4 + k.val) % 160 = 4 * g.val + k.val; omega)
  · match a with
    | ⟨0, _⟩ => exact Fin.ext (by show ((n.val * 40 + g.val) * 4 + k.val) / 160 = n.val; omega)
    | ⟨1, _⟩ => exact Fin.ext (by show ((n.val * 40 + g.val) * 4 + k.val) % 160 = 4 * g.val + k.val; omega)
end Cert.RefVal
-- ==== Proof.KernelIdeal.TabOut.lean ====
module
public import proofs.«01_k».proof.Proof.KernelIdeal.Codes
@[expose] public section

/-! What the tables body leaves in the codes, the scales and the difference buffer. -/
namespace Cert.KernelIdeal.Run
open Idealize.ShloMosaic Idealize.ShloMosaic.TcCoe Cert.KernelIdeal.Gen Idealize.SL Idealize.ShloMosaic.ValueIdx Cert.Spec Cert.Pieces

/-- The codes buffer's contents. -/
noncomputable def codesG (x0 : Vec Ideal S320x128 .bf16) (y : S2x16x320x128.Idx) : BitVec 32 := BitVec.ofInt 32 (cz x0 (y 0) (y 2) (y 3) (y 1).val)
/-- The scale buffer's contents. -/
noncomputable def scaleG (x0 : Vec Ideal S320x128 .bf16) (y : S320x128.Idx) : EReal := gscale (row x0 (y 0))
/-- The difference buffer's contents. -/
noncomputable def diffG (x0 : Vec Ideal S320x128 .bf16) (y : S2x320x1024.Idx) : EReal :=
  zr (mob (cz x0 (y 0) (y 1) ⟨(y 2).val % 128, Nat.mod_lt _ (by norm_num)⟩) (subs ((y 2).val / 64)))

theorem emb4 (a e : ℕ) (ha : a < 2) (he : e < 16) (inb) (x : S1x1x320x128.Idx) :
    (Rect.unit (s := S2x16x320x128) ![a, e, 0, 0] S1x1x320x128.size inb).emb x = ix4 ⟨a, ha⟩ ⟨e, he⟩ (x 2) (x 3) := by
  have h0 : (x 0).val = 0 := Nat.lt_one_iff.1 (x 0).isLt
  have h1 : (x 1).val = 0 := Nat.lt_one_iff.1 (x 1).isLt
  funext b
  apply Fin.ext
  match b with
  | ⟨0, _⟩ => exact (show a + 1 * (x 0).val = a by rw [h0]; rfl)
  | ⟨1, _⟩ => exact (show e + 1 * (x 1).val = e by rw [h1]; rfl)
  | ⟨2, _⟩ => exact (show 0 + 1 * (x 2).val = (x 2).val by rw [Nat.zero_add, Nat.one_mul])
  | ⟨3, _⟩ => exact (show 0 + 1 * (x 3).val = (x 3).val by rw [Nat.zero_add, Nat.one_mul])

theorem mem4 (a e : ℕ) (ha : a < 2) (he : e < 16) (inb) (r : Fin 320) (l : Fin 128) :
    ix4 ⟨a, ha⟩ ⟨e, he⟩ r l ∈ (Rect.unit (s := S2x16x320x128) ![a, e, 0, 0] S1x1x320x128.size inb).set := by
  refine Rect.mem_set_unit.2 fun b => ?_
  match b with
  | ⟨0, _⟩ => exact ⟨Nat.le_refl a, Nat.lt_succ_self a⟩
  | ⟨1, _⟩ => exact ⟨Nat.le_refl e, Nat.lt_succ_self e⟩
  | ⟨2, _⟩ => exact ⟨Nat.zero_le _, (Nat.zero_add 320).symm ▸ r.isLt⟩
  | ⟨3, _⟩ => exact ⟨Nat.zero_le _, (Nat.zero_add 128).symm ▸ l.isLt⟩

theorem emb3 (a o : ℕ) (ha : a < 2) (ho : o + 128 ≤ 1024) (inb) (x : S1x320x128.Idx) :
    (Rect.unit (s := S2x320x1024) ![a, 0, o] S1x320x128.size inb).emb x = ix3 ⟨a, ha⟩ (x 1) ⟨o + (x 2).val, Nat.lt_of_lt_of_le (Nat.add_lt_add_left (x 2).isLt o) ho⟩ := by
  have h0 : (x 0).val = 0 := Nat.lt_one_iff.1 (x 0).isLt
  funext b
  apply Fin.ext
  match b with
  | ⟨0, _⟩ => exact (show a + 1 * (x 0).val = a by rw [h0]; rfl)
  | ⟨1, _⟩ => exact (show 0 + 1 * (x 1).val = (x 1).val by rw [Nat.zero_add, Nat.one_mul])
  | ⟨2, _⟩ => exact (show o + 1 * (x 2).val = o + (x 2).val by rw [Nat.one_mul])

theorem mem3 (a o : ℕ) (ha : a < 2) (inb) (r : Fin 320) (q : Fin 1024) (h1 : o ≤ q.val) (h2 : q.val < o + 128) :
    ix3 ⟨a, ha⟩ r q ∈ (Rect.unit (s := S2x320x1024) ![a, 0, o] S1x320x128.size inb).set := by
  refine Rect.mem_set_unit.2 fun b => ?_
  match b with
  | ⟨0, _⟩ => exact ⟨Nat.le_refl a, Nat.lt_succ_self a⟩
  | ⟨1, _⟩ => exact ⟨Nat.zero_le _, (Nat.zero_add 320).symm ▸ r.isLt⟩
  | ⟨2, _⟩ => exact ⟨h1, h2⟩

/-- A stored block of differences is that block of the difference buffer. -/
theorem diff_block (x0 : Vec Ideal S320x128 .bf16) (a k : ℕ) (ha : a < 2) (hk : k < 8) (o Sa Sb : ℕ) (ho : o = 128 * k) (hSa : subs (2 * k) = Sa) (hSb : subs (2 * k + 1) = Sb)
    (pay : S1x320x128.Idx → EReal)
    (hp : ∀ u r l, pay (ix3 u r l) = zr (mob (cz x0 ⟨a, ha⟩ r l) (if l.val < 64 then Sa else Sb))) (inb) (x : S1x320x128.Idx) :
    pay x = diffG x0 ((Rect.unit (s := S2x320x1024) ![a, 0, o] S1x320x128.size inb).emb x) := by
  subst ho hSa hSb
  have h2 : (x 2).val < 128 := (x 2).isLt
  rw [emb3 a (128 * k) ha (by omega) inb x]
  refine (congrArg pay (eq_ix3 x)).trans ((hp (x 0) (x 1) (x 2)).trans ?_)
  unfold diffG
  have e1 : (⟨(128 * k + (x 2).val) % 128, Nat.mod_lt _ (by norm_num)⟩ : Fin 128) = x 2 := Fin.ext (by show (128 * k + (x 2).val) % 128 = (x 2).val; omega)
  have e2 : subs ((128 * k + (x 2).val) / 64) = if (x 2).val < 64 then subs (2 * k) else subs (2 * k + 1) := by
    split
    · exact congrArg subs (by omega)
    · exact congrArg subs (by omega)
  refine congrArg zr ?_
  rw [← e2]
  exact congrArg (fun q => mob (cz x0 ⟨a, ha⟩ (x 1) q) _) e1.symm

variable (c : Dev nD) (arg0 : Memref sig .tc .vmem S320x128 .bf16) (harg0 : arg0.IsWhole) (x0 : Vec Ideal S320x128 .bf16)

/-- A stored block of codes is that block of the codes buffer. -/
theorem code_block (a e : ℕ) (ha : a < 2) (he : e < 16) (pay : S1x1x320x128.Idx → BitVec 32) (v : FVec Ideal S320x128 .f32)
    (hp : pay = shapeCast S1x1x320x128 (fptosi 32 v) shapeCasts_S320x128_S1x1x320x128) (hv : ∀ r l, v (ix2 r l) = zr (cz x0 ⟨a, ha⟩ r l e)) (inb) (x : S1x1x320x128.Idx) :
    pay x = codesG x0 ((Rect.unit (s := S2x16x320x128) ![a, e, 0, 0] S1x1x320x128.size inb).emb x) := by
  subst hp
  rw [emb4 a e ha he inb x]
  refine (shapeCast_ab_11ab_apply _ _ x).trans ?_
  show Ideal.fptosi 32 (v (ix2 (x 2) (x 3))) = _
  rw [show v (ix2 (x 2) (x 3)) = _ from hv (x 2) (x 3)]
  exact fptosi32 _ (gz_le _ _ _) (le_gz _ _ _)

/-- The codes buffer reads the codes. -/
theorem codes_read {κ : Kind} {sp : Space} (v : View sig κ sp S2x16x320x128 .i32) (f : v.ty.Contents (Elt Ideal)) (y : S2x16x320x128.Idx) :
    v.read (Elt Ideal) (v.writes (Elt Ideal) f (kernelRun0_A.sl.H1_32 c arg0 harg0 x0)) y = codesG x0 y := by
  refine read_writes_eq v f (codesG x0) y _ ?_ ?_
  · unfold kernelRun0_A.sl.H1_32
    refine List.forall_mem_cons.2 ⟨fun x => code_block x0 1 15 (by decide) (by decide) _ (kernelRun0_A.sl.r_98 c arg0 harg0 x0) rfl (r_98_apply c arg0 harg0 x0) inb_S2x16x320x128_S1x1x320x128_1_15_0_0 x, ?_⟩
    refine List.forall_mem_cons.2 ⟨fun x => code_block x0 1 14 (by decide) (by decide) _ (kernelRun0_A.sl.r_97 c arg0 harg0 x0) rfl (r_97_apply c arg0 harg0 x0) inb_S2x16x320x128_S1x1x320x128_1_14_0_0 x, ?_⟩
    refine List.forall_mem_cons.2 ⟨fun x => code_block x0 1 13 (by decide) (by decide) _ (kernelRun0_A.sl.r_96 c arg0 harg0 x0) rfl (r_96_apply c arg0 harg0 x0) inb_S2x16x320x128_S1x1x320x128_1_13_0_0 x, ?_⟩
    refine List.forall_mem_cons.2 ⟨fun x => code_block x0 1 12 (by decide) (by decide) _ (kernelRun0_A.sl.r_95 c arg0 harg0 x0) rfl (r_95_apply c arg0 harg0 x0) inb_S2x16x320x128_S1x1x320x128_1_12_0_0 x, ?_⟩
    refine List.forall_mem_cons.2 ⟨fun x => code_block x0 1 11 (by decide) (by decide) _ (kernelRun0_A.sl.r_94 c arg0 harg0 x0) rfl (r_94_apply c arg0 harg0 x0) inb_S2x16x320x128_S1x1x320x128_1_11_0_0 x, ?_⟩
    refine List.forall_mem_cons.2 ⟨fun x => code_block x0 1 10 (by decide) (by decide) _ (kernelRun0_A.sl.r_93 c arg0 harg0 x0) rfl (r_93_apply c arg0 harg0 x0) inb_S2x16x320x128_S1x1x320x128_1_10_0_0 x, ?_⟩
    refine List.forall_mem_cons.2 ⟨fun x => code_block x0 1 9 (by decide) (by decide) _ (kernelRun0_A.sl.r_92 c arg0 harg0 x0) rfl (r_92_apply c arg0 harg0 x0) inb_S2x16x320x128_S1x1x320x128_1_9_0_0 x, ?_⟩
    refine List.forall_mem_cons.2 ⟨fun x => code_block x0 1 8 (by decide) (by decide) _ (kernelRun0_A.sl.r_90 c arg0 harg0 x0) rfl (r_90_apply c arg0 harg0 x0) inb_S2x16x320x128_S1x1x320x128_1_8_0_0 x, ?_⟩
    refine List.forall_mem_cons.2 ⟨fun x => code_block x0 1 7 (by decide) (by decide) _ (kernelRun0_A.sl.r_89 c arg0 harg0 x0) rfl (r_89_apply c arg0 harg0 x0) inb_S2x16x320x128_S1x1x320x128_1_7_0_0 x, ?_⟩
    refine List.forall_mem_cons.2 ⟨fun x => code_block x0 1 6 (by decide) (by decide) _ (kernelRun0_A.sl.r_88 c arg0 harg0 x0) rfl (r_88_apply c arg0 harg0 x0) inb_S2x16x320x128_S1x1x320x128_1_6_0_0 x, ?_⟩
    refine List.forall_mem_cons.2 ⟨fun x => code_block x0 1 5 (by decide) (by decide) _ (kernelRun0_A.sl.r_87 c arg0 harg0 x0) rfl (r_87_apply c arg0 harg0 x0) inb_S2x16x320x128_S1x1x320x128_1_5_0_0 x, ?_⟩
    refine List.forall_mem_cons.2 ⟨fun x => code_block x0 1 4 (by decide) (by decide) _ (kernelRun0_A.sl.r_86 c arg0 harg0 x0) rfl (r_86_apply c arg0 harg0 x0) inb_S2x16x320x128_S1x1x320x128_1_4_0_0 x, ?_⟩
    refine List.forall_mem_cons.2 ⟨fun x => code_block x0 1 3 (by decide) (by decide) _ (kernelRun0_A.sl.r_85 c arg0 harg0 x0) rfl (r_85_apply c arg0 harg0 x0) inb_S2x16x320x128_S1x1x320x128_1_3_0_0 x, ?_⟩
    refine List.forall_mem_cons.2 ⟨fun x => code_block x0 1 2 (by decide) (by decide) _ (kernelRun0_A.sl.r_83 c arg0 harg0 x0) rfl (r_83_apply c arg0 harg0 x0) inb_S2x16x320x128_S1x1x320x128_1_2_0_0 x, ?_⟩
    refine List.forall_mem_cons.2 ⟨fun x => code_block x0 1 1 (by decide) (by decide) _ (kernelRun0_A.sl.r_82 c arg0 harg0 x0) rfl (r_82_apply c arg0 harg0 x0) inb_S2x16x320x128_S1x1x320x128_1_1_0_0 x, ?_⟩
    refine List.forall_mem_cons.2 ⟨fun x => code_block x0 1 0 (by decide) (by decide) _ (kernelRun0_A.sl.r_81 c arg0 harg0 x0) rfl (r_81_apply c arg0 harg0 x0) inb_S2x16x320x128_S1x1x320x128_1_0_0_0 x, ?_⟩
    refine List.forall_mem_cons.2 ⟨fun x => code_block x0 0 15 (by decide) (by decide) _ (kernelRun0_A.sl.r_60 c arg0 harg0 x0) rfl (r_60_apply c arg0 harg0 x0) inb_S2x16x320x128_S1x1x320x128_0_15_0_0 x, ?_⟩
    refine List.forall_mem_cons.2 ⟨fun x => code_block x0 0 14 (by decide) (by decide) _ (kernelRun0_A.sl.r_59 c arg0 harg0 x0) rfl (r_59_apply c arg0 harg0 x0) inb_S2x16x320x128_S1x1x320x128_0_14_0_0 x, ?_⟩
    refine List.forall_mem_cons.2 ⟨fun x => code_block x0 0 13 (by decide) (by decide) _ (kernelRun0_A.sl.r_57 c arg0 harg0 x0) rfl (r_57_apply c arg0 harg0 x0) inb_S2x16x320x128_S1x1x320x128_0_13_0_0 x, ?_⟩
    refine List.forall_mem_cons.2 ⟨fun x => code_block x0 0 12 (by decide) (by decide) _ (kernelRun0_A.sl.r_56 c arg0 harg0 x0) rfl (r_56_apply c arg0 harg0 x0) inb_S2x16x320x128_S1x1x320x128_0_12_0_0 x, ?_⟩
    refine List.forall_mem_cons.2 ⟨fun x => code_block x0 0 11 (by decide) (by decide) _ (kernelRun0_A.sl.r_55 c arg0 harg0 x0) rfl (r_55_apply c arg0 harg0 x0) inb_S2x16x320x128_S1x1x320x128_0_11_0_0 x, ?_⟩
    refine List.forall_mem_cons.2 ⟨fun x => code_block x0 0 10 (by decide) (by decide) _ (kernelRun0_A.sl.r_54 c arg0 harg0 x0) rfl (r_54_apply c arg0 harg0 x0) inb_S2x16x320x128_S1x1x320x128_0_10_0_0 x, ?_⟩
    refine List.forall_mem_cons.2 ⟨fun x => code_block x0 0 9 (by decide) (by decide) _ (kernelRun0_A.sl.r_53 c arg0 harg0 x0) rfl (r_53_apply c arg0 harg0 x0) inb_S2x16x320x128_S1x1x320x128_0_9_0_0 x, ?_⟩
    refine List.forall_mem_cons.2 ⟨fun x => code_block x0 0 8 (by decide) (by decide) _ (kernelRun0_A.sl.r_52 c arg0 harg0 x0) rfl (r_52_apply c arg0 harg0 x0) inb_S2x16x320x128_S1x1x320x128_0_8_0_0 x, ?_⟩
    refine List.forall_mem_cons.2 ⟨fun x => code_block x0 0 7 (by decide) (by decide) _ (kernelRun0_A.sl.r_51 c arg0 harg0 x0) rfl (r_51_apply c arg0 harg0 x0) inb_S2x16x320x128_S1x1x320x128_0_7_0_0 x, ?_⟩
    refine List.forall_mem_cons.2 ⟨fun x => code_block x0 0 6 (by decide) (by decide) _ (kernelRun0_A.sl.r_49 c arg0 harg0 x0) rfl (r_49_apply c arg0 harg0 x0) inb_S2x16x320x128_S1x1x320x128_0_6_0_0 x, ?_⟩
    refine List.forall_mem_cons.2 ⟨fun x => code_block x0 0 5 (by decide) (by decide) _ (kernelRun0_A.sl.r_48 c arg0 harg0 x0) rfl (r_48_apply c arg0 harg0 x0) inb_S2x16x320x128_S1x1x320x128_0_5_0_0 x, ?_⟩
    refine List.forall_mem_cons.2 ⟨fun x => code_block x0 0 4 (by decide) (by decide) _ (kernelRun0_A.sl.r_47 c arg0 harg0 x0) rfl (r_47_apply c arg0 harg0 x0) inb_S2x16x320x128_S1x1x320x128_0_4_0_0 x, ?_⟩
    refine List.forall_mem_cons.2 ⟨fun x => code_block x0 0 3 (by decide) (by decide) _ (kernelRun0_A.sl.r_46 c arg0 harg0 x0) rfl (r_46_apply c arg0 harg0 x0) inb_S2x16x320x128_S1x1x320x128_0_3_0_0 x, ?_⟩
    refine List.forall_mem_cons.2 ⟨fun x => code_block x0 0 2 (by decide) (by decide) _ (kernelRun0_A.sl.r_45 c arg0 harg0 x0) rfl (r_45_apply c arg0 harg0 x0) inb_S2x16x320x128_S1x1x320x128_0_2_0_0 x, ?_⟩
    refine List.forall_mem_cons.2 ⟨fun x => code_block x0 0 1 (by decide) (by decide) _ (kernelRun0_A.sl.r_44 c arg0 harg0 x0) rfl (r_44_apply c arg0 harg0 x0) inb_S2x16x320x128_S1x1x320x128_0_1_0_0 x, ?_⟩
    refine List.forall_mem_cons.2 ⟨fun x => code_block x0 0 0 (by decide) (by decide) _ (kernelRun0_A.sl.r_43 c arg0 harg0 x0) rfl (r_43_apply c arg0 harg0 x0) inb_S2x16x320x128_S1x1x320x128_0_0_0_0 x, ?_⟩
    exact fun _ h => absurd h List.not_mem_nil
  · rw [eq_ix4 y]
    generalize y 0 = a, y 1 = e, y 2 = r, y 3 = l
    change Fin 2 at a
    change Fin 16 at e
    fin_cases a <;> fin_cases e
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))), mem4 0 0 (by decide) (by decide) inb_S2x16x320x128_S1x1x320x128_0_0_0_0 r l⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))), mem4 0 1 (by decide) (by decide) inb_S2x16x320x128_S1x1x320x128_0_1_0_0 r l⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))), mem4 0 2 (by decide) (by decide) inb_S2x16x320x128_S1x1x320x128_0_2_0_0 r l⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))), mem4 0 3 (by decide) (by decide) inb_S2x16x320x128_S1x1x320x128_0_3_0_0 r l⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))), mem4 0 4 (by decide) (by decide) inb_S2x16x320x128_S1x1x320x128_0_4_0_0 r l⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))), mem4 0 5 (by decide) (by decide) inb_S2x16x320x128_S1x1x320x128_0_5_0_0 r l⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))), mem4 0 6 (by decide) (by decide) inb_S2x16x320x128_S1x1x320x128_0_6_0_0 r l⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))), mem4 0 7 (by decide) (by decide) inb_S2x16x320x128_S1x1x320x128_0_7_0_0 r l⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), mem4 0 8 (by decide) (by decide) inb_S2x16x320x128_S1x1x320x128_0_8_0_0 r l⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), mem4 0 9 (by decide) (by decide) inb_S2x16x320x128_S1x1x320x128_0_9_0_0 r l⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), mem4 0 10 (by decide) (by decide) inb_S2x16x320x128_S1x1x320x128_0_10_0_0 r l⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), mem4 0 11 (by decide) (by decide) inb_S2x16x320x128_S1x1x320x128_0_11_0_0 r l⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), mem4 0 12 (by decide) (by decide) inb_S2x16x320x128_S1x1x320x128_0_12_0_0 r l⟩
    · exact ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), mem4 0 13 (by decide) (by decide) inb_S2x16x320x128_S1x1x320x128_0_13_0_0 r l⟩
    · exact ⟨_, .tail _ (.tail _ (.tail _ (.tail _ (.tail _ (.tail _ (.tail _ (.tail _ (.tail _ (.tail _ (.tail _ (.tail _ (.tail _ (.tail _ (.tail _ (.tail _ (.tail _ (.head _))))))))))))))))), mem4 0 14 (by decide) (by decide) inb_S2x16x320x128_S1x1x320x128_0_14_0_0 r l⟩
    · exact ⟨_, .tail _ (.tail _ (.tail _ (.tail _ (.tail _ (.tail _ (.tail _ (.tail _ (.tail _ (.tail _ (.tail _ (.tail _ (.tail _ (.tail _ (.tail _ (.tail _ (.head _)))))))))))))))), mem4 0 15 (by decide) (by decide) inb_S2x16x320x128_S1x1x320x128_0_15_0_0 r l⟩
    · exact ⟨_, .tail _ (.tail _ (.tail _ (.tail _ (.tail _ (.tail _ (.tail _ (.tail _ (.tail _ (.tail _ (.tail _ (.tail _ (.tail _ (.tail _ (.tail _ (.head _))))))))))))))), mem4 1 0 (by decide) (by decide) inb_S2x16x320x128_S1x1x320x128_1_0_0_0 r l⟩
    · exact ⟨_, .tail _ (.tail _ (.tail _ (.tail _ (.tail _ (.tail _ (.tail _ (.tail _ (.tail _ (.tail _ (.tail _ (.tail _ (.tail _ (.tail _ (.head _)))))))))))))), mem4 1 1 (by decide) (by decide) inb_S2x16x320x128_S1x1x320x128_1_1_0_0 r l⟩
    · exact ⟨_, .tail _ (.tail _ (.tail _ (.tail _ (.tail _ (.tail _ (.tail _ (.tail _ (.tail _ (.tail _ (.tail _ (.tail _ (.tail _ (.head _))))))))))))), mem4 1 2 (by decide) (by decide) inb_S2x16x320x128_S1x1x320x128_1_2_0_0 r l⟩
    · exact ⟨_, .tail _ (.tail _ (.tail _ (.tail _ (.tail _ (.tail _ (.tail _ (.tail _ (.tail _ (.tail _ (.tail _ (.tail _ (.head _)))))))))))), mem4 1 3 (by decide) (by decide) inb_S2x16x320x128_S1x1x320x128_1_3_0_0 r l⟩
    · exact ⟨_, .tail _ (.tail _ (.tail _ (.tail _ (.tail _ (.tail _ (.tail _ (.tail _ (.tail _ (.tail _ (.tail _ (.head _))))))))))), mem4 1 4 (by decide) (by decide) inb_S2x16x320x128_S1x1x320x128_1_4_0_0 r l⟩
    · exact ⟨_, .tail _ (.tail _ (.tail _ (.tail _ (.tail _ (.tail _ (.tail _ (.tail _ (.tail _ (.tail _ (.head _)))))))))), mem4 1 5 (by decide) (by decide) inb_S2x16x320x128_S1x1x320x128_1_5_0_0 r l⟩
    · exact ⟨_, .tail _ (.tail _ (.tail _ (.tail _ (.tail _ (.tail _ (.tail _ (.tail _ (.tail _ (.head _))))))))), mem4 1 6 (by decide) (by decide) inb_S2x16x320x128_S1x1x320x128_1_6_0_0 r l⟩
    · exact ⟨_, .tail _ (.tail _ (.tail _ (.tail _ (.tail _ (.tail _ (.tail _ (.tail _ (.head _)))))))), mem4 1 7 (by decide) (by decide) inb_S2x16x320x128_S1x1x320x128_1_7_0_0 r l⟩
    · exact ⟨_, .tail _ (.tail _ (.tail _ (.tail _ (.tail _ (.tail _ (.tail _ (.head _))))))), mem4 1 8 (by decide) (by decide) inb_S2x16x320x128_S1x1x320x128_1_8_0_0 r l⟩
    · exact ⟨_, .tail _ (.tail _ (.tail _ (.tail _ (.tail _ (.tail _ (.head _)))))), mem4 1 9 (by decide) (by decide) inb_S2x16x320x128_S1x1x320x128_1_9_0_0 r l⟩
    · exact ⟨_, .tail _ (.tail _ (.tail _ (.tail _ (.tail _ (.head _))))), mem4 1 10 (by decide) (by decide) inb_S2x16x320x128_S1x1x320x128_1_10_0_0 r l⟩
    · exact ⟨_, .tail _ (.tail _ (.tail _ (.tail _ (.head _)))), mem4 1 11 (by decide) (by decide) inb_S2x16x320x128_S1x1x320x128_1_11_0_0 r l⟩
    · exact ⟨_, .tail _ (.tail _ (.tail _ (.head _))), mem4 1 12 (by decide) (by decide) inb_S2x16x320x128_S1x1x320x128_1_12_0_0 r l⟩
    · exact ⟨_, .tail _ (.tail _ (.head _)), mem4 1 13 (by decide) (by decide) inb_S2x16x320x128_S1x1x320x128_1_13_0_0 r l⟩
    · exact ⟨_, .tail _ (.head _), mem4 1 14 (by decide) (by decide) inb_S2x16x320x128_S1x1x320x128_1_14_0_0 r l⟩
    · exact ⟨_, .head _, mem4 1 15 (by decide) (by decide) inb_S2x16x320x128_S1x1x320x128_1_15_0_0 r l⟩

/-- The difference buffer reads the differences. -/
theorem diff_read {κ : Kind} {sp : Space} (v : View sig κ sp S2x320x1024 .f32) (f : v.ty.Contents (Elt Ideal)) (y : S2x320x1024.Idx) :
    v.read (Elt Ideal) (v.writes (Elt Ideal) f (kernelRun0_A.sl.HS0_16 c arg0 harg0 x0)) y = diffG x0 y := by
  refine read_writes_eq v f (diffG x0) y _ ?_ ?_
  · unfold kernelRun0_A.sl.HS0_16
    refine List.forall_mem_cons.2 ⟨fun x => diff_block x0 1 7 (by decide) (by decide) _ 15 15 rfl rfl rfl _ (cpay_1_7 c arg0 harg0 x0) inb_S2x320x1024_S1x320x128_1_0_896 x, ?_⟩
    refine List.forall_mem_cons.2 ⟨fun x => diff_block x0 1 6 (by decide) (by decide) _ 13 14 rfl rfl rfl _ (cpay_1_6 c arg0 harg0 x0) inb_S2x320x1024_S1x320x128_1_0_768 x, ?_⟩
    refine List.forall_mem_cons.2 ⟨fun x => diff_block x0 1 5 (by decide) (by decide) _ 7 11 rfl rfl rfl _ (cpay_1_5 c arg0 harg0 x0) inb_S2x320x1024_S1x320x128_1_0_640 x, ?_⟩
    refine List.forall_mem_cons.2 ⟨fun x => diff_block x0 1 4 (by decide) (by decide) _ 10 12 rfl rfl rfl _ (cpay_1_4 c arg0 harg0 x0) inb_S2x320x1024_S1x320x128_1_0_512 x, ?_⟩
    refine List.forall_mem_cons.2 ⟨fun x => diff_block x0 1 3 (by decide) (by decide) _ 6 9 rfl rfl rfl _ (cpay_1_3 c arg0 harg0 x0) inb_S2x320x1024_S1x320x128_1_0_384 x, ?_⟩
    refine List.forall_mem_cons.2 ⟨fun x => diff_block x0 1 2 (by decide) (by decide) _ 3 5 rfl rfl rfl _ (cpay_1_2 c arg0 harg0 x0) inb_S2x320x1024_S1x320x128_1_0_256 x, ?_⟩
    refine List.forall_mem_cons.2 ⟨fun x => diff_block x0 1 1 (by decide) (by decide) _ 4 8 rfl rfl rfl _ (cpay_1_1 c arg0 harg0 x0) inb_S2x320x1024_S1x320x128_1_0_128 x, ?_⟩
    refine List.forall_mem_cons.2 ⟨fun x => diff_block x0 1 0 (by decide) (by decide) _ 1 2 rfl rfl rfl _ (cpay_1_0 c arg0 harg0 x0) inb_S2x320x1024_S1x320x128_1_0_0 x, ?_⟩
    refine List.forall_mem_cons.2 ⟨fun x => diff_block x0 0 7 (by decide) (by decide) _ 15 15 rfl rfl rfl _ (cpay_0_7 c arg0 harg0 x0) inb_S2x320x1024_S1x320x128_0_0_896 x, ?_⟩
    refine List.forall_mem_cons.2 ⟨fun x => diff_block x0 0 6 (by decide) (by decide) _ 13 14 rfl rfl rfl _ (cpay_0_6 c arg0 harg0 x0) inb_S2x320x1024_S1x320x128_0_0_768 x, ?_⟩
    refine List.forall_mem_cons.2 ⟨fun x => diff_block x0 0 5 (by decide) (by decide) _ 7 11 rfl rfl rfl _ (cpay_0_5 c arg0 harg0 x0) inb_S2x320x1024_S1x320x128_0_0_640 x, ?_⟩
    refine List.forall_mem_cons.2 ⟨fun x => diff_block x0 0 4 (by decide) (by decide) _ 10 12 rfl rfl rfl _ (cpay_0_4 c arg0 harg0 x0) inb_S2x320x1024_S1x320x128_0_0_512 x, ?_⟩
    refine List.forall_mem_cons.2 ⟨fun x => diff_block x0 0 3 (by decide) (by decide) _ 6 9 rfl rfl rfl _ (cpay_0_3 c arg0 harg0 x0) inb_S2x320x1024_S1x320x128_0_0_384 x, ?_⟩
    refine List.forall_mem_cons.2 ⟨fun x => diff_block x0 0 2 (by decide) (by decide) _ 3 5 rfl rfl rfl _ (cpay_0_2 c arg0 harg0 x0) inb_S2x320x1024_S1x320x128_0_0_256 x, ?_⟩
    refine List.forall_mem_cons.2 ⟨fun x => diff_block x0 0 1 (by decide) (by decide) _ 4 8 rfl rfl rfl _ (cpay_0_1 c arg0 harg0 x0) inb_S2x320x1024_S1x320x128_0_0_128 x, ?_⟩
    refine List.forall_mem_cons.2 ⟨fun x => diff_block x0 0 0 (by decide) (by decide) _ 1 2 rfl rfl rfl _ (cpay_0_0 c arg0 harg0 x0) inb_S2x320x1024_S1x320x128_0_0_0 x, ?_⟩
    exact fun _ h => absurd h List.not_mem_nil
  · rw [eq_ix3 y]
    generalize y 0 = a, y 1 = r, y 2 = q
    change Fin 2 at a
    change Fin 1024 at q
    have hq : q.val / 128 < 8 := by omega
    generalize hk : q.val / 128 = k at hq
    fin_cases a <;> interval_cases k
    · exact ⟨_, .tail _ (.tail _ (.tail _ (.tail _ (.tail _ (.tail _ (.tail _ (.tail _ (.tail _ (.tail _ (.tail _ (.tail _ (.tail _ (.tail _ (.tail _ (.head _))))))))))))))), mem3 0 0 (by decide) inb_S2x320x1024_S1x320x128_0_0_0 r q (by omega) (by omega)⟩
    · exact ⟨_, .tail _ (.tail _ (.tail _ (.tail _ (.tail _ (.tail _ (.tail _ (.tail _ (.tail _ (.tail _ (.tail _ (.tail _ (.tail _ (.tail _ (.head _)))))))))))))), mem3 0 128 (by decide) inb_S2x320x1024_S1x320x128_0_0_128 r q (by omega) (by omega)⟩
    · exact ⟨_, .tail _ (.tail _ (.tail _ (.tail _ (.tail _ (.tail _ (.tail _ (.tail _ (.tail _ (.tail _ (.tail _ (.tail _ (.tail _ (.head _))))))))))))), mem3 0 256 (by decide) inb_S2x320x1024_S1x320x128_0_0_256 r q (by omega) (by omega)⟩
    · exact ⟨_, .tail _ (.tail _ (.tail _ (.tail _ (.tail _ (.tail _ (.tail _ (.tail _ (.tail _ (.tail _ (.tail _ (.tail _ (.head _)))))))))))), mem3 0 384 (by decide) inb_S2x320x1024_S1x320x128_0_0_384 r q (by omega) (by omega)⟩
    · exact ⟨_, .tail _ (.tail _ (.tail _ (.tail _ (.tail _ (.tail _ (.tail _ (.tail _ (.tail _ (.tail _ (.tail _ (.head _))))))))))), mem3 0 512 (by decide) inb_S2x320x1024_S1x320x128_0_0_512 r q (by omega) (by omega)⟩
    · exact ⟨_, .tail _ (.tail _ (.tail _ (.tail _ (.tail _ (.tail _ (.tail _ (.tail _ (.tail _ (.tail _ (.head _)))))))))), mem3 0 640 (by decide) inb_S2x320x1024_S1x320x128_0_0_640 r q (by omega) (by omega)⟩
    · exact ⟨_, .tail _ (.tail _ (.tail _ (.tail _ (.tail _ (.tail _ (.tail _ (.tail _ (.tail _ (.head _))))))))), mem3 0 768 (by decide) inb_S2x320x1024_S1x320x128_0_0_768 r q (by omega) (by omega)⟩
    · exact ⟨_, .tail _ (.tail _ (.tail _ (.tail _ (.tail _ (.tail _ (.tail _ (.tail _ (.head _)))))))), mem3 0 896 (by decide) inb_S2x320x1024_S1x320x128_0_0_896 r q (by omega) (by omega)⟩
    · exact ⟨_, .tail _ (.tail _ (.tail _ (.tail _ (.tail _ (.tail _ (.tail _ (.head _))))))), mem3 1 0 (by decide) inb_S2x320x1024_S1x320x128_1_0_0 r q (by omega) (by omega)⟩
    · exact ⟨_, .tail _ (.tail _ (.tail _ (.tail _ (.tail _ (.tail _ (.head _)))))), mem3 1 128 (by decide) inb_S2x320x1024_S1x320x128_1_0_128 r q (by omega) (by omega)⟩
    · exact ⟨_, .tail _ (.tail _ (.tail _ (.tail _ (.tail _ (.head _))))), mem3 1 256 (by decide) inb_S2x320x1024_S1x320x128_1_0_256 r q (by omega) (by omega)⟩
    · exact ⟨_, .tail _ (.tail _ (.tail _ (.tail _ (.head _)))), mem3 1 384 (by decide) inb_S2x320x1024_S1x320x128_1_0_384 r q (by omega) (by omega)⟩
    · exact ⟨_, .tail _ (.tail _ (.tail _ (.head _))), mem3 1 512 (by decide) inb_S2x320x1024_S1x320x128_1_0_512 r q (by omega) (by omega)⟩
    · exact ⟨_, .tail _ (.tail _ (.head _)), mem3 1 640 (by decide) inb_S2x320x1024_S1x320x128_1_0_640 r q (by omega) (by omega)⟩
    · exact ⟨_, .tail _ (.head _), mem3 1 768 (by decide) inb_S2x320x1024_S1x320x128_1_0_768 r q (by omega) (by omega)⟩
    · exact ⟨_, .head _, mem3 1 896 (by decide) inb_S2x320x1024_S1x320x128_1_0_896 r q (by omega) (by omega)⟩

/-- The scale buffer reads the scales. -/
theorem scale_read {κ : Kind} {sp : Space} (v : View sig κ sp S320x128 .f32) (f : v.ty.Contents (Elt Ideal)) (y : S320x128.Idx) :
    v.read (Elt Ideal) (v.writes (Elt Ideal) f (kernelRun0_A.sl.H2_1 c arg0 harg0 x0)) y = scaleG x0 y := by
  refine read_writes_eq v f (scaleG x0) y _ ?_ ?_
  · unfold kernelRun0_A.sl.H2_1
    refine List.forall_mem_cons.2 ⟨fun x => ?_, fun _ h => absurd h List.not_mem_nil⟩
    have e2 : (Rect.unit (s := S320x128) ![0, 0] S320x128.size inb_S320x128_S320x128_0_0).emb x = x := by
      funext b
      apply Fin.ext
      match b with
      | ⟨0, _⟩ => exact (show 0 + 1 * (x 0).val = (x 0).val by rw [Nat.zero_add, Nat.one_mul])
      | ⟨1, _⟩ => exact (show 0 + 1 * (x 1).val = (x 1).val by rw [Nat.zero_add, Nat.one_mul])
    refine Eq.trans ?_ (congrArg (scaleG x0) e2.symm)
    have h := r_41_apply c arg0 harg0 x0 (x 0)
    rw [kernelRun0_A.sl.r_41] at h
    simp only [k0_pay65, shapeCast_self]
    exact (bcol _ x).trans h
  · refine ⟨_, .head _, (Rect.mem_set_unit (inb := inb_S320x128_S320x128_0_0)).2 fun b => ?_⟩
    match b with
    | ⟨0, _⟩ => exact ⟨Nat.zero_le _, (Nat.zero_add 320).symm ▸ (y 0).isLt⟩
    | ⟨1, _⟩ => exact ⟨Nat.zero_le _, (Nat.zero_add 128).symm ▸ (y 1).isLt⟩

end Cert.KernelIdeal.Run
-- ==== Proof.KernelIdeal.Lhs.lean ====
module
public import proofs.«01_k».proof.Proof.KernelIdeal.TabOut
public import Idealize.ShloMosaic.Lib.VecWindow
public import Idealize.ShloMosaic.Lib.BitcastFour
@[expose] public section

/-! The left operands and the zero-point sums the tables body's loop leaves. -/
namespace Cert.KernelIdeal.Run
open Idealize.ShloMosaic Idealize.ShloMosaic.TcCoe Cert.KernelIdeal.Gen Idealize.SL Idealize.ShloMosaic.ValueIdx Cert.Spec Cert.Pieces

/-- Which columns a row of the left operand keeps. -/
def keep (r q : ℕ) : Prop := q % 4 = r % 4 ∧ q / 16 % 2 = r / 4 ∧ q < 960
instance (r q : ℕ) : Decidable (keep r q) := by unfold keep; infer_instance

/-- The left operand's integers: differences where kept, zero elsewhere. -/
noncomputable def lz (x0 : Vec Ideal S320x128 .bf16) (jb : Fin 80) (ρ : Fin 32) (q : ℕ) : ℤ :=
  if ρ.val / 8 < 3 ∧ keep (ρ.val % 8) q then
    mob (cz x0 ⟨jb.val % 2, by omega⟩ ⟨8 * (jb.val / 2) + ρ.val / 8, by omega⟩ ⟨q % 128, by omega⟩) (subs (q / 64))
  else 0

/-- The left operand's contents. -/
noncomputable def lhsG (x0 : Vec Ideal S320x128 .bf16) (y : S80x32x1024.Idx) : EReal := zr (512 * lz x0 (y 0) (y 1) (y 2).val)
/-- The zero-point sums' contents. -/
noncomputable def zsumG (x0 : Vec Ideal S320x128 .bf16) (y : S80x32x128.Idx) : EReal := zr (∑ q : Fin 1024, lz x0 (y 0) (y 1) q.val)

theorem cat0 {α : Type} {R C N : ℕ} (xs : List ((s : Shape) × (s.Idx → α))) (h : Shape.Concatenates (xs.map (·.1)) (⟨2, ![N, C]⟩ : Shape) 0)
    (n : Fin N) (q : Fin C) (k : ℕ) (hk : k < xs.length) (x₁ : (⟨2, ![R, C]⟩ : Shape).Idx → α) (hxk : xs[k] = ⟨⟨2, ![R, C]⟩, x₁⟩) (pre : ℕ)
    (hpre : (((xs.take k).map (·.1)).map fun s => if h : s.rank = 2 then s.size ((0 : Fin 2).cast h.symm) else 0).sum = pre)
    (r : Fin R) (e : pre + r.val = n.val) : concatenate ⟨2, ![N, C]⟩ 0 xs h (ix2 n q) = x₁ (ix2 r q) :=
  concatenate_apply_piece (t := ⟨2, ![N, C]⟩) 0 xs h (ix2 n q) k hk ⟨2, ![R, C]⟩ x₁ hxk rfl pre hpre (ix2 r q)
    (fun b hb => by
      match b with
      | ⟨0, _⟩ => exact absurd rfl hb
      | ⟨1, _⟩ => rfl) e

theorem bitcast_32_8 {R r n : ℕ} (x : (⟨2, ![r, n]⟩ : Shape).Idx → BitVec 32) (h : (⟨2, ![r, n]⟩ : Shape).Bitcasts 32 ⟨2, ![R, n]⟩ 8)
    (p : Fin R) (l : Fin n) (a : Fin r) (ha : a.val = p.val / 4) :
    bitcast ⟨2, ![R, n]⟩ 8 x h (ix2 p l) = (x (ix2 a l)).extractLsb' (8 * (p.val % 4)) 8 := by
  apply BitVec.eq_of_getLsbD_eq
  intro q hq
  rw [bitcast_getLsbD x h _ q hq (by decide)]
  have er : (⟨2, ![R, n]⟩ : Shape).row (ix2 p l) = p.val := rfl
  rw [BitVec.getLsbD_extractLsb']
  have e2 : ((⟨2, ![R, n]⟩ : Shape).row (ix2 p l) * 8 + q) % 32 = 8 * (p.val % 4) + q := by rw [er]; omega
  rw [e2]
  simp only [hq, decide_true, Bool.true_and]
  congr 2
  funext c
  match c with
  | ⟨0, _⟩ => exact Fin.ext ((h.srcIdx_row _ _ _ ⟨0, Nat.zero_lt_two⟩ rfl).trans (by rw [er]; show _ = a.val; omega))
  | ⟨1, _⟩ => exact Fin.ext (h.srcIdx_other _ _ _ ⟨1, Nat.one_lt_two⟩ (by show ¬ 1 + 2 = 2; omega))

theorem ofBits_512 : (Scalar.ofBits .f32 0x44000000#32 : Ideal .f32) = zr 512 := by
  show Ideal.ofBits _ _ = _
  unfold zr
  simp [Ideal.ofBits, Ideal.ieee, -EReal.coe_mul]; norm_num

theorem keep_mask : ∀ r : Fin 8, ∀ q : Fin 1024,
    andi (andi (cmpi .eq (andi (iota .tc S8x1024 32 [0] iota_S8x1024_d0_w32) (broadcast S8x1024 3#32)) (andi (iota .tc S8x1024 32 [1] iota_S8x1024_d1_w32) (broadcast S8x1024 3#32)))
      (cmpi .eq (shrsi (iota .tc S8x1024 32 [0] iota_S8x1024_d0_w32) (broadcast S8x1024 2#32))
        (andi (shrsi (iota .tc S8x1024 32 [1] iota_S8x1024_d1_w32) (broadcast S8x1024 4#32)) (broadcast S8x1024 1#32))))
      (cmpi .slt (iota .tc S8x1024 32 [1] iota_S8x1024_d1_w32) (broadcast S8x1024 960#32)) (ix2 r q) = if keep r.val q.val then 1#1 else 0#1 := by
  decide +kernel

theorem keep_apply (r : Fin 8) (q : Fin 1024) : (k0_pay14 : FVec Ideal S8x1024 .f32) (ix2 r q) = zr (if keep r.val q.val then 512 else 0) := by
  rw [k0_pay14]
  rw [select_apply, keep_mask r q]
  split
  · exact (select_one _ _).trans ofBits_512
  · refine (select_zero _ _).trans ?_
    exact scalar_zero.trans (by simp [zr])

end Cert.KernelIdeal.Run
-- ==== Proof.Bits.lean ====
module
public import proofs.«01_k».proof.Proof.Spec
@[expose] public section

/-! The transposition of four bit planes and the bytes of subset indicators cut from it. -/
namespace Cert.Bits

/-- The word moved into the first of two words by an exchange of bit groups. -/
def dlt (a b : BitVec 32) (j : ℕ) (m : BitVec 32) : BitVec 32 := ((a >>> j) ^^^ b) &&& m
def lo (a b : BitVec 32) (j : ℕ) (m : BitVec 32) : BitVec 32 := a ^^^ (dlt a b j m <<< j)
def hi (a b : BitVec 32) (j : ℕ) (m : BitVec 32) : BitVec 32 := b ^^^ dlt a b j m

/-- The four transposed words. -/
def xw (w : Fin 4 → BitVec 32) : Fin 4 → BitVec 32 := ![
  lo (lo (w 0) (w 1) 1 1431655765#32) (lo (w 2) (w 3) 1 1431655765#32) 2 858993459#32,
  lo (hi (w 0) (w 1) 1 1431655765#32) (hi (w 2) (w 3) 1 1431655765#32) 2 858993459#32,
  hi (lo (w 0) (w 1) 1 1431655765#32) (lo (w 2) (w 3) 1 1431655765#32) 2 858993459#32,
  hi (hi (w 0) (w 1) 1 1431655765#32) (hi (w 2) (w 3) 1 1431655765#32) 2 858993459#32]

theorem dlt_bit (a b : BitVec 32) (j : ℕ) (m : BitVec 32) (k : ℕ) :
    (dlt a b j m).getLsbD k = ((a.getLsbD (j + k) ^^ b.getLsbD k) && m.getLsbD k) := by
  simp [dlt]

theorem hi_bit (a b : BitVec 32) (j : ℕ) (m : BitVec 32) (k : ℕ) :
    (hi a b j m).getLsbD k = if m.getLsbD k then a.getLsbD (j + k) else b.getLsbD k := by
  rw [hi, BitVec.getLsbD_xor, dlt_bit]
  cases m.getLsbD k <;> cases a.getLsbD (j + k) <;> cases b.getLsbD k <;> rfl

theorem lo_bit (a b : BitVec 32) (j : ℕ) (m : BitVec 32) (k : ℕ) (hk : k < 32) :
    (lo a b j m).getLsbD k = if j ≤ k ∧ m.getLsbD (k - j) then b.getLsbD (k - j) else a.getLsbD k := by
  rw [lo, BitVec.getLsbD_xor, BitVec.getLsbD_shiftLeft, dlt_bit]
  by_cases h : j ≤ k
  · have e : j + (k - j) = k := by omega
    have h2 : ¬ k < j := by omega
    rw [e]
    simp only [hk, h, h2, decide_true, decide_false, Bool.not_false, Bool.true_and, true_and]
    cases m.getLsbD (k - j) <;> cases a.getLsbD k <;> cases b.getLsbD (k - j) <;> rfl
  · have h2 : k < j := by omega
    simp [h, h2]

theorem m1_bit : ∀ k : Fin 32, (1431655765#32 : BitVec 32).getLsbD k.val = decide (k.val % 2 = 0) := by decide
theorem m2_bit : ∀ k : Fin 32, (858993459#32 : BitVec 32).getLsbD k.val = decide (k.val % 4 < 2) := by decide
theorem m4_bit : ∀ k : Fin 32, (252645135#32 : BitVec 32).getLsbD k.val = decide (k.val % 8 < 4) := by decide

theorem hi1 (a b : BitVec 32) (k : ℕ) (hk : k < 32) :
    (hi a b 1 1431655765#32).getLsbD k = if k % 2 = 0 then a.getLsbD (k + 1) else b.getLsbD k := by
  rw [hi_bit, m1_bit ⟨k, hk⟩, Nat.add_comm]; simp
theorem lo1 (a b : BitVec 32) (k : ℕ) (hk : k < 32) :
    (lo a b 1 1431655765#32).getLsbD k = if k % 2 = 0 then a.getLsbD k else b.getLsbD (k - 1) := by
  rw [lo_bit _ _ _ _ _ hk, m1_bit ⟨k - 1, by omega⟩]
  by_cases h : k % 2 = 0
  · have : ¬ (1 ≤ k ∧ (k - 1) % 2 = 0) := by omega
    simp [h, this]
  · have : (1 ≤ k ∧ (k - 1) % 2 = 0) := by omega
    simp [h, this]
theorem hi2 (a b : BitVec 32) (k : ℕ) (hk : k < 32) :
    (hi a b 2 858993459#32).getLsbD k = if k % 4 < 2 then a.getLsbD (k + 2) else b.getLsbD k := by
  rw [hi_bit, m2_bit ⟨k, hk⟩, Nat.add_comm]; simp
theorem lo2 (a b : BitVec 32) (k : ℕ) (hk : k < 32) :
    (lo a b 2 858993459#32).getLsbD k = if k % 4 < 2 then a.getLsbD k else b.getLsbD (k - 2) := by
  rw [lo_bit _ _ _ _ _ hk, m2_bit ⟨k - 2, by omega⟩]
  by_cases h : k % 4 < 2
  · have : ¬ (2 ≤ k ∧ decide ((k - 2) % 4 < 2) = true) := fun h2 => by have := of_decide_eq_true h2.2; omega
    rw [if_neg this, if_pos h]
  · have : (2 ≤ k ∧ (k - 2) % 4 < 2) := by omega
    simp [h, this]

/-- Bit `p` of a nibble of word `i` is bit `i` of that nibble of plane `p`. -/
theorem xw_bit (w : Fin 4 → BitVec 32) (a : Fin 8) (p i : Fin 4) :
    (xw w i).getLsbD (4 * a.val + p.val) = (w p).getLsbD (4 * a.val + i.val) := by
  have ha := a.isLt
  fin_cases i <;> fin_cases p
  · -- word 0, bit 0
    show (lo _ _ 2 858993459#32).getLsbD (4 * a.val + 0) = (w 0).getLsbD (4 * a.val + 0)
    rw [lo2 _ _ _ (by omega), if_pos (by omega), lo1 _ _ _ (by omega), if_pos (by omega)]
    all_goals exact congrArg _ (by omega)
  · -- word 0, bit 1
    show (lo _ _ 2 858993459#32).getLsbD (4 * a.val + 1) = (w 1).getLsbD (4 * a.val + 0)
    rw [lo2 _ _ _ (by omega), if_pos (by omega), lo1 _ _ _ (by omega), if_neg (by omega)]
    all_goals exact congrArg _ (by omega)
  · -- word 0, bit 2
    show (lo _ _ 2 858993459#32).getLsbD (4 * a.val + 2) = (w 2).getLsbD (4 * a.val + 0)
    rw [lo2 _ _ _ (by omega), if_neg (by omega), lo1 _ _ _ (by omega), if_pos (by omega)]
    all_goals exact congrArg _ (by omega)
  · -- word 0, bit 3
    show (lo _ _ 2 858993459#32).getLsbD (4 * a.val + 3) = (w 3).getLsbD (4 * a.val + 0)
    rw [lo2 _ _ _ (by omega), if_neg (by omega), lo1 _ _ _ (by omega), if_neg (by omega)]
    all_goals exact congrArg _ (by omega)
  · -- word 1, bit 0
    show (lo _ _ 2 858993459#32).getLsbD (4 * a.val + 0) = (w 0).getLsbD (4 * a.val + 1)
    rw [lo2 _ _ _ (by omega), if_pos (by omega), hi1 _ _ _ (by omega), if_pos (by omega)]
    all_goals exact congrArg _ (by omega)
  · -- word 1, bit 1
    show (lo _ _ 2 858993459#32).getLsbD (4 * a.val + 1) = (w 1).getLsbD (4 * a.val + 1)
    rw [lo2 _ _ _ (by omega), if_pos (by omega), hi1 _ _ _ (by omega), if_neg (by omega)]
    all_goals exact congrArg _ (by omega)
  · -- word 1, bit 2
    show (lo _ _ 2 858993459#32).getLsbD (4 * a.val + 2) = (w 2).getLsbD (4 * a.val + 1)
    rw [lo2 _ _ _ (by omega), if_neg (by omega), hi1 _ _ _ (by omega), if_pos (by omega)]
    all_goals exact congrArg _ (by omega)
  · -- word 1, bit 3
    show (lo _ _ 2 858993459#32).getLsbD (4 * a.val + 3) = (w 3).getLsbD (4 * a.val + 1)
    rw [lo2 _ _ _ (by omega), if_neg (by omega), hi1 _ _ _ (by omega), if_neg (by omega)]
    all_goals exact congrArg _ (by omega)
  · -- word 2, bit 0
    show (hi _ _ 2 858993459#32).getLsbD (4 * a.val + 0) = (w 0).getLsbD (4 * a.val + 2)
    rw [hi2 _ _ _ (by omega), if_pos (by omega), lo1 _ _ _ (by omega), if_pos (by omega)]
    all_goals exact congrArg _ (by omega)
  · -- word 2, bit 1
    show (hi _ _ 2 858993459#32).getLsbD (4 * a.val + 1) = (w 1).getLsbD (4 * a.val + 2)
    rw [hi2 _ _ _ (by omega), if_pos (by omega), lo1 _ _ _ (by omega), if_neg (by omega)]
    all_goals exact congrArg _ (by omega)
  · -- word 2, bit 2
    show (hi _ _ 2 858993459#32).getLsbD (4 * a.val + 2) = (w 2).getLsbD (4 * a.val + 2)
    rw [hi2 _ _ _ (by omega), if_neg (by omega), lo1 _ _ _ (by omega), if_pos (by omega)]
    all_goals exact congrArg _ (by omega)
  · -- word 2, bit 3
    show (hi _ _ 2 858993459#32).getLsbD (4 * a.val + 3) = (w 3).getLsbD (4 * a.val + 2)
    rw [hi2 _ _ _ (by omega), if_neg (by omega), lo1 _ _ _ (by omega), if_neg (by omega)]
    all_goals exact congrArg _ (by omega)
  · -- word 3, bit 0
    show (hi _ _ 2 858993459#32).getLsbD (4 * a.val + 0) = (w 0).getLsbD (4 * a.val + 3)
    rw [hi2 _ _ _ (by omega), if_pos (by omega), hi1 _ _ _ (by omega), if_pos (by omega)]
    all_goals exact congrArg _ (by omega)
  · -- word 3, bit 1
    show (hi _ _ 2 858993459#32).getLsbD (4 * a.val + 1) = (w 1).getLsbD (4 * a.val + 3)
    rw [hi2 _ _ _ (by omega), if_pos (by omega), hi1 _ _ _ (by omega), if_neg (by omega)]
    all_goals exact congrArg _ (by omega)
  · -- word 3, bit 2
    show (hi _ _ 2 858993459#32).getLsbD (4 * a.val + 2) = (w 2).getLsbD (4 * a.val + 3)
    rw [hi2 _ _ _ (by omega), if_neg (by omega), hi1 _ _ _ (by omega), if_pos (by omega)]
    all_goals exact congrArg _ (by omega)
  · -- word 3, bit 3
    show (hi _ _ 2 858993459#32).getLsbD (4 * a.val + 3) = (w 3).getLsbD (4 * a.val + 3)
    rw [hi2 _ _ _ (by omega), if_neg (by omega), hi1 _ _ _ (by omega), if_neg (by omega)]
    all_goals exact congrArg _ (by omega)

/-- The feature words: every bit of one says that a subset's words all have that bit. -/
def fw (x : Fin 4 → BitVec 32) (S : ℕ) : BitVec 32 :=
  match S with
  | 1 => x 0 | 2 => x 1 | 4 => x 2 | 8 => x 3
  | 3 => x 1 &&& x 0 | 5 => x 2 &&& x 0 | 6 => x 2 &&& x 1 | 9 => x 3 &&& x 0 | 10 => x 3 &&& x 1 | 12 => x 3 &&& x 2
  | 7 => x 2 &&& x 1 &&& x 0 | 11 => x 3 &&& x 1 &&& x 0 | 13 => x 3 &&& x 2 &&& x 0 | 14 => x 3 &&& x 2 &&& x 1
  | _ => x 3 &&& x 2 &&& x 1 &&& x 0

/-- The words a half byte is read from. -/
def half (w : Fin 4 → BitVec 32) (par : ℕ) (i : Fin 4) : BitVec 32 :=
  match par with
  | 0 => xw w i &&& 252645135#32
  | _ => (xw w i >>> 4) &&& 252645135#32

/-- A nibble of a word. -/
def nib (w : BitVec 32) (n : ℕ) : ℕ := ((w.getLsbD (4 * n)).toNat + 2 * (w.getLsbD (4 * n + 1)).toNat) + (4 * (w.getLsbD (4 * n + 2)).toNat + 8 * (w.getLsbD (4 * n + 3)).toNat)

/-- Whether a subset lies in an entry. -/
def sub (S e : ℕ) : Bool := S &&& e == S

/-- The byte of indicators: bit `p` says the subset lies in plane `p`'s nibble. -/
def ind (w : Fin 4 → BitVec 32) (S n : ℕ) : ℕ :=
  ((sub S (nib (w 0) n)).toNat + 2 * (sub S (nib (w 1) n)).toNat) + (4 * (sub S (nib (w 2) n)).toNat + 8 * (sub S (nib (w 3) n)).toNat)

theorem nib_lt (w : BitVec 32) (n : ℕ) : nib w n < 16 := by
  unfold nib
  have := Bool.toNat_le (w.getLsbD (4 * n)); have := Bool.toNat_le (w.getLsbD (4 * n + 1)); have := Bool.toNat_le (w.getLsbD (4 * n + 2)); have := Bool.toNat_le (w.getLsbD (4 * n + 3))
  omega

theorem ind_lt (w : Fin 4 → BitVec 32) (S n : ℕ) : ind w S n < 16 := by
  unfold ind
  have := Bool.toNat_le (sub S (nib (w 0) n)); have := Bool.toNat_le (sub S (nib (w 1) n)); have := Bool.toNat_le (sub S (nib (w 2) n)); have := Bool.toNat_le (sub S (nib (w 3) n))
  omega

theorem four (c0 c1 c2 c3 : Bool) : ∀ q : Fin 8, (BitVec.ofNat 8 ((c0.toNat + 2 * c1.toNat) + (4 * c2.toNat + 8 * c3.toNat))).getLsbD q.val =
    (match q.val with | 0 => c0 | 1 => c1 | 2 => c2 | 3 => c3 | _ => false) := by
  revert c0 c1 c2 c3; decide

theorem sub_bits (S : Fin 16) (c0 c1 c2 c3 : Bool) : sub S.val ((c0.toNat + 2 * c1.toNat) + (4 * c2.toNat + 8 * c3.toNat)) =
    ((!S.val.testBit 0 || c0) && (!S.val.testBit 1 || c1) && (!S.val.testBit 2 || c2) && (!S.val.testBit 3 || c3)) := by
  revert S c0 c1 c2 c3; decide +kernel

theorem fw_bit (x : Fin 4 → BitVec 32) (S : Fin 16) (hS : S.val ≠ 0) (k : ℕ) : (fw x S.val).getLsbD k =
    ((!S.val.testBit 0 || (x 0).getLsbD k) && (!S.val.testBit 1 || (x 1).getLsbD k) && (!S.val.testBit 2 || (x 2).getLsbD k) && (!S.val.testBit 3 || (x 3).getLsbD k)) := by
  generalize h0 : (x 0).getLsbD k = c0
  generalize h1 : (x 1).getLsbD k = c1
  generalize h2 : (x 2).getLsbD k = c2
  generalize h3 : (x 3).getLsbD k = c3
  fin_cases S <;> first
    | exact absurd rfl hS
    | (simp only [fw, BitVec.getLsbD_and, h0, h1, h2, h3]; clear h0 h1 h2 h3; revert c0 c1 c2 c3; decide)

theorem half_bit (w : Fin 4 → BitVec 32) (par : Fin 2) (i : Fin 4) (b : Fin 4) (q : Fin 8) :
    (half w par.val i).getLsbD (8 * b.val + q.val) = (decide (q.val < 4) && (w ⟨q.val % 4, by omega⟩).getLsbD (4 * (2 * b.val + par.val) + i.val)) := by
  have e : (252645135#32 : BitVec 32).getLsbD (8 * b.val + q.val) = decide (q.val < 4) := by
    rw [m4_bit ⟨8 * b.val + q.val, by omega⟩]; exact decide_eq_decide.2 (by dsimp only; omega)
  by_cases h : q.val < 4
  · have hb := xw_bit w ⟨2 * b.val + par.val, by omega⟩ ⟨q.val % 4, by omega⟩ i
    dsimp only at hb
    match par with
    | 0 =>
      show (xw w i &&& 252645135#32).getLsbD _ = _
      rw [BitVec.getLsbD_and, e, decide_eq_true h, Bool.and_true, Bool.true_and, ← hb]
      exact congrArg _ (by show _ = 4 * (2 * b.val + 0) + q.val % 4; omega)
    | 1 =>
      show ((xw w i >>> 4) &&& 252645135#32).getLsbD _ = _
      rw [BitVec.getLsbD_and, BitVec.getLsbD_ushiftRight, e, decide_eq_true h, Bool.and_true, Bool.true_and, ← hb]
      exact congrArg _ (by show _ = 4 * (2 * b.val + 1) + q.val % 4; omega)
  · match par with
    | 0 => show (xw w i &&& 252645135#32).getLsbD _ = _; rw [BitVec.getLsbD_and, e, decide_eq_false h]; simp
    | 1 => show ((xw w i >>> 4) &&& 252645135#32).getLsbD _ = _; rw [BitVec.getLsbD_and, e, decide_eq_false h]; simp

theorem byte_eq (w : Fin 4 → BitVec 32) (par : Fin 2) (S : Fin 16) (hS : S.val ≠ 0) (b : Fin 4) :
    (fw (half w par.val) S.val).extractLsb' (8 * b.val) 8 = BitVec.ofNat 8 (ind w S.val (2 * b.val + par.val)) := by
  apply BitVec.eq_of_getLsbD_eq
  intro q hq
  rw [BitVec.getLsbD_extractLsb', decide_eq_true hq, Bool.true_and, fw_bit _ S hS, ind, four _ _ _ _ ⟨q, hq⟩]
  have H := fun i => half_bit w par i b ⟨q, hq⟩
  dsimp only at H
  rw [H 0, H 1, H 2, H 3]
  unfold nib
  rw [sub_bits, sub_bits, sub_bits, sub_bits]
  have hz : S.val = 0 → False := hS
  match q, hq with
  | 0, _ => simp
  | 1, _ => simp
  | 2, _ => simp
  | 3, _ => simp
  | q + 4, h =>
    rw [decide_eq_false (show ¬ q + 4 < 4 by omega)]
    simp only [Bool.false_and, Bool.or_false]
    clear H hz hq h
    revert S
    decide

end Cert.Bits
-- ==== Proof.KernelIdeal.IntSum.lean ====
module
public import proofs.«01_k».proof.Proof.KernelIdeal.Lhs
public import proofs.«01_k».proof.Proof.Bits
@[expose] public section

/-! The integer sums of the product: differences times indicator bytes telescope to table codes. -/
namespace Cert.KernelIdeal.Run
open Idealize.ShloMosaic Idealize.ShloMosaic.TcCoe Cert.KernelIdeal.Gen Idealize.SL Idealize.ShloMosaic.ValueIdx Cert.Spec Cert.Pieces Cert.Bits

theorem subsum (f : ℕ → ℤ) (e : ℕ) (he : e < 16) :
    ∑ i ∈ Finset.range 15, mob f (subs i) * ((sub (subs i) e).toNat : ℤ) = f e - f 0 := by
  interval_cases e <;>
    (simp only [Finset.sum_range_succ, Finset.sum_range_zero, subs, List.getD_cons_zero, List.getD_cons_succ, mob_1, mob_2, mob_3, mob_4, mob_5, mob_6, mob_7, mob_8, mob_9, mob_10, mob_11, mob_12, mob_13, mob_14, mob_15, sub]
     simp
     try ring)

theorem allsum (f : ℕ → ℤ) : ∑ i ∈ Finset.range 15, mob f (subs i) = f 15 - f 0 := by
  have h := subsum f 15 (by decide)
  refine Eq.trans (Finset.sum_congr rfl fun i hi => ?_) h
  have : sub (subs i) 15 = true := by
    have hi := Finset.mem_range.1 hi
    interval_cases i <;> decide
  rw [this]; simp

theorem sum_split (n m : ℕ) (f : ℕ → ℤ) : ∑ q ∈ Finset.range (n * m), f q = ∑ i ∈ Finset.range n, ∑ v ∈ Finset.range m, f (i * m + v) := by
  induction n with
  | zero => simp
  | succ n ih => rw [Nat.succ_mul, Finset.sum_range_add, ih, Finset.sum_range_succ]

theorem sum64 (G : ℕ → ℤ) (b h : ℕ) (hb : b < 4) (hh : h < 2) :
    ∑ v ∈ Finset.range 64, (if v % 4 = b ∧ v / 16 % 2 = h then G v else 0) = ∑ par ∈ Finset.range 2, ∑ s ∈ Finset.range 4, G (32 * par + 16 * h + 4 * s + b) := by
  interval_cases b <;> interval_cases h <;>
    (simp only [Finset.sum_range_succ, Finset.sum_range_zero]; norm_num; try ring)

theorem sum_block (G : ℕ → ℕ → ℤ) (b h : ℕ) (hb : b < 4) (hh : h < 2) (F : ℕ → ℤ)
    (hF : ∀ i v, i < 15 → v < 64 → F (i * 64 + v) = if v % 4 = b ∧ v / 16 % 2 = h then G i v else 0) :
    ∑ q ∈ Finset.range 960, F q = ∑ par ∈ Finset.range 2, ∑ s ∈ Finset.range 4, ∑ i ∈ Finset.range 15, G i (32 * par + 16 * h + 4 * s + b) := by
  rw [show 960 = 15 * 64 from rfl, sum_split]
  have e : ∀ i ∈ Finset.range 15, ∑ v ∈ Finset.range 64, F (i * 64 + v) = ∑ par ∈ Finset.range 2, ∑ s ∈ Finset.range 4, G i (32 * par + 16 * h + 4 * s + b) := by
    intro i hi
    rw [← sum64 (G i) b h hb hh]
    exact Finset.sum_congr rfl fun v hv => hF i v (Finset.mem_range.1 hi) (Finset.mem_range.1 hv)
  rw [Finset.sum_congr rfl e, Finset.sum_comm]
  exact Finset.sum_congr rfl fun par _ => Finset.sum_comm

theorem s4 (f : ℕ → ℤ) : ∑ p ∈ Finset.range 4, f p = f 0 + f 1 + f 2 + f 3 := by simp [Finset.sum_range_succ]

/-- The quad column `v` of a block belongs to. -/
def kv (j2 : Fin 2) (v : ℕ) : Fin 32 := ⟨16 * j2.val + 2 * (v / 4 % 8) + v / 32 % 2, by omega⟩

theorem lz_at (x0 : Vec Ideal S320x128 .bf16) (k : Fin 40) (j2 : Fin 2) (t : Fin 3) (h : Fin 2) (b : Fin 4) (jb : Fin 80) (ρ : Fin 32) (r : Fin 320)
    (hj : jb.val = 2 * k.val + j2.val) (hρ : ρ.val = 8 * t.val + 4 * h.val + b.val) (hr : r.val = 8 * k.val + t.val) (i v : ℕ) (hi : i < 15) (hv : v < 64) :
    lz x0 jb ρ (i * 64 + v) = if v % 4 = b.val ∧ v / 16 % 2 = h.val then mob (gz (row x0 r) (kv j2 v)) (subs i) else 0 := by
  have h1 : ρ.val / 8 < 3 := by omega
  have h2 : ρ.val % 8 % 4 = b.val := by omega
  have h3 : ρ.val % 8 / 4 = h.val := by omega
  have hk : (ρ.val / 8 < 3 ∧ keep (ρ.val % 8) (i * 64 + v)) ↔ (v % 4 = b.val ∧ v / 16 % 2 = h.val) := by
    unfold keep; rw [h2, h3]; omega
  unfold lz
  rw [if_congr hk rfl rfl]
  refine if_congr Iff.rfl ?_ rfl
  have e1 : (i * 64 + v) / 64 = i := by omega
  have e2 : (⟨jb.val % 2, by omega⟩ : Fin 2) = j2 := Fin.ext (by dsimp only; omega)
  have e3 : (⟨8 * (jb.val / 2) + ρ.val / 8, by omega⟩ : Fin 320) = r := Fin.ext (by dsimp only; omega)
  have e4 : kq j2 ⟨(i * 64 + v) % 128, by omega⟩ = kv j2 v := Fin.ext (by simp only [kq, kv]; omega)
  rw [e1, e2, e3]
  unfold cz
  rw [e4]

/-- The sum of the codes of a half group's quads that a row of the product collects. -/
noncomputable def Asum (u : Fin 128 → EReal) (j2 h : Fin 2) (e : ℕ → ℕ → ℕ → ℕ) : ℤ :=
  ∑ par ∈ Finset.range 2, ∑ s ∈ Finset.range 4, ∑ p ∈ Finset.range 4, 2 ^ p * gz u (kv j2 (32 * par + 16 * h.val + 4 * s)) (e par s p)

theorem prod_sum (x0 : Vec Ideal S320x128 .bf16) (k : Fin 40) (j2 : Fin 2) (t : Fin 3) (h : Fin 2) (b : Fin 4) (jb : Fin 80) (ρ : Fin 32) (r : Fin 320)
    (hj : jb.val = 2 * k.val + j2.val) (hρ : ρ.val = 8 * t.val + 4 * h.val + b.val) (hr : r.val = 8 * k.val + t.val) (w : ℕ → Fin 4 → BitVec 32) :
    ∑ q ∈ Finset.range 960, lz x0 jb ρ q * (ind (w (q % 32 / 4)) (subs (q / 64)) (2 * (q % 4) + q / 32 % 2) : ℤ)
      = Asum (row x0 r) j2 h fun par s p => nib (w (4 * h.val + s) ⟨p % 4, by omega⟩) (2 * b.val + par) := by
  rw [sum_block (fun i v => mob (gz (row x0 r) (kv j2 v)) (subs i) * (ind (w (v % 32 / 4)) (subs i) (2 * (v % 4) + v / 32 % 2) : ℤ)) b.val h.val b.isLt h.isLt _ ?_]
  · refine Finset.sum_congr rfl fun par hp => Finset.sum_congr rfl fun s hs => ?_
    have hp := Finset.mem_range.1 hp
    have hs := Finset.mem_range.1 hs
    have hb := b.isLt
    have hh := h.isLt
    have e1 : (32 * par + 16 * h.val + 4 * s + b.val) % 32 / 4 = 4 * h.val + s := by omega
    have e2 : (32 * par + 16 * h.val + 4 * s + b.val) % 4 = b.val := by omega
    have e3 : (32 * par + 16 * h.val + 4 * s + b.val) / 32 % 2 = par := by omega
    have e4 : kv j2 (32 * par + 16 * h.val + 4 * s + b.val) = kv j2 (32 * par + 16 * h.val + 4 * s) := Fin.ext (by simp only [kv]; omega)
    simp only [e1, e2, e3, e4]
    have key : ∀ p : Fin 4, ∑ i ∈ Finset.range 15, mob (gz (row x0 r) (kv j2 (32 * par + 16 * h.val + 4 * s))) (subs i) * ((sub (subs i) (nib (w (4 * h.val + s) p) (2 * b.val + par))).toNat : ℤ)
        = gz (row x0 r) (kv j2 (32 * par + 16 * h.val + 4 * s)) (nib (w (4 * h.val + s) p) (2 * b.val + par)) := by
      intro p
      rw [subsum _ _ (nib_lt _ _), gz_zero, sub_zero]
    rw [s4]
    rw [show (⟨0 % 4, by omega⟩ : Fin 4) = 0 from rfl, show (⟨1 % 4, by omega⟩ : Fin 4) = 1 from rfl, show (⟨2 % 4, by omega⟩ : Fin 4) = 2 from rfl, show (⟨3 % 4, by omega⟩ : Fin 4) = 3 from rfl]
    rw [← key 0, ← key 1, ← key 2, ← key 3, Finset.mul_sum, Finset.mul_sum, Finset.mul_sum, Finset.mul_sum, ← Finset.sum_add_distrib, ← Finset.sum_add_distrib, ← Finset.sum_add_distrib]
    refine Finset.sum_congr rfl fun i _ => ?_
    unfold ind
    push_cast
    ring
  · intro i v hi hv
    have e1 : (i * 64 + v) % 32 / 4 = v % 32 / 4 := by omega
    have e2 : (i * 64 + v) % 4 = v % 4 := by omega
    have e3 : (i * 64 + v) / 32 % 2 = v / 32 % 2 := by omega
    have e5 : (i * 64 + v) / 64 = i := by omega
    rw [lz_at x0 k j2 t h b jb ρ r hj hρ hr i v hi hv, e1, e2, e3, e5]
    split
    · rfl
    · exact zero_mul _

theorem lz_high (x0 : Vec Ideal S320x128 .bf16) (jb : Fin 80) (ρ : Fin 32) (q : ℕ) (hq : 960 ≤ q) : lz x0 jb ρ q = 0 := by
  unfold lz
  exact if_neg fun h => by have := h.2.2.2; omega

theorem zero_sum (x0 : Vec Ideal S320x128 .bf16) (k : Fin 40) (j2 : Fin 2) (t : Fin 3) (h : Fin 2) (b : Fin 4) (jb : Fin 80) (ρ : Fin 32) (r : Fin 320)
    (hj : jb.val = 2 * k.val + j2.val) (hρ : ρ.val = 8 * t.val + 4 * h.val + b.val) (hr : r.val = 8 * k.val + t.val) :
    ∑ q : Fin 1024, lz x0 jb ρ q.val = ∑ par ∈ Finset.range 2, ∑ s ∈ Finset.range 4, gz (row x0 r) (kv j2 (32 * par + 16 * h.val + 4 * s)) 15 := by
  rw [Fin.sum_univ_eq_sum_range (fun q => lz x0 jb ρ q) 1024, show 1024 = 960 + 64 from rfl, Finset.sum_range_add]
  have h0 : ∑ x ∈ Finset.range 64, lz x0 jb ρ (960 + x) = 0 := Finset.sum_eq_zero fun x _ => lz_high x0 jb ρ _ (by omega)
  rw [h0, add_zero, sum_block (fun i v => mob (gz (row x0 r) (kv j2 v)) (subs i)) b.val h.val b.isLt h.isLt _ (fun i v hi hv => lz_at x0 k j2 t h b jb ρ r hj hρ hr i v hi hv)]
  refine Finset.sum_congr rfl fun par hp => Finset.sum_congr rfl fun s hs => ?_
  have hb := b.isLt
  have hh := h.isLt
  have hp := Finset.mem_range.1 hp
  have hs := Finset.mem_range.1 hs
  have e4 : kv j2 (32 * par + 16 * h.val + 4 * s + b.val) = kv j2 (32 * par + 16 * h.val + 4 * s) := Fin.ext (by simp only [kv]; omega)
  rw [e4, allsum, gz_zero, sub_zero]

end Cert.KernelIdeal.Run
-- ==== Proof.KernelIdeal.LhsB.lean ====
module
public import proofs.«01_k».proof.Proof.KernelIdeal.Lhs
public import proofs.«01_k».proof.Proof.Gen.KernelIdeal.Loops
public import Idealize.ShloMosaic.Lib.MatmulPlain
@[expose] public section

/-! The loop of the tables body: every trip stores two blocks of the left operand and of the zero-point sums. -/
namespace Cert.KernelIdeal.Run
open Idealize.ShloMosaic Idealize.ShloMosaic.TcCoe Cert.KernelIdeal.Gen Idealize.SL Idealize.ShloMosaic.ValueIdx Cert.Spec Cert.Pieces

theorem zr_mul (a b : ℤ) : zr a * zr b = zr (a * b) := by simp [zr]
theorem zr_zero : zr 0 = 0 := by simp [zr]
theorem zr_add (a b : ℤ) : zr a + zr b = zr (a + b) := by simp [zr]
theorem zr_sum {ι : Type} (s : Finset ι) (f : ι → ℤ) : ∑ i ∈ s, zr (f i) = zr (∑ i ∈ s, f i) := by
  classical
  induction s using Finset.induction_on with
  | empty => simp [zr]
  | insert a s ha ih => rw [Finset.sum_insert ha, Finset.sum_insert ha, ih, zr_add]

theorem mul_keep (B : FVec Ideal S8x1024 .f32) (r : Fin 8) (q : Fin 1024) (z : ℤ) (h : B (ix2 r q) = zr z) :
    mulf B k0_pay14 (ix2 r q) = zr (512 * if keep r.val q.val then z else 0) := by
  show (B (ix2 r q) : EReal) * (k0_pay14 : FVec Ideal S8x1024 .f32) (ix2 r q) = _
  rw [h, keep_apply, zr_mul]
  refine congrArg zr ?_
  split <;> ring

/-- A row of the loaded block, times the kept columns. -/
theorem keep_row (v : Vec Ideal S1x8x1024 .f32) (t : Fin 8) (o : ℕ) (ho : o = t.val) (m : ℕ → ℤ) (hv : ∀ q : Fin 1024, v (ix3 0 t q) = zr (m q.val)) (hs) (r : Fin 8) (q : Fin 1024) :
    mulf (broadcastTo S8x1024 (extractStridedSlice S1x1024 ![o, 0] (shapeCast S8x1024 v shapeCasts_S1x8x1024_S8x1024) hs) broadcasts_S1x1024_S8x1024 : FVec Ideal S8x1024 .f32) k0_pay14 (ix2 r q)
      = zr (512 * if keep r.val q.val then m q.val else 0) := by
  refine mul_keep _ r q (m q.val) ?_
  rw [broadcastTo_1b_ab_apply, slice2_axis0_apply o _ hs 0 q t (by rw [ho]; rfl), shapeCast_1ab_ab_apply]
  exact hv q

theorem cat4 (x : Fin 4 → S8x1024.Idx → EReal) (h : Shape.Concatenates [S8x1024, S8x1024, S8x1024, S8x1024] S32x1024 0) (ρ : Fin 32) (q : Fin 1024)
    (t : Fin 4) (r : Fin 8) (hρ : 8 * t.val + r.val = ρ.val) :
    concatenate S32x1024 0 [⟨S8x1024, x 0⟩, ⟨S8x1024, x 1⟩, ⟨S8x1024, x 2⟩, ⟨S8x1024, x 3⟩] h (ix2 ρ q) = x t (ix2 r q) := by
  have hk : [(⟨S8x1024, x 0⟩ : (s : Shape) × (s.Idx → EReal)), ⟨S8x1024, x 1⟩, ⟨S8x1024, x 2⟩, ⟨S8x1024, x 3⟩][t.val]'(t.isLt) = ⟨S8x1024, x t⟩ := by
    fin_cases t <;> rfl
  refine cat0 (R := 8) (C := 1024) (N := 32) [⟨S8x1024, x 0⟩, ⟨S8x1024, x 1⟩, ⟨S8x1024, x 2⟩, ⟨S8x1024, x 3⟩] h ρ q t.val t.isLt _ hk (8 * t.val) ?_ r hρ
  fin_cases t <;> rfl

/-- The block of the left operand a trip stores. -/
theorem pay5_apply (v v' v'' : Vec Ideal S1x8x1024 .f32) (m : ℕ → ℕ → ℤ)
    (h0 : ∀ q : Fin 1024, v (ix3 0 0 q) = zr (m 0 q.val)) (h1 : ∀ q : Fin 1024, v' (ix3 0 1 q) = zr (m 1 q.val)) (h2 : ∀ q : Fin 1024, v'' (ix3 0 2 q) = zr (m 2 q.val))
    (ρ : Fin 32) (q : Fin 1024) :
    k0_pay5 k0_pay14 v v' v'' (ix2 ρ q) = zr (512 * if ρ.val / 8 < 3 ∧ keep (ρ.val % 8) q.val then m (ρ.val / 8) q.val else 0) := by
  let w : Fin 4 → S8x1024.Idx → EReal := ![
    mulf (broadcastTo S8x1024 (extractStridedSlice S1x1024 ![0, 0] (shapeCast S8x1024 v shapeCasts_S1x8x1024_S8x1024) slices_S8x1024_o0_0_S1x1024) broadcasts_S1x1024_S8x1024 : FVec Ideal S8x1024 .f32) k0_pay14,
    mulf (broadcastTo S8x1024 (extractStridedSlice S1x1024 ![1, 0] (shapeCast S8x1024 v' shapeCasts_S1x8x1024_S8x1024) slices_S8x1024_o1_0_S1x1024) broadcasts_S1x1024_S8x1024 : FVec Ideal S8x1024 .f32) k0_pay14,
    mulf (broadcastTo S8x1024 (extractStridedSlice S1x1024 ![2, 0] (shapeCast S8x1024 v'' shapeCasts_S1x8x1024_S8x1024) slices_S8x1024_o2_0_S1x1024) broadcasts_S1x1024_S8x1024 : FVec Ideal S8x1024 .f32) k0_pay14,
    broadcast S8x1024 (Scalar.ofBits .f32 0x00000000#32 : Ideal .f32)]
  have main : ∀ (t : Fin 4) (r : Fin 8), 8 * t.val + r.val = ρ.val → k0_pay5 k0_pay14 v v' v'' (ix2 ρ q) = zr (512 * if t.val < 3 ∧ keep r.val q.val then m t.val q.val else 0) := by
    intro t r hρ
    have e : k0_pay5 k0_pay14 v v' v'' (ix2 ρ q) = w t (ix2 r q) := by
      rw [k0_pay5]
      exact cat4 w concatenates_S8x1024_S8x1024_S8x1024_S8x1024_S32x1024_d0 ρ q t r hρ
    refine e.trans ?_
    fin_cases t
    · refine (keep_row v 0 0 rfl (m 0) h0 _ r q).trans ?_
      simp
    · refine (keep_row v' 1 1 rfl (m 1) h1 _ r q).trans ?_
      simp
    · refine (keep_row v'' 2 2 rfl (m 2) h2 _ r q).trans ?_
      simp
    · refine scalar_zero.trans ?_
      simp [zr]
  exact main ⟨ρ.val / 8, by omega⟩ ⟨ρ.val % 8, by omega⟩ (by show 8 * (ρ.val / 8) + ρ.val % 8 = ρ.val; omega)

/-- An eight-bit float of a small byte is the byte over 512. -/
theorem fp8_small : ∀ b : Fin 16, Ideal.ofBits .fp8e4m3 (BitVec.ofNat 8 b.val) = ((((b.val : ℤ) : ℝ) / 512 : ℝ) : EReal) := by
  intro b
  fin_cases b <;> (simp [Ideal.ofBits, Ideal.e4m3fn, Ideal.ieee, -EReal.coe_mul]; try norm_num)

theorem ones_apply (k : Fin 1024) (l : Fin 128) : (k0_pay3 : FVec Ideal S1024x128 .fp8e4m3) (ix2 k l) = (((1 : ℤ) : ℝ) / 512 : ℝ) := by
  rw [k0_pay3]
  show Ideal.ofBits .fp8e4m3 (bitcast S1024x128 8 (broadcast S256x128 16843009#32) bitcasts_S256x128_w32_S1024x128_w8 (ix2 k l)) = _
  rw [bitcast_32_8 (R := 1024) (r := 256) (n := 128) _ bitcasts_S256x128_w32_S1024x128_w8 k l ⟨k.val / 4, by omega⟩ rfl]
  have hb : (broadcast S256x128 16843009#32 (ix2 ⟨k.val / 4, by omega⟩ l)).extractLsb' (8 * (k.val % 4)) 8 = BitVec.ofNat 8 1 := by
    have h4 : k.val % 4 < 4 := Nat.mod_lt _ (by norm_num)
    generalize k.val % 4 = b at h4
    show (16843009#32).extractLsb' (8 * b) 8 = _
    interval_cases b <;> decide
  rw [hb]
  exact fp8_small 1

theorem zr_div (a b : ℤ) : zr (512 * a) * ((((b : ℤ) : ℝ) / 512 : ℝ) : EReal) = zr (a * b) := by
  unfold zr
  rw [← EReal.coe_mul]
  congr 1
  push_cast
  ring

theorem pay7_apply (v v' v'' : Vec Ideal S1x8x1024 .f32) (m : ℕ → ℕ → ℤ)
    (h0 : ∀ q : Fin 1024, v (ix3 0 0 q) = zr (m 0 q.val)) (h1 : ∀ q : Fin 1024, v' (ix3 0 1 q) = zr (m 1 q.val)) (h2 : ∀ q : Fin 1024, v'' (ix3 0 2 q) = zr (m 2 q.val))
    (ρ : Fin 32) (l : Fin 128) :
    k0_pay7 k0_pay14 k0_pay3 v v' v'' (ix2 ρ l) = zr (∑ q : Fin 1024, if ρ.val / 8 < 3 ∧ keep (ρ.val % 8) q.val then m (ρ.val / 8) q.val else 0) := by
  rw [k0_pay7]
  refine (Ideal.matmul_plain_apply (M := 32) (K := 1024) (N := 128) none (k0_pay5 k0_pay14 v v' v'') k0_pay3 _ ρ l).trans ?_
  have hz : (constant S32x128 .f32 0x00000000#32 : FVec Ideal S32x128 .f32) (ix2 ρ l) = 0 := scalar_zero
  rw [hz, zero_add, ← zr_sum]
  refine Finset.sum_congr rfl fun q _ => ?_
  rw [pay5_apply v v' v'' m h0 h1 h2 ρ q, ones_apply, zr_div, mul_one]

variable (c : Dev nD) (arg0 : Memref sig .tc .vmem S320x128 .bf16) (harg0 : arg0.IsWhole)
  (arg1 : Memref sig .tc .vmem S2x16x320x128 .i32) (harg1 : arg1.IsWhole) (arg2 : Memref sig .tc .vmem S320x128 .f32) (harg2 : arg2.IsWhole)
  (arg3 : Memref sig .tc .vmem S80x32x1024 .bf16) (harg3 : arg3.IsWhole) (arg4 : Memref sig .tc .vmem S80x32x128 .f32) (harg4 : arg4.IsWhole)
  (arg5 : Memref sig .tc .vmem S2x320x1024 .f32) (harg5 : arg5.IsWhole) (X : BufTy.Contents (Elt Ideal) arg5.view.ty) (x0 : Vec Ideal S320x128 .bf16)
  (hX : ∀ y, arg5.view.read (Elt Ideal) X y = diffG x0 y)

/-- The rows of differences a trip of the loop loads. -/
noncomputable def rowM (x0 : Vec Ideal S320x128 .bf16) (j2 : Fin 2) (k : Fin 40) (t q : ℕ) : ℤ :=
  mob (cz x0 j2 ⟨(8 * k.val + t) % 320, Nat.mod_lt _ (by norm_num)⟩ ⟨q % 128, Nat.mod_lt _ (by norm_num)⟩) (subs (q / 64))

include hX in
theorem load_row (k : Fin 40) (j2 : Fin 2) (off : Fin 3 → ℕ) (inb) (ho : off = ![j2.val, 8 * k.val, 0]) (t : Fin 8) (q : Fin 1024) :
    View.readAt (Elt Ideal) arg5.view (Rect.unit (s := S2x320x1024) off S1x8x1024.size inb).toLoadRect X (ix3 0 t q) = zr (rowM x0 j2 k t.val q.val) := by
  subst ho
  have hi : (8 * k.val + t.val) < 320 := by omega
  have e : (Rect.unit (s := S2x320x1024) ![j2.val, 8 * k.val, 0] S1x8x1024.size inb).emb (ix3 0 t q) = ix3 j2 ⟨8 * k.val + t.val, hi⟩ q := by
    funext b
    apply Fin.ext
    match b with
    | ⟨0, _⟩ => exact (show j2.val + 1 * 0 = j2.val by rfl)
    | ⟨1, _⟩ => exact (show 8 * k.val + 1 * t.val = 8 * k.val + t.val by rw [Nat.one_mul])
    | ⟨2, _⟩ => exact (show 0 + 1 * q.val = q.val by rw [Nat.zero_add, Nat.one_mul])
  have h := hX (ix3 j2 ⟨8 * k.val + t.val, hi⟩ q)
  refine (congrArg (arg5.view.read (Elt Ideal) X) e).trans (h.trans ?_)
  unfold diffG rowM
  have e1 : (⟨(8 * k.val + t.val) % 320, Nat.mod_lt _ (by norm_num)⟩ : Fin 320) = ⟨8 * k.val + t.val, hi⟩ := Fin.ext (Nat.mod_eq_of_lt hi)
  rw [e1]

theorem lz_eq (k : Fin 40) (j2 : Fin 2) (ρ : Fin 32) (q : ℕ) (jb : Fin 80) (hjb : jb.val = 2 * k.val + j2.val) :
    (if ρ.val / 8 < 3 ∧ keep (ρ.val % 8) q then rowM x0 j2 k (ρ.val / 8) q else 0) = lz x0 jb ρ q := by
  unfold lz rowM
  have e0 : (⟨jb.val % 2, by omega⟩ : Fin 2) = j2 := Fin.ext (by show jb.val % 2 = j2.val; omega)
  have e1 : (⟨8 * (jb.val / 2) + ρ.val / 8, by omega⟩ : Fin 320) = ⟨(8 * k.val + ρ.val / 8) % 320, Nat.mod_lt _ (by norm_num)⟩ :=
    Fin.ext (by show 8 * (jb.val / 2) + ρ.val / 8 = (8 * k.val + ρ.val / 8) % 320; omega)
  rw [e0, e1]

theorem emb3a {n : ℕ} (a : ℕ) (ha : a < 80) (off : Fin 3 → ℕ) (ho : off = ![a, 0, 0]) (inb) (x : (⟨3, ![1, 32, n]⟩ : Shape).Idx) :
    (Rect.unit (s := (⟨3, ![80, 32, n]⟩ : Shape)) off (⟨3, ![1, 32, n]⟩ : Shape).size inb).emb x = ix3 ⟨a, ha⟩ (x 1) (x 2) := by
  subst ho
  have h0 : (x 0).val = 0 := Nat.lt_one_iff.1 (x 0).isLt
  funext b
  apply Fin.ext
  match b with
  | ⟨0, _⟩ => exact (show a + 1 * (x 0).val = a by rw [h0]; rfl)
  | ⟨1, _⟩ => exact (show 0 + 1 * (x 1).val = (x 1).val by rw [Nat.zero_add, Nat.one_mul])
  | ⟨2, _⟩ => exact (show 0 + 1 * (x 2).val = (x 2).val by rw [Nat.zero_add, Nat.one_mul])

theorem mem3a {n : ℕ} (a : Fin 80) (off : Fin 3 → ℕ) (ho : off = ![a.val, 0, 0]) (inb) (r : Fin 32) (l : Fin n) :
    ix3 a r l ∈ (Rect.unit (s := (⟨3, ![80, 32, n]⟩ : Shape)) off (⟨3, ![1, 32, n]⟩ : Shape).size inb).set := by
  subst ho
  refine Rect.mem_set_unit.2 fun b => ?_
  match b with
  | ⟨0, _⟩ => exact ⟨Nat.le_refl a.val, Nat.lt_succ_self a.val⟩
  | ⟨1, _⟩ => exact ⟨Nat.zero_le _, (Nat.zero_add 32).symm ▸ r.isLt⟩
  | ⟨2, _⟩ => exact ⟨Nat.zero_le _, (Nat.zero_add n).symm ▸ l.isLt⟩

end Cert.KernelIdeal.Run
-- ==== Proof.KernelIdeal.Rhs.lean ====
module
public import proofs.«01_k».proof.Proof.KernelIdeal.IntSum
public import proofs.«01_k».proof.Proof.KernelIdeal.LhsB
@[expose] public section

/-! The right operand of a trip of the main body's loop: the indicator bytes. -/
namespace Cert.KernelIdeal.Run
open Idealize.ShloMosaic Idealize.ShloMosaic.TcCoe Cert.KernelIdeal.Gen Idealize.SL Idealize.ShloMosaic.ValueIdx Cert.Spec Cert.Pieces Cert.Bits

variable (arg10 : Memref sig .tc .vmem S4x2x640x128 .i32) (X10 : BufTy.Contents (Elt Ideal) arg10.view.ty) (k : Fin k1_t1_loop.trips)

/-- The plane words a half of the trip loads. -/
noncomputable def words0 (s : Fin 8) (c : Fin 256) : Fin 4 → BitVec 32 := ![trip_k1_t1.sl.v492 (F := Ideal) arg10 X10 k (ix2 s c), trip_k1_t1.sl.v499 (F := Ideal) arg10 X10 k (ix2 s c), trip_k1_t1.sl.v506 (F := Ideal) arg10 X10 k (ix2 s c), trip_k1_t1.sl.v513 (F := Ideal) arg10 X10 k (ix2 s c)]

/-- The thirty blocks of the right operand. -/
noncomputable def pieces0 : Fin 30 → FVec Ideal S32x256 .fp8e4m3 := ![(trip_k1_t1.sl.r_4 (F := Ideal) arg10 X10 k), (trip_k1_t1.sl.r_5 (F := Ideal) arg10 X10 k), (trip_k1_t1.sl.r_6 (F := Ideal) arg10 X10 k), (trip_k1_t1.sl.r_7 (F := Ideal) arg10 X10 k), (trip_k1_t1.sl.r_8 (F := Ideal) arg10 X10 k), (trip_k1_t1.sl.r_9 (F := Ideal) arg10 X10 k), (trip_k1_t1.sl.r_10 (F := Ideal) arg10 X10 k), (trip_k1_t1.sl.r_11 (F := Ideal) arg10 X10 k), (trip_k1_t1.sl.r_12 (F := Ideal) arg10 X10 k), (trip_k1_t1.sl.r_13 (F := Ideal) arg10 X10 k), (trip_k1_t1.sl.r_14 (F := Ideal) arg10 X10 k), (trip_k1_t1.sl.r_15 (F := Ideal) arg10 X10 k), (trip_k1_t1.sl.r_16 (F := Ideal) arg10 X10 k), (trip_k1_t1.sl.r_17 (F := Ideal) arg10 X10 k), (trip_k1_t1.sl.r_18 (F := Ideal) arg10 X10 k), (trip_k1_t1.sl.r_19 (F := Ideal) arg10 X10 k), (trip_k1_t1.sl.r_20 (F := Ideal) arg10 X10 k), (trip_k1_t1.sl.r_21 (F := Ideal) arg10 X10 k), (trip_k1_t1.sl.r_22 (F := Ideal) arg10 X10 k), (trip_k1_t1.sl.r_23 (F := Ideal) arg10 X10 k), (trip_k1_t1.sl.r_24 (F := Ideal) arg10 X10 k), (trip_k1_t1.sl.r_25 (F := Ideal) arg10 X10 k), (trip_k1_t1.sl.r_26 (F := Ideal) arg10 X10 k), (trip_k1_t1.sl.r_27 (F := Ideal) arg10 X10 k), (trip_k1_t1.sl.r_28 (F := Ideal) arg10 X10 k), (trip_k1_t1.sl.r_29 (F := Ideal) arg10 X10 k), bitcastToFloat .fp8e4m3 (bitcast S32x256 8 (trip_k1_t1.sl.r (F := Ideal) arg10 X10 k) bitcasts_S8x256_w32_S32x256_w8), bitcastToFloat .fp8e4m3 (bitcast S32x256 8 (trip_k1_t1.sl.r_2 (F := Ideal) arg10 X10 k) bitcasts_S8x256_w32_S32x256_w8), bitcastToFloat .fp8e4m3 (bitcast S32x256 8 (trip_k1_t1.sl.r_1 (F := Ideal) arg10 X10 k) bitcasts_S8x256_w32_S32x256_w8), bitcastToFloat .fp8e4m3 (bitcast S32x256 8 (trip_k1_t1.sl.r_3 (F := Ideal) arg10 X10 k) bitcasts_S8x256_w32_S32x256_w8)]

theorem pieces0_apply (P : Fin 30) (a : Fin 32) (c : Fin 256) (s : Fin 8) (hs : s.val = a.val / 4) :
    pieces0 arg10 X10 k P (ix2 a c) = Ideal.ofBits .fp8e4m3 ((fw (half (words0 arg10 X10 k s c) (P.val % 2)) (subs (P.val / 2))).extractLsb' (8 * (a.val % 4)) 8) := by
  fin_cases P <;> exact congrArg (Ideal.ofBits .fp8e4m3) (bitcast_32_8 _ bitcasts_S8x256_w32_S32x256_w8 a c s hs)

/-- The plane words a half of the trip loads. -/
noncomputable def words1 (s : Fin 8) (c : Fin 256) : Fin 4 → BitVec 32 := ![trip_k1_t1.sl.r_37 (F := Ideal) arg10 X10 k (ix2 s c), trip_k1_t1.sl.r_38 (F := Ideal) arg10 X10 k (ix2 s c), trip_k1_t1.sl.r_39 (F := Ideal) arg10 X10 k (ix2 s c), trip_k1_t1.sl.v700 (F := Ideal) arg10 X10 k (ix2 s c)]

/-- The thirty blocks of the right operand. -/
noncomputable def pieces1 : Fin 30 → FVec Ideal S32x256 .fp8e4m3 := ![(trip_k1_t1.sl.r_48 (F := Ideal) arg10 X10 k), (trip_k1_t1.sl.r_49 (F := Ideal) arg10 X10 k), (trip_k1_t1.sl.r_50 (F := Ideal) arg10 X10 k), (trip_k1_t1.sl.r_51 (F := Ideal) arg10 X10 k), (trip_k1_t1.sl.r_52 (F := Ideal) arg10 X10 k), (trip_k1_t1.sl.r_53 (F := Ideal) arg10 X10 k), (trip_k1_t1.sl.r_54 (F := Ideal) arg10 X10 k), (trip_k1_t1.sl.r_55 (F := Ideal) arg10 X10 k), (trip_k1_t1.sl.r_56 (F := Ideal) arg10 X10 k), (trip_k1_t1.sl.r_57 (F := Ideal) arg10 X10 k), (trip_k1_t1.sl.r_58 (F := Ideal) arg10 X10 k), (trip_k1_t1.sl.r_59 (F := Ideal) arg10 X10 k), (trip_k1_t1.sl.r_60 (F := Ideal) arg10 X10 k), (trip_k1_t1.sl.r_61 (F := Ideal) arg10 X10 k), (trip_k1_t1.sl.r_62 (F := Ideal) arg10 X10 k), (trip_k1_t1.sl.r_63 (F := Ideal) arg10 X10 k), (trip_k1_t1.sl.r_64 (F := Ideal) arg10 X10 k), (trip_k1_t1.sl.r_65 (F := Ideal) arg10 X10 k), (trip_k1_t1.sl.r_66 (F := Ideal) arg10 X10 k), (trip_k1_t1.sl.r_67 (F := Ideal) arg10 X10 k), (trip_k1_t1.sl.r_68 (F := Ideal) arg10 X10 k), (trip_k1_t1.sl.r_69 (F := Ideal) arg10 X10 k), (trip_k1_t1.sl.r_70 (F := Ideal) arg10 X10 k), bitcastToFloat .fp8e4m3 (bitcast S32x256 8 (trip_k1_t1.sl.r_44 (F := Ideal) arg10 X10 k) bitcasts_S8x256_w32_S32x256_w8), bitcastToFloat .fp8e4m3 (bitcast S32x256 8 (trip_k1_t1.sl.r_41 (F := Ideal) arg10 X10 k) bitcasts_S8x256_w32_S32x256_w8), bitcastToFloat .fp8e4m3 (bitcast S32x256 8 (trip_k1_t1.sl.r_45 (F := Ideal) arg10 X10 k) bitcasts_S8x256_w32_S32x256_w8), bitcastToFloat .fp8e4m3 (bitcast S32x256 8 (trip_k1_t1.sl.r_42 (F := Ideal) arg10 X10 k) bitcasts_S8x256_w32_S32x256_w8), bitcastToFloat .fp8e4m3 (bitcast S32x256 8 (trip_k1_t1.sl.r_46 (F := Ideal) arg10 X10 k) bitcasts_S8x256_w32_S32x256_w8), bitcastToFloat .fp8e4m3 (bitcast S32x256 8 (trip_k1_t1.sl.r_43 (F := Ideal) arg10 X10 k) bitcasts_S8x256_w32_S32x256_w8), bitcastToFloat .fp8e4m3 (bitcast S32x256 8 (trip_k1_t1.sl.r_47 (F := Ideal) arg10 X10 k) bitcasts_S8x256_w32_S32x256_w8)]

theorem pieces1_apply (P : Fin 30) (a : Fin 32) (c : Fin 256) (s : Fin 8) (hs : s.val = a.val / 4) :
    pieces1 arg10 X10 k P (ix2 a c) = Ideal.ofBits .fp8e4m3 ((fw (half (words1 arg10 X10 k s c) (P.val % 2)) (subs (P.val / 2))).extractLsb' (8 * (a.val % 4)) 8) := by
  fin_cases P <;> exact congrArg (Ideal.ofBits .fp8e4m3) (bitcast_32_8 _ bitcasts_S8x256_w32_S32x256_w8 a c s hs)

end Cert.KernelIdeal.Run
-- ==== Proof.KernelIdeal.Acc.lean ====
module
public import proofs.«01_k».proof.Proof.KernelIdeal.Rhs
@[expose] public section

/-! The product of a trip of the main body's loop. -/
namespace Cert.KernelIdeal.Run
open Idealize.ShloMosaic Idealize.ShloMosaic.TcCoe Cert.KernelIdeal.Gen Idealize.SL Idealize.ShloMosaic.ValueIdx Cert.Spec Cert.Pieces Cert.Bits

theorem cat30_get (x : Fin 30 → S32x256.Idx → EReal) (t : Fin 30) : ([⟨S32x256, x 0⟩, ⟨S32x256, x 1⟩, ⟨S32x256, x 2⟩, ⟨S32x256, x 3⟩, ⟨S32x256, x 4⟩, ⟨S32x256, x 5⟩, ⟨S32x256, x 6⟩, ⟨S32x256, x 7⟩, ⟨S32x256, x 8⟩, ⟨S32x256, x 9⟩, ⟨S32x256, x 10⟩, ⟨S32x256, x 11⟩, ⟨S32x256, x 12⟩, ⟨S32x256, x 13⟩, ⟨S32x256, x 14⟩, ⟨S32x256, x 15⟩, ⟨S32x256, x 16⟩, ⟨S32x256, x 17⟩, ⟨S32x256, x 18⟩, ⟨S32x256, x 19⟩, ⟨S32x256, x 20⟩, ⟨S32x256, x 21⟩, ⟨S32x256, x 22⟩, ⟨S32x256, x 23⟩, ⟨S32x256, x 24⟩, ⟨S32x256, x 25⟩, ⟨S32x256, x 26⟩, ⟨S32x256, x 27⟩, ⟨S32x256, x 28⟩, ⟨S32x256, x 29⟩] : List ((s : Shape) × (s.Idx → EReal)))[t.val]'(t.isLt) = ⟨S32x256, x t⟩ := by
  fin_cases t <;> rfl

theorem pre32 (l : List ((s : Shape) × (s.Idx → EReal))) (hl : ∀ p ∈ l, p.1 = S32x256) :
    ((l.map (·.1)).map fun s => if h : s.rank = 2 then s.size ((0 : Fin 2).cast h.symm) else 0).sum = 32 * l.length := by
  induction l with
  | nil => rfl
  | cons p l ih =>
    have e := hl p (.head _)
    rw [List.map_cons, List.map_cons, List.sum_cons, ih (fun q hq => hl q (.tail _ hq)), e, List.length_cons]
    show 32 + 32 * l.length = _
    omega

theorem cat30_pre (x : Fin 30 → S32x256.Idx → EReal) (t : Fin 30) :
    (((([⟨S32x256, x 0⟩, ⟨S32x256, x 1⟩, ⟨S32x256, x 2⟩, ⟨S32x256, x 3⟩, ⟨S32x256, x 4⟩, ⟨S32x256, x 5⟩, ⟨S32x256, x 6⟩, ⟨S32x256, x 7⟩, ⟨S32x256, x 8⟩, ⟨S32x256, x 9⟩, ⟨S32x256, x 10⟩, ⟨S32x256, x 11⟩, ⟨S32x256, x 12⟩, ⟨S32x256, x 13⟩, ⟨S32x256, x 14⟩, ⟨S32x256, x 15⟩, ⟨S32x256, x 16⟩, ⟨S32x256, x 17⟩, ⟨S32x256, x 18⟩, ⟨S32x256, x 19⟩, ⟨S32x256, x 20⟩, ⟨S32x256, x 21⟩, ⟨S32x256, x 22⟩, ⟨S32x256, x 23⟩, ⟨S32x256, x 24⟩, ⟨S32x256, x 25⟩, ⟨S32x256, x 26⟩, ⟨S32x256, x 27⟩, ⟨S32x256, x 28⟩, ⟨S32x256, x 29⟩] : List ((s : Shape) × (s.Idx → EReal))).take t.val).map (·.1)).map fun s => if h : s.rank = 2 then s.size ((0 : Fin 2).cast h.symm) else 0).sum = 32 * t.val := by
  have all : ∀ p ∈ ([⟨S32x256, x 0⟩, ⟨S32x256, x 1⟩, ⟨S32x256, x 2⟩, ⟨S32x256, x 3⟩, ⟨S32x256, x 4⟩, ⟨S32x256, x 5⟩, ⟨S32x256, x 6⟩, ⟨S32x256, x 7⟩, ⟨S32x256, x 8⟩, ⟨S32x256, x 9⟩, ⟨S32x256, x 10⟩, ⟨S32x256, x 11⟩, ⟨S32x256, x 12⟩, ⟨S32x256, x 13⟩, ⟨S32x256, x 14⟩, ⟨S32x256, x 15⟩, ⟨S32x256, x 16⟩, ⟨S32x256, x 17⟩, ⟨S32x256, x 18⟩, ⟨S32x256, x 19⟩, ⟨S32x256, x 20⟩, ⟨S32x256, x 21⟩, ⟨S32x256, x 22⟩, ⟨S32x256, x 23⟩, ⟨S32x256, x 24⟩, ⟨S32x256, x 25⟩, ⟨S32x256, x 26⟩, ⟨S32x256, x 27⟩, ⟨S32x256, x 28⟩, ⟨S32x256, x 29⟩] : List ((s : Shape) × (s.Idx → EReal))), p.1 = S32x256 :=
    List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_nil _⟩⟩⟩⟩⟩⟩⟩⟩⟩⟩⟩⟩⟩⟩⟩⟩⟩⟩⟩⟩⟩⟩⟩⟩⟩⟩⟩⟩⟩⟩
  rw [pre32 _ (fun p hp => all p (List.mem_of_mem_take hp)), List.length_take]
  exact congrArg (32 * ·) (Nat.min_eq_left t.isLt.le)

theorem cat30 (x : Fin 30 → S32x256.Idx → EReal) (h : Shape.Concatenates [S32x256, S32x256, S32x256, S32x256, S32x256, S32x256, S32x256, S32x256, S32x256, S32x256, S32x256, S32x256, S32x256, S32x256, S32x256, S32x256, S32x256, S32x256, S32x256, S32x256, S32x256, S32x256, S32x256, S32x256, S32x256, S32x256, S32x256, S32x256, S32x256, S32x256] S960x256 0) (q : Fin 960) (c : Fin 256)
    (t : Fin 30) (r : Fin 32) (hq : 32 * t.val + r.val = q.val) :
    concatenate S960x256 0 [⟨S32x256, x 0⟩, ⟨S32x256, x 1⟩, ⟨S32x256, x 2⟩, ⟨S32x256, x 3⟩, ⟨S32x256, x 4⟩, ⟨S32x256, x 5⟩, ⟨S32x256, x 6⟩, ⟨S32x256, x 7⟩, ⟨S32x256, x 8⟩, ⟨S32x256, x 9⟩, ⟨S32x256, x 10⟩, ⟨S32x256, x 11⟩, ⟨S32x256, x 12⟩, ⟨S32x256, x 13⟩, ⟨S32x256, x 14⟩, ⟨S32x256, x 15⟩, ⟨S32x256, x 16⟩, ⟨S32x256, x 17⟩, ⟨S32x256, x 18⟩, ⟨S32x256, x 19⟩, ⟨S32x256, x 20⟩, ⟨S32x256, x 21⟩, ⟨S32x256, x 22⟩, ⟨S32x256, x 23⟩, ⟨S32x256, x 24⟩, ⟨S32x256, x 25⟩, ⟨S32x256, x 26⟩, ⟨S32x256, x 27⟩, ⟨S32x256, x 28⟩, ⟨S32x256, x 29⟩] h (ix2 q c) = x t (ix2 r c) :=
  cat0 (R := 32) (C := 256) (N := 960) [⟨S32x256, x 0⟩, ⟨S32x256, x 1⟩, ⟨S32x256, x 2⟩, ⟨S32x256, x 3⟩, ⟨S32x256, x 4⟩, ⟨S32x256, x 5⟩, ⟨S32x256, x 6⟩, ⟨S32x256, x 7⟩, ⟨S32x256, x 8⟩, ⟨S32x256, x 9⟩, ⟨S32x256, x 10⟩, ⟨S32x256, x 11⟩, ⟨S32x256, x 12⟩, ⟨S32x256, x 13⟩, ⟨S32x256, x 14⟩, ⟨S32x256, x 15⟩, ⟨S32x256, x 16⟩, ⟨S32x256, x 17⟩, ⟨S32x256, x 18⟩, ⟨S32x256, x 19⟩, ⟨S32x256, x 20⟩, ⟨S32x256, x 21⟩, ⟨S32x256, x 22⟩, ⟨S32x256, x 23⟩, ⟨S32x256, x 24⟩, ⟨S32x256, x 25⟩, ⟨S32x256, x 26⟩, ⟨S32x256, x 27⟩, ⟨S32x256, x 28⟩, ⟨S32x256, x 29⟩] h q c t.val t.isLt _ (cat30_get x t) (32 * t.val) (cat30_pre x t) r hq

theorem subs_ok : ∀ i : Fin 15, subs i.val < 16 ∧ subs i.val ≠ 0 := by decide
theorem zr_sum' (s : Finset ℕ) (f : ℕ → ℤ) : ∑ q ∈ s, zr (f q) = zr (∑ q ∈ s, f q) := by
  induction s using Finset.cons_induction with
  | empty => simp [zr]
  | cons a s ha ih => rw [Finset.sum_cons, Finset.sum_cons, ih, zr_add]

variable (arg6 : Memref sig .tc .vmem S80x32x1024 .bf16) (X6 : BufTy.Contents (Elt Ideal) arg6.view.ty)
  (arg10 : Memref sig .tc .vmem S4x2x640x128 .i32) (X10 : BufTy.Contents (Elt Ideal) arg10.view.ty) (k : Fin k1_t1_loop.trips)
  (x0 : Vec Ideal S320x128 .bf16) (h6 : ∀ y, arg6.view.read (Elt Ideal) X6 y = lhsG x0 y)

theorem load3 {R C : ℕ} {e : EltTy} (arg : Memref sig .tc .vmem (⟨3, ![80, 32, R]⟩ : Shape) e) (X : BufTy.Contents (Elt Ideal) arg.view.ty) (jb : Fin 80) (o n : ℕ) (off : Fin 3 → ℕ) (ho : off = ![jb.val, o, 0]) (inb)
    (t : Fin n) (r : Fin 32) (hr : r.val = o + t.val) (q : Fin C) (q' : Fin R) (hq : q'.val = q.val) :
    View.readAt (Elt Ideal) arg.view (Rect.unit (s := (⟨3, ![80, 32, R]⟩ : Shape)) off (⟨3, ![1, n, C]⟩ : Shape).size inb).toLoadRect X (ix3 0 t q) = arg.view.read (Elt Ideal) X (ix3 jb r q') := by
  subst ho
  have e : (Rect.unit (s := (⟨3, ![80, 32, R]⟩ : Shape)) ![jb.val, o, 0] (⟨3, ![1, n, C]⟩ : Shape).size inb).emb (ix3 0 t q) = ix3 jb r q' := by
    funext b
    apply Fin.ext
    match b with
    | ⟨0, _⟩ => exact (show jb.val + 1 * 0 = jb.val by rfl)
    | ⟨1, _⟩ => exact (show o + 1 * t.val = r.val by omega)
    | ⟨2, _⟩ => exact (show 0 + 1 * q.val = q'.val by omega)
  exact congrArg (arg.view.read (Elt Ideal) X) e

theorem rhs0_apply (h) (q : Fin 960) (c : Fin 256) :
    concatenate S960x256 0 [⟨S32x256, pieces0 arg10 X10 k 0⟩, ⟨S32x256, pieces0 arg10 X10 k 1⟩, ⟨S32x256, pieces0 arg10 X10 k 2⟩, ⟨S32x256, pieces0 arg10 X10 k 3⟩, ⟨S32x256, pieces0 arg10 X10 k 4⟩, ⟨S32x256, pieces0 arg10 X10 k 5⟩, ⟨S32x256, pieces0 arg10 X10 k 6⟩, ⟨S32x256, pieces0 arg10 X10 k 7⟩, ⟨S32x256, pieces0 arg10 X10 k 8⟩, ⟨S32x256, pieces0 arg10 X10 k 9⟩, ⟨S32x256, pieces0 arg10 X10 k 10⟩, ⟨S32x256, pieces0 arg10 X10 k 11⟩, ⟨S32x256, pieces0 arg10 X10 k 12⟩, ⟨S32x256, pieces0 arg10 X10 k 13⟩, ⟨S32x256, pieces0 arg10 X10 k 14⟩, ⟨S32x256, pieces0 arg10 X10 k 15⟩, ⟨S32x256, pieces0 arg10 X10 k 16⟩, ⟨S32x256, pieces0 arg10 X10 k 17⟩, ⟨S32x256, pieces0 arg10 X10 k 18⟩, ⟨S32x256, pieces0 arg10 X10 k 19⟩, ⟨S32x256, pieces0 arg10 X10 k 20⟩, ⟨S32x256, pieces0 arg10 X10 k 21⟩, ⟨S32x256, pieces0 arg10 X10 k 22⟩, ⟨S32x256, pieces0 arg10 X10 k 23⟩, ⟨S32x256, pieces0 arg10 X10 k 24⟩, ⟨S32x256, pieces0 arg10 X10 k 25⟩, ⟨S32x256, pieces0 arg10 X10 k 26⟩, ⟨S32x256, pieces0 arg10 X10 k 27⟩, ⟨S32x256, pieces0 arg10 X10 k 28⟩, ⟨S32x256, pieces0 arg10 X10 k 29⟩] h (ix2 q c)
      = (((ind (words0 arg10 X10 k ⟨q.val % 32 / 4, by omega⟩ c) (subs (q.val / 64)) (2 * (q.val % 4) + q.val / 32 % 2) : ℤ) : ℝ) / 512 : ℝ) := by
  rw [cat30 (pieces0 arg10 X10 k) h q c ⟨q.val / 32, by omega⟩ ⟨q.val % 32, by omega⟩ (by dsimp only; omega),
    pieces0_apply arg10 X10 k ⟨q.val / 32, by omega⟩ ⟨q.val % 32, by omega⟩ c ⟨q.val % 32 / 4, by omega⟩ rfl]
  have e2 : q.val / 32 / 2 = q.val / 64 := by omega
  have e3 : q.val % 32 % 4 = q.val % 4 := by omega
  dsimp only
  rw [e2, e3]
  have hs : subs (q.val / 64) < 16 ∧ subs (q.val / 64) ≠ 0 := subs_ok ⟨q.val / 64, by omega⟩
  have hb := byte_eq (words0 arg10 X10 k ⟨q.val % 32 / 4, by omega⟩ c) ⟨q.val / 32 % 2, by omega⟩ ⟨subs (q.val / 64), hs.1⟩ hs.2 ⟨q.val % 4, by omega⟩
  dsimp only at hb
  rw [hb]
  exact fp8_small ⟨_, ind_lt _ _ _⟩

include h6 in
theorem acc0_apply (j : Fin 40) (hj : k.val = j.val) (jb : Fin 80) (hjb : jb.val = 2 * j.val + 0) (ρ : Fin 32) (c : Fin 256) :
    trip_k1_t1.sl.r_30 (F := Ideal) arg6 arg10 X6 X10 k (ix2 ρ c)
      = zr (∑ q ∈ Finset.range 960, lz x0 jb ρ q * (ind (words0 arg10 X10 k ⟨q % 32 / 4, by omega⟩ c) (subs (q / 64)) (2 * (q % 4) + q / 32 % 2) : ℤ)) := by
  have ho : k1_off9 k 0#32 = ![jb.val, 0, 0] := (k1_off9_eq k 0).trans (by rw [hjb, hj]; rfl)
  refine (Ideal.matmul_plain_apply (M := 32) (K := 960) (N := 256) none
    (shapeCast S32x960 (View.readAt (Elt Ideal) arg6.view (Rect.unit (s := S80x32x1024) (k1_off9 k 0#32) S1x32x960.size (k1_off9_inb k 0)).toLoadRect X6) shapeCasts_S1x32x960_S32x960 : FVec Ideal S32x960 .bf16)
    (concatenate S960x256 0 [⟨S32x256, pieces0 arg10 X10 k 0⟩, ⟨S32x256, pieces0 arg10 X10 k 1⟩, ⟨S32x256, pieces0 arg10 X10 k 2⟩, ⟨S32x256, pieces0 arg10 X10 k 3⟩, ⟨S32x256, pieces0 arg10 X10 k 4⟩, ⟨S32x256, pieces0 arg10 X10 k 5⟩, ⟨S32x256, pieces0 arg10 X10 k 6⟩, ⟨S32x256, pieces0 arg10 X10 k 7⟩, ⟨S32x256, pieces0 arg10 X10 k 8⟩, ⟨S32x256, pieces0 arg10 X10 k 9⟩, ⟨S32x256, pieces0 arg10 X10 k 10⟩, ⟨S32x256, pieces0 arg10 X10 k 11⟩, ⟨S32x256, pieces0 arg10 X10 k 12⟩, ⟨S32x256, pieces0 arg10 X10 k 13⟩, ⟨S32x256, pieces0 arg10 X10 k 14⟩, ⟨S32x256, pieces0 arg10 X10 k 15⟩, ⟨S32x256, pieces0 arg10 X10 k 16⟩, ⟨S32x256, pieces0 arg10 X10 k 17⟩, ⟨S32x256, pieces0 arg10 X10 k 18⟩, ⟨S32x256, pieces0 arg10 X10 k 19⟩, ⟨S32x256, pieces0 arg10 X10 k 20⟩, ⟨S32x256, pieces0 arg10 X10 k 21⟩, ⟨S32x256, pieces0 arg10 X10 k 22⟩, ⟨S32x256, pieces0 arg10 X10 k 23⟩, ⟨S32x256, pieces0 arg10 X10 k 24⟩, ⟨S32x256, pieces0 arg10 X10 k 25⟩, ⟨S32x256, pieces0 arg10 X10 k 26⟩, ⟨S32x256, pieces0 arg10 X10 k 27⟩, ⟨S32x256, pieces0 arg10 X10 k 28⟩, ⟨S32x256, pieces0 arg10 X10 k 29⟩] concatenates_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S960x256_d0 : FVec Ideal S960x256 .fp8e4m3) (constant S32x256 .f32 0x00000000#32) ρ c).trans ?_
  have hz : (constant S32x256 .f32 0x00000000#32 : FVec Ideal S32x256 .f32) (ix2 ρ c) = 0 := scalar_zero
  rw [hz, zero_add, ← zr_sum', ← Fin.sum_univ_eq_sum_range (fun q => zr (lz x0 jb ρ q * (ind (words0 arg10 X10 k ⟨q % 32 / 4, by omega⟩ c) (subs (q / 64)) (2 * (q % 4) + q / 32 % 2) : ℤ))) 960]
  refine Finset.sum_congr rfl fun q _ => ?_
  have hl : (shapeCast S32x960 (View.readAt (Elt Ideal) arg6.view (Rect.unit (s := S80x32x1024) (k1_off9 k 0#32) S1x32x960.size (k1_off9_inb k 0)).toLoadRect X6) shapeCasts_S1x32x960_S32x960 : FVec Ideal S32x960 .bf16) (ix2 ρ q) = zr (512 * lz x0 jb ρ q.val) := by
    rw [shapeCast_1ab_ab_apply]
    exact (load3 (R := 1024) (C := 960) arg6 X6 jb 0 32 _ ho (k1_off9_inb k 0) ρ ρ (Nat.zero_add _).symm q ⟨q.val, by omega⟩ rfl).trans (h6 _)
  rw [hl, rhs0_apply, zr_div]

theorem rhs1_apply (h) (q : Fin 960) (c : Fin 256) :
    concatenate S960x256 0 [⟨S32x256, pieces1 arg10 X10 k 0⟩, ⟨S32x256, pieces1 arg10 X10 k 1⟩, ⟨S32x256, pieces1 arg10 X10 k 2⟩, ⟨S32x256, pieces1 arg10 X10 k 3⟩, ⟨S32x256, pieces1 arg10 X10 k 4⟩, ⟨S32x256, pieces1 arg10 X10 k 5⟩, ⟨S32x256, pieces1 arg10 X10 k 6⟩, ⟨S32x256, pieces1 arg10 X10 k 7⟩, ⟨S32x256, pieces1 arg10 X10 k 8⟩, ⟨S32x256, pieces1 arg10 X10 k 9⟩, ⟨S32x256, pieces1 arg10 X10 k 10⟩, ⟨S32x256, pieces1 arg10 X10 k 11⟩, ⟨S32x256, pieces1 arg10 X10 k 12⟩, ⟨S32x256, pieces1 arg10 X10 k 13⟩, ⟨S32x256, pieces1 arg10 X10 k 14⟩, ⟨S32x256, pieces1 arg10 X10 k 15⟩, ⟨S32x256, pieces1 arg10 X10 k 16⟩, ⟨S32x256, pieces1 arg10 X10 k 17⟩, ⟨S32x256, pieces1 arg10 X10 k 18⟩, ⟨S32x256, pieces1 arg10 X10 k 19⟩, ⟨S32x256, pieces1 arg10 X10 k 20⟩, ⟨S32x256, pieces1 arg10 X10 k 21⟩, ⟨S32x256, pieces1 arg10 X10 k 22⟩, ⟨S32x256, pieces1 arg10 X10 k 23⟩, ⟨S32x256, pieces1 arg10 X10 k 24⟩, ⟨S32x256, pieces1 arg10 X10 k 25⟩, ⟨S32x256, pieces1 arg10 X10 k 26⟩, ⟨S32x256, pieces1 arg10 X10 k 27⟩, ⟨S32x256, pieces1 arg10 X10 k 28⟩, ⟨S32x256, pieces1 arg10 X10 k 29⟩] h (ix2 q c)
      = (((ind (words1 arg10 X10 k ⟨q.val % 32 / 4, by omega⟩ c) (subs (q.val / 64)) (2 * (q.val % 4) + q.val / 32 % 2) : ℤ) : ℝ) / 512 : ℝ) := by
  rw [cat30 (pieces1 arg10 X10 k) h q c ⟨q.val / 32, by omega⟩ ⟨q.val % 32, by omega⟩ (by dsimp only; omega),
    pieces1_apply arg10 X10 k ⟨q.val / 32, by omega⟩ ⟨q.val % 32, by omega⟩ c ⟨q.val % 32 / 4, by omega⟩ rfl]
  have e2 : q.val / 32 / 2 = q.val / 64 := by omega
  have e3 : q.val % 32 % 4 = q.val % 4 := by omega
  dsimp only
  rw [e2, e3]
  have hs : subs (q.val / 64) < 16 ∧ subs (q.val / 64) ≠ 0 := subs_ok ⟨q.val / 64, by omega⟩
  have hb := byte_eq (words1 arg10 X10 k ⟨q.val % 32 / 4, by omega⟩ c) ⟨q.val / 32 % 2, by omega⟩ ⟨subs (q.val / 64), hs.1⟩ hs.2 ⟨q.val % 4, by omega⟩
  dsimp only at hb
  rw [hb]
  exact fp8_small ⟨_, ind_lt _ _ _⟩

include h6 in
theorem acc1_apply (j : Fin 40) (hj : k.val = j.val) (jb : Fin 80) (hjb : jb.val = 2 * j.val + 1) (ρ : Fin 32) (c : Fin 256) :
    trip_k1_t1.sl.r_71 (F := Ideal) arg6 arg10 X6 X10 k (ix2 ρ c)
      = zr (∑ q ∈ Finset.range 960, lz x0 jb ρ q * (ind (words1 arg10 X10 k ⟨q % 32 / 4, by omega⟩ c) (subs (q / 64)) (2 * (q % 4) + q / 32 % 2) : ℤ)) := by
  have ho : k1_off9 k 1#32 = ![jb.val, 0, 0] := (k1_off9_eq k 1).trans (by rw [hjb, hj]; rfl)
  refine (Ideal.matmul_plain_apply (M := 32) (K := 960) (N := 256) none
    (shapeCast S32x960 (View.readAt (Elt Ideal) arg6.view (Rect.unit (s := S80x32x1024) (k1_off9 k 1#32) S1x32x960.size (k1_off9_inb k 1)).toLoadRect X6) shapeCasts_S1x32x960_S32x960 : FVec Ideal S32x960 .bf16)
    (concatenate S960x256 0 [⟨S32x256, pieces1 arg10 X10 k 0⟩, ⟨S32x256, pieces1 arg10 X10 k 1⟩, ⟨S32x256, pieces1 arg10 X10 k 2⟩, ⟨S32x256, pieces1 arg10 X10 k 3⟩, ⟨S32x256, pieces1 arg10 X10 k 4⟩, ⟨S32x256, pieces1 arg10 X10 k 5⟩, ⟨S32x256, pieces1 arg10 X10 k 6⟩, ⟨S32x256, pieces1 arg10 X10 k 7⟩, ⟨S32x256, pieces1 arg10 X10 k 8⟩, ⟨S32x256, pieces1 arg10 X10 k 9⟩, ⟨S32x256, pieces1 arg10 X10 k 10⟩, ⟨S32x256, pieces1 arg10 X10 k 11⟩, ⟨S32x256, pieces1 arg10 X10 k 12⟩, ⟨S32x256, pieces1 arg10 X10 k 13⟩, ⟨S32x256, pieces1 arg10 X10 k 14⟩, ⟨S32x256, pieces1 arg10 X10 k 15⟩, ⟨S32x256, pieces1 arg10 X10 k 16⟩, ⟨S32x256, pieces1 arg10 X10 k 17⟩, ⟨S32x256, pieces1 arg10 X10 k 18⟩, ⟨S32x256, pieces1 arg10 X10 k 19⟩, ⟨S32x256, pieces1 arg10 X10 k 20⟩, ⟨S32x256, pieces1 arg10 X10 k 21⟩, ⟨S32x256, pieces1 arg10 X10 k 22⟩, ⟨S32x256, pieces1 arg10 X10 k 23⟩, ⟨S32x256, pieces1 arg10 X10 k 24⟩, ⟨S32x256, pieces1 arg10 X10 k 25⟩, ⟨S32x256, pieces1 arg10 X10 k 26⟩, ⟨S32x256, pieces1 arg10 X10 k 27⟩, ⟨S32x256, pieces1 arg10 X10 k 28⟩, ⟨S32x256, pieces1 arg10 X10 k 29⟩] concatenates_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S960x256_d0 : FVec Ideal S960x256 .fp8e4m3) (constant S32x256 .f32 0x00000000#32) ρ c).trans ?_
  have hz : (constant S32x256 .f32 0x00000000#32 : FVec Ideal S32x256 .f32) (ix2 ρ c) = 0 := scalar_zero
  rw [hz, zero_add, ← zr_sum', ← Fin.sum_univ_eq_sum_range (fun q => zr (lz x0 jb ρ q * (ind (words1 arg10 X10 k ⟨q % 32 / 4, by omega⟩ c) (subs (q / 64)) (2 * (q % 4) + q / 32 % 2) : ℤ))) 960]
  refine Finset.sum_congr rfl fun q _ => ?_
  have hl : (shapeCast S32x960 (View.readAt (Elt Ideal) arg6.view (Rect.unit (s := S80x32x1024) (k1_off9 k 1#32) S1x32x960.size (k1_off9_inb k 1)).toLoadRect X6) shapeCasts_S1x32x960_S32x960 : FVec Ideal S32x960 .bf16) (ix2 ρ q) = zr (512 * lz x0 jb ρ q.val) := by
    rw [shapeCast_1ab_ab_apply]
    exact (load3 (R := 1024) (C := 960) arg6 X6 jb 0 32 _ ho (k1_off9_inb k 1) ρ ρ (Nat.zero_add _).symm q ⟨q.val, by omega⟩ rfl).trans (h6 _)
  rw [hl, rhs1_apply, zr_div]

end Cert.KernelIdeal.Run
-- ==== Proof.KernelIdeal.Trip.lean ====
module
public import proofs.«01_k».proof.Proof.KernelIdeal.Acc
public import proofs.«01_k».proof.Proof.KernelIdeal.TabOut
@[expose] public section

/-! One trip of the main body's loop, and its sum over the forty trips. -/
namespace Cert.KernelIdeal.Run
open Idealize.ShloMosaic Idealize.ShloMosaic.TcCoe Cert.KernelIdeal.Gen Idealize.SL Idealize.ShloMosaic.ValueIdx Cert.Spec Cert.Pieces Cert.Bits

theorem shapeCast_11ab_ab_apply {α : Type} {a b : ℕ} (x : (⟨4, ![1, 1, a, b]⟩ : Shape).Idx → α)
    (h : (⟨4, ![1, 1, a, b]⟩ : Shape).ShapeCasts ⟨2, ![a, b]⟩) (r : Fin a) (l : Fin b) :
    shapeCast ⟨2, ![a, b]⟩ x h (ix2 r l) = x (ix4 0 0 r l) :=
  shapeCast_apply x h _ _ (by
    rw [Shape.rowMajor_val_four, Shape.rowMajor_val_two]
    show ((0 * 1 + 0) * a + r.val) * b + l.val = r.val * b + l.val
    simp)

/-- Two blocks side by side. -/
theorem cat2 {α : Type} {M : ℕ} (x : Fin 2 → (⟨2, ![M, 128]⟩ : Shape).Idx → α) (h : Shape.Concatenates [⟨2, ![M, 128]⟩, ⟨2, ![M, 128]⟩] (⟨2, ![M, 256]⟩ : Shape) 1)
    (s : Fin M) (c : Fin 256) (half : Fin 2) (l : Fin 128) (hc : c.val = 128 * half.val + l.val) :
    concatenate (⟨2, ![M, 256]⟩ : Shape) 1 [⟨⟨2, ![M, 128]⟩, x 0⟩, ⟨⟨2, ![M, 128]⟩, x 1⟩] h (ix2 s c) = x half (ix2 s l) := by
  match half, hc with
  | ⟨0, _⟩, hc =>
    refine concatenate_pair_apply_left (t := ⟨2, ![M, 256]⟩) 1 (x 0) (x 1) h (ix2 s c) rfl (ix2 s l) fun b => ?_
    match b with
    | ⟨0, _⟩ => rfl
    | ⟨1, _⟩ => exact (show l.val = c.val by simp at hc; omega)
  | ⟨1, _⟩, hc =>
    refine concatenate_pair_apply_right (t := ⟨2, ![M, 256]⟩) 1 (x 0) (x 1) h (ix2 s c) rfl rfl (ix2 s l) (fun b hb => ?_) (show l.val + 128 = c.val by simp at hc; omega)
    match b, hb with
    | ⟨0, _⟩, _ => rfl
    | ⟨1, _⟩, hb => exact absurd rfl hb

theorem load4 (arg : Memref sig .tc .vmem S4x2x640x128 .i32) (X : BufTy.Contents (Elt Ideal) arg.view.ty) (p : Fin 4) (half : Fin 2) (o : ℕ) (off : Fin 4 → ℕ) (ho : off = ![p.val, half.val, o, 0]) (inb)
    (s : Fin 8) (r : Fin 640) (hr : r.val = o + s.val) (l : Fin 128) :
    View.readAt (Elt Ideal) arg.view (Rect.unit (s := S4x2x640x128) off S1x1x8x128.size inb).toLoadRect X (ix4 0 0 s l) = arg.view.read (Elt Ideal) X (ix4 p half r l) := by
  subst ho
  have e : (Rect.unit (s := S4x2x640x128) ![p.val, half.val, o, 0] S1x1x8x128.size inb).emb (ix4 0 0 s l) = ix4 p half r l := by
    funext b
    apply Fin.ext
    match b with
    | ⟨0, _⟩ => exact (show p.val + 1 * 0 = p.val by rfl)
    | ⟨1, _⟩ => exact (show half.val + 1 * 0 = half.val by rfl)
    | ⟨2, _⟩ => exact (show o + 1 * s.val = r.val by omega)
    | ⟨3, _⟩ => exact (show 0 + 1 * l.val = l.val by omega)
  exact congrArg (arg.view.read (Elt Ideal) X) e

theorem loadW (arg : Memref sig .tc .vmem S2x640x128 .f32) (X : BufTy.Contents (Elt Ideal) arg.view.ty) (half : Fin 2) (o : ℕ) (off : Fin 3 → ℕ) (ho : off = ![half.val, o, 0]) (inb)
    (s : Fin 8) (r : Fin 640) (hr : r.val = o + s.val) (l : Fin 128) :
    View.readAt (Elt Ideal) arg.view (Rect.unit (s := S2x640x128) off S1x8x128.size inb).toLoadRect X (ix3 0 s l) = arg.view.read (Elt Ideal) X (ix3 half r l) := by
  subst ho
  have e : (Rect.unit (s := S2x640x128) ![half.val, o, 0] S1x8x128.size inb).emb (ix3 0 s l) = ix3 half r l := by
    funext b
    apply Fin.ext
    match b with
    | ⟨0, _⟩ => exact (show half.val + 1 * 0 = half.val by rfl)
    | ⟨1, _⟩ => exact (show o + 1 * s.val = r.val by omega)
    | ⟨2, _⟩ => exact (show 0 + 1 * l.val = l.val by omega)
  exact congrArg (arg.view.read (Elt Ideal) X) e

theorem loadS (arg : Memref sig .tc .vmem S320x128 .f32) (X : BufTy.Contents (Elt Ideal) arg.view.ty) (o : ℕ) (off : Fin 2 → ℕ) (ho : off = ![o, 0]) (inb)
    (s : Fin 8) (r : Fin 320) (hr : r.val = o + s.val) (l : Fin 128) :
    View.readAt (Elt Ideal) arg.view (Rect.unit (s := S320x128) off S8x128.size inb).toLoadRect X (ix2 s l) = arg.view.read (Elt Ideal) X (ix2 r l) := by
  subst ho
  have e : (Rect.unit (s := S320x128) ![o, 0] S8x128.size inb).emb (ix2 s l) = ix2 r l := by
    funext b
    apply Fin.ext
    match b with
    | ⟨0, _⟩ => exact (show o + 1 * s.val = r.val by omega)
    | ⟨1, _⟩ => exact (show 0 + 1 * l.val = l.val by omega)
  exact congrArg (arg.view.read (Elt Ideal) X) e

/-- The words two loads of one plane give. -/
theorem word_pair (arg : Memref sig .tc .vmem S4x2x640x128 .i32) (X : BufTy.Contents (Elt Ideal) arg.view.ty) (p : Fin 4) (o : ℕ)
    (off off' : Fin 4 → ℕ) (ho : off = ![p.val, 0, o, 0]) (ho' : off' = ![p.val, 1, o, 0]) (inb) (inb')
    (s : Fin 8) (r : Fin 640) (hr : r.val = o + s.val) (c : Fin 256) (half : Fin 2) (l : Fin 128) (hc : c.val = 128 * half.val + l.val) :
    k1_pay2 (F := Ideal) (View.readAt (Elt Ideal) arg.view (Rect.unit (s := S4x2x640x128) off S1x1x8x128.size inb).toLoadRect X) (View.readAt (Elt Ideal) arg.view (Rect.unit (s := S4x2x640x128) off' S1x1x8x128.size inb').toLoadRect X) (ix2 s c)
      = arg.view.read (Elt Ideal) X (ix4 p half r l) := by
  refine (cat2 (M := 8) ![shapeCast S8x128 (View.readAt (Elt Ideal) arg.view (Rect.unit (s := S4x2x640x128) off S1x1x8x128.size inb).toLoadRect X) shapeCasts_S1x1x8x128_S8x128, shapeCast S8x128 (View.readAt (Elt Ideal) arg.view (Rect.unit (s := S4x2x640x128) off' S1x1x8x128.size inb').toLoadRect X) shapeCasts_S1x1x8x128_S8x128] concatenates_S8x128_S8x128_S8x256_d1 s c half l hc).trans ?_
  match half, hc with
  | ⟨0, _⟩, _ => exact (shapeCast_11ab_ab_apply (a := 8) (b := 128) _ _ s l).trans (load4 arg X p 0 o off ho inb s r hr l)
  | ⟨1, _⟩, _ => exact (shapeCast_11ab_ab_apply (a := 8) (b := 128) _ _ s l).trans (load4 arg X p 1 o off' ho' inb' s r hr l)

/-- The weights two loads give. -/
theorem f32_pair (arg : Memref sig .tc .vmem S2x640x128 .f32) (X : BufTy.Contents (Elt Ideal) arg.view.ty) (o : ℕ)
    (off off' : Fin 3 → ℕ) (ho : off = ![0, o, 0]) (ho' : off' = ![1, o, 0]) (inb) (inb')
    (s : Fin 8) (r : Fin 640) (hr : r.val = o + s.val) (c : Fin 256) (half : Fin 2) (l : Fin 128) (hc : c.val = 128 * half.val + l.val) :
    k1_pay62 (F := Ideal) (View.readAt (Elt Ideal) arg.view (Rect.unit (s := S2x640x128) off S1x8x128.size inb).toLoadRect X) (View.readAt (Elt Ideal) arg.view (Rect.unit (s := S2x640x128) off' S1x8x128.size inb').toLoadRect X) (ix2 s c)
      = arg.view.read (Elt Ideal) X (ix3 half r l) := by
  refine (cat2 (M := 8) ![(shapeCast S8x128 (View.readAt (Elt Ideal) arg.view (Rect.unit (s := S2x640x128) off S1x8x128.size inb).toLoadRect X) shapeCasts_S1x8x128_S8x128 : FVec Ideal S8x128 .f32), shapeCast S8x128 (View.readAt (Elt Ideal) arg.view (Rect.unit (s := S2x640x128) off' S1x8x128.size inb').toLoadRect X) shapeCasts_S1x8x128_S8x128] concatenates_S8x128_S8x128_S8x256_d1 s c half l hc).trans ?_
  match half, hc with
  | ⟨0, _⟩, _ => exact (shapeCast_1ab_ab_apply (a := 8) (b := 128) _ _ s l).trans (loadW arg X 0 o off ho inb s r hr l)
  | ⟨1, _⟩, _ => exact (shapeCast_1ab_ab_apply (a := 8) (b := 128) _ _ s l).trans (loadW arg X 1 o off' ho' inb' s r hr l)

/-- The zero-point sums a load gives, twice side by side. -/
theorem z_pair (arg : Memref sig .tc .vmem S80x32x128 .f32) (X : BufTy.Contents (Elt Ideal) arg.view.ty) (jb : Fin 80) (o : ℕ)
    (off : Fin 3 → ℕ) (ho : off = ![jb.val, o, 0]) (inb)
    (s : Fin 8) (r : Fin 32) (hr : r.val = o + s.val) (c : Fin 256) (half : Fin 2) (l : Fin 128) (hc : c.val = 128 * half.val + l.val) :
    k1_pay66 (F := Ideal) (View.readAt (Elt Ideal) arg.view (Rect.unit (s := S80x32x128) off S1x8x128.size inb).toLoadRect X) (ix2 s c)
      = arg.view.read (Elt Ideal) X (ix3 jb r l) := by
  refine (cat2 (M := 8) (fun _ => (shapeCast S8x128 (View.readAt (Elt Ideal) arg.view (Rect.unit (s := S80x32x128) off S1x8x128.size inb).toLoadRect X) shapeCasts_S1x8x128_S8x128 : FVec Ideal S8x128 .f32)) concatenates_S8x128_S8x128_S8x256_d1 s c half l hc).trans ?_
  exact (shapeCast_1ab_ab_apply (a := 8) (b := 128) _ _ s l).trans (load3 (R := 128) (C := 128) arg X jb o 8 off ho inb s r hr l l rfl)

/-- The sum of entry 15 of a half group's quads. -/
noncomputable def Zsum (u : Fin 128 → EReal) (j2 h : Fin 2) : ℤ :=
  ∑ par ∈ Finset.range 2, ∑ s ∈ Finset.range 4, gz u (kv j2 (32 * par + 16 * h.val + 4 * s)) 15

/-- One half trip's contribution to a row, before its scale. -/
noncomputable def dK (x0 : Vec Ideal S320x128 .bf16) (PW : Fin 4 → Fin 2 → Fin 640 → Fin 128 → BitVec 32) (WS WZ : Fin 2 → Fin 640 → Fin 128 → EReal)
    (k : Fin 40) (t : Fin 3) (j2 h : Fin 2) (b : Fin 4) (half : Fin 2) (l : Fin 128) : EReal :=
  WS half ⟨16 * k.val + 8 * j2.val + (4 * h.val + b.val), by omega⟩ l *
    (zr (Asum (row x0 ⟨8 * k.val + t.val, by omega⟩) j2 h fun par s p =>
        nib (PW ⟨p % 4, by omega⟩ half ⟨16 * k.val + 8 * j2.val + (4 * h.val + s) % 8, by omega⟩ l) (2 * b.val + par))
      - WZ half ⟨16 * k.val + 8 * j2.val + (4 * h.val + b.val), by omega⟩ l * zr (Zsum (row x0 ⟨8 * k.val + t.val, by omega⟩) j2 h))

theorem comb {acc : FVec Ideal S32x256 .f32} {ws wz z : FVec Ideal S8x256 .f32} (o : ℕ) (hs : S32x256.Slices ![o, 0] S8x256) (s : Fin 8) (ρ : Fin 32) (hρ : ρ.val = o + s.val) (c : Fin 256)
    {a x y w : EReal} (h1 : ws (ix2 s c) = w) (h2 : acc (ix2 ρ c) = a) (h3 : wz (ix2 s c) = x) (h4 : z (ix2 s c) = y) :
    mulf ws (subf (extractStridedSlice S8x256 ![o, 0] acc hs) (mulf wz z)) (ix2 s c) = w * (a - x * y) := by
  have h5 : extractStridedSlice S8x256 ![o, 0] acc hs (ix2 s c) = a := (slice2_axis0_apply (n0 := 32) (n1 := 256) (m := 8) o acc hs s c ρ hρ).trans h2
  show ws (ix2 s c) * (extractStridedSlice S8x256 ![o, 0] acc hs (ix2 s c) - wz (ix2 s c) * z (ix2 s c)) = _
  rw [h1, h5, h3, h4]

/-- The scale's row, side by side and down. -/
theorem scale_row (v : FVec Ideal S8x128 .f32) (o : ℕ) (hs : S8x128.Slices ![o, 0] S1x128) (r : Fin 8) (hr : r.val = o) (a : EReal) (hv : ∀ l : Fin 128, v (ix2 r l) = a) (s : Fin 8) (c : Fin 256) :
    broadcastTo S8x256 (concatenate S1x256 1 [⟨S1x128, extractStridedSlice S1x128 ![o, 0] (k1_pay219 (F := Ideal) v) hs⟩, ⟨S1x128, extractStridedSlice S1x128 ![o, 0] (k1_pay219 (F := Ideal) v) hs⟩] concatenates_S1x128_S1x128_S1x256_d1) broadcasts_S1x256_S8x256 (ix2 s c) = a := by
  have e : k1_pay219 (F := Ideal) v = v := shapeCast_self _ _
  rw [e]
  refine (broadcastTo_1b_ab_apply (a := 8) (b := 256) _ broadcasts_S1x256_S8x256 s c).trans ?_
  refine (cat2 (M := 1) (fun _ => extractStridedSlice S1x128 ![o, 0] v hs) concatenates_S1x128_S1x128_S1x256_d1 0 c ⟨c.val / 128, by omega⟩ ⟨c.val % 128, by omega⟩ (by dsimp only; omega)).trans ?_
  exact (slice2_axis0_apply (n0 := 8) (n1 := 128) (m := 1) o v hs 0 _ r (by simpa using hr)).trans (hv _)

variable (arg6 : Memref sig .tc .vmem S80x32x1024 .bf16) (X6 : BufTy.Contents (Elt Ideal) arg6.view.ty) (arg7 : Memref sig .tc .vmem S80x32x128 .f32) (X7 : BufTy.Contents (Elt Ideal) arg7.view.ty) (arg8 : Memref sig .tc .vmem S320x128 .f32) (X8 : BufTy.Contents (Elt Ideal) arg8.view.ty)
  (arg10 : Memref sig .tc .vmem S4x2x640x128 .i32) (X10 : BufTy.Contents (Elt Ideal) arg10.view.ty) (arg11 : Memref sig .tc .vmem S2x640x128 .f32) (X11 : BufTy.Contents (Elt Ideal) arg11.view.ty) (arg12 : Memref sig .tc .vmem S2x640x128 .f32) (X12 : BufTy.Contents (Elt Ideal) arg12.view.ty)
  (k : Fin k1_t1_loop.trips) (x0 : Vec Ideal S320x128 .bf16) (h6 : ∀ y, arg6.view.read (Elt Ideal) X6 y = lhsG x0 y) (h7 : ∀ y, arg7.view.read (Elt Ideal) X7 y = zsumG x0 y) (h8 : ∀ y, arg8.view.read (Elt Ideal) X8 y = scaleG x0 y)
  (PW : Fin 4 → Fin 2 → Fin 640 → Fin 128 → BitVec 32) (WS WZ : Fin 2 → Fin 640 → Fin 128 → EReal) (h10 : ∀ p half r l, arg10.view.read (Elt Ideal) X10 (ix4 p half r l) = PW p half r l)
  (h11 : ∀ half r l, arg11.view.read (Elt Ideal) X11 (ix3 half r l) = WS half r l) (h12 : ∀ half r l, arg12.view.read (Elt Ideal) X12 (ix3 half r l) = WZ half r l)

include h10 in
theorem words0_eq (j : Fin 40) (hj : k.val = j.val) (s : Fin 8) (c : Fin 256) (half : Fin 2) (l : Fin 128) (hc : c.val = 128 * half.val + l.val) (p : Fin 4) :
    words0 arg10 X10 k s c p = PW p half ⟨16 * j.val + 8 * 0 + s.val, by omega⟩ l := by
  match p with
  | ⟨0, _⟩ => exact (word_pair arg10 X10 0 (16 * j.val + 8 * 0) (k1_off1 k 0#32) (k1_off2 k 0#32) ((k1_off1_eq k 0).trans (by rw [hj]; rfl)) ((k1_off2_eq k 0).trans (by rw [hj]; rfl)) (k1_off1_inb k 0) (k1_off2_inb k 0) s _ rfl c half l hc).trans (h10 _ _ _ _)
  | ⟨1, _⟩ => exact (word_pair arg10 X10 1 (16 * j.val + 8 * 0) (k1_off3 k 0#32) (k1_off4 k 0#32) ((k1_off3_eq k 0).trans (by rw [hj]; rfl)) ((k1_off4_eq k 0).trans (by rw [hj]; rfl)) (k1_off3_inb k 0) (k1_off4_inb k 0) s _ rfl c half l hc).trans (h10 _ _ _ _)
  | ⟨2, _⟩ => exact (word_pair arg10 X10 2 (16 * j.val + 8 * 0) (k1_off5 k 0#32) (k1_off6 k 0#32) ((k1_off5_eq k 0).trans (by rw [hj]; rfl)) ((k1_off6_eq k 0).trans (by rw [hj]; rfl)) (k1_off5_inb k 0) (k1_off6_inb k 0) s _ rfl c half l hc).trans (h10 _ _ _ _)
  | ⟨3, _⟩ => exact (word_pair arg10 X10 3 (16 * j.val + 8 * 0) (k1_off7 k 0#32) (k1_off8 k 0#32) ((k1_off7_eq k 0).trans (by rw [hj]; rfl)) ((k1_off8_eq k 0).trans (by rw [hj]; rfl)) (k1_off7_inb k 0) (k1_off8_inb k 0) s _ rfl c half l hc).trans (h10 _ _ _ _)

include h6 h10 in
theorem acc0_eq (j : Fin 40) (hj : k.val = j.val) (t : Fin 3) (h : Fin 2) (b : Fin 4) (ρ : Fin 32) (hρ : ρ.val = 8 * t.val + 4 * h.val + b.val) (c : Fin 256) (half : Fin 2) (l : Fin 128) (hc : c.val = 128 * half.val + l.val) :
    trip_k1_t1.sl.r_30 (F := Ideal) arg6 arg10 X6 X10 k (ix2 ρ c) = zr (Asum (row x0 ⟨8 * j.val + t.val, by omega⟩) 0 h fun par s p =>
        nib (PW ⟨p % 4, by omega⟩ half ⟨16 * j.val + 8 * 0 + (4 * h.val + s) % 8, by omega⟩ l) (2 * b.val + par)) := by
  rw [acc0_apply arg6 X6 arg10 X10 k x0 h6 j hj ⟨2 * j.val + 0, by omega⟩ rfl ρ c]
  have e := prod_sum x0 j 0 t h b ⟨2 * j.val + 0, by omega⟩ ρ ⟨8 * j.val + t.val, by omega⟩ rfl hρ rfl (fun n p => PW p half ⟨16 * j.val + 8 * 0 + n % 8, by omega⟩ l)
  refine congrArg zr (Eq.trans (Finset.sum_congr rfl fun q _ => ?_) e)
  have ew : words0 arg10 X10 k ⟨q % 32 / 4, by omega⟩ c = fun p => PW p half ⟨16 * j.val + 8 * 0 + q % 32 / 4 % 8, by omega⟩ l := by
    funext p
    rw [words0_eq arg10 X10 k PW h10 j hj _ c half l hc p]
    have e8 : q % 32 / 4 % 8 = q % 32 / 4 := by omega
    simp only [e8]
  rw [ew]

include h7 in
theorem z0_eq (j : Fin 40) (t : Fin 3) (h : Fin 2) (b : Fin 4) (s : Fin 8) (hs : s.val = 4 * h.val + b.val) (off : Fin 3 → ℕ) (ho : off = ![2 * j.val + 0, 8 * t.val, 0]) (inb) (c : Fin 256) (half : Fin 2) (l : Fin 128) (hc : c.val = 128 * half.val + l.val) :
    k1_pay66 (F := Ideal) (View.readAt (Elt Ideal) arg7.view (Rect.unit (s := S80x32x128) off S1x8x128.size inb).toLoadRect X7) (ix2 s c) = zr (Zsum (row x0 ⟨8 * j.val + t.val, by omega⟩) 0 h) := by
  refine (z_pair arg7 X7 ⟨2 * j.val + 0, by omega⟩ (8 * t.val) off ho inb s ⟨8 * t.val + s.val, by omega⟩ rfl c half l hc).trans ((h7 _).trans (congrArg zr ?_))
  exact zero_sum x0 j 0 t h b ⟨2 * j.val + 0, by omega⟩ ⟨8 * t.val + s.val, by omega⟩ ⟨8 * j.val + t.val, by omega⟩ rfl (by dsimp only; omega) rfl

include h11 in
theorem ws0_eq (j : Fin 40) (hj : k.val = j.val) (s : Fin 8) (c : Fin 256) (half : Fin 2) (l : Fin 128) (hc : c.val = 128 * half.val + l.val) (r : Fin 640) (hr : r.val = 16 * j.val + 8 * 0 + s.val) :
    k1_pay62 (F := Ideal) (View.readAt (Elt Ideal) arg11.view (Rect.unit (s := S2x640x128) (k1_off10 k 0#32) S1x8x128.size (k1_off10_inb k 0)).toLoadRect X11) (View.readAt (Elt Ideal) arg11.view (Rect.unit (s := S2x640x128) (k1_off11 k 0#32) S1x8x128.size (k1_off11_inb k 0)).toLoadRect X11) (ix2 s c) = WS half r l :=
  (f32_pair arg11 X11 (16 * j.val + 8 * 0) (k1_off10 k 0#32) (k1_off11 k 0#32) ((k1_off10_eq k 0).trans (by rw [hj]; rfl)) ((k1_off11_eq k 0).trans (by rw [hj]; rfl)) (k1_off10_inb k 0) (k1_off11_inb k 0) s r hr c half l hc).trans (h11 _ _ _)

include h10 in
theorem words1_eq (j : Fin 40) (hj : k.val = j.val) (s : Fin 8) (c : Fin 256) (half : Fin 2) (l : Fin 128) (hc : c.val = 128 * half.val + l.val) (p : Fin 4) :
    words1 arg10 X10 k s c p = PW p half ⟨16 * j.val + 8 * 1 + s.val, by omega⟩ l := by
  match p with
  | ⟨0, _⟩ => exact (word_pair arg10 X10 0 (16 * j.val + 8 * 1) (k1_off1 k 1#32) (k1_off2 k 1#32) ((k1_off1_eq k 1).trans (by rw [hj]; rfl)) ((k1_off2_eq k 1).trans (by rw [hj]; rfl)) (k1_off1_inb k 1) (k1_off2_inb k 1) s _ rfl c half l hc).trans (h10 _ _ _ _)
  | ⟨1, _⟩ => exact (word_pair arg10 X10 1 (16 * j.val + 8 * 1) (k1_off3 k 1#32) (k1_off4 k 1#32) ((k1_off3_eq k 1).trans (by rw [hj]; rfl)) ((k1_off4_eq k 1).trans (by rw [hj]; rfl)) (k1_off3_inb k 1) (k1_off4_inb k 1) s _ rfl c half l hc).trans (h10 _ _ _ _)
  | ⟨2, _⟩ => exact (word_pair arg10 X10 2 (16 * j.val + 8 * 1) (k1_off5 k 1#32) (k1_off6 k 1#32) ((k1_off5_eq k 1).trans (by rw [hj]; rfl)) ((k1_off6_eq k 1).trans (by rw [hj]; rfl)) (k1_off5_inb k 1) (k1_off6_inb k 1) s _ rfl c half l hc).trans (h10 _ _ _ _)
  | ⟨3, _⟩ => exact (word_pair arg10 X10 3 (16 * j.val + 8 * 1) (k1_off7 k 1#32) (k1_off8 k 1#32) ((k1_off7_eq k 1).trans (by rw [hj]; rfl)) ((k1_off8_eq k 1).trans (by rw [hj]; rfl)) (k1_off7_inb k 1) (k1_off8_inb k 1) s _ rfl c half l hc).trans (h10 _ _ _ _)

include h6 h10 in
theorem acc1_eq (j : Fin 40) (hj : k.val = j.val) (t : Fin 3) (h : Fin 2) (b : Fin 4) (ρ : Fin 32) (hρ : ρ.val = 8 * t.val + 4 * h.val + b.val) (c : Fin 256) (half : Fin 2) (l : Fin 128) (hc : c.val = 128 * half.val + l.val) :
    trip_k1_t1.sl.r_71 (F := Ideal) arg6 arg10 X6 X10 k (ix2 ρ c) = zr (Asum (row x0 ⟨8 * j.val + t.val, by omega⟩) 1 h fun par s p =>
        nib (PW ⟨p % 4, by omega⟩ half ⟨16 * j.val + 8 * 1 + (4 * h.val + s) % 8, by omega⟩ l) (2 * b.val + par)) := by
  rw [acc1_apply arg6 X6 arg10 X10 k x0 h6 j hj ⟨2 * j.val + 1, by omega⟩ rfl ρ c]
  have e := prod_sum x0 j 1 t h b ⟨2 * j.val + 1, by omega⟩ ρ ⟨8 * j.val + t.val, by omega⟩ rfl hρ rfl (fun n p => PW p half ⟨16 * j.val + 8 * 1 + n % 8, by omega⟩ l)
  refine congrArg zr (Eq.trans (Finset.sum_congr rfl fun q _ => ?_) e)
  have ew : words1 arg10 X10 k ⟨q % 32 / 4, by omega⟩ c = fun p => PW p half ⟨16 * j.val + 8 * 1 + q % 32 / 4 % 8, by omega⟩ l := by
    funext p
    rw [words1_eq arg10 X10 k PW h10 j hj _ c half l hc p]
    have e8 : q % 32 / 4 % 8 = q % 32 / 4 := by omega
    simp only [e8]
  rw [ew]

include h7 in
theorem z1_eq (j : Fin 40) (t : Fin 3) (h : Fin 2) (b : Fin 4) (s : Fin 8) (hs : s.val = 4 * h.val + b.val) (off : Fin 3 → ℕ) (ho : off = ![2 * j.val + 1, 8 * t.val, 0]) (inb) (c : Fin 256) (half : Fin 2) (l : Fin 128) (hc : c.val = 128 * half.val + l.val) :
    k1_pay66 (F := Ideal) (View.readAt (Elt Ideal) arg7.view (Rect.unit (s := S80x32x128) off S1x8x128.size inb).toLoadRect X7) (ix2 s c) = zr (Zsum (row x0 ⟨8 * j.val + t.val, by omega⟩) 1 h) := by
  refine (z_pair arg7 X7 ⟨2 * j.val + 1, by omega⟩ (8 * t.val) off ho inb s ⟨8 * t.val + s.val, by omega⟩ rfl c half l hc).trans ((h7 _).trans (congrArg zr ?_))
  exact zero_sum x0 j 1 t h b ⟨2 * j.val + 1, by omega⟩ ⟨8 * t.val + s.val, by omega⟩ ⟨8 * j.val + t.val, by omega⟩ rfl (by dsimp only; omega) rfl

include h11 in
theorem ws1_eq (j : Fin 40) (hj : k.val = j.val) (s : Fin 8) (c : Fin 256) (half : Fin 2) (l : Fin 128) (hc : c.val = 128 * half.val + l.val) (r : Fin 640) (hr : r.val = 16 * j.val + 8 * 1 + s.val) :
    k1_pay62 (F := Ideal) (View.readAt (Elt Ideal) arg11.view (Rect.unit (s := S2x640x128) (k1_off10 k 1#32) S1x8x128.size (k1_off10_inb k 1)).toLoadRect X11) (View.readAt (Elt Ideal) arg11.view (Rect.unit (s := S2x640x128) (k1_off11 k 1#32) S1x8x128.size (k1_off11_inb k 1)).toLoadRect X11) (ix2 s c) = WS half r l :=
  (f32_pair arg11 X11 (16 * j.val + 8 * 1) (k1_off10 k 1#32) (k1_off11 k 1#32) ((k1_off10_eq k 1).trans (by rw [hj]; rfl)) ((k1_off11_eq k 1).trans (by rw [hj]; rfl)) (k1_off10_inb k 1) (k1_off11_inb k 1) s r hr c half l hc).trans (h11 _ _ _)

include h6 h7 h10 h11 h12 in
theorem d0_0 (j : Fin 40) (hj : k.val = j.val) (h : Fin 2) (b : Fin 4) (s : Fin 8) (hs : s.val = 4 * h.val + b.val) (c : Fin 256) (half : Fin 2) (l : Fin 128) (hc : c.val = 128 * half.val + l.val) :
    mulf (F := Ideal) (k1_pay62 (F := Ideal) (View.readAt (Elt Ideal) arg11.view (Rect.unit (s := S2x640x128) (k1_off10 k 0#32) S1x8x128.size (k1_off10_inb k 0)).toLoadRect X11) (View.readAt (Elt Ideal) arg11.view (Rect.unit (s := S2x640x128) (k1_off11 k 0#32) S1x8x128.size (k1_off11_inb k 0)).toLoadRect X11))
      (subf (F := Ideal) (extractStridedSlice S8x256 ![0, 0] (trip_k1_t1.sl.r_30 (F := Ideal) arg6 arg10 X6 X10 k) slices_S32x256_o0_0_S8x256)
        (mulf (F := Ideal) (k1_pay62 (F := Ideal) (View.readAt (Elt Ideal) arg12.view (Rect.unit (s := S2x640x128) (k1_off10 k 0#32) S1x8x128.size (k1_off10_inb k 0)).toLoadRect X12) (View.readAt (Elt Ideal) arg12.view (Rect.unit (s := S2x640x128) (k1_off11 k 0#32) S1x8x128.size (k1_off11_inb k 0)).toLoadRect X12))
          (k1_pay66 (F := Ideal) (View.readAt (Elt Ideal) arg7.view (Rect.unit (s := S80x32x128) (k1_off12 k 0#32) S1x8x128.size (k1_off12_inb k 0)).toLoadRect X7)))) (ix2 s c)
      = dK x0 PW WS WZ j 0 0 h b half l :=
  comb 0 slices_S32x256_o0_0_S8x256 s ⟨0 + s.val, by omega⟩ rfl c
    (ws0_eq arg11 X11 k WS h11 j hj s c half l hc ⟨16 * j.val + 8 * 0 + (4 * h.val + b.val), by omega⟩ (by dsimp only; omega))
    (acc0_eq arg6 X6 arg10 X10 k x0 h6 PW h10 j hj 0 h b ⟨0 + s.val, by omega⟩ (by show 0 + s.val = 8 * 0 + 4 * h.val + b.val; omega) c half l hc)
    (ws0_eq arg12 X12 k WZ h12 j hj s c half l hc ⟨16 * j.val + 8 * 0 + (4 * h.val + b.val), by omega⟩ (by dsimp only; omega))
    (z0_eq arg7 X7 x0 h7 j 0 h b s hs (k1_off12 k 0#32) ((k1_off12_eq k 0).trans (by rw [hj]; rfl)) (k1_off12_inb k 0) c half l hc)

include h6 h7 h10 h11 h12 in
theorem d0_1 (j : Fin 40) (hj : k.val = j.val) (h : Fin 2) (b : Fin 4) (s : Fin 8) (hs : s.val = 4 * h.val + b.val) (c : Fin 256) (half : Fin 2) (l : Fin 128) (hc : c.val = 128 * half.val + l.val) :
    mulf (F := Ideal) (k1_pay62 (F := Ideal) (View.readAt (Elt Ideal) arg11.view (Rect.unit (s := S2x640x128) (k1_off10 k 1#32) S1x8x128.size (k1_off10_inb k 1)).toLoadRect X11) (View.readAt (Elt Ideal) arg11.view (Rect.unit (s := S2x640x128) (k1_off11 k 1#32) S1x8x128.size (k1_off11_inb k 1)).toLoadRect X11))
      (subf (F := Ideal) (extractStridedSlice S8x256 ![0, 0] (trip_k1_t1.sl.r_71 (F := Ideal) arg6 arg10 X6 X10 k) slices_S32x256_o0_0_S8x256)
        (mulf (F := Ideal) (k1_pay62 (F := Ideal) (View.readAt (Elt Ideal) arg12.view (Rect.unit (s := S2x640x128) (k1_off10 k 1#32) S1x8x128.size (k1_off10_inb k 1)).toLoadRect X12) (View.readAt (Elt Ideal) arg12.view (Rect.unit (s := S2x640x128) (k1_off11 k 1#32) S1x8x128.size (k1_off11_inb k 1)).toLoadRect X12))
          (k1_pay66 (F := Ideal) (View.readAt (Elt Ideal) arg7.view (Rect.unit (s := S80x32x128) (k1_off12 k 1#32) S1x8x128.size (k1_off12_inb k 1)).toLoadRect X7)))) (ix2 s c)
      = dK x0 PW WS WZ j 0 1 h b half l :=
  comb 0 slices_S32x256_o0_0_S8x256 s ⟨0 + s.val, by omega⟩ rfl c
    (ws1_eq arg11 X11 k WS h11 j hj s c half l hc ⟨16 * j.val + 8 * 1 + (4 * h.val + b.val), by omega⟩ (by dsimp only; omega))
    (acc1_eq arg6 X6 arg10 X10 k x0 h6 PW h10 j hj 0 h b ⟨0 + s.val, by omega⟩ (by show 0 + s.val = 8 * 0 + 4 * h.val + b.val; omega) c half l hc)
    (ws1_eq arg12 X12 k WZ h12 j hj s c half l hc ⟨16 * j.val + 8 * 1 + (4 * h.val + b.val), by omega⟩ (by dsimp only; omega))
    (z1_eq arg7 X7 x0 h7 j 0 h b s hs (k1_off12 k 1#32) ((k1_off12_eq k 1).trans (by rw [hj]; rfl)) (k1_off12_inb k 1) c half l hc)

include h6 h7 h10 h11 h12 in
theorem d1_0 (j : Fin 40) (hj : k.val = j.val) (h : Fin 2) (b : Fin 4) (s : Fin 8) (hs : s.val = 4 * h.val + b.val) (c : Fin 256) (half : Fin 2) (l : Fin 128) (hc : c.val = 128 * half.val + l.val) :
    mulf (F := Ideal) (k1_pay62 (F := Ideal) (View.readAt (Elt Ideal) arg11.view (Rect.unit (s := S2x640x128) (k1_off10 k 0#32) S1x8x128.size (k1_off10_inb k 0)).toLoadRect X11) (View.readAt (Elt Ideal) arg11.view (Rect.unit (s := S2x640x128) (k1_off11 k 0#32) S1x8x128.size (k1_off11_inb k 0)).toLoadRect X11))
      (subf (F := Ideal) (extractStridedSlice S8x256 ![8, 0] (trip_k1_t1.sl.r_30 (F := Ideal) arg6 arg10 X6 X10 k) slices_S32x256_o8_0_S8x256)
        (mulf (F := Ideal) (k1_pay62 (F := Ideal) (View.readAt (Elt Ideal) arg12.view (Rect.unit (s := S2x640x128) (k1_off10 k 0#32) S1x8x128.size (k1_off10_inb k 0)).toLoadRect X12) (View.readAt (Elt Ideal) arg12.view (Rect.unit (s := S2x640x128) (k1_off11 k 0#32) S1x8x128.size (k1_off11_inb k 0)).toLoadRect X12))
          (k1_pay66 (F := Ideal) (View.readAt (Elt Ideal) arg7.view (Rect.unit (s := S80x32x128) (k1_off13 k 0#32) S1x8x128.size (k1_off13_inb k 0)).toLoadRect X7)))) (ix2 s c)
      = dK x0 PW WS WZ j 1 0 h b half l :=
  comb 8 slices_S32x256_o8_0_S8x256 s ⟨8 + s.val, by omega⟩ rfl c
    (ws0_eq arg11 X11 k WS h11 j hj s c half l hc ⟨16 * j.val + 8 * 0 + (4 * h.val + b.val), by omega⟩ (by dsimp only; omega))
    (acc0_eq arg6 X6 arg10 X10 k x0 h6 PW h10 j hj 1 h b ⟨8 + s.val, by omega⟩ (by show 8 + s.val = 8 * 1 + 4 * h.val + b.val; omega) c half l hc)
    (ws0_eq arg12 X12 k WZ h12 j hj s c half l hc ⟨16 * j.val + 8 * 0 + (4 * h.val + b.val), by omega⟩ (by dsimp only; omega))
    (z0_eq arg7 X7 x0 h7 j 1 h b s hs (k1_off13 k 0#32) ((k1_off13_eq k 0).trans (by rw [hj]; rfl)) (k1_off13_inb k 0) c half l hc)

include h6 h7 h10 h11 h12 in
theorem d1_1 (j : Fin 40) (hj : k.val = j.val) (h : Fin 2) (b : Fin 4) (s : Fin 8) (hs : s.val = 4 * h.val + b.val) (c : Fin 256) (half : Fin 2) (l : Fin 128) (hc : c.val = 128 * half.val + l.val) :
    mulf (F := Ideal) (k1_pay62 (F := Ideal) (View.readAt (Elt Ideal) arg11.view (Rect.unit (s := S2x640x128) (k1_off10 k 1#32) S1x8x128.size (k1_off10_inb k 1)).toLoadRect X11) (View.readAt (Elt Ideal) arg11.view (Rect.unit (s := S2x640x128) (k1_off11 k 1#32) S1x8x128.size (k1_off11_inb k 1)).toLoadRect X11))
      (subf (F := Ideal) (extractStridedSlice S8x256 ![8, 0] (trip_k1_t1.sl.r_71 (F := Ideal) arg6 arg10 X6 X10 k) slices_S32x256_o8_0_S8x256)
        (mulf (F := Ideal) (k1_pay62 (F := Ideal) (View.readAt (Elt Ideal) arg12.view (Rect.unit (s := S2x640x128) (k1_off10 k 1#32) S1x8x128.size (k1_off10_inb k 1)).toLoadRect X12) (View.readAt (Elt Ideal) arg12.view (Rect.unit (s := S2x640x128) (k1_off11 k 1#32) S1x8x128.size (k1_off11_inb k 1)).toLoadRect X12))
          (k1_pay66 (F := Ideal) (View.readAt (Elt Ideal) arg7.view (Rect.unit (s := S80x32x128) (k1_off13 k 1#32) S1x8x128.size (k1_off13_inb k 1)).toLoadRect X7)))) (ix2 s c)
      = dK x0 PW WS WZ j 1 1 h b half l :=
  comb 8 slices_S32x256_o8_0_S8x256 s ⟨8 + s.val, by omega⟩ rfl c
    (ws1_eq arg11 X11 k WS h11 j hj s c half l hc ⟨16 * j.val + 8 * 1 + (4 * h.val + b.val), by omega⟩ (by dsimp only; omega))
    (acc1_eq arg6 X6 arg10 X10 k x0 h6 PW h10 j hj 1 h b ⟨8 + s.val, by omega⟩ (by show 8 + s.val = 8 * 1 + 4 * h.val + b.val; omega) c half l hc)
    (ws1_eq arg12 X12 k WZ h12 j hj s c half l hc ⟨16 * j.val + 8 * 1 + (4 * h.val + b.val), by omega⟩ (by dsimp only; omega))
    (z1_eq arg7 X7 x0 h7 j 1 h b s hs (k1_off13 k 1#32) ((k1_off13_eq k 1).trans (by rw [hj]; rfl)) (k1_off13_inb k 1) c half l hc)

include h6 h7 h10 h11 h12 in
theorem d2_0 (j : Fin 40) (hj : k.val = j.val) (h : Fin 2) (b : Fin 4) (s : Fin 8) (hs : s.val = 4 * h.val + b.val) (c : Fin 256) (half : Fin 2) (l : Fin 128) (hc : c.val = 128 * half.val + l.val) :
    mulf (F := Ideal) (k1_pay62 (F := Ideal) (View.readAt (Elt Ideal) arg11.view (Rect.unit (s := S2x640x128) (k1_off10 k 0#32) S1x8x128.size (k1_off10_inb k 0)).toLoadRect X11) (View.readAt (Elt Ideal) arg11.view (Rect.unit (s := S2x640x128) (k1_off11 k 0#32) S1x8x128.size (k1_off11_inb k 0)).toLoadRect X11))
      (subf (F := Ideal) (extractStridedSlice S8x256 ![16, 0] (trip_k1_t1.sl.r_30 (F := Ideal) arg6 arg10 X6 X10 k) slices_S32x256_o16_0_S8x256)
        (mulf (F := Ideal) (k1_pay62 (F := Ideal) (View.readAt (Elt Ideal) arg12.view (Rect.unit (s := S2x640x128) (k1_off10 k 0#32) S1x8x128.size (k1_off10_inb k 0)).toLoadRect X12) (View.readAt (Elt Ideal) arg12.view (Rect.unit (s := S2x640x128) (k1_off11 k 0#32) S1x8x128.size (k1_off11_inb k 0)).toLoadRect X12))
          (k1_pay66 (F := Ideal) (View.readAt (Elt Ideal) arg7.view (Rect.unit (s := S80x32x128) (k1_off14 k 0#32) S1x8x128.size (k1_off14_inb k 0)).toLoadRect X7)))) (ix2 s c)
      = dK x0 PW WS WZ j 2 0 h b half l :=
  comb 16 slices_S32x256_o16_0_S8x256 s ⟨16 + s.val, by omega⟩ rfl c
    (ws0_eq arg11 X11 k WS h11 j hj s c half l hc ⟨16 * j.val + 8 * 0 + (4 * h.val + b.val), by omega⟩ (by dsimp only; omega))
    (acc0_eq arg6 X6 arg10 X10 k x0 h6 PW h10 j hj 2 h b ⟨16 + s.val, by omega⟩ (by show 16 + s.val = 8 * 2 + 4 * h.val + b.val; omega) c half l hc)
    (ws0_eq arg12 X12 k WZ h12 j hj s c half l hc ⟨16 * j.val + 8 * 0 + (4 * h.val + b.val), by omega⟩ (by dsimp only; omega))
    (z0_eq arg7 X7 x0 h7 j 2 h b s hs (k1_off14 k 0#32) ((k1_off14_eq k 0).trans (by rw [hj]; rfl)) (k1_off14_inb k 0) c half l hc)

include h6 h7 h10 h11 h12 in
theorem d2_1 (j : Fin 40) (hj : k.val = j.val) (h : Fin 2) (b : Fin 4) (s : Fin 8) (hs : s.val = 4 * h.val + b.val) (c : Fin 256) (half : Fin 2) (l : Fin 128) (hc : c.val = 128 * half.val + l.val) :
    mulf (F := Ideal) (k1_pay62 (F := Ideal) (View.readAt (Elt Ideal) arg11.view (Rect.unit (s := S2x640x128) (k1_off10 k 1#32) S1x8x128.size (k1_off10_inb k 1)).toLoadRect X11) (View.readAt (Elt Ideal) arg11.view (Rect.unit (s := S2x640x128) (k1_off11 k 1#32) S1x8x128.size (k1_off11_inb k 1)).toLoadRect X11))
      (subf (F := Ideal) (extractStridedSlice S8x256 ![16, 0] (trip_k1_t1.sl.r_71 (F := Ideal) arg6 arg10 X6 X10 k) slices_S32x256_o16_0_S8x256)
        (mulf (F := Ideal) (k1_pay62 (F := Ideal) (View.readAt (Elt Ideal) arg12.view (Rect.unit (s := S2x640x128) (k1_off10 k 1#32) S1x8x128.size (k1_off10_inb k 1)).toLoadRect X12) (View.readAt (Elt Ideal) arg12.view (Rect.unit (s := S2x640x128) (k1_off11 k 1#32) S1x8x128.size (k1_off11_inb k 1)).toLoadRect X12))
          (k1_pay66 (F := Ideal) (View.readAt (Elt Ideal) arg7.view (Rect.unit (s := S80x32x128) (k1_off14 k 1#32) S1x8x128.size (k1_off14_inb k 1)).toLoadRect X7)))) (ix2 s c)
      = dK x0 PW WS WZ j 2 1 h b half l :=
  comb 16 slices_S32x256_o16_0_S8x256 s ⟨16 + s.val, by omega⟩ rfl c
    (ws1_eq arg11 X11 k WS h11 j hj s c half l hc ⟨16 * j.val + 8 * 1 + (4 * h.val + b.val), by omega⟩ (by dsimp only; omega))
    (acc1_eq arg6 X6 arg10 X10 k x0 h6 PW h10 j hj 2 h b ⟨16 + s.val, by omega⟩ (by show 16 + s.val = 8 * 2 + 4 * h.val + b.val; omega) c half l hc)
    (ws1_eq arg12 X12 k WZ h12 j hj s c half l hc ⟨16 * j.val + 8 * 1 + (4 * h.val + b.val), by omega⟩ (by dsimp only; omega))
    (z1_eq arg7 X7 x0 h7 j 2 h b s hs (k1_off14 k 1#32) ((k1_off14_eq k 1).trans (by rw [hj]; rfl)) (k1_off14_inb k 1) c half l hc)

variable (𝒱 : Variants) (cc : Dev nD) (bd : Option 𝒱.V) (i : grid1.Coords) (arg1 : Memref sig .tc .vmem S4x1024x640 .i8) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
  (harg6 : arg6.IsWhole) (harg7 : arg7.IsWhole) (harg8 : arg8.IsWhole) (arg9 : Memref sig .tc .vmem S1x3x4x256 .bf16) (harg9 : arg9.IsWhole) (harg10 : arg10.IsWhole) (harg11 : arg11.IsWhole) (harg12 : arg12.IsWhole) (v450 : Vec Ideal S128x128 .f32)

/-- One trip's contribution to a row. -/
noncomputable def tK (x0 : Vec Ideal S320x128 .bf16) (PW : Fin 4 → Fin 2 → Fin 640 → Fin 128 → BitVec 32) (WS WZ : Fin 2 → Fin 640 → Fin 128 → EReal)
    (k : Fin 40) (t : Fin 3) (h : Fin 2) (b : Fin 4) (half : Fin 2) (l : Fin 128) : EReal :=
  (dK x0 PW WS WZ k t 0 h b half l + dK x0 PW WS WZ k t 1 h b half l) * gscale (row x0 ⟨8 * k.val + t.val, by omega⟩)

include h8 in
theorem scale_at (j : Fin 40) (hj : k.val = j.val) (t : Fin 3) (r : Fin 8) (hr : r.val = t.val) (l : Fin 128) :
    View.readAt (Elt Ideal) arg8.view (Rect.unit (s := S320x128) (k1_off15 k) S8x128.size (k1_off15_inb k)).toLoadRect X8 (ix2 r l) = gscale (row x0 ⟨8 * j.val + t.val, by omega⟩) :=
  (loadS arg8 X8 (8 * j.val) (k1_off15 k) ((k1_off15_eq k).trans (by rw [hj])) (k1_off15_inb k) r ⟨8 * j.val + t.val, by omega⟩ (by dsimp only; omega) l).trans (h8 _)

theorem trips1_40 : k1_t1_loop.trips = 40 := rfl
theorem fin_step (a d b : FVec Ideal S8x256 .f32) (j : S8x256.Idx) {x y z : EReal} (h1 : a j = x) (h2 : d j = y) (h3 : b j = z) : addf a (mulf d b) j = x + y * z := by
  show a j + d j * b j = _
  rw [h1, h2, h3]
theorem add2 (a d : FVec Ideal S8x256 .f32) (j : S8x256.Idx) {x y : EReal} (h1 : a j = x) (h2 : d j = y) : addf a d j = x + y := by
  show a j + d j = _
  rw [h1, h2]

include h6 h7 h8 h10 h11 h12 in
theorem trip_0 (j : Fin 40) (hj : k.val = j.val) (h : Fin 2) (b : Fin 4) (s : Fin 8) (hs : s.val = 4 * h.val + b.val) (c : Fin 256) (half : Fin 2) (l : Fin 128) (hc : c.val = 128 * half.val + l.val)
    (acc : FVec Ideal S8x256 .f32 × FVec Ideal S8x256 .f32 × FVec Ideal S8x256 .f32) :
    (tripR_k1_t1 (F := Ideal) 𝒱 cc bd i arg1 harg1 arg2 harg2 arg3 harg3 arg4 harg4 arg5 harg5 arg6 harg6 arg7 harg7 arg8 harg8 arg9 harg9 arg10 harg10 arg11 harg11 arg12 harg12 v450 X6 X7 X8 X10 X11 X12 k acc).1 (ix2 s c) = acc.1 (ix2 s c) + tK x0 PW WS WZ j 0 h b half l := by
  unfold tripR_k1_t1 trip_k1_t1
  exact fin_step _ _ _ (ix2 s c) rfl
    (add2 _ _ (ix2 s c) (d0_0 arg6 X6 arg7 X7 arg10 X10 arg11 X11 arg12 X12 k x0 h6 h7 PW WS WZ h10 h11 h12 j hj h b s hs c half l hc) (d0_1 arg6 X6 arg7 X7 arg10 X10 arg11 X11 arg12 X12 k x0 h6 h7 PW WS WZ h10 h11 h12 j hj h b s hs c half l hc))
    (scale_row (View.readAt (Elt Ideal) arg8.view (Rect.unit (s := S320x128) (k1_off15 k) S8x128.size (k1_off15_inb k)).toLoadRect X8) 0 slices_S8x128_o0_0_S1x128 0 rfl _ (scale_at arg8 X8 k x0 h8 j hj 0 0 rfl) s c)

include h6 h7 h8 h10 h11 h12 in
theorem trip_1 (j : Fin 40) (hj : k.val = j.val) (h : Fin 2) (b : Fin 4) (s : Fin 8) (hs : s.val = 4 * h.val + b.val) (c : Fin 256) (half : Fin 2) (l : Fin 128) (hc : c.val = 128 * half.val + l.val)
    (acc : FVec Ideal S8x256 .f32 × FVec Ideal S8x256 .f32 × FVec Ideal S8x256 .f32) :
    (tripR_k1_t1 (F := Ideal) 𝒱 cc bd i arg1 harg1 arg2 harg2 arg3 harg3 arg4 harg4 arg5 harg5 arg6 harg6 arg7 harg7 arg8 harg8 arg9 harg9 arg10 harg10 arg11 harg11 arg12 harg12 v450 X6 X7 X8 X10 X11 X12 k acc).2.1 (ix2 s c) = acc.2.1 (ix2 s c) + tK x0 PW WS WZ j 1 h b half l := by
  unfold tripR_k1_t1 trip_k1_t1
  exact fin_step _ _ _ (ix2 s c) rfl
    (add2 _ _ (ix2 s c) (d1_0 arg6 X6 arg7 X7 arg10 X10 arg11 X11 arg12 X12 k x0 h6 h7 PW WS WZ h10 h11 h12 j hj h b s hs c half l hc) (d1_1 arg6 X6 arg7 X7 arg10 X10 arg11 X11 arg12 X12 k x0 h6 h7 PW WS WZ h10 h11 h12 j hj h b s hs c half l hc))
    (scale_row (View.readAt (Elt Ideal) arg8.view (Rect.unit (s := S320x128) (k1_off15 k) S8x128.size (k1_off15_inb k)).toLoadRect X8) 1 slices_S8x128_o1_0_S1x128 1 rfl _ (scale_at arg8 X8 k x0 h8 j hj 1 1 rfl) s c)

include h6 h7 h8 h10 h11 h12 in
theorem trip_2 (j : Fin 40) (hj : k.val = j.val) (h : Fin 2) (b : Fin 4) (s : Fin 8) (hs : s.val = 4 * h.val + b.val) (c : Fin 256) (half : Fin 2) (l : Fin 128) (hc : c.val = 128 * half.val + l.val)
    (acc : FVec Ideal S8x256 .f32 × FVec Ideal S8x256 .f32 × FVec Ideal S8x256 .f32) :
    (tripR_k1_t1 (F := Ideal) 𝒱 cc bd i arg1 harg1 arg2 harg2 arg3 harg3 arg4 harg4 arg5 harg5 arg6 harg6 arg7 harg7 arg8 harg8 arg9 harg9 arg10 harg10 arg11 harg11 arg12 harg12 v450 X6 X7 X8 X10 X11 X12 k acc).2.2 (ix2 s c) = acc.2.2 (ix2 s c) + tK x0 PW WS WZ j 2 h b half l := by
  unfold tripR_k1_t1 trip_k1_t1
  exact fin_step _ _ _ (ix2 s c) rfl
    (add2 _ _ (ix2 s c) (d2_0 arg6 X6 arg7 X7 arg10 X10 arg11 X11 arg12 X12 k x0 h6 h7 PW WS WZ h10 h11 h12 j hj h b s hs c half l hc) (d2_1 arg6 X6 arg7 X7 arg10 X10 arg11 X11 arg12 X12 k x0 h6 h7 PW WS WZ h10 h11 h12 j hj h b s hs c half l hc))
    (scale_row (View.readAt (Elt Ideal) arg8.view (Rect.unit (s := S320x128) (k1_off15 k) S8x128.size (k1_off15_inb k)).toLoadRect X8) 2 slices_S8x128_o2_0_S1x128 2 rfl _ (scale_at arg8 X8 k x0 h8 j hj 2 2 rfl) s c)

include h6 h7 h8 h10 h11 h12 in
theorem loop_0 (h : Fin 2) (b : Fin 4) (s : Fin 8) (hs : s.val = 4 * h.val + b.val) (c : Fin 256) (half : Fin 2) (l : Fin 128) (hc : c.val = 128 * half.val + l.val)
    (init : FVec Ideal S8x256 .f32 × FVec Ideal S8x256 .f32 × FVec Ideal S8x256 .f32) (hi : init.1 (ix2 s c) = 0) (n : ℕ) (hn : n ≤ 40) :
    (st_k1_t1 (F := Ideal) 𝒱 cc bd i arg1 harg1 arg2 harg2 arg3 harg3 arg4 harg4 arg5 harg5 arg6 harg6 arg7 harg7 arg8 harg8 arg9 harg9 arg10 harg10 arg11 harg11 arg12 harg12 v450 X6 X7 X8 X10 X11 X12 init n).1 (ix2 s c) = ∑ j : Fin n, tK x0 PW WS WZ ⟨j.val, by omega⟩ 0 h b half l := by
  induction n with
  | zero => exact hi
  | succ n ih =>
    have ht : n < k1_t1_loop.trips := trips1_40 ▸ (by omega : n < 40)
    have e := st_k1_t1_succ (F := Ideal) 𝒱 cc bd i arg1 harg1 arg2 harg2 arg3 harg3 arg4 harg4 arg5 harg5 arg6 harg6 arg7 harg7 arg8 harg8 arg9 harg9 arg10 harg10 arg11 harg11 arg12 harg12 v450 X6 X7 X8 X10 X11 X12 init ⟨n, ht⟩
    dsimp only at e
    rw [e, trip_0 arg6 X6 arg7 X7 arg8 X8 arg10 X10 arg11 X11 arg12 X12 ⟨n, ht⟩ x0 h6 h7 h8 PW WS WZ h10 h11 h12 𝒱 cc bd i arg1 harg1 arg2 harg2 arg3 harg3 arg4 harg4 arg5 harg5 harg6 harg7 harg8 arg9 harg9 harg10 harg11 harg12 v450 ⟨n, by omega⟩ rfl h b s hs c half l hc, ih (by omega), Fin.sum_univ_castSucc]
    rfl

include h6 h7 h8 h10 h11 h12 in
theorem loop_1 (h : Fin 2) (b : Fin 4) (s : Fin 8) (hs : s.val = 4 * h.val + b.val) (c : Fin 256) (half : Fin 2) (l : Fin 128) (hc : c.val = 128 * half.val + l.val)
    (init : FVec Ideal S8x256 .f32 × FVec Ideal S8x256 .f32 × FVec Ideal S8x256 .f32) (hi : init.2.1 (ix2 s c) = 0) (n : ℕ) (hn : n ≤ 40) :
    (st_k1_t1 (F := Ideal) 𝒱 cc bd i arg1 harg1 arg2 harg2 arg3 harg3 arg4 harg4 arg5 harg5 arg6 harg6 arg7 harg7 arg8 harg8 arg9 harg9 arg10 harg10 arg11 harg11 arg12 harg12 v450 X6 X7 X8 X10 X11 X12 init n).2.1 (ix2 s c) = ∑ j : Fin n, tK x0 PW WS WZ ⟨j.val, by omega⟩ 1 h b half l := by
  induction n with
  | zero => exact hi
  | succ n ih =>
    have ht : n < k1_t1_loop.trips := trips1_40 ▸ (by omega : n < 40)
    have e := st_k1_t1_succ (F := Ideal) 𝒱 cc bd i arg1 harg1 arg2 harg2 arg3 harg3 arg4 harg4 arg5 harg5 arg6 harg6 arg7 harg7 arg8 harg8 arg9 harg9 arg10 harg10 arg11 harg11 arg12 harg12 v450 X6 X7 X8 X10 X11 X12 init ⟨n, ht⟩
    dsimp only at e
    rw [e, trip_1 arg6 X6 arg7 X7 arg8 X8 arg10 X10 arg11 X11 arg12 X12 ⟨n, ht⟩ x0 h6 h7 h8 PW WS WZ h10 h11 h12 𝒱 cc bd i arg1 harg1 arg2 harg2 arg3 harg3 arg4 harg4 arg5 harg5 harg6 harg7 harg8 arg9 harg9 harg10 harg11 harg12 v450 ⟨n, by omega⟩ rfl h b s hs c half l hc, ih (by omega), Fin.sum_univ_castSucc]
    rfl

include h6 h7 h8 h10 h11 h12 in
theorem loop_2 (h : Fin 2) (b : Fin 4) (s : Fin 8) (hs : s.val = 4 * h.val + b.val) (c : Fin 256) (half : Fin 2) (l : Fin 128) (hc : c.val = 128 * half.val + l.val)
    (init : FVec Ideal S8x256 .f32 × FVec Ideal S8x256 .f32 × FVec Ideal S8x256 .f32) (hi : init.2.2 (ix2 s c) = 0) (n : ℕ) (hn : n ≤ 40) :
    (st_k1_t1 (F := Ideal) 𝒱 cc bd i arg1 harg1 arg2 harg2 arg3 harg3 arg4 harg4 arg5 harg5 arg6 harg6 arg7 harg7 arg8 harg8 arg9 harg9 arg10 harg10 arg11 harg11 arg12 harg12 v450 X6 X7 X8 X10 X11 X12 init n).2.2 (ix2 s c) = ∑ j : Fin n, tK x0 PW WS WZ ⟨j.val, by omega⟩ 2 h b half l := by
  induction n with
  | zero => exact hi
  | succ n ih =>
    have ht : n < k1_t1_loop.trips := trips1_40 ▸ (by omega : n < 40)
    have e := st_k1_t1_succ (F := Ideal) 𝒱 cc bd i arg1 harg1 arg2 harg2 arg3 harg3 arg4 harg4 arg5 harg5 arg6 harg6 arg7 harg7 arg8 harg8 arg9 harg9 arg10 harg10 arg11 harg11 arg12 harg12 v450 X6 X7 X8 X10 X11 X12 init ⟨n, ht⟩
    dsimp only at e
    rw [e, trip_2 arg6 X6 arg7 X7 arg8 X8 arg10 X10 arg11 X11 arg12 X12 ⟨n, ht⟩ x0 h6 h7 h8 PW WS WZ h10 h11 h12 𝒱 cc bd i arg1 harg1 arg2 harg2 arg3 harg3 arg4 harg4 arg5 harg5 harg6 harg7 harg8 arg9 harg9 harg10 harg11 harg12 v450 ⟨n, by omega⟩ rfl h b s hs c half l hc, ih (by omega), Fin.sum_univ_castSucc]
    rfl

end Cert.KernelIdeal.Run
-- ==== Proof.KernelIdeal.Scratch.lean ====
module
public import proofs.«01_k».proof.Proof.KernelIdeal.Trip
public import proofs.«01_k».proof.Proof.KernelIdeal.Run1
@[expose] public section

/-! What the main body's scratch buffers hold when the loop starts. -/
namespace Cert.KernelIdeal.Run
open Idealize.ShloMosaic Idealize.ShloMosaic.TcCoe Cert.KernelIdeal.Gen Idealize.SL Idealize.ShloMosaic.ValueIdx Cert.Spec Cert.Pieces Cert.Bits

/-- The word of four bytes. -/
def wordOf (f : Fin 4 → BitVec 8) : BitVec 32 := f 3 ++ f 2 ++ f 1 ++ f 0

theorem wordOf_getLsbD (f : Fin 4 → BitVec 8) (q : ℕ) (hq : q < 32) : (wordOf f).getLsbD q = (f ⟨q / 8, by omega⟩).getLsbD (q % 8) := by
  unfold wordOf
  rcases (by omega : q / 8 = 0 ∨ q / 8 = 1 ∨ q / 8 = 2 ∨ q / 8 = 3) with h | h | h | h
  · rw [(Fin.ext h : (⟨q / 8, by omega⟩ : Fin 4) = 0), (by omega : q % 8 = q), BitVec.getLsbD_append, if_pos (by omega)]
  · rw [(Fin.ext h : (⟨q / 8, by omega⟩ : Fin 4) = 1), (by omega : q % 8 = q - 8), BitVec.getLsbD_append, if_neg (by omega), BitVec.getLsbD_append, if_pos (by omega)]
  · rw [(Fin.ext h : (⟨q / 8, by omega⟩ : Fin 4) = 2), (by omega : q % 8 = q - 8 - 8), BitVec.getLsbD_append, if_neg (by omega), BitVec.getLsbD_append, if_neg (by omega), BitVec.getLsbD_append, if_pos (by omega)]
  · rw [(Fin.ext h : (⟨q / 8, by omega⟩ : Fin 4) = 3), (by omega : q % 8 = q - 8 - 8 - 8), BitVec.getLsbD_append, if_neg (by omega), BitVec.getLsbD_append, if_neg (by omega), BitVec.getLsbD_append, if_neg (by omega)]

/-- The plane words, from the block of the planes. -/
def PWd (x : Vec Ideal S4x1024x640 .i8) (p : Fin 4) (half : Fin 2) (j : Fin 640) (l : Fin 128) : BitVec 32 :=
  wordOf fun b => (x (ix3 p ⟨512 * half.val + 4 * l.val + b.val, by omega⟩ j) : BitVec 8)
def PWG (x : Vec Ideal S4x1024x640 .i8) (y : S4x2x640x128.Idx) : BitVec 32 := PWd x (y 0) (y 1) (y 2) (y 3)

/-- The weights' scratch, from the blocks of the two column windows. -/
noncomputable def Wd (x1 x2 : Vec Ideal S1024x128 .f32) (half : Fin 2) (r : Fin 640) (l : Fin 128) : EReal :=
  if h : r.val / 4 < 128 then x1 (ix2 ⟨512 * half.val + 4 * l.val + r.val % 4, by omega⟩ ⟨r.val / 4, h⟩)
  else x2 (ix2 ⟨512 * half.val + 4 * l.val + r.val % 4, by omega⟩ ⟨r.val / 4 - 128, by omega⟩)
noncomputable def WG (x1 x2 : Vec Ideal S1024x128 .f32) (y : S2x640x128.Idx) : EReal := Wd x1 x2 (y 0) (y 1) (y 2)

theorem read_writes_emb {Val : EltTy → Type} {sig : RefSig} {κ : Kind} {sp : Space} {s : Shape} {e : EltTy} (v : View sig κ sp s e) (f : v.ty.Contents Val) (G : s.Idx → Val e) (y : s.Idx)
    (L : List (View.Piece Val s e)) (hp : ∀ p ∈ L, ∀ x, p.2 x = G (p.1.emb x)) (hc : ∃ p ∈ L, ∃ x, p.1.emb x = y) :
    v.read Val (v.writes Val f L) y = G y := by
  refine read_writes_eq v f G y L hp ?_
  obtain ⟨p, hm, x, rfl⟩ := hc
  exact ⟨p, hm, by rw [← Rect.map_emb_univ]; exact Finset.mem_map_of_mem _ (Finset.mem_univ x)⟩

theorem qemb (p : Fin 4) (half : Fin 2) (o : ℕ) (off : Fin 4 → ℕ) (ho : off = ![p.val, half.val, o, 0]) (inb) (a : Fin 128) (j : Fin 640) (hj : j.val = o + a.val) (l : Fin 128) :
    (Rect.unit (s := S4x2x640x128) off S1x1x128x128.size inb).emb (ix4 0 0 a l) = ix4 p half j l := by
  subst ho
  funext b
  apply Fin.ext
  match b with
  | ⟨0, _⟩ => exact (show p.val + 1 * 0 = p.val by rfl)
  | ⟨1, _⟩ => exact (show half.val + 1 * 0 = half.val by rfl)
  | ⟨2, _⟩ => exact (show o + 1 * a.val = j.val by omega)
  | ⟨3, _⟩ => exact (show 0 + 1 * l.val = l.val by omega)

theorem wemb {n : ℕ} (half : Fin 2) (o : ℕ) (off : Fin 3 → ℕ) (ho : off = ![half.val, o, 0]) (inb) (sp) (a : Fin n) (r : Fin 640) (hr : r.val = o + 4 * a.val) (l : Fin 128) :
    ({ off := off, size := (⟨3, ![1, n, 128]⟩ : Shape).size, stride := ![1, 4, 1], inb := inb, stride_pos := sp } : Rect S2x640x128).emb (ix3 0 a l) = ix3 half r l := by
  subst ho
  funext b
  apply Fin.ext
  match b with
  | ⟨0, _⟩ => exact (show half.val + 1 * 0 = half.val by rfl)
  | ⟨1, _⟩ => exact (show o + 4 * a.val = r.val by omega)
  | ⟨2, _⟩ => exact (show 0 + 1 * l.val = l.val by omega)

theorem eq_ix4_0 {b c : ℕ} (y : (⟨4, ![1, 1, b, c]⟩ : Shape).Idx) : y = ix4 0 0 (y 2) (y 3) := by
  funext a
  match a with
  | ⟨0, _⟩ => exact Subsingleton.elim (α := Fin 1) _ _
  | ⟨1, _⟩ => exact Subsingleton.elim (α := Fin 1) _ _
  | ⟨2, _⟩ => rfl
  | ⟨3, _⟩ => rfl
theorem eq_ix3_0 {b c : ℕ} (y : (⟨3, ![1, b, c]⟩ : Shape).Idx) : y = ix3 0 (y 1) (y 2) := by
  funext a
  match a with
  | ⟨0, _⟩ => exact Subsingleton.elim (α := Fin 1) _ _
  | ⟨1, _⟩ => rfl
  | ⟨2, _⟩ => rfl

theorem qpiece (arg1 : Memref sig .tc .vmem S4x1024x640 .i8) (harg1 : arg1.IsWhole) (x : Vec Ideal S4x1024x640 .i8) (p : Fin 4) (half : Fin 2) (cc : Fin 5)
    (off : Fin 3 → ℕ) (ho : off = ![p.val, 512 * half.val, 128 * cc.val]) (inb) (off' : Fin 4 → ℕ) (ho' : off' = ![p.val, half.val, 128 * cc.val, 0]) (inb') (y : S1x1x128x128.Idx) :
    k1_pay136 (F := Ideal) (View.readAt (Elt Ideal) arg1.view (Rect.unit (s := S4x1024x640) off S1x512x128.size inb).toLoadRect (harg1.unread x)) y = PWG x ((Rect.unit (s := S4x2x640x128) off' S1x1x128x128.size inb').emb y) := by
  obtain ⟨a, l, rfl⟩ : ∃ a l : Fin 128, y = ix4 0 0 a l := ⟨y 2, y 3, eq_ix4_0 y⟩
  rw [qemb p half (128 * cc.val) off' ho' inb' a ⟨128 * cc.val + a.val, by omega⟩ rfl l]
  show shapeCast S1x1x128x128 (transpose S128x128 [1, 0] (bitcast S128x128 32 (shapeCast S512x128 (View.readAt (Elt Ideal) arg1.view (Rect.unit (s := S4x1024x640) off S1x512x128.size inb).toLoadRect (harg1.unread x)) shapeCasts_S1x512x128_S512x128) bitcasts_S512x128_w8_S128x128_w32) transposes_S128x128_p1_0_S128x128) shapeCasts_S128x128_S1x1x128x128 (ix4 0 0 a l) = PWd x p half ⟨128 * cc.val + a.val, by omega⟩ l
  rw [shapeCast_ab_11ab_apply (a := 128) (b := 128)]
  refine Eq.trans (transpose_ix2_apply _ transposes_S128x128_p1_0_S128x128 a l) ?_
  refine BitVec.eq_of_getLsbD_eq fun q hq => ?_
  rw [PWd, wordOf_getLsbD _ q hq]
  refine (bitcast_8_32_getLsbD_ix2 (R := 512) (r := 128) (n := 128) _ bitcasts_S512x128_w8_S128x128_w32 l a q hq ⟨4 * l.val + q / 8, by omega⟩ rfl).trans (congrArg (fun z : BitVec 8 => z.getLsbD (q % 8)) ?_)
  refine (shapeCast_1ab_ab_apply (a := 512) (b := 128) _ shapeCasts_S1x512x128_S512x128 _ _).trans ?_
  refine (Memref.IsWhole.readAt_unread harg1 x (Rect.unit (s := S4x1024x640) off S1x512x128.size inb).toLoadRect _).trans (congrArg x ?_)
  subst ho
  funext b
  apply Fin.ext
  match b with
  | ⟨0, _⟩ => exact (show p.val + 1 * 0 = p.val by rfl)
  | ⟨1, _⟩ => exact (show 512 * half.val + 1 * (4 * l.val + q / 8) = 512 * half.val + 4 * l.val + q / 8 by omega)
  | ⟨2, _⟩ => exact (show 128 * cc.val + 1 * a.val = 128 * cc.val + a.val by omega)

theorem wload (arg : Memref sig .tc .vmem S1024x128 .f32) (harg : arg.IsWhole) (x : Vec Ideal S1024x128 .f32) (o : ℕ) (off : Fin 2 → ℕ) (ho : off = ![o, 0]) (inb) (l a : Fin 128) (n : Fin 1024) (hn : n.val = o + 4 * l.val) :
    View.readAt (Elt Ideal) arg.view (LoadRect.mk (s := S1024x128) off S128x128.size ![4, 1] inb) (harg.unread x) (ix2 l a) = x (ix2 n a) := by
  subst ho
  refine (Memref.IsWhole.readAt_unread harg x _ _).trans (congrArg x ?_)
  funext b
  apply Fin.ext
  match b with
  | ⟨0, _⟩ => exact (show o + 4 * l.val = n.val by omega)
  | ⟨1, _⟩ => exact (show 0 + 1 * a.val = a.val by omega)

theorem wpiece1 (arg : Memref sig .tc .vmem S1024x128 .f32) (harg : arg.IsWhole) (x1 x2 : Vec Ideal S1024x128 .f32) (half : Fin 2) (b : Fin 4)
    (off : Fin 2 → ℕ) (ho : off = ![512 * half.val + b.val, 0]) (inb) (off' : Fin 3 → ℕ) (ho' : off' = ![half.val, b.val, 0]) (inb') (sp) (y : S1x128x128.Idx) :
    k1_pay156 (F := Ideal) (View.readAt (Elt Ideal) arg.view (LoadRect.mk (s := S1024x128) off S128x128.size ![4, 1] inb) (harg.unread x1)) y = WG x1 x2 (({ off := off', size := S1x128x128.size, stride := ![1, 4, 1], inb := inb', stride_pos := sp } : Rect S2x640x128).emb y) := by
  obtain ⟨a, l, rfl⟩ : ∃ a l : Fin 128, y = ix3 0 a l := ⟨y 1, y 2, eq_ix3_0 y⟩
  have ee := wemb (n := 128) half b.val off' ho' inb' sp a ⟨b.val + 4 * a.val, by omega⟩ rfl l
  refine Eq.trans ?_ (congrArg (WG x1 x2) ee.symm)
  show shapeCast S1x128x128 (transpose S128x128 [1, 0] (View.readAt (Elt Ideal) arg.view (LoadRect.mk (s := S1024x128) off S128x128.size ![4, 1] inb) (harg.unread x1)) transposes_S128x128_p1_0_S128x128) shapeCasts_S128x128_S1x128x128 (ix3 0 a l) = Wd x1 x2 half ⟨b.val + 4 * a.val, by omega⟩ l
  refine (shapeCast_ab_1ab_apply (a := 128) (b := 128) _ shapeCasts_S128x128_S1x128x128 0 a l).trans ?_
  refine Eq.trans (transpose_ix2_apply _ transposes_S128x128_p1_0_S128x128 a l) ?_
  have e1 : (b.val + 4 * a.val) / 4 = a.val := by omega
  have e2 : (b.val + 4 * a.val) % 4 = b.val := by omega
  refine (wload arg harg x1 _ off ho inb l a ⟨512 * half.val + 4 * l.val + b.val, by omega⟩ (by dsimp only; omega)).trans ?_
  simp only [Wd, e1, e2, a.isLt, dif_pos]

theorem wpiece2 (arg : Memref sig .tc .vmem S1024x128 .f32) (harg : arg.IsWhole) (x1 x2 : Vec Ideal S1024x128 .f32) (half : Fin 2) (b : Fin 4)
    (off : Fin 2 → ℕ) (ho : off = ![512 * half.val + b.val, 0]) (inb) (off' : Fin 3 → ℕ) (ho' : off' = ![half.val, 512 + b.val, 0]) (inb') (sp) (y : S1x32x128.Idx) :
    k1_pay157 (F := Ideal) (View.readAt (Elt Ideal) arg.view (LoadRect.mk (s := S1024x128) off S128x128.size ![4, 1] inb) (harg.unread x2)) y = WG x1 x2 (({ off := off', size := S1x32x128.size, stride := ![1, 4, 1], inb := inb', stride_pos := sp } : Rect S2x640x128).emb y) := by
  obtain ⟨a, l, rfl⟩ : ∃ (a : Fin 32) (l : Fin 128), y = ix3 0 a l := ⟨y 1, y 2, eq_ix3_0 y⟩
  have ee := wemb (n := 32) half (512 + b.val) off' ho' inb' sp a ⟨512 + b.val + 4 * a.val, by omega⟩ rfl l
  refine Eq.trans ?_ (congrArg (WG x1 x2) ee.symm)
  show shapeCast S1x32x128 (extractStridedSlice S32x128 ![0, 0] (transpose S128x128 [1, 0] (View.readAt (Elt Ideal) arg.view (LoadRect.mk (s := S1024x128) off S128x128.size ![4, 1] inb) (harg.unread x2)) transposes_S128x128_p1_0_S128x128) slices_S128x128_o0_0_S32x128) shapeCasts_S32x128_S1x32x128 (ix3 0 a l) = Wd x1 x2 half ⟨512 + b.val + 4 * a.val, by omega⟩ l
  refine (shapeCast_ab_1ab_apply (a := 32) (b := 128) _ shapeCasts_S32x128_S1x32x128 0 a l).trans ?_
  refine (slice2_axis0_apply (n0 := 128) (n1 := 128) (m := 32) 0 _ slices_S128x128_o0_0_S32x128 a l ⟨a.val, by omega⟩ (Nat.zero_add _).symm).trans ?_
  refine Eq.trans (transpose_ix2_apply _ transposes_S128x128_p1_0_S128x128 _ l) ?_
  have e1 : (512 + b.val + 4 * a.val) / 4 = 128 + a.val := by omega
  have e2 : (512 + b.val + 4 * a.val) % 4 = b.val := by omega
  have e3 : ¬ 128 + a.val < 128 := by omega
  have e4 : 128 + a.val - 128 = a.val := by omega
  refine (wload arg harg x2 _ off ho inb l _ ⟨512 * half.val + 4 * l.val + b.val, by omega⟩ (by dsimp only; omega)).trans ?_
  simp only [Wd, e1, e2, e3, e4, dif_neg, not_false_eq_true]

variable (c : Dev nD) (arg1 : Memref sig .tc .vmem S4x1024x640 .i8) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole)
  (x0 : Vec Ideal S4x1024x640 .i8) (x1 x2 x3 x4 : Vec Ideal S1024x128 .f32)

theorem q_pieces : ∀ p ∈ kernelRun1_A.sl.HS0_40 (F := Ideal) c arg1 harg1 x0, ∀ y, p.2 y = PWG x0 (p.1.emb y) := by
  unfold kernelRun1_A.sl.HS0_40
  refine List.forall_mem_cons.2 ⟨qpiece arg1 harg1 x0 3 1 4 ![3, 512, 512] rfl inb_S4x1024x640_S1x512x128_3_512_512 ![3, 1, 512, 0] rfl inb_S4x2x640x128_S1x1x128x128_3_1_512_0, List.forall_mem_cons.2 ⟨qpiece arg1 harg1 x0 3 1 3 ![3, 512, 384] rfl inb_S4x1024x640_S1x512x128_3_512_384 ![3, 1, 384, 0] rfl inb_S4x2x640x128_S1x1x128x128_3_1_384_0, List.forall_mem_cons.2 ⟨qpiece arg1 harg1 x0 3 1 2 ![3, 512, 256] rfl inb_S4x1024x640_S1x512x128_3_512_256 ![3, 1, 256, 0] rfl inb_S4x2x640x128_S1x1x128x128_3_1_256_0, List.forall_mem_cons.2 ⟨qpiece arg1 harg1 x0 3 1 1 ![3, 512, 128] rfl inb_S4x1024x640_S1x512x128_3_512_128 ![3, 1, 128, 0] rfl inb_S4x2x640x128_S1x1x128x128_3_1_128_0, List.forall_mem_cons.2 ⟨qpiece arg1 harg1 x0 3 1 0 ![3, 512, 0] rfl inb_S4x1024x640_S1x512x128_3_512_0 ![3, 1, 0, 0] rfl inb_S4x2x640x128_S1x1x128x128_3_1_0_0, List.forall_mem_cons.2 ⟨qpiece arg1 harg1 x0 2 1 4 ![2, 512, 512] rfl inb_S4x1024x640_S1x512x128_2_512_512 ![2, 1, 512, 0] rfl inb_S4x2x640x128_S1x1x128x128_2_1_512_0, List.forall_mem_cons.2 ⟨qpiece arg1 harg1 x0 2 1 3 ![2, 512, 384] rfl inb_S4x1024x640_S1x512x128_2_512_384 ![2, 1, 384, 0] rfl inb_S4x2x640x128_S1x1x128x128_2_1_384_0, List.forall_mem_cons.2 ⟨qpiece arg1 harg1 x0 2 1 2 ![2, 512, 256] rfl inb_S4x1024x640_S1x512x128_2_512_256 ![2, 1, 256, 0] rfl inb_S4x2x640x128_S1x1x128x128_2_1_256_0, List.forall_mem_cons.2 ⟨qpiece arg1 harg1 x0 2 1 1 ![2, 512, 128] rfl inb_S4x1024x640_S1x512x128_2_512_128 ![2, 1, 128, 0] rfl inb_S4x2x640x128_S1x1x128x128_2_1_128_0, List.forall_mem_cons.2 ⟨qpiece arg1 harg1 x0 2 1 0 ![2, 512, 0] rfl inb_S4x1024x640_S1x512x128_2_512_0 ![2, 1, 0, 0] rfl inb_S4x2x640x128_S1x1x128x128_2_1_0_0, List.forall_mem_cons.2 ⟨qpiece arg1 harg1 x0 1 1 4 ![1, 512, 512] rfl inb_S4x1024x640_S1x512x128_1_512_512 ![1, 1, 512, 0] rfl inb_S4x2x640x128_S1x1x128x128_1_1_512_0, List.forall_mem_cons.2 ⟨qpiece arg1 harg1 x0 1 1 3 ![1, 512, 384] rfl inb_S4x1024x640_S1x512x128_1_512_384 ![1, 1, 384, 0] rfl inb_S4x2x640x128_S1x1x128x128_1_1_384_0, List.forall_mem_cons.2 ⟨qpiece arg1 harg1 x0 1 1 2 ![1, 512, 256] rfl inb_S4x1024x640_S1x512x128_1_512_256 ![1, 1, 256, 0] rfl inb_S4x2x640x128_S1x1x128x128_1_1_256_0, List.forall_mem_cons.2 ⟨qpiece arg1 harg1 x0 1 1 1 ![1, 512, 128] rfl inb_S4x1024x640_S1x512x128_1_512_128 ![1, 1, 128, 0] rfl inb_S4x2x640x128_S1x1x128x128_1_1_128_0, List.forall_mem_cons.2 ⟨qpiece arg1 harg1 x0 1 1 0 ![1, 512, 0] rfl inb_S4x1024x640_S1x512x128_1_512_0 ![1, 1, 0, 0] rfl inb_S4x2x640x128_S1x1x128x128_1_1_0_0, List.forall_mem_cons.2 ⟨qpiece arg1 harg1 x0 0 1 4 ![0, 512, 512] rfl inb_S4x1024x640_S1x512x128_0_512_512 ![0, 1, 512, 0] rfl inb_S4x2x640x128_S1x1x128x128_0_1_512_0, List.forall_mem_cons.2 ⟨qpiece arg1 harg1 x0 0 1 3 ![0, 512, 384] rfl inb_S4x1024x640_S1x512x128_0_512_384 ![0, 1, 384, 0] rfl inb_S4x2x640x128_S1x1x128x128_0_1_384_0, List.forall_mem_cons.2 ⟨qpiece arg1 harg1 x0 0 1 2 ![0, 512, 256] rfl inb_S4x1024x640_S1x512x128_0_512_256 ![0, 1, 256, 0] rfl inb_S4x2x640x128_S1x1x128x128_0_1_256_0, List.forall_mem_cons.2 ⟨qpiece arg1 harg1 x0 0 1 1 ![0, 512, 128] rfl inb_S4x1024x640_S1x512x128_0_512_128 ![0, 1, 128, 0] rfl inb_S4x2x640x128_S1x1x128x128_0_1_128_0, List.forall_mem_cons.2 ⟨qpiece arg1 harg1 x0 0 1 0 ![0, 512, 0] rfl inb_S4x1024x640_S1x512x128_0_512_0 ![0, 1, 0, 0] rfl inb_S4x2x640x128_S1x1x128x128_0_1_0_0, List.forall_mem_cons.2 ⟨qpiece arg1 harg1 x0 3 0 4 ![3, 0, 512] rfl inb_S4x1024x640_S1x512x128_3_0_512 ![3, 0, 512, 0] rfl inb_S4x2x640x128_S1x1x128x128_3_0_512_0, List.forall_mem_cons.2 ⟨qpiece arg1 harg1 x0 3 0 3 ![3, 0, 384] rfl inb_S4x1024x640_S1x512x128_3_0_384 ![3, 0, 384, 0] rfl inb_S4x2x640x128_S1x1x128x128_3_0_384_0, List.forall_mem_cons.2 ⟨qpiece arg1 harg1 x0 3 0 2 ![3, 0, 256] rfl inb_S4x1024x640_S1x512x128_3_0_256 ![3, 0, 256, 0] rfl inb_S4x2x640x128_S1x1x128x128_3_0_256_0, List.forall_mem_cons.2 ⟨qpiece arg1 harg1 x0 3 0 1 ![3, 0, 128] rfl inb_S4x1024x640_S1x512x128_3_0_128 ![3, 0, 128, 0] rfl inb_S4x2x640x128_S1x1x128x128_3_0_128_0, List.forall_mem_cons.2 ⟨qpiece arg1 harg1 x0 3 0 0 ![3, 0, 0] rfl inb_S4x1024x640_S1x512x128_3_0_0 ![3, 0, 0, 0] rfl inb_S4x2x640x128_S1x1x128x128_3_0_0_0, List.forall_mem_cons.2 ⟨qpiece arg1 harg1 x0 2 0 4 ![2, 0, 512] rfl inb_S4x1024x640_S1x512x128_2_0_512 ![2, 0, 512, 0] rfl inb_S4x2x640x128_S1x1x128x128_2_0_512_0, List.forall_mem_cons.2 ⟨qpiece arg1 harg1 x0 2 0 3 ![2, 0, 384] rfl inb_S4x1024x640_S1x512x128_2_0_384 ![2, 0, 384, 0] rfl inb_S4x2x640x128_S1x1x128x128_2_0_384_0, List.forall_mem_cons.2 ⟨qpiece arg1 harg1 x0 2 0 2 ![2, 0, 256] rfl inb_S4x1024x640_S1x512x128_2_0_256 ![2, 0, 256, 0] rfl inb_S4x2x640x128_S1x1x128x128_2_0_256_0, List.forall_mem_cons.2 ⟨qpiece arg1 harg1 x0 2 0 1 ![2, 0, 128] rfl inb_S4x1024x640_S1x512x128_2_0_128 ![2, 0, 128, 0] rfl inb_S4x2x640x128_S1x1x128x128_2_0_128_0, List.forall_mem_cons.2 ⟨qpiece arg1 harg1 x0 2 0 0 ![2, 0, 0] rfl inb_S4x1024x640_S1x512x128_2_0_0 ![2, 0, 0, 0] rfl inb_S4x2x640x128_S1x1x128x128_2_0_0_0, List.forall_mem_cons.2 ⟨qpiece arg1 harg1 x0 1 0 4 ![1, 0, 512] rfl inb_S4x1024x640_S1x512x128_1_0_512 ![1, 0, 512, 0] rfl inb_S4x2x640x128_S1x1x128x128_1_0_512_0, List.forall_mem_cons.2 ⟨qpiece arg1 harg1 x0 1 0 3 ![1, 0, 384] rfl inb_S4x1024x640_S1x512x128_1_0_384 ![1, 0, 384, 0] rfl inb_S4x2x640x128_S1x1x128x128_1_0_384_0, List.forall_mem_cons.2 ⟨qpiece arg1 harg1 x0 1 0 2 ![1, 0, 256] rfl inb_S4x1024x640_S1x512x128_1_0_256 ![1, 0, 256, 0] rfl inb_S4x2x640x128_S1x1x128x128_1_0_256_0, List.forall_mem_cons.2 ⟨qpiece arg1 harg1 x0 1 0 1 ![1, 0, 128] rfl inb_S4x1024x640_S1x512x128_1_0_128 ![1, 0, 128, 0] rfl inb_S4x2x640x128_S1x1x128x128_1_0_128_0, List.forall_mem_cons.2 ⟨qpiece arg1 harg1 x0 1 0 0 ![1, 0, 0] rfl inb_S4x1024x640_S1x512x128_1_0_0 ![1, 0, 0, 0] rfl inb_S4x2x640x128_S1x1x128x128_1_0_0_0, List.forall_mem_cons.2 ⟨qpiece arg1 harg1 x0 0 0 4 ![0, 0, 512] rfl inb_S4x1024x640_S1x512x128_0_0_512 ![0, 0, 512, 0] rfl inb_S4x2x640x128_S1x1x128x128_0_0_512_0, List.forall_mem_cons.2 ⟨qpiece arg1 harg1 x0 0 0 3 ![0, 0, 384] rfl inb_S4x1024x640_S1x512x128_0_0_384 ![0, 0, 384, 0] rfl inb_S4x2x640x128_S1x1x128x128_0_0_384_0, List.forall_mem_cons.2 ⟨qpiece arg1 harg1 x0 0 0 2 ![0, 0, 256] rfl inb_S4x1024x640_S1x512x128_0_0_256 ![0, 0, 256, 0] rfl inb_S4x2x640x128_S1x1x128x128_0_0_256_0, List.forall_mem_cons.2 ⟨qpiece arg1 harg1 x0 0 0 1 ![0, 0, 128] rfl inb_S4x1024x640_S1x512x128_0_0_128 ![0, 0, 128, 0] rfl inb_S4x2x640x128_S1x1x128x128_0_0_128_0, List.forall_mem_cons.2 ⟨qpiece arg1 harg1 x0 0 0 0 ![0, 0, 0] rfl inb_S4x1024x640_S1x512x128_0_0_0 ![0, 0, 0, 0] rfl inb_S4x2x640x128_S1x1x128x128_0_0_0_0, List.forall_mem_nil _⟩⟩⟩⟩⟩⟩⟩⟩⟩⟩⟩⟩⟩⟩⟩⟩⟩⟩⟩⟩⟩⟩⟩⟩⟩⟩⟩⟩⟩⟩⟩⟩⟩⟩⟩⟩⟩⟩⟩⟩

theorem q_cover_0_0 (cc : Fin 5) (a : Fin 128) (j : Fin 640) (hj : j.val = 128 * cc.val + a.val) (l : Fin 128) : ∃ p ∈ kernelRun1_A.sl.HS0_40 (F := Ideal) c arg1 harg1 x0, ∃ x, p.1.emb x = ix4 0 0 j l := by
  unfold kernelRun1_A.sl.HS0_40
  match cc, hj with
  | ⟨4, _⟩, hj => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))), ix4 0 0 a l, qemb 0 0 512 ![0, 0, 512, 0] rfl inb_S4x2x640x128_S1x1x128x128_0_0_512_0 a j hj l⟩
  | ⟨3, _⟩, hj => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))), ix4 0 0 a l, qemb 0 0 384 ![0, 0, 384, 0] rfl inb_S4x2x640x128_S1x1x128x128_0_0_384_0 a j hj l⟩
  | ⟨2, _⟩, hj => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))), ix4 0 0 a l, qemb 0 0 256 ![0, 0, 256, 0] rfl inb_S4x2x640x128_S1x1x128x128_0_0_256_0 a j hj l⟩
  | ⟨1, _⟩, hj => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))), ix4 0 0 a l, qemb 0 0 128 ![0, 0, 128, 0] rfl inb_S4x2x640x128_S1x1x128x128_0_0_128_0 a j hj l⟩
  | ⟨0, _⟩, hj => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))), ix4 0 0 a l, qemb 0 0 0 ![0, 0, 0, 0] rfl inb_S4x2x640x128_S1x1x128x128_0_0_0_0 a j hj l⟩

theorem q_cover_0_1 (cc : Fin 5) (a : Fin 128) (j : Fin 640) (hj : j.val = 128 * cc.val + a.val) (l : Fin 128) : ∃ p ∈ kernelRun1_A.sl.HS0_40 (F := Ideal) c arg1 harg1 x0, ∃ x, p.1.emb x = ix4 0 1 j l := by
  unfold kernelRun1_A.sl.HS0_40
  match cc, hj with
  | ⟨4, _⟩, hj => exact ⟨_, (.tail _ (.tail _ (.tail _ (.tail _ (.tail _ (.tail _ (.tail _ (.tail _ (.tail _ (.tail _ (.tail _ (.tail _ (.tail _ (.tail _ (.tail _ (.head _)))))))))))))))), ix4 0 0 a l, qemb 0 1 512 ![0, 1, 512, 0] rfl inb_S4x2x640x128_S1x1x128x128_0_1_512_0 a j hj l⟩
  | ⟨3, _⟩, hj => exact ⟨_, (.tail _ (.tail _ (.tail _ (.tail _ (.tail _ (.tail _ (.tail _ (.tail _ (.tail _ (.tail _ (.tail _ (.tail _ (.tail _ (.tail _ (.tail _ (.tail _ (.head _))))))))))))))))), ix4 0 0 a l, qemb 0 1 384 ![0, 1, 384, 0] rfl inb_S4x2x640x128_S1x1x128x128_0_1_384_0 a j hj l⟩
  | ⟨2, _⟩, hj => exact ⟨_, (.tail _ (.tail _ (.tail _ (.tail _ (.tail _ (.tail _ (.tail _ (.tail _ (.tail _ (.tail _ (.tail _ (.tail _ (.tail _ (.tail _ (.tail _ (.tail _ (.tail _ (.head _)))))))))))))))))), ix4 0 0 a l, qemb 0 1 256 ![0, 1, 256, 0] rfl inb_S4x2x640x128_S1x1x128x128_0_1_256_0 a j hj l⟩
  | ⟨1, _⟩, hj => exact ⟨_, (.tail _ (.tail _ (.tail _ (.tail _ (.tail _ (.tail _ (.tail _ (.tail _ (.tail _ (.tail _ (.tail _ (.tail _ (.tail _ (.tail _ (.tail _ (.tail _ (.tail _ (.tail _ (.head _))))))))))))))))))), ix4 0 0 a l, qemb 0 1 128 ![0, 1, 128, 0] rfl inb_S4x2x640x128_S1x1x128x128_0_1_128_0 a j hj l⟩
  | ⟨0, _⟩, hj => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), ix4 0 0 a l, qemb 0 1 0 ![0, 1, 0, 0] rfl inb_S4x2x640x128_S1x1x128x128_0_1_0_0 a j hj l⟩

theorem q_cover_1_0 (cc : Fin 5) (a : Fin 128) (j : Fin 640) (hj : j.val = 128 * cc.val + a.val) (l : Fin 128) : ∃ p ∈ kernelRun1_A.sl.HS0_40 (F := Ideal) c arg1 harg1 x0, ∃ x, p.1.emb x = ix4 1 0 j l := by
  unfold kernelRun1_A.sl.HS0_40
  match cc, hj with
  | ⟨4, _⟩, hj => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))), ix4 0 0 a l, qemb 1 0 512 ![1, 0, 512, 0] rfl inb_S4x2x640x128_S1x1x128x128_1_0_512_0 a j hj l⟩
  | ⟨3, _⟩, hj => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))), ix4 0 0 a l, qemb 1 0 384 ![1, 0, 384, 0] rfl inb_S4x2x640x128_S1x1x128x128_1_0_384_0 a j hj l⟩
  | ⟨2, _⟩, hj => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))), ix4 0 0 a l, qemb 1 0 256 ![1, 0, 256, 0] rfl inb_S4x2x640x128_S1x1x128x128_1_0_256_0 a j hj l⟩
  | ⟨1, _⟩, hj => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))), ix4 0 0 a l, qemb 1 0 128 ![1, 0, 128, 0] rfl inb_S4x2x640x128_S1x1x128x128_1_0_128_0 a j hj l⟩
  | ⟨0, _⟩, hj => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))), ix4 0 0 a l, qemb 1 0 0 ![1, 0, 0, 0] rfl inb_S4x2x640x128_S1x1x128x128_1_0_0_0 a j hj l⟩

theorem q_cover_1_1 (cc : Fin 5) (a : Fin 128) (j : Fin 640) (hj : j.val = 128 * cc.val + a.val) (l : Fin 128) : ∃ p ∈ kernelRun1_A.sl.HS0_40 (F := Ideal) c arg1 harg1 x0, ∃ x, p.1.emb x = ix4 1 1 j l := by
  unfold kernelRun1_A.sl.HS0_40
  match cc, hj with
  | ⟨4, _⟩, hj => exact ⟨_, (.tail _ (.tail _ (.tail _ (.tail _ (.tail _ (.tail _ (.tail _ (.tail _ (.tail _ (.tail _ (.head _))))))))))), ix4 0 0 a l, qemb 1 1 512 ![1, 1, 512, 0] rfl inb_S4x2x640x128_S1x1x128x128_1_1_512_0 a j hj l⟩
  | ⟨3, _⟩, hj => exact ⟨_, (.tail _ (.tail _ (.tail _ (.tail _ (.tail _ (.tail _ (.tail _ (.tail _ (.tail _ (.tail _ (.tail _ (.head _)))))))))))), ix4 0 0 a l, qemb 1 1 384 ![1, 1, 384, 0] rfl inb_S4x2x640x128_S1x1x128x128_1_1_384_0 a j hj l⟩
  | ⟨2, _⟩, hj => exact ⟨_, (.tail _ (.tail _ (.tail _ (.tail _ (.tail _ (.tail _ (.tail _ (.tail _ (.tail _ (.tail _ (.tail _ (.tail _ (.head _))))))))))))), ix4 0 0 a l, qemb 1 1 256 ![1, 1, 256, 0] rfl inb_S4x2x640x128_S1x1x128x128_1_1_256_0 a j hj l⟩
  | ⟨1, _⟩, hj => exact ⟨_, (.tail _ (.tail _ (.tail _ (.tail _ (.tail _ (.tail _ (.tail _ (.tail _ (.tail _ (.tail _ (.tail _ (.tail _ (.tail _ (.head _)))))))))))))), ix4 0 0 a l, qemb 1 1 128 ![1, 1, 128, 0] rfl inb_S4x2x640x128_S1x1x128x128_1_1_128_0 a j hj l⟩
  | ⟨0, _⟩, hj => exact ⟨_, (.tail _ (.tail _ (.tail _ (.tail _ (.tail _ (.tail _ (.tail _ (.tail _ (.tail _ (.tail _ (.tail _ (.tail _ (.tail _ (.tail _ (.head _))))))))))))))), ix4 0 0 a l, qemb 1 1 0 ![1, 1, 0, 0] rfl inb_S4x2x640x128_S1x1x128x128_1_1_0_0 a j hj l⟩

theorem q_cover_2_0 (cc : Fin 5) (a : Fin 128) (j : Fin 640) (hj : j.val = 128 * cc.val + a.val) (l : Fin 128) : ∃ p ∈ kernelRun1_A.sl.HS0_40 (F := Ideal) c arg1 harg1 x0, ∃ x, p.1.emb x = ix4 2 0 j l := by
  unfold kernelRun1_A.sl.HS0_40
  match cc, hj with
  | ⟨4, _⟩, hj => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))), ix4 0 0 a l, qemb 2 0 512 ![2, 0, 512, 0] rfl inb_S4x2x640x128_S1x1x128x128_2_0_512_0 a j hj l⟩
  | ⟨3, _⟩, hj => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))), ix4 0 0 a l, qemb 2 0 384 ![2, 0, 384, 0] rfl inb_S4x2x640x128_S1x1x128x128_2_0_384_0 a j hj l⟩
  | ⟨2, _⟩, hj => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))), ix4 0 0 a l, qemb 2 0 256 ![2, 0, 256, 0] rfl inb_S4x2x640x128_S1x1x128x128_2_0_256_0 a j hj l⟩
  | ⟨1, _⟩, hj => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))), ix4 0 0 a l, qemb 2 0 128 ![2, 0, 128, 0] rfl inb_S4x2x640x128_S1x1x128x128_2_0_128_0 a j hj l⟩
  | ⟨0, _⟩, hj => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))), ix4 0 0 a l, qemb 2 0 0 ![2, 0, 0, 0] rfl inb_S4x2x640x128_S1x1x128x128_2_0_0_0 a j hj l⟩

theorem q_cover_2_1 (cc : Fin 5) (a : Fin 128) (j : Fin 640) (hj : j.val = 128 * cc.val + a.val) (l : Fin 128) : ∃ p ∈ kernelRun1_A.sl.HS0_40 (F := Ideal) c arg1 harg1 x0, ∃ x, p.1.emb x = ix4 2 1 j l := by
  unfold kernelRun1_A.sl.HS0_40
  match cc, hj with
  | ⟨4, _⟩, hj => exact ⟨_, (.tail _ (.tail _ (.tail _ (.tail _ (.tail _ (.head _)))))), ix4 0 0 a l, qemb 2 1 512 ![2, 1, 512, 0] rfl inb_S4x2x640x128_S1x1x128x128_2_1_512_0 a j hj l⟩
  | ⟨3, _⟩, hj => exact ⟨_, (.tail _ (.tail _ (.tail _ (.tail _ (.tail _ (.tail _ (.head _))))))), ix4 0 0 a l, qemb 2 1 384 ![2, 1, 384, 0] rfl inb_S4x2x640x128_S1x1x128x128_2_1_384_0 a j hj l⟩
  | ⟨2, _⟩, hj => exact ⟨_, (.tail _ (.tail _ (.tail _ (.tail _ (.tail _ (.tail _ (.tail _ (.head _)))))))), ix4 0 0 a l, qemb 2 1 256 ![2, 1, 256, 0] rfl inb_S4x2x640x128_S1x1x128x128_2_1_256_0 a j hj l⟩
  | ⟨1, _⟩, hj => exact ⟨_, (.tail _ (.tail _ (.tail _ (.tail _ (.tail _ (.tail _ (.tail _ (.tail _ (.head _))))))))), ix4 0 0 a l, qemb 2 1 128 ![2, 1, 128, 0] rfl inb_S4x2x640x128_S1x1x128x128_2_1_128_0 a j hj l⟩
  | ⟨0, _⟩, hj => exact ⟨_, (.tail _ (.tail _ (.tail _ (.tail _ (.tail _ (.tail _ (.tail _ (.tail _ (.tail _ (.head _)))))))))), ix4 0 0 a l, qemb 2 1 0 ![2, 1, 0, 0] rfl inb_S4x2x640x128_S1x1x128x128_2_1_0_0 a j hj l⟩

theorem q_cover_3_0 (cc : Fin 5) (a : Fin 128) (j : Fin 640) (hj : j.val = 128 * cc.val + a.val) (l : Fin 128) : ∃ p ∈ kernelRun1_A.sl.HS0_40 (F := Ideal) c arg1 harg1 x0, ∃ x, p.1.emb x = ix4 3 0 j l := by
  unfold kernelRun1_A.sl.HS0_40
  match cc, hj with
  | ⟨4, _⟩, hj => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), ix4 0 0 a l, qemb 3 0 512 ![3, 0, 512, 0] rfl inb_S4x2x640x128_S1x1x128x128_3_0_512_0 a j hj l⟩
  | ⟨3, _⟩, hj => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), ix4 0 0 a l, qemb 3 0 384 ![3, 0, 384, 0] rfl inb_S4x2x640x128_S1x1x128x128_3_0_384_0 a j hj l⟩
  | ⟨2, _⟩, hj => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), ix4 0 0 a l, qemb 3 0 256 ![3, 0, 256, 0] rfl inb_S4x2x640x128_S1x1x128x128_3_0_256_0 a j hj l⟩
  | ⟨1, _⟩, hj => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))), ix4 0 0 a l, qemb 3 0 128 ![3, 0, 128, 0] rfl inb_S4x2x640x128_S1x1x128x128_3_0_128_0 a j hj l⟩
  | ⟨0, _⟩, hj => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))), ix4 0 0 a l, qemb 3 0 0 ![3, 0, 0, 0] rfl inb_S4x2x640x128_S1x1x128x128_3_0_0_0 a j hj l⟩

theorem q_cover_3_1 (cc : Fin 5) (a : Fin 128) (j : Fin 640) (hj : j.val = 128 * cc.val + a.val) (l : Fin 128) : ∃ p ∈ kernelRun1_A.sl.HS0_40 (F := Ideal) c arg1 harg1 x0, ∃ x, p.1.emb x = ix4 3 1 j l := by
  unfold kernelRun1_A.sl.HS0_40
  match cc, hj with
  | ⟨4, _⟩, hj => exact ⟨_, (.head _), ix4 0 0 a l, qemb 3 1 512 ![3, 1, 512, 0] rfl inb_S4x2x640x128_S1x1x128x128_3_1_512_0 a j hj l⟩
  | ⟨3, _⟩, hj => exact ⟨_, (.tail _ (.head _)), ix4 0 0 a l, qemb 3 1 384 ![3, 1, 384, 0] rfl inb_S4x2x640x128_S1x1x128x128_3_1_384_0 a j hj l⟩
  | ⟨2, _⟩, hj => exact ⟨_, (.tail _ (.tail _ (.head _))), ix4 0 0 a l, qemb 3 1 256 ![3, 1, 256, 0] rfl inb_S4x2x640x128_S1x1x128x128_3_1_256_0 a j hj l⟩
  | ⟨1, _⟩, hj => exact ⟨_, (.tail _ (.tail _ (.tail _ (.head _)))), ix4 0 0 a l, qemb 3 1 128 ![3, 1, 128, 0] rfl inb_S4x2x640x128_S1x1x128x128_3_1_128_0 a j hj l⟩
  | ⟨0, _⟩, hj => exact ⟨_, (.tail _ (.tail _ (.tail _ (.tail _ (.head _))))), ix4 0 0 a l, qemb 3 1 0 ![3, 1, 0, 0] rfl inb_S4x2x640x128_S1x1x128x128_3_1_0_0 a j hj l⟩

theorem q_cover (y : S4x2x640x128.Idx) : ∃ p ∈ kernelRun1_A.sl.HS0_40 (F := Ideal) c arg1 harg1 x0, ∃ x, p.1.emb x = y := by
  obtain ⟨p, half, j, l, rfl⟩ : ∃ (p : Fin 4) (half : Fin 2) (j : Fin 640) (l : Fin 128), y = ix4 p half j l := ⟨y 0, y 1, y 2, y 3, eq_ix4 y⟩
  obtain ⟨cc, a, hj⟩ : ∃ (cc : Fin 5) (a : Fin 128), j.val = 128 * cc.val + a.val := ⟨⟨j.val / 128, by omega⟩, ⟨j.val % 128, by omega⟩, by dsimp only; omega⟩
  match p, half with
  | ⟨0, _⟩, ⟨0, _⟩ => exact q_cover_0_0 c arg1 harg1 x0 cc a j hj l
  | ⟨0, _⟩, ⟨1, _⟩ => exact q_cover_0_1 c arg1 harg1 x0 cc a j hj l
  | ⟨1, _⟩, ⟨0, _⟩ => exact q_cover_1_0 c arg1 harg1 x0 cc a j hj l
  | ⟨1, _⟩, ⟨1, _⟩ => exact q_cover_1_1 c arg1 harg1 x0 cc a j hj l
  | ⟨2, _⟩, ⟨0, _⟩ => exact q_cover_2_0 c arg1 harg1 x0 cc a j hj l
  | ⟨2, _⟩, ⟨1, _⟩ => exact q_cover_2_1 c arg1 harg1 x0 cc a j hj l
  | ⟨3, _⟩, ⟨0, _⟩ => exact q_cover_3_0 c arg1 harg1 x0 cc a j hj l
  | ⟨3, _⟩, ⟨1, _⟩ => exact q_cover_3_1 c arg1 harg1 x0 cc a j hj l

/-- The plane scratch reads the words. -/
theorem q_read {κ : Kind} {sp : Space} (v : View sig κ sp S4x2x640x128 .i32) (f : v.ty.Contents (Elt Ideal)) (y : S4x2x640x128.Idx) :
    v.read (Elt Ideal) (v.writes (Elt Ideal) f (kernelRun1_A.sl.HS0_40 (F := Ideal) c arg1 harg1 x0)) y = PWG x0 y :=
  read_writes_emb v f (PWG x0) y _ (q_pieces c arg1 harg1 x0) (q_cover c arg1 harg1 x0 y)

theorem w1_pieces : ∀ p ∈ kernelRun1_A.sl.HS1_16 (F := Ideal) c arg2 harg2 arg3 harg3 x1 x2, ∀ y, p.2 y = WG x1 x2 (p.1.emb y) := by
  unfold kernelRun1_A.sl.HS1_16
  refine List.forall_mem_cons.2 ⟨wpiece2 arg3 harg3 x1 x2 1 3 ![515, 0] rfl inb_S1024x128_S128x128_515_0_s_4_1 ![1, 515, 0] rfl inb_S2x640x128_S1x32x128_1_515_0_s_1_4_1 spos_1_4_1, List.forall_mem_cons.2 ⟨wpiece1 arg2 harg2 x1 x2 1 3 ![515, 0] rfl inb_S1024x128_S128x128_515_0_s_4_1 ![1, 3, 0] rfl inb_S2x640x128_S1x128x128_1_3_0_s_1_4_1 spos_1_4_1, List.forall_mem_cons.2 ⟨wpiece2 arg3 harg3 x1 x2 1 2 ![514, 0] rfl inb_S1024x128_S128x128_514_0_s_4_1 ![1, 514, 0] rfl inb_S2x640x128_S1x32x128_1_514_0_s_1_4_1 spos_1_4_1, List.forall_mem_cons.2 ⟨wpiece1 arg2 harg2 x1 x2 1 2 ![514, 0] rfl inb_S1024x128_S128x128_514_0_s_4_1 ![1, 2, 0] rfl inb_S2x640x128_S1x128x128_1_2_0_s_1_4_1 spos_1_4_1, List.forall_mem_cons.2 ⟨wpiece2 arg3 harg3 x1 x2 1 1 ![513, 0] rfl inb_S1024x128_S128x128_513_0_s_4_1 ![1, 513, 0] rfl inb_S2x640x128_S1x32x128_1_513_0_s_1_4_1 spos_1_4_1, List.forall_mem_cons.2 ⟨wpiece1 arg2 harg2 x1 x2 1 1 ![513, 0] rfl inb_S1024x128_S128x128_513_0_s_4_1 ![1, 1, 0] rfl inb_S2x640x128_S1x128x128_1_1_0_s_1_4_1 spos_1_4_1, List.forall_mem_cons.2 ⟨wpiece2 arg3 harg3 x1 x2 1 0 ![512, 0] rfl inb_S1024x128_S128x128_512_0_s_4_1 ![1, 512, 0] rfl inb_S2x640x128_S1x32x128_1_512_0_s_1_4_1 spos_1_4_1, List.forall_mem_cons.2 ⟨wpiece1 arg2 harg2 x1 x2 1 0 ![512, 0] rfl inb_S1024x128_S128x128_512_0_s_4_1 ![1, 0, 0] rfl inb_S2x640x128_S1x128x128_1_0_0_s_1_4_1 spos_1_4_1, List.forall_mem_cons.2 ⟨wpiece2 arg3 harg3 x1 x2 0 3 ![3, 0] rfl inb_S1024x128_S128x128_3_0_s_4_1 ![0, 515, 0] rfl inb_S2x640x128_S1x32x128_0_515_0_s_1_4_1 spos_1_4_1, List.forall_mem_cons.2 ⟨wpiece1 arg2 harg2 x1 x2 0 3 ![3, 0] rfl inb_S1024x128_S128x128_3_0_s_4_1 ![0, 3, 0] rfl inb_S2x640x128_S1x128x128_0_3_0_s_1_4_1 spos_1_4_1, List.forall_mem_cons.2 ⟨wpiece2 arg3 harg3 x1 x2 0 2 ![2, 0] rfl inb_S1024x128_S128x128_2_0_s_4_1 ![0, 514, 0] rfl inb_S2x640x128_S1x32x128_0_514_0_s_1_4_1 spos_1_4_1, List.forall_mem_cons.2 ⟨wpiece1 arg2 harg2 x1 x2 0 2 ![2, 0] rfl inb_S1024x128_S128x128_2_0_s_4_1 ![0, 2, 0] rfl inb_S2x640x128_S1x128x128_0_2_0_s_1_4_1 spos_1_4_1, List.forall_mem_cons.2 ⟨wpiece2 arg3 harg3 x1 x2 0 1 ![1, 0] rfl inb_S1024x128_S128x128_1_0_s_4_1 ![0, 513, 0] rfl inb_S2x640x128_S1x32x128_0_513_0_s_1_4_1 spos_1_4_1, List.forall_mem_cons.2 ⟨wpiece1 arg2 harg2 x1 x2 0 1 ![1, 0] rfl inb_S1024x128_S128x128_1_0_s_4_1 ![0, 1, 0] rfl inb_S2x640x128_S1x128x128_0_1_0_s_1_4_1 spos_1_4_1, List.forall_mem_cons.2 ⟨wpiece2 arg3 harg3 x1 x2 0 0 ![0, 0] rfl inb_S1024x128_S128x128_0_0_s_4_1 ![0, 512, 0] rfl inb_S2x640x128_S1x32x128_0_512_0_s_1_4_1 spos_1_4_1, List.forall_mem_cons.2 ⟨wpiece1 arg2 harg2 x1 x2 0 0 ![0, 0] rfl inb_S1024x128_S128x128_0_0_s_4_1 ![0, 0, 0] rfl inb_S2x640x128_S1x128x128_0_0_0_s_1_4_1 spos_1_4_1, List.forall_mem_nil _⟩⟩⟩⟩⟩⟩⟩⟩⟩⟩⟩⟩⟩⟩⟩⟩

theorem w1_cover (y : S2x640x128.Idx) : ∃ p ∈ kernelRun1_A.sl.HS1_16 (F := Ideal) c arg2 harg2 arg3 harg3 x1 x2, ∃ x, p.1.emb x = y := by
  obtain ⟨half, r, l, rfl⟩ : ∃ (half : Fin 2) (r : Fin 640) (l : Fin 128), y = ix3 half r l := ⟨y 0, y 1, y 2, eq_ix3 y⟩
  unfold kernelRun1_A.sl.HS1_16
  by_cases hr : r.val < 512
  · obtain ⟨b, a, hj⟩ : ∃ (b : Fin 4) (a : Fin 128), r.val = b.val + 4 * a.val := ⟨⟨r.val % 4, by omega⟩, ⟨r.val / 4, by omega⟩, by dsimp only; omega⟩
    match half, b, hj with
    | ⟨1, _⟩, ⟨3, _⟩, hj => exact ⟨_, (.tail _ (.head _)), ix3 0 a l, wemb (n := 128) 1 3 ![1, 3, 0] rfl inb_S2x640x128_S1x128x128_1_3_0_s_1_4_1 spos_1_4_1 a r hj l⟩
    | ⟨1, _⟩, ⟨2, _⟩, hj => exact ⟨_, (.tail _ (.tail _ (.tail _ (.head _)))), ix3 0 a l, wemb (n := 128) 1 2 ![1, 2, 0] rfl inb_S2x640x128_S1x128x128_1_2_0_s_1_4_1 spos_1_4_1 a r hj l⟩
    | ⟨1, _⟩, ⟨1, _⟩, hj => exact ⟨_, (.tail _ (.tail _ (.tail _ (.tail _ (.tail _ (.head _)))))), ix3 0 a l, wemb (n := 128) 1 1 ![1, 1, 0] rfl inb_S2x640x128_S1x128x128_1_1_0_s_1_4_1 spos_1_4_1 a r hj l⟩
    | ⟨1, _⟩, ⟨0, _⟩, hj => exact ⟨_, (.tail _ (.tail _ (.tail _ (.tail _ (.tail _ (.tail _ (.tail _ (.head _)))))))), ix3 0 a l, wemb (n := 128) 1 0 ![1, 0, 0] rfl inb_S2x640x128_S1x128x128_1_0_0_s_1_4_1 spos_1_4_1 a r hj l⟩
    | ⟨0, _⟩, ⟨3, _⟩, hj => exact ⟨_, (.tail _ (.tail _ (.tail _ (.tail _ (.tail _ (.tail _ (.tail _ (.tail _ (.tail _ (.head _)))))))))), ix3 0 a l, wemb (n := 128) 0 3 ![0, 3, 0] rfl inb_S2x640x128_S1x128x128_0_3_0_s_1_4_1 spos_1_4_1 a r hj l⟩
    | ⟨0, _⟩, ⟨2, _⟩, hj => exact ⟨_, (.tail _ (.tail _ (.tail _ (.tail _ (.tail _ (.tail _ (.tail _ (.tail _ (.tail _ (.tail _ (.tail _ (.head _)))))))))))), ix3 0 a l, wemb (n := 128) 0 2 ![0, 2, 0] rfl inb_S2x640x128_S1x128x128_0_2_0_s_1_4_1 spos_1_4_1 a r hj l⟩
    | ⟨0, _⟩, ⟨1, _⟩, hj => exact ⟨_, (.tail _ (.tail _ (.tail _ (.tail _ (.tail _ (.tail _ (.tail _ (.tail _ (.tail _ (.tail _ (.tail _ (.tail _ (.tail _ (.head _)))))))))))))), ix3 0 a l, wemb (n := 128) 0 1 ![0, 1, 0] rfl inb_S2x640x128_S1x128x128_0_1_0_s_1_4_1 spos_1_4_1 a r hj l⟩
    | ⟨0, _⟩, ⟨0, _⟩, hj => exact ⟨_, (.tail _ (.tail _ (.tail _ (.tail _ (.tail _ (.tail _ (.tail _ (.tail _ (.tail _ (.tail _ (.tail _ (.tail _ (.tail _ (.tail _ (.tail _ (.head _)))))))))))))))), ix3 0 a l, wemb (n := 128) 0 0 ![0, 0, 0] rfl inb_S2x640x128_S1x128x128_0_0_0_s_1_4_1 spos_1_4_1 a r hj l⟩
  · obtain ⟨b, a, hj⟩ : ∃ (b : Fin 4) (a : Fin 32), r.val = 512 + b.val + 4 * a.val := ⟨⟨r.val % 4, by omega⟩, ⟨(r.val - 512) / 4, by omega⟩, by dsimp only; omega⟩
    match half, b, hj with
    | ⟨1, _⟩, ⟨3, _⟩, hj => exact ⟨_, (.head _), ix3 0 a l, wemb (n := 32) 1 515 ![1, 515, 0] rfl inb_S2x640x128_S1x32x128_1_515_0_s_1_4_1 spos_1_4_1 a r hj l⟩
    | ⟨1, _⟩, ⟨2, _⟩, hj => exact ⟨_, (.tail _ (.tail _ (.head _))), ix3 0 a l, wemb (n := 32) 1 514 ![1, 514, 0] rfl inb_S2x640x128_S1x32x128_1_514_0_s_1_4_1 spos_1_4_1 a r hj l⟩
    | ⟨1, _⟩, ⟨1, _⟩, hj => exact ⟨_, (.tail _ (.tail _ (.tail _ (.tail _ (.head _))))), ix3 0 a l, wemb (n := 32) 1 513 ![1, 513, 0] rfl inb_S2x640x128_S1x32x128_1_513_0_s_1_4_1 spos_1_4_1 a r hj l⟩
    | ⟨1, _⟩, ⟨0, _⟩, hj => exact ⟨_, (.tail _ (.tail _ (.tail _ (.tail _ (.tail _ (.tail _ (.head _))))))), ix3 0 a l, wemb (n := 32) 1 512 ![1, 512, 0] rfl inb_S2x640x128_S1x32x128_1_512_0_s_1_4_1 spos_1_4_1 a r hj l⟩
    | ⟨0, _⟩, ⟨3, _⟩, hj => exact ⟨_, (.tail _ (.tail _ (.tail _ (.tail _ (.tail _ (.tail _ (.tail _ (.tail _ (.head _))))))))), ix3 0 a l, wemb (n := 32) 0 515 ![0, 515, 0] rfl inb_S2x640x128_S1x32x128_0_515_0_s_1_4_1 spos_1_4_1 a r hj l⟩
    | ⟨0, _⟩, ⟨2, _⟩, hj => exact ⟨_, (.tail _ (.tail _ (.tail _ (.tail _ (.tail _ (.tail _ (.tail _ (.tail _ (.tail _ (.tail _ (.head _))))))))))), ix3 0 a l, wemb (n := 32) 0 514 ![0, 514, 0] rfl inb_S2x640x128_S1x32x128_0_514_0_s_1_4_1 spos_1_4_1 a r hj l⟩
    | ⟨0, _⟩, ⟨1, _⟩, hj => exact ⟨_, (.tail _ (.tail _ (.tail _ (.tail _ (.tail _ (.tail _ (.tail _ (.tail _ (.tail _ (.tail _ (.tail _ (.tail _ (.head _))))))))))))), ix3 0 a l, wemb (n := 32) 0 513 ![0, 513, 0] rfl inb_S2x640x128_S1x32x128_0_513_0_s_1_4_1 spos_1_4_1 a r hj l⟩
    | ⟨0, _⟩, ⟨0, _⟩, hj => exact ⟨_, (.tail _ (.tail _ (.tail _ (.tail _ (.tail _ (.tail _ (.tail _ (.tail _ (.tail _ (.tail _ (.tail _ (.tail _ (.tail _ (.tail _ (.head _))))))))))))))), ix3 0 a l, wemb (n := 32) 0 512 ![0, 512, 0] rfl inb_S2x640x128_S1x32x128_0_512_0_s_1_4_1 spos_1_4_1 a r hj l⟩

/-- A weight scratch reads the weights. -/
theorem w1_read {κ : Kind} {sp : Space} (v : View sig κ sp S2x640x128 .f32) (f : v.ty.Contents (Elt Ideal)) (y : S2x640x128.Idx) :
    v.read (Elt Ideal) (v.writes (Elt Ideal) f (kernelRun1_A.sl.HS1_16 (F := Ideal) c arg2 harg2 arg3 harg3 x1 x2)) y = WG x1 x2 y :=
  read_writes_emb v f (WG x1 x2) y _ (w1_pieces c arg2 harg2 arg3 harg3 x1 x2) (w1_cover c arg2 harg2 arg3 harg3 x1 x2 y)

theorem w2_pieces : ∀ p ∈ kernelRun1_A.sl.HS2_16 (F := Ideal) c arg4 harg4 arg5 harg5 x3 x4, ∀ y, p.2 y = WG x3 x4 (p.1.emb y) := by
  unfold kernelRun1_A.sl.HS2_16
  refine List.forall_mem_cons.2 ⟨wpiece2 arg5 harg5 x3 x4 1 3 ![515, 0] rfl inb_S1024x128_S128x128_515_0_s_4_1 ![1, 515, 0] rfl inb_S2x640x128_S1x32x128_1_515_0_s_1_4_1 spos_1_4_1, List.forall_mem_cons.2 ⟨wpiece1 arg4 harg4 x3 x4 1 3 ![515, 0] rfl inb_S1024x128_S128x128_515_0_s_4_1 ![1, 3, 0] rfl inb_S2x640x128_S1x128x128_1_3_0_s_1_4_1 spos_1_4_1, List.forall_mem_cons.2 ⟨wpiece2 arg5 harg5 x3 x4 1 2 ![514, 0] rfl inb_S1024x128_S128x128_514_0_s_4_1 ![1, 514, 0] rfl inb_S2x640x128_S1x32x128_1_514_0_s_1_4_1 spos_1_4_1, List.forall_mem_cons.2 ⟨wpiece1 arg4 harg4 x3 x4 1 2 ![514, 0] rfl inb_S1024x128_S128x128_514_0_s_4_1 ![1, 2, 0] rfl inb_S2x640x128_S1x128x128_1_2_0_s_1_4_1 spos_1_4_1, List.forall_mem_cons.2 ⟨wpiece2 arg5 harg5 x3 x4 1 1 ![513, 0] rfl inb_S1024x128_S128x128_513_0_s_4_1 ![1, 513, 0] rfl inb_S2x640x128_S1x32x128_1_513_0_s_1_4_1 spos_1_4_1, List.forall_mem_cons.2 ⟨wpiece1 arg4 harg4 x3 x4 1 1 ![513, 0] rfl inb_S1024x128_S128x128_513_0_s_4_1 ![1, 1, 0] rfl inb_S2x640x128_S1x128x128_1_1_0_s_1_4_1 spos_1_4_1, List.forall_mem_cons.2 ⟨wpiece2 arg5 harg5 x3 x4 1 0 ![512, 0] rfl inb_S1024x128_S128x128_512_0_s_4_1 ![1, 512, 0] rfl inb_S2x640x128_S1x32x128_1_512_0_s_1_4_1 spos_1_4_1, List.forall_mem_cons.2 ⟨wpiece1 arg4 harg4 x3 x4 1 0 ![512, 0] rfl inb_S1024x128_S128x128_512_0_s_4_1 ![1, 0, 0] rfl inb_S2x640x128_S1x128x128_1_0_0_s_1_4_1 spos_1_4_1, List.forall_mem_cons.2 ⟨wpiece2 arg5 harg5 x3 x4 0 3 ![3, 0] rfl inb_S1024x128_S128x128_3_0_s_4_1 ![0, 515, 0] rfl inb_S2x640x128_S1x32x128_0_515_0_s_1_4_1 spos_1_4_1, List.forall_mem_cons.2 ⟨wpiece1 arg4 harg4 x3 x4 0 3 ![3, 0] rfl inb_S1024x128_S128x128_3_0_s_4_1 ![0, 3, 0] rfl inb_S2x640x128_S1x128x128_0_3_0_s_1_4_1 spos_1_4_1, List.forall_mem_cons.2 ⟨wpiece2 arg5 harg5 x3 x4 0 2 ![2, 0] rfl inb_S1024x128_S128x128_2_0_s_4_1 ![0, 514, 0] rfl inb_S2x640x128_S1x32x128_0_514_0_s_1_4_1 spos_1_4_1, List.forall_mem_cons.2 ⟨wpiece1 arg4 harg4 x3 x4 0 2 ![2, 0] rfl inb_S1024x128_S128x128_2_0_s_4_1 ![0, 2, 0] rfl inb_S2x640x128_S1x128x128_0_2_0_s_1_4_1 spos_1_4_1, List.forall_mem_cons.2 ⟨wpiece2 arg5 harg5 x3 x4 0 1 ![1, 0] rfl inb_S1024x128_S128x128_1_0_s_4_1 ![0, 513, 0] rfl inb_S2x640x128_S1x32x128_0_513_0_s_1_4_1 spos_1_4_1, List.forall_mem_cons.2 ⟨wpiece1 arg4 harg4 x3 x4 0 1 ![1, 0] rfl inb_S1024x128_S128x128_1_0_s_4_1 ![0, 1, 0] rfl inb_S2x640x128_S1x128x128_0_1_0_s_1_4_1 spos_1_4_1, List.forall_mem_cons.2 ⟨wpiece2 arg5 harg5 x3 x4 0 0 ![0, 0] rfl inb_S1024x128_S128x128_0_0_s_4_1 ![0, 512, 0] rfl inb_S2x640x128_S1x32x128_0_512_0_s_1_4_1 spos_1_4_1, List.forall_mem_cons.2 ⟨wpiece1 arg4 harg4 x3 x4 0 0 ![0, 0] rfl inb_S1024x128_S128x128_0_0_s_4_1 ![0, 0, 0] rfl inb_S2x640x128_S1x128x128_0_0_0_s_1_4_1 spos_1_4_1, List.forall_mem_nil _⟩⟩⟩⟩⟩⟩⟩⟩⟩⟩⟩⟩⟩⟩⟩⟩

theorem w2_cover (y : S2x640x128.Idx) : ∃ p ∈ kernelRun1_A.sl.HS2_16 (F := Ideal) c arg4 harg4 arg5 harg5 x3 x4, ∃ x, p.1.emb x = y := by
  obtain ⟨half, r, l, rfl⟩ : ∃ (half : Fin 2) (r : Fin 640) (l : Fin 128), y = ix3 half r l := ⟨y 0, y 1, y 2, eq_ix3 y⟩
  unfold kernelRun1_A.sl.HS2_16
  by_cases hr : r.val < 512
  · obtain ⟨b, a, hj⟩ : ∃ (b : Fin 4) (a : Fin 128), r.val = b.val + 4 * a.val := ⟨⟨r.val % 4, by omega⟩, ⟨r.val / 4, by omega⟩, by dsimp only; omega⟩
    match half, b, hj with
    | ⟨1, _⟩, ⟨3, _⟩, hj => exact ⟨_, (.tail _ (.head _)), ix3 0 a l, wemb (n := 128) 1 3 ![1, 3, 0] rfl inb_S2x640x128_S1x128x128_1_3_0_s_1_4_1 spos_1_4_1 a r hj l⟩
    | ⟨1, _⟩, ⟨2, _⟩, hj => exact ⟨_, (.tail _ (.tail _ (.tail _ (.head _)))), ix3 0 a l, wemb (n := 128) 1 2 ![1, 2, 0] rfl inb_S2x640x128_S1x128x128_1_2_0_s_1_4_1 spos_1_4_1 a r hj l⟩
    | ⟨1, _⟩, ⟨1, _⟩, hj => exact ⟨_, (.tail _ (.tail _ (.tail _ (.tail _ (.tail _ (.head _)))))), ix3 0 a l, wemb (n := 128) 1 1 ![1, 1, 0] rfl inb_S2x640x128_S1x128x128_1_1_0_s_1_4_1 spos_1_4_1 a r hj l⟩
    | ⟨1, _⟩, ⟨0, _⟩, hj => exact ⟨_, (.tail _ (.tail _ (.tail _ (.tail _ (.tail _ (.tail _ (.tail _ (.head _)))))))), ix3 0 a l, wemb (n := 128) 1 0 ![1, 0, 0] rfl inb_S2x640x128_S1x128x128_1_0_0_s_1_4_1 spos_1_4_1 a r hj l⟩
    | ⟨0, _⟩, ⟨3, _⟩, hj => exact ⟨_, (.tail _ (.tail _ (.tail _ (.tail _ (.tail _ (.tail _ (.tail _ (.tail _ (.tail _ (.head _)))))))))), ix3 0 a l, wemb (n := 128) 0 3 ![0, 3, 0] rfl inb_S2x640x128_S1x128x128_0_3_0_s_1_4_1 spos_1_4_1 a r hj l⟩
    | ⟨0, _⟩, ⟨2, _⟩, hj => exact ⟨_, (.tail _ (.tail _ (.tail _ (.tail _ (.tail _ (.tail _ (.tail _ (.tail _ (.tail _ (.tail _ (.tail _ (.head _)))))))))))), ix3 0 a l, wemb (n := 128) 0 2 ![0, 2, 0] rfl inb_S2x640x128_S1x128x128_0_2_0_s_1_4_1 spos_1_4_1 a r hj l⟩
    | ⟨0, _⟩, ⟨1, _⟩, hj => exact ⟨_, (.tail _ (.tail _ (.tail _ (.tail _ (.tail _ (.tail _ (.tail _ (.tail _ (.tail _ (.tail _ (.tail _ (.tail _ (.tail _ (.head _)))))))))))))), ix3 0 a l, wemb (n := 128) 0 1 ![0, 1, 0] rfl inb_S2x640x128_S1x128x128_0_1_0_s_1_4_1 spos_1_4_1 a r hj l⟩
    | ⟨0, _⟩, ⟨0, _⟩, hj => exact ⟨_, (.tail _ (.tail _ (.tail _ (.tail _ (.tail _ (.tail _ (.tail _ (.tail _ (.tail _ (.tail _ (.tail _ (.tail _ (.tail _ (.tail _ (.tail _ (.head _)))))))))))))))), ix3 0 a l, wemb (n := 128) 0 0 ![0, 0, 0] rfl inb_S2x640x128_S1x128x128_0_0_0_s_1_4_1 spos_1_4_1 a r hj l⟩
  · obtain ⟨b, a, hj⟩ : ∃ (b : Fin 4) (a : Fin 32), r.val = 512 + b.val + 4 * a.val := ⟨⟨r.val % 4, by omega⟩, ⟨(r.val - 512) / 4, by omega⟩, by dsimp only; omega⟩
    match half, b, hj with
    | ⟨1, _⟩, ⟨3, _⟩, hj => exact ⟨_, (.head _), ix3 0 a l, wemb (n := 32) 1 515 ![1, 515, 0] rfl inb_S2x640x128_S1x32x128_1_515_0_s_1_4_1 spos_1_4_1 a r hj l⟩
    | ⟨1, _⟩, ⟨2, _⟩, hj => exact ⟨_, (.tail _ (.tail _ (.head _))), ix3 0 a l, wemb (n := 32) 1 514 ![1, 514, 0] rfl inb_S2x640x128_S1x32x128_1_514_0_s_1_4_1 spos_1_4_1 a r hj l⟩
    | ⟨1, _⟩, ⟨1, _⟩, hj => exact ⟨_, (.tail _ (.tail _ (.tail _ (.tail _ (.head _))))), ix3 0 a l, wemb (n := 32) 1 513 ![1, 513, 0] rfl inb_S2x640x128_S1x32x128_1_513_0_s_1_4_1 spos_1_4_1 a r hj l⟩
    | ⟨1, _⟩, ⟨0, _⟩, hj => exact ⟨_, (.tail _ (.tail _ (.tail _ (.tail _ (.tail _ (.tail _ (.head _))))))), ix3 0 a l, wemb (n := 32) 1 512 ![1, 512, 0] rfl inb_S2x640x128_S1x32x128_1_512_0_s_1_4_1 spos_1_4_1 a r hj l⟩
    | ⟨0, _⟩, ⟨3, _⟩, hj => exact ⟨_, (.tail _ (.tail _ (.tail _ (.tail _ (.tail _ (.tail _ (.tail _ (.tail _ (.head _))))))))), ix3 0 a l, wemb (n := 32) 0 515 ![0, 515, 0] rfl inb_S2x640x128_S1x32x128_0_515_0_s_1_4_1 spos_1_4_1 a r hj l⟩
    | ⟨0, _⟩, ⟨2, _⟩, hj => exact ⟨_, (.tail _ (.tail _ (.tail _ (.tail _ (.tail _ (.tail _ (.tail _ (.tail _ (.tail _ (.tail _ (.head _))))))))))), ix3 0 a l, wemb (n := 32) 0 514 ![0, 514, 0] rfl inb_S2x640x128_S1x32x128_0_514_0_s_1_4_1 spos_1_4_1 a r hj l⟩
    | ⟨0, _⟩, ⟨1, _⟩, hj => exact ⟨_, (.tail _ (.tail _ (.tail _ (.tail _ (.tail _ (.tail _ (.tail _ (.tail _ (.tail _ (.tail _ (.tail _ (.tail _ (.head _))))))))))))), ix3 0 a l, wemb (n := 32) 0 513 ![0, 513, 0] rfl inb_S2x640x128_S1x32x128_0_513_0_s_1_4_1 spos_1_4_1 a r hj l⟩
    | ⟨0, _⟩, ⟨0, _⟩, hj => exact ⟨_, (.tail _ (.tail _ (.tail _ (.tail _ (.tail _ (.tail _ (.tail _ (.tail _ (.tail _ (.tail _ (.tail _ (.tail _ (.tail _ (.tail _ (.head _))))))))))))))), ix3 0 a l, wemb (n := 32) 0 512 ![0, 512, 0] rfl inb_S2x640x128_S1x32x128_0_512_0_s_1_4_1 spos_1_4_1 a r hj l⟩

/-- A weight scratch reads the weights. -/
theorem w2_read {κ : Kind} {sp : Space} (v : View sig κ sp S2x640x128 .f32) (f : v.ty.Contents (Elt Ideal)) (y : S2x640x128.Idx) :
    v.read (Elt Ideal) (v.writes (Elt Ideal) f (kernelRun1_A.sl.HS2_16 (F := Ideal) c arg4 harg4 arg5 harg5 x3 x4)) y = WG x3 x4 y :=
  read_writes_emb v f (WG x3 x4) y _ (w2_pieces c arg4 harg4 arg5 harg5 x3 x4) (w2_cover c arg4 harg4 arg5 harg5 x3 x4 y)

end Cert.KernelIdeal.Run
-- ==== Proof.KernelIdeal.Out1.lean ====
module
public import proofs.«01_k».proof.Proof.KernelIdeal.Scratch
@[expose] public section

/-! What the main body stores in its output block. -/
namespace Cert.KernelIdeal.Run
open Idealize.ShloMosaic Idealize.ShloMosaic.TcCoe Cert.KernelIdeal.Gen Idealize.SL Idealize.ShloMosaic.ValueIdx Cert.Spec Cert.Pieces Cert.Bits

/-- One output element: the low and the high half of the weights' groups. -/
noncomputable def yv (xg : Vec Ideal S320x128 .bf16) (PW : Fin 4 → Fin 2 → Fin 640 → Fin 128 → BitVec 32) (WS WZ : Fin 2 → Fin 640 → Fin 128 → EReal) (t : Fin 3) (b : Fin 4) (half : Fin 2) (l : Fin 128) : EReal :=
  (∑ j : Fin 40, tK xg PW WS WZ j t 0 b half l) + ∑ j : Fin 40, tK xg PW WS WZ j t 1 b half l

noncomputable def YG (xg : Vec Ideal S320x128 .bf16) (x0 : Vec Ideal S4x1024x640 .i8) (x1 x2 x3 x4 : Vec Ideal S1024x128 .f32) (y : S1x3x4x256.Idx) : EReal :=
  yv xg (PWd x0) (Wd x1 x2) (Wd x3 x4) (y 1) (y 2) ⟨(y 3).val / 128, Nat.div_lt_of_lt_mul (y 3).isLt⟩ ⟨(y 3).val % 128, Nat.mod_lt _ (by decide)⟩

theorem yemb (t : Fin 3) (off : Fin 4 → ℕ) (ho : off = ![0, t.val, 0, 0]) (inb) (b : Fin 4) (c : Fin 256) :
    (Rect.unit (s := S1x3x4x256) off S1x1x4x256.size inb).emb (ix4 0 0 b c) = ix4 0 t b c := by
  subst ho
  funext a
  apply Fin.ext
  match a with
  | ⟨0, _⟩ => exact (show 0 + 1 * 0 = 0 by rfl)
  | ⟨1, _⟩ => exact (show t.val + 1 * 0 = t.val by rfl)
  | ⟨2, _⟩ => exact (show 0 + 1 * b.val = b.val by omega)
  | ⟨3, _⟩ => exact (show 0 + 1 * c.val = c.val by omega)

theorem pay223_apply (S : FVec Ideal S8x256 .f32) (b : Fin 4) (c : Fin 256) (u v : EReal) (hu : ∀ s : Fin 8, s.val = 4 * (0 : Fin 2).val + b.val → S (ix2 s c) = u) (hv : ∀ s : Fin 8, s.val = 4 * (1 : Fin 2).val + b.val → S (ix2 s c) = v) :
    k1_pay223 S (ix4 0 0 b c) = u + v := by
  show shapeCast S1x1x4x256 (truncf (F := Ideal) .bf16 (addf (extractStridedSlice S4x256 ![0, 0] S slices_S8x256_o0_0_S4x256) (extractStridedSlice S4x256 ![4, 0] S slices_S8x256_o4_0_S4x256) : FVec Ideal S4x256 .f32) bitsLt_bf16_f32) shapeCasts_S4x256_S1x1x4x256 (ix4 0 0 b c) = u + v
  rw [shapeCast_ab_11ab_apply (a := 4) (b := 256)]
  exact congrArg₂ (fun a b : EReal => a + b)
    ((slice2_axis0_apply (n0 := 8) (n1 := 256) (m := 4) 0 S slices_S8x256_o0_0_S4x256 b c ⟨b.val, by omega⟩ (Nat.zero_add _).symm).trans (hu _ (by dsimp only; omega)))
    ((slice2_axis0_apply (n0 := 8) (n1 := 256) (m := 4) 4 S slices_S8x256_o4_0_S4x256 b c ⟨4 + b.val, by omega⟩ rfl).trans (hv _ (by dsimp only; omega)))

theorem zero_at (s : Fin 8) (c : Fin 256) : (k1_pay216 (F := Ideal) (ix2 s c) : EReal) = 0 := scalar_zero

section
variable (c : Dev nD) (i : grid1.Coords) (arg1 : Memref sig .tc .vmem S4x1024x640 .i8) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S80x32x1024 .bf16) (harg6 : arg6.IsWhole) (arg7 : Memref sig .tc .vmem S80x32x128 .f32) (harg7 : arg7.IsWhole) (arg8 : Memref sig .tc .vmem S320x128 .f32) (harg8 : arg8.IsWhole) (arg9 : Memref sig .tc .vmem S1x3x4x256 .bf16) (harg9 : arg9.IsWhole) (arg10 : Memref sig .tc .vmem S4x2x640x128 .i32) (harg10 : arg10.IsWhole) (arg11 : Memref sig .tc .vmem S2x640x128 .f32) (harg11 : arg11.IsWhole) (arg12 : Memref sig .tc .vmem S2x640x128 .f32) (harg12 : arg12.IsWhole)
  (x0 : Vec Ideal S4x1024x640 .i8) (x1 x2 x3 x4 : Vec Ideal S1024x128 .f32) (x5 : Vec Ideal S80x32x1024 .bf16) (x6 : Vec Ideal S80x32x128 .f32) (x7 : Vec Ideal S320x128 .f32) (xg : Vec Ideal S320x128 .bf16)
  (h5 : ∀ y, x5 y = lhsG xg y) (h6 : ∀ y, x6 y = zsumG xg y) (h7 : ∀ y, x7 y = scaleG xg y)

include h5 h6 h7 in
theorem opiece_0 (v450) (n : ℕ) (hn : n = 40) (y : S1x1x4x256.Idx) :
    k1_pay223 (F := Ideal) (st_k1_t1 (F := Ideal) Variants.none c none i arg1 harg1 arg2 harg2 arg3 harg3 arg4 harg4 arg5 harg5 arg6 harg6 arg7 harg7 arg8 harg8 arg9 harg9 arg10 harg10 arg11 harg11 arg12 harg12 v450
      (harg6.unread x5) (harg7.unread x6) (harg8.unread x7)
      (arg10.view.writes (Elt Ideal) arg10.view.junk (kernelRun1_A.sl.HS0_40 c arg1 harg1 x0))
      (arg11.view.writes (Elt Ideal) arg11.view.junk (kernelRun1_A.sl.HS1_16 c arg2 harg2 arg3 harg3 x1 x2))
      (arg12.view.writes (Elt Ideal) arg12.view.junk (kernelRun1_A.sl.HS2_16 c arg4 harg4 arg5 harg5 x3 x4))
      (k1_pay216, k1_pay217, k1_pay218) n).1 y = YG xg x0 x1 x2 x3 x4 ((Rect.unit (s := S1x3x4x256) ![0, 0, 0, 0] S1x1x4x256.size inb_S1x3x4x256_S1x1x4x256_0_0_0_0).emb y) := by
  subst hn
  obtain ⟨b, q, rfl⟩ : ∃ (b : Fin 4) (q : Fin 256), y = ix4 0 0 b q := ⟨y 2, y 3, eq_ix4_0 y⟩
  refine Eq.trans ?_ (congrArg (YG xg x0 x1 x2 x3 x4) (yemb 0 ![0, 0, 0, 0] rfl inb_S1x3x4x256_S1x1x4x256_0_0_0_0 b q).symm)
  have key : ∀ (h : Fin 2) (s : Fin 8), s.val = 4 * h.val + b.val → (st_k1_t1 (F := Ideal) Variants.none c none i arg1 harg1 arg2 harg2 arg3 harg3 arg4 harg4 arg5 harg5 arg6 harg6 arg7 harg7 arg8 harg8 arg9 harg9 arg10 harg10 arg11 harg11 arg12 harg12 v450
      (harg6.unread x5) (harg7.unread x6) (harg8.unread x7)
      (arg10.view.writes (Elt Ideal) arg10.view.junk (kernelRun1_A.sl.HS0_40 c arg1 harg1 x0))
      (arg11.view.writes (Elt Ideal) arg11.view.junk (kernelRun1_A.sl.HS1_16 c arg2 harg2 arg3 harg3 x1 x2))
      (arg12.view.writes (Elt Ideal) arg12.view.junk (kernelRun1_A.sl.HS2_16 c arg4 harg4 arg5 harg5 x3 x4))
      (k1_pay216, k1_pay217, k1_pay218) 40).1 (ix2 s q) = ∑ j : Fin 40, tK xg (PWd x0) (Wd x1 x2) (Wd x3 x4) j 0 h b ⟨q.val / 128, by omega⟩ ⟨q.val % 128, by omega⟩ := fun h s hs =>
    loop_0 arg6 _ arg7 _ arg8 _ arg10 _ arg11 _ arg12 _ xg
      (fun y => (congrFun (harg6.read_unread x5) y).trans (h5 y)) (fun y => (congrFun (harg7.read_unread x6) y).trans (h6 y)) (fun y => (congrFun (harg8.read_unread x7) y).trans (h7 y))
      (PWd x0) (Wd x1 x2) (Wd x3 x4)
      (fun p half r l => q_read c arg1 harg1 x0 _ _ (ix4 p half r l)) (fun half r l => w1_read c arg2 harg2 arg3 harg3 x1 x2 _ _ (ix3 half r l)) (fun half r l => w2_read c arg4 harg4 arg5 harg5 x3 x4 _ _ (ix3 half r l))
      Variants.none c none i arg1 harg1 arg2 harg2 arg3 harg3 arg4 harg4 arg5 harg5 harg6 harg7 harg8 arg9 harg9 harg10 harg11 harg12 v450 h b s hs q ⟨q.val / 128, by omega⟩ ⟨q.val % 128, by omega⟩ (by dsimp only; omega) (k1_pay216, k1_pay217, k1_pay218) (zero_at s q) 40 (Nat.le_refl _)
  exact pay223_apply _ b q _ _ (key 0) (key 1)

include h5 h6 h7 in
theorem opiece_1 (v450) (n : ℕ) (hn : n = 40) (y : S1x1x4x256.Idx) :
    k1_pay223 (F := Ideal) (st_k1_t1 (F := Ideal) Variants.none c none i arg1 harg1 arg2 harg2 arg3 harg3 arg4 harg4 arg5 harg5 arg6 harg6 arg7 harg7 arg8 harg8 arg9 harg9 arg10 harg10 arg11 harg11 arg12 harg12 v450
      (harg6.unread x5) (harg7.unread x6) (harg8.unread x7)
      (arg10.view.writes (Elt Ideal) arg10.view.junk (kernelRun1_A.sl.HS0_40 c arg1 harg1 x0))
      (arg11.view.writes (Elt Ideal) arg11.view.junk (kernelRun1_A.sl.HS1_16 c arg2 harg2 arg3 harg3 x1 x2))
      (arg12.view.writes (Elt Ideal) arg12.view.junk (kernelRun1_A.sl.HS2_16 c arg4 harg4 arg5 harg5 x3 x4))
      (k1_pay216, k1_pay217, k1_pay218) n).2.1 y = YG xg x0 x1 x2 x3 x4 ((Rect.unit (s := S1x3x4x256) ![0, 1, 0, 0] S1x1x4x256.size inb_S1x3x4x256_S1x1x4x256_0_1_0_0).emb y) := by
  subst hn
  obtain ⟨b, q, rfl⟩ : ∃ (b : Fin 4) (q : Fin 256), y = ix4 0 0 b q := ⟨y 2, y 3, eq_ix4_0 y⟩
  refine Eq.trans ?_ (congrArg (YG xg x0 x1 x2 x3 x4) (yemb 1 ![0, 1, 0, 0] rfl inb_S1x3x4x256_S1x1x4x256_0_1_0_0 b q).symm)
  have key : ∀ (h : Fin 2) (s : Fin 8), s.val = 4 * h.val + b.val → (st_k1_t1 (F := Ideal) Variants.none c none i arg1 harg1 arg2 harg2 arg3 harg3 arg4 harg4 arg5 harg5 arg6 harg6 arg7 harg7 arg8 harg8 arg9 harg9 arg10 harg10 arg11 harg11 arg12 harg12 v450
      (harg6.unread x5) (harg7.unread x6) (harg8.unread x7)
      (arg10.view.writes (Elt Ideal) arg10.view.junk (kernelRun1_A.sl.HS0_40 c arg1 harg1 x0))
      (arg11.view.writes (Elt Ideal) arg11.view.junk (kernelRun1_A.sl.HS1_16 c arg2 harg2 arg3 harg3 x1 x2))
      (arg12.view.writes (Elt Ideal) arg12.view.junk (kernelRun1_A.sl.HS2_16 c arg4 harg4 arg5 harg5 x3 x4))
      (k1_pay216, k1_pay217, k1_pay218) 40).2.1 (ix2 s q) = ∑ j : Fin 40, tK xg (PWd x0) (Wd x1 x2) (Wd x3 x4) j 1 h b ⟨q.val / 128, by omega⟩ ⟨q.val % 128, by omega⟩ := fun h s hs =>
    loop_1 arg6 _ arg7 _ arg8 _ arg10 _ arg11 _ arg12 _ xg
      (fun y => (congrFun (harg6.read_unread x5) y).trans (h5 y)) (fun y => (congrFun (harg7.read_unread x6) y).trans (h6 y)) (fun y => (congrFun (harg8.read_unread x7) y).trans (h7 y))
      (PWd x0) (Wd x1 x2) (Wd x3 x4)
      (fun p half r l => q_read c arg1 harg1 x0 _ _ (ix4 p half r l)) (fun half r l => w1_read c arg2 harg2 arg3 harg3 x1 x2 _ _ (ix3 half r l)) (fun half r l => w2_read c arg4 harg4 arg5 harg5 x3 x4 _ _ (ix3 half r l))
      Variants.none c none i arg1 harg1 arg2 harg2 arg3 harg3 arg4 harg4 arg5 harg5 harg6 harg7 harg8 arg9 harg9 harg10 harg11 harg12 v450 h b s hs q ⟨q.val / 128, by omega⟩ ⟨q.val % 128, by omega⟩ (by dsimp only; omega) (k1_pay216, k1_pay217, k1_pay218) (zero_at s q) 40 (Nat.le_refl _)
  exact pay223_apply _ b q _ _ (key 0) (key 1)

include h5 h6 h7 in
theorem opiece_2 (v450) (n : ℕ) (hn : n = 40) (y : S1x1x4x256.Idx) :
    k1_pay223 (F := Ideal) (st_k1_t1 (F := Ideal) Variants.none c none i arg1 harg1 arg2 harg2 arg3 harg3 arg4 harg4 arg5 harg5 arg6 harg6 arg7 harg7 arg8 harg8 arg9 harg9 arg10 harg10 arg11 harg11 arg12 harg12 v450
      (harg6.unread x5) (harg7.unread x6) (harg8.unread x7)
      (arg10.view.writes (Elt Ideal) arg10.view.junk (kernelRun1_A.sl.HS0_40 c arg1 harg1 x0))
      (arg11.view.writes (Elt Ideal) arg11.view.junk (kernelRun1_A.sl.HS1_16 c arg2 harg2 arg3 harg3 x1 x2))
      (arg12.view.writes (Elt Ideal) arg12.view.junk (kernelRun1_A.sl.HS2_16 c arg4 harg4 arg5 harg5 x3 x4))
      (k1_pay216, k1_pay217, k1_pay218) n).2.2 y = YG xg x0 x1 x2 x3 x4 ((Rect.unit (s := S1x3x4x256) ![0, 2, 0, 0] S1x1x4x256.size inb_S1x3x4x256_S1x1x4x256_0_2_0_0).emb y) := by
  subst hn
  obtain ⟨b, q, rfl⟩ : ∃ (b : Fin 4) (q : Fin 256), y = ix4 0 0 b q := ⟨y 2, y 3, eq_ix4_0 y⟩
  refine Eq.trans ?_ (congrArg (YG xg x0 x1 x2 x3 x4) (yemb 2 ![0, 2, 0, 0] rfl inb_S1x3x4x256_S1x1x4x256_0_2_0_0 b q).symm)
  have key : ∀ (h : Fin 2) (s : Fin 8), s.val = 4 * h.val + b.val → (st_k1_t1 (F := Ideal) Variants.none c none i arg1 harg1 arg2 harg2 arg3 harg3 arg4 harg4 arg5 harg5 arg6 harg6 arg7 harg7 arg8 harg8 arg9 harg9 arg10 harg10 arg11 harg11 arg12 harg12 v450
      (harg6.unread x5) (harg7.unread x6) (harg8.unread x7)
      (arg10.view.writes (Elt Ideal) arg10.view.junk (kernelRun1_A.sl.HS0_40 c arg1 harg1 x0))
      (arg11.view.writes (Elt Ideal) arg11.view.junk (kernelRun1_A.sl.HS1_16 c arg2 harg2 arg3 harg3 x1 x2))
      (arg12.view.writes (Elt Ideal) arg12.view.junk (kernelRun1_A.sl.HS2_16 c arg4 harg4 arg5 harg5 x3 x4))
      (k1_pay216, k1_pay217, k1_pay218) 40).2.2 (ix2 s q) = ∑ j : Fin 40, tK xg (PWd x0) (Wd x1 x2) (Wd x3 x4) j 2 h b ⟨q.val / 128, by omega⟩ ⟨q.val % 128, by omega⟩ := fun h s hs =>
    loop_2 arg6 _ arg7 _ arg8 _ arg10 _ arg11 _ arg12 _ xg
      (fun y => (congrFun (harg6.read_unread x5) y).trans (h5 y)) (fun y => (congrFun (harg7.read_unread x6) y).trans (h6 y)) (fun y => (congrFun (harg8.read_unread x7) y).trans (h7 y))
      (PWd x0) (Wd x1 x2) (Wd x3 x4)
      (fun p half r l => q_read c arg1 harg1 x0 _ _ (ix4 p half r l)) (fun half r l => w1_read c arg2 harg2 arg3 harg3 x1 x2 _ _ (ix3 half r l)) (fun half r l => w2_read c arg4 harg4 arg5 harg5 x3 x4 _ _ (ix3 half r l))
      Variants.none c none i arg1 harg1 arg2 harg2 arg3 harg3 arg4 harg4 arg5 harg5 harg6 harg7 harg8 arg9 harg9 harg10 harg11 harg12 v450 h b s hs q ⟨q.val / 128, by omega⟩ ⟨q.val % 128, by omega⟩ (by dsimp only; omega) (k1_pay216, k1_pay217, k1_pay218) (zero_at s q) 40 (Nat.le_refl _)
  exact pay223_apply _ b q _ _ (key 0) (key 1)

include h5 h6 h7 in
/-- The block the body leaves. -/
theorem out1_apply (y : S1x3x4x256.Idx) : out1_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 y = YG xg x0 x1 x2 x3 x4 y := by
  unfold out1_A_8
  refine read_writes_emb (Val := Elt Ideal) (s := S1x3x4x256) (e := .bf16) _ _ (YG xg x0 x1 x2 x3 x4) y _ ?_ ?_
  · unfold kernelRun1_A
    refine List.forall_mem_cons.2 ⟨fun y => opiece_2 c i arg1 harg1 arg2 harg2 arg3 harg3 arg4 harg4 arg5 harg5 arg6 harg6 arg7 harg7 arg8 harg8 arg9 harg9 arg10 harg10 arg11 harg11 arg12 harg12 x0 x1 x2 x3 x4 x5 x6 x7 xg h5 h6 h7 _ _ trips1_40 y, List.forall_mem_cons.2 ⟨fun y => opiece_1 c i arg1 harg1 arg2 harg2 arg3 harg3 arg4 harg4 arg5 harg5 arg6 harg6 arg7 harg7 arg8 harg8 arg9 harg9 arg10 harg10 arg11 harg11 arg12 harg12 x0 x1 x2 x3 x4 x5 x6 x7 xg h5 h6 h7 _ _ trips1_40 y, List.forall_mem_cons.2 ⟨fun y => opiece_0 c i arg1 harg1 arg2 harg2 arg3 harg3 arg4 harg4 arg5 harg5 arg6 harg6 arg7 harg7 arg8 harg8 arg9 harg9 arg10 harg10 arg11 harg11 arg12 harg12 x0 x1 x2 x3 x4 x5 x6 x7 xg h5 h6 h7 _ _ trips1_40 y, List.forall_mem_nil _⟩⟩⟩
  · obtain ⟨t, b, q, rfl⟩ : ∃ (t : Fin 3) (b : Fin 4) (q : Fin 256), y = ix4 0 t b q := ⟨y 1, y 2, y 3, by
      refine (eq_ix4 y).trans ?_
      exact congrArg (fun z : Fin 1 => (ix4 z (y 1) (y 2) (y 3) : S1x3x4x256.Idx)) (Subsingleton.elim _ _)⟩
    unfold kernelRun1_A
    match t with
    | ⟨2, _⟩ => exact ⟨_, .head _, ix4 0 0 b q, yemb 2 ![0, 2, 0, 0] rfl inb_S1x3x4x256_S1x1x4x256_0_2_0_0 b q⟩
    | ⟨1, _⟩ => exact ⟨_, .tail _ (.head _), ix4 0 0 b q, yemb 1 ![0, 1, 0, 0] rfl inb_S1x3x4x256_S1x1x4x256_0_1_0_0 b q⟩
    | ⟨0, _⟩ => exact ⟨_, .tail _ (.tail _ (.head _)), ix4 0 0 b q, yemb 0 ![0, 0, 0, 0] rfl inb_S1x3x4x256_S1x1x4x256_0_0_0_0 b q⟩
end

end Cert.KernelIdeal.Run
-- ==== Proof.Agree.lean ====
module
public import proofs.«01_k».proof.Proof.Ref.Sums
public import proofs.«01_k».proof.Proof.KernelIdeal.Out1
@[expose] public section

/-! The kernel's sums are the reference's. -/
namespace Cert.Agree
open Idealize.ShloMosaic Idealize.ShloMosaic.ValueIdx Cert.Spec Cert.Bits Cert.RefVal
open Cert.KernelIdeal.Run (zr zr_zero Asum Zsum kv dK tK yv row wordOf wordOf_getLsbD)

theorem byte_bits : ∀ v : Fin 256, ∀ par : Fin 2,
    (((BitVec.ofNat 8 v.val).getLsbD (4 * par.val)).toNat + 2 * ((BitVec.ofNat 8 v.val).getLsbD (4 * par.val + 1)).toNat)
      + (4 * ((BitVec.ofNat 8 v.val).getLsbD (4 * par.val + 2)).toNat + 8 * ((BitVec.ofNat 8 v.val).getLsbD (4 * par.val + 3)).toNat)
      = if par = 0 then v.val % 16 else v.val / 16 := by decide +kernel

/-- A nibble of a word of four bytes is a half of one of them. -/
theorem nib_word (f : Fin 4 → BitVec 8) (b : Fin 4) (par : Fin 2) :
    nib (wordOf f) (2 * b.val + par.val) = if par = 0 then (f b).toNat % 16 else (f b).toNat / 16 := by
  have h := byte_bits ⟨(f b).toNat, (f b).isLt⟩ par
  simp only [BitVec.ofNat_toNat, BitVec.setWidth_eq] at h
  rw [← h]
  unfold nib
  have hb := b.isLt
  have hp := par.isLt
  have e : ∀ i : ℕ, i < 4 → (wordOf f).getLsbD (4 * (2 * b.val + par.val) + i) = (f b).getLsbD (4 * par.val + i) := fun i hi => by
    rw [wordOf_getLsbD f _ (by omega)]
    have e1 : (⟨(4 * (2 * b.val + par.val) + i) / 8, by omega⟩ : Fin 4) = b := Fin.ext (show (4 * (2 * b.val + par.val) + i) / 8 = b.val by omega)
    have e2 : (4 * (2 * b.val + par.val) + i) % 8 = 4 * par.val + i := by omega
    rw [e1, e2]
  have e0 := e 0 (by decide)
  simp only [Nat.add_zero] at e0
  rw [e0, e 1 (by decide), e 2 (by decide), e 3 (by decide)]

section
variable (X : Cert.ReferenceIdeal.S3x1x5120.Idx → EReal) (P : Cert.ReferenceIdeal.S4x27648x640.Idx → BitVec 8)

theorem zc_eq (t : Fin 3) (g : Fin 40) (j2 h : Fin 2) (i : Fin 8) (q : Fin 1280) (e : ℕ) (hq : q.val = 32 * g.val + 16 * j2.val + 8 * h.val + i.val) :
    zc X t q e = gz (xrow X t g) ⟨16 * j2.val + 8 * h.val + i.val, by omega⟩ e := by
  unfold zc
  have e1 : (⟨q.val / 32, by omega⟩ : Fin 40) = g := Fin.ext (show q.val / 32 = g.val by omega)
  have e2 : (⟨q.val % 32, by omega⟩ : Fin 32) = ⟨16 * j2.val + 8 * h.val + i.val, by omega⟩ := Fin.ext (show q.val % 32 = 16 * j2.val + 8 * h.val + i.val by omega)
  rw [e1, e2]

theorem kv_eq (j2 h : Fin 2) (par : Fin 2) (s : Fin 4) : kv j2 (32 * par.val + 16 * h.val + 4 * s.val) = ⟨16 * j2.val + 8 * h.val + (2 * s.val + par.val), by omega⟩ := by
  unfold kv
  apply Fin.ext
  show 16 * j2.val + 2 * ((32 * par.val + 16 * h.val + 4 * s.val) / 4 % 8) + (32 * par.val + 16 * h.val + 4 * s.val) / 32 % 2 = 16 * j2.val + 8 * h.val + (2 * s.val + par.val)
  omega

theorem swap_sums (A : Fin 2 → Fin 4 → Fin 4 → ℤ) :
    ∑ par : Fin 2, ∑ s : Fin 4, ∑ p : Fin 4, 2 ^ p.val * A par s p = ∑ p : Fin 4, (∑ s : Fin 4, (A 0 s p + A 1 s p)) * 2 ^ p.val := by
  simp only [Fin.sum_univ_two, Fin.sum_univ_four]
  ring

theorem Asum_eq (t : Fin 3) (n : Fin 27648) (g : Fin 40) (j2 h : Fin 2) (e : ℕ → ℕ → ℕ → ℕ) (G : Fin 160) (hG : G.val = 4 * g.val + 2 * j2.val + h.val)
    (he : ∀ (par : Fin 2) (s p : Fin 4), e par.val s.val p.val = if par = 0 then (P (ix3 p n ⟨4 * G.val + s.val, by omega⟩)).toNat % 16 else (P (ix3 p n ⟨4 * G.val + s.val, by omega⟩)).toNat / 16) :
    Asum (xrow X t g) j2 h e = Rsum X P t n G := by
  unfold Asum Rsum
  simp only [Finset.sum_range]
  refine Eq.trans ?_ ((swap_sums fun par s p => gz (xrow X t g) ⟨16 * j2.val + 8 * h.val + (2 * s.val + par.val), by omega⟩ (e par.val s.val p.val)).trans ?_)
  · refine Finset.sum_congr rfl fun par _ => Finset.sum_congr rfl fun s _ => Finset.sum_congr rfl fun p _ => ?_
    rw [kv_eq]
  · refine Finset.sum_congr rfl fun p _ => congrArg (· * (2 : ℤ) ^ p.val) (Finset.sum_congr rfl fun s _ => ?_)
    unfold two
    rw [zc_eq X t g j2 h ⟨2 * s.val, by omega⟩ _ _ (show 2 * (4 * G.val + s.val) = 32 * g.val + 16 * j2.val + 8 * h.val + 2 * s.val by omega),
      zc_eq X t g j2 h ⟨2 * s.val + 1, by omega⟩ _ _ (show 2 * (4 * G.val + s.val) + 1 = 32 * g.val + 16 * j2.val + 8 * h.val + (2 * s.val + 1) by omega),
      he 0 s p, he 1 s p]
    rfl

theorem pairs8 (A : Fin 8 → ℤ) : ∑ par : Fin 2, ∑ s : Fin 4, A ⟨2 * s.val + par.val, by omega⟩ = ∑ i : Fin 8, A i := by
  rw [Fin.sum_univ_two, Fin.sum_univ_four, Fin.sum_univ_four, Fin.sum_univ_eight]
  show (A 0 + A 2 + A 4 + A 6) + (A 1 + A 3 + A 5 + A 7) = _
  ring

theorem Zsum_eq (t : Fin 3) (g : Fin 40) (j2 h : Fin 2) (G : Fin 160) (hG : G.val = 4 * g.val + 2 * j2.val + h.val) :
    Zsum (xrow X t g) j2 h = Zs X t G := by
  unfold Zsum Zs
  simp only [Finset.sum_range]
  refine Eq.trans ?_ ((pairs8 fun i => gz (xrow X t g) ⟨16 * j2.val + 8 * h.val + i.val, by omega⟩ 15).trans ?_)
  · refine Finset.sum_congr rfl fun par _ => Finset.sum_congr rfl fun s _ => ?_
    rw [kv_eq]
  · refine Finset.sum_congr rfl fun i _ => ?_
    rw [zc_eq X t g j2 h i _ _ (show 8 * G.val + i.val = 32 * g.val + 16 * j2.val + 8 * h.val + i.val by omega)]

theorem zc_top (t : Fin 3) (g : Fin 40) (h : gscale (xrow X t g) = ⊤) (q : Fin 1280) (hq : q.val / 32 = g.val) (e : ℕ) : zc X t q e = 0 := by
  unfold zc
  have e1 : (⟨q.val / 32, by omega⟩ : Fin 40) = g := Fin.ext hq
  rw [e1]
  exact gz_of_top _ h _ _

theorem Rsum_top (t : Fin 3) (n : Fin 27648) (g : Fin 40) (h : gscale (xrow X t g) = ⊤) (G : Fin 160) (hG : G.val / 4 = g.val) : Rsum X P t n G = 0 := by
  unfold Rsum two
  refine Finset.sum_eq_zero fun p _ => ?_
  rw [Finset.sum_eq_zero fun s _ => ?_, zero_mul]
  rw [zc_top X t g h _ (show 2 * (4 * G.val + s.val) / 32 = g.val by omega), zc_top X t g h _ (show (2 * (4 * G.val + s.val) + 1) / 32 = g.val by omega), add_zero]

theorem Zs_top (t : Fin 3) (g : Fin 40) (h : gscale (xrow X t g) = ⊤) (G : Fin 160) (hG : G.val / 4 = g.val) : Zs X t G = 0 := by
  unfold Zs
  exact Finset.sum_eq_zero fun s _ => zc_top X t g h _ (show (8 * G.val + s.val) / 32 = g.val by omega) _

/-- Scaling two pairs apart is scaling the four together, for a positive finite scale, or where the four vanish. -/
theorem scale_pairs (s : EReal) (hs : 0 < s) (D : Fin 4 → EReal) (hz : s = ⊤ → ∀ i, D i = 0) :
    (D 0 + D 2) * s + (D 1 + D 3) * s = s * ∑ i : Fin 4, D i := by
  rw [Fin.sum_univ_four]
  by_cases h : s = ⊤
  · rw [hz h 0, hz h 1, hz h 2, hz h 3]; simp
  · rw [mul_comm _ s, mul_comm _ s, ← EReal.left_distrib_of_nonneg_of_ne_top hs.le h]
    congr 1
    abel

/-- A result element of the kernel is the reference's. -/
theorem y_eq (WS WZ : Cert.ReferenceIdeal.S27648x160.Idx → EReal) (xg : Vec Ideal Cert.KernelIdeal.S320x128 .bf16)
    (PW : Fin 4 → Fin 2 → Fin 640 → Fin 128 → BitVec 32) (WS' WZ' : Fin 2 → Fin 640 → Fin 128 → EReal)
    (t : Fin 3) (b : Fin 4) (half : Fin 2) (l : Fin 128) (n : Fin 27648)
    (hx : ∀ g : Fin 40, row xg ⟨8 * g.val + t.val, by omega⟩ = xrow X t g)
    (hP : ∀ (p : Fin 4) (j : Fin 640) (par : Fin 2), nib (PW p half j l) (2 * b.val + par.val) = if par = 0 then (P (ix3 p n j)).toNat % 16 else (P (ix3 p n j)).toNat / 16)
    (hS : ∀ G : Fin 160, WS' half ⟨4 * G.val + b.val, by omega⟩ l = WS (ix2 n G))
    (hZ : ∀ G : Fin 160, WZ' half ⟨4 * G.val + b.val, by omega⟩ l = WZ (ix2 n G)) :
    yv xg PW WS' WZ' t b half l = (Cert.ReferenceIdeal.Read.val_main_v134 (F := Ideal) X P WS WZ (ix3 t 0 n) : EReal) := by
  have hd : ∀ (g : Fin 40) (j2 h : Fin 2) (k : Fin 4) (hk : k.val = 2 * j2.val + h.val), dK xg PW WS' WZ' g t j2 h b half l
      = (zr (Rsum X P t n ⟨4 * g.val + k.val, by omega⟩) - WZ (ix2 n ⟨4 * g.val + k.val, by omega⟩) * zr (Zs X t ⟨4 * g.val + k.val, by omega⟩)) * WS (ix2 n ⟨4 * g.val + k.val, by omega⟩) := fun g j2 h k hk => by
    unfold dK
    rw [hx g, Asum_eq X P t n g j2 h _ ⟨4 * g.val + k.val, by omega⟩ (show 4 * g.val + k.val = 4 * g.val + 2 * j2.val + h.val by omega) (fun par s p => by
      have ep : (⟨p.val % 4, by omega⟩ : Fin 4) = p := Fin.ext (show p.val % 4 = p.val by omega)
      have ej : (⟨16 * g.val + 8 * j2.val + (4 * h.val + s.val) % 8, by omega⟩ : Fin 640) = ⟨4 * (4 * g.val + k.val) + s.val, by omega⟩ :=
        Fin.ext (show 16 * g.val + 8 * j2.val + (4 * h.val + s.val) % 8 = 4 * (4 * g.val + k.val) + s.val by omega)
      rw [ep, ej]
      exact hP p _ par),
      Zsum_eq X t g j2 h ⟨4 * g.val + k.val, by omega⟩ (show 4 * g.val + k.val = 4 * g.val + 2 * j2.val + h.val by omega)]
    have er : (⟨16 * g.val + 8 * j2.val + (4 * h.val + b.val), by omega⟩ : Fin 640) = ⟨4 * (⟨4 * g.val + k.val, by omega⟩ : Fin 160).val + b.val, by have := b.isLt; have := k.isLt; have := g.isLt; show 4 * (4 * g.val + k.val) + b.val < 640; omega⟩ :=
      Fin.ext (show 16 * g.val + 8 * j2.val + (4 * h.val + b.val) = 4 * (4 * g.val + k.val) + b.val by omega)
    rw [er, hS, hZ, mul_comm]
  rw [v134_at]
  unfold yv
  rw [← Finset.sum_add_distrib]
  refine Finset.sum_congr rfl fun g _ => ?_
  unfold tK
  rw [hx g, hd g 0 0 0 rfl, hd g 1 0 2 rfl, hd g 0 1 1 rfl, hd g 1 1 3 rfl]
  refine scale_pairs (gscale (xrow X t g)) (gscale_pos _) (fun k => (zr (Rsum X P t n ⟨4 * g.val + k.val, by omega⟩) - WZ (ix2 n ⟨4 * g.val + k.val, by omega⟩) * zr (Zs X t ⟨4 * g.val + k.val, by omega⟩)) * WS (ix2 n ⟨4 * g.val + k.val, by omega⟩)) fun ht k => ?_
  show (zr _ - _ * zr _) * _ = 0
  rw [Rsum_top X P t n g ht _ (show (4 * g.val + k.val) / 4 = g.val by omega), Zs_top X t g ht _ (show (4 * g.val + k.val) / 4 = g.val by omega), zr_zero, mul_zero, sub_zero, zero_mul]
end

end Cert.Agree
-- ==== Proof.KernelIdeal.LhsC.lean ====
module
public import proofs.«01_k».proof.Proof.KernelIdeal.LhsB
@[expose] public section

/-! The buffers the tables body's loop fills, after all of its trips. -/
namespace Cert.KernelIdeal.Run
open Idealize.ShloMosaic Idealize.ShloMosaic.TcCoe Cert.KernelIdeal.Gen Idealize.SL Idealize.ShloMosaic.ValueIdx Cert.Spec Cert.Pieces

variable (c : Dev nD) (arg0 : Memref sig .tc .vmem S320x128 .bf16) (harg0 : arg0.IsWhole)
  (arg1 : Memref sig .tc .vmem S2x16x320x128 .i32) (harg1 : arg1.IsWhole) (arg2 : Memref sig .tc .vmem S320x128 .f32) (harg2 : arg2.IsWhole)
  (arg3 : Memref sig .tc .vmem S80x32x1024 .bf16) (harg3 : arg3.IsWhole) (arg4 : Memref sig .tc .vmem S80x32x128 .f32) (harg4 : arg4.IsWhole)
  (arg5 : Memref sig .tc .vmem S2x320x1024 .f32) (harg5 : arg5.IsWhole) (X : BufTy.Contents (Elt Ideal) arg5.view.ty) (x0 : Vec Ideal S320x128 .bf16)
  (hX : ∀ y, arg5.view.read (Elt Ideal) X y = diffG x0 y)

theorem trips_40 : k0_t1_loop.trips = 40 := by decide +kernel

theorem trip_lhs (k : Fin k0_t1_loop.trips) : (tripL_k0_t1 (F := Ideal) Variants.none c none arg0 harg0 arg1 harg1 arg2 harg2 arg3 harg3 arg4 harg4 arg5 harg5 k0_pay14 X k).1 =
    [⟨Rect.unit (s := S80x32x1024) (k0_off2 k 1#32) S1x32x1024.size (k0_off2_inb k 1), k0_pay10 k0_pay14 (View.readAt (Elt Ideal) arg5.view (Rect.unit (s := S2x320x1024) (k0_off4 k) S1x8x1024.size (k0_off4_inb k)).toLoadRect X) (View.readAt (Elt Ideal) arg5.view (Rect.unit (s := S2x320x1024) (k0_off4 k) S1x8x1024.size (k0_off4_inb k)).toLoadRect X) (View.readAt (Elt Ideal) arg5.view (Rect.unit (s := S2x320x1024) (k0_off4 k) S1x8x1024.size (k0_off4_inb k)).toLoadRect X)⟩,
     ⟨Rect.unit (s := S80x32x1024) (k0_off2 k 0#32) S1x32x1024.size (k0_off2_inb k 0), k0_pay6 k0_pay14 (View.readAt (Elt Ideal) arg5.view (Rect.unit (s := S2x320x1024) (k0_off1 k) S1x8x1024.size (k0_off1_inb k)).toLoadRect X) (View.readAt (Elt Ideal) arg5.view (Rect.unit (s := S2x320x1024) (k0_off1 k) S1x8x1024.size (k0_off1_inb k)).toLoadRect X) (View.readAt (Elt Ideal) arg5.view (Rect.unit (s := S2x320x1024) (k0_off1 k) S1x8x1024.size (k0_off1_inb k)).toLoadRect X)⟩] := by
  unfold tripL_k0_t1 trip_k0_t1; rfl

theorem trip_zsum (k : Fin k0_t1_loop.trips) : (tripL_k0_t1 (F := Ideal) Variants.none c none arg0 harg0 arg1 harg1 arg2 harg2 arg3 harg3 arg4 harg4 arg5 harg5 k0_pay14 X k).2 =
    [⟨Rect.unit (s := S80x32x128) (k0_off3 k 1#32) S1x32x128.size (k0_off3_inb k 1), k0_pay4 (k0_pay11 k0_pay14 k0_pay3 (View.readAt (Elt Ideal) arg5.view (Rect.unit (s := S2x320x1024) (k0_off4 k) S1x8x1024.size (k0_off4_inb k)).toLoadRect X) (View.readAt (Elt Ideal) arg5.view (Rect.unit (s := S2x320x1024) (k0_off4 k) S1x8x1024.size (k0_off4_inb k)).toLoadRect X) (View.readAt (Elt Ideal) arg5.view (Rect.unit (s := S2x320x1024) (k0_off4 k) S1x8x1024.size (k0_off4_inb k)).toLoadRect X))⟩,
     ⟨Rect.unit (s := S80x32x128) (k0_off3 k 0#32) S1x32x128.size (k0_off3_inb k 0), k0_pay8 (k0_pay7 k0_pay14 k0_pay3 (View.readAt (Elt Ideal) arg5.view (Rect.unit (s := S2x320x1024) (k0_off1 k) S1x8x1024.size (k0_off1_inb k)).toLoadRect X) (View.readAt (Elt Ideal) arg5.view (Rect.unit (s := S2x320x1024) (k0_off1 k) S1x8x1024.size (k0_off1_inb k)).toLoadRect X) (View.readAt (Elt Ideal) arg5.view (Rect.unit (s := S2x320x1024) (k0_off1 k) S1x8x1024.size (k0_off1_inb k)).toLoadRect X))⟩] := by
  unfold tripL_k0_t1 trip_k0_t1; rfl

/-- A stored block of the left operand. -/
theorem lhs_block (k : Fin 40) (j2 : Fin 2) (v v' v'' : Vec Ideal S1x8x1024 .f32)
    (h0 : ∀ q : Fin 1024, v (ix3 0 0 q) = zr (rowM x0 j2 k 0 q.val)) (h1 : ∀ q : Fin 1024, v' (ix3 0 1 q) = zr (rowM x0 j2 k 1 q.val)) (h2 : ∀ q : Fin 1024, v'' (ix3 0 2 q) = zr (rowM x0 j2 k 2 q.val))
    (off : Fin 3 → ℕ) (ho : off = ![2 * k.val + j2.val, 0, 0]) (inb) (x : S1x32x1024.Idx) :
    shapeCast S1x32x1024 (k0_pay5 k0_pay14 v v' v'' : FVec Ideal S32x1024 .bf16) shapeCasts_S32x1024_S1x32x1024 x = lhsG x0 ((Rect.unit (s := S80x32x1024) off S1x32x1024.size inb).emb x) := by
  have hb : 2 * k.val + j2.val < 80 := by omega
  rw [emb3a (n := 1024) (2 * k.val + j2.val) hb off ho inb x]
  refine (congrArg _ (eq_ix3 x)).trans ((shapeCast_ab_1ab_apply (a := 32) (b := 1024) _ _ (x 0) (x 1) (x 2)).trans ((pay5_apply v v' v'' (rowM x0 j2 k) h0 h1 h2 (x 1) (x 2)).trans ?_))
  rw [lz_eq x0 k j2 (x 1) (x 2).val ⟨2 * k.val + j2.val, hb⟩ rfl]
  rfl

/-- A stored block of the zero-point sums. -/
theorem zsum_block (k : Fin 40) (j2 : Fin 2) (v v' v'' : Vec Ideal S1x8x1024 .f32)
    (h0 : ∀ q : Fin 1024, v (ix3 0 0 q) = zr (rowM x0 j2 k 0 q.val)) (h1 : ∀ q : Fin 1024, v' (ix3 0 1 q) = zr (rowM x0 j2 k 1 q.val)) (h2 : ∀ q : Fin 1024, v'' (ix3 0 2 q) = zr (rowM x0 j2 k 2 q.val))
    (off : Fin 3 → ℕ) (ho : off = ![2 * k.val + j2.val, 0, 0]) (inb) (x : S1x32x128.Idx) :
    shapeCast S1x32x128 (k0_pay7 k0_pay14 k0_pay3 v v' v'' : FVec Ideal S32x128 .f32) shapeCasts_S32x128_S1x32x128 x = zsumG x0 ((Rect.unit (s := S80x32x128) off S1x32x128.size inb).emb x) := by
  have hb : 2 * k.val + j2.val < 80 := by omega
  rw [emb3a (n := 128) (2 * k.val + j2.val) hb off ho inb x]
  refine (congrArg _ (eq_ix3 x)).trans ((shapeCast_ab_1ab_apply (a := 32) (b := 128) _ _ (x 0) (x 1) (x 2)).trans ((pay7_apply v v' v'' (rowM x0 j2 k) h0 h1 h2 (x 1) (x 2)).trans ?_))
  unfold zsumG
  refine congrArg zr (Finset.sum_congr rfl fun q _ => ?_)
  exact lz_eq x0 k j2 (x 1) q.val ⟨2 * k.val + j2.val, hb⟩ rfl

include hX in
theorem pb_lhs (n : ℕ) (hn : n ≤ k0_t1_loop.trips) :
    (∀ p ∈ (pb_k0_t1 (F := Ideal) Variants.none c none arg0 harg0 arg1 harg1 arg2 harg2 arg3 harg3 arg4 harg4 arg5 harg5 k0_pay14 X n).1, ∀ x, p.2 x = lhsG x0 (p.1.emb x))
      ∧ ∀ (jb : Fin 80) (r : Fin 32) (q : Fin 1024), jb.val < 2 * n → ∃ p ∈ (pb_k0_t1 (F := Ideal) Variants.none c none arg0 harg0 arg1 harg1 arg2 harg2 arg3 harg3 arg4 harg4 arg5 harg5 k0_pay14 X n).1, ix3 jb r q ∈ p.1.set := by
  induction n with
  | zero => exact ⟨fun p hp => absurd hp (by rw [pb_k0_t1]; exact List.not_mem_nil), fun jb r q h => absurd h (by omega)⟩
  | succ n ih =>
    obtain ⟨ih1, ih2⟩ := ih (by omega)
    have e := congrArg (·.1) (pb_k0_t1_succ (F := Ideal) Variants.none c none arg0 harg0 arg1 harg1 arg2 harg2 arg3 harg3 arg4 harg4 arg5 harg5 k0_pay14 X ⟨n, hn⟩)
    replace e : (pb_k0_t1 (F := Ideal) Variants.none c none arg0 harg0 arg1 harg1 arg2 harg2 arg3 harg3 arg4 harg4 arg5 harg5 k0_pay14 X (n + 1)).1 = (tripL_k0_t1 (F := Ideal) Variants.none c none arg0 harg0 arg1 harg1 arg2 harg2 arg3 harg3 arg4 harg4 arg5 harg5 k0_pay14 X ⟨n, hn⟩).1 ++ (pb_k0_t1 (F := Ideal) Variants.none c none arg0 harg0 arg1 harg1 arg2 harg2 arg3 harg3 arg4 harg4 arg5 harg5 k0_pay14 X n).1 := e
    rw [e, trip_lhs]
    have hn40 : n < 40 := trips_40 ▸ hn
    have o1 := k0_off1_eq ⟨n, hn⟩
    have o4 := k0_off4_eq ⟨n, hn⟩
    have o20 : k0_off2 ⟨n, hn⟩ 0#32 = ![2 * n + 0, 0, 0] := k0_off2_eq ⟨n, hn⟩ 0
    have o21 : k0_off2 ⟨n, hn⟩ 1#32 = ![2 * n + 1, 0, 0] := k0_off2_eq ⟨n, hn⟩ 1
    refine ⟨?_, ?_⟩
    · refine List.forall_mem_cons.2 ⟨fun x => ?_, List.forall_mem_cons.2 ⟨fun x => ?_, ih1⟩⟩
      · exact lhs_block x0 ⟨n, hn40⟩ 1 _ _ _ (load_row arg5 X x0 hX ⟨n, hn40⟩ 1 _ (k0_off4_inb ⟨n, hn⟩) o4 0) (load_row arg5 X x0 hX ⟨n, hn40⟩ 1 _ (k0_off4_inb ⟨n, hn⟩) o4 1) (load_row arg5 X x0 hX ⟨n, hn40⟩ 1 _ (k0_off4_inb ⟨n, hn⟩) o4 2) _ o21 (k0_off2_inb ⟨n, hn⟩ 1) x
      · exact lhs_block x0 ⟨n, hn40⟩ 0 _ _ _ (load_row arg5 X x0 hX ⟨n, hn40⟩ 0 _ (k0_off1_inb ⟨n, hn⟩) o1 0) (load_row arg5 X x0 hX ⟨n, hn40⟩ 0 _ (k0_off1_inb ⟨n, hn⟩) o1 1) (load_row arg5 X x0 hX ⟨n, hn40⟩ 0 _ (k0_off1_inb ⟨n, hn⟩) o1 2) _ o20 (k0_off2_inb ⟨n, hn⟩ 0) x
    · intro jb r q h
      by_cases h1 : jb.val = 2 * n + 1
      · exact ⟨_, .head _, mem3a (n := 1024) jb _ (o21.trans (by rw [h1])) (k0_off2_inb ⟨n, hn⟩ 1) r q⟩
      · by_cases h0 : jb.val = 2 * n
        · exact ⟨_, .tail _ (.head _), mem3a (n := 1024) jb _ (o20.trans (by rw [h0]; rfl)) (k0_off2_inb ⟨n, hn⟩ 0) r q⟩
        · obtain ⟨p, hp, hm⟩ := ih2 jb r q (by omega)
          exact ⟨p, .tail _ (.tail _ hp), hm⟩

include hX in
theorem pb_zsum (n : ℕ) (hn : n ≤ k0_t1_loop.trips) :
    (∀ p ∈ (pb_k0_t1 (F := Ideal) Variants.none c none arg0 harg0 arg1 harg1 arg2 harg2 arg3 harg3 arg4 harg4 arg5 harg5 k0_pay14 X n).2, ∀ x, p.2 x = zsumG x0 (p.1.emb x))
      ∧ ∀ (jb : Fin 80) (r : Fin 32) (q : Fin 128), jb.val < 2 * n → ∃ p ∈ (pb_k0_t1 (F := Ideal) Variants.none c none arg0 harg0 arg1 harg1 arg2 harg2 arg3 harg3 arg4 harg4 arg5 harg5 k0_pay14 X n).2, ix3 jb r q ∈ p.1.set := by
  induction n with
  | zero => exact ⟨fun p hp => absurd hp (by rw [pb_k0_t1]; exact List.not_mem_nil), fun jb r q h => absurd h (by omega)⟩
  | succ n ih =>
    obtain ⟨ih1, ih2⟩ := ih (by omega)
    have e := congrArg (·.2) (pb_k0_t1_succ (F := Ideal) Variants.none c none arg0 harg0 arg1 harg1 arg2 harg2 arg3 harg3 arg4 harg4 arg5 harg5 k0_pay14 X ⟨n, hn⟩)
    replace e : (pb_k0_t1 (F := Ideal) Variants.none c none arg0 harg0 arg1 harg1 arg2 harg2 arg3 harg3 arg4 harg4 arg5 harg5 k0_pay14 X (n + 1)).2 = (tripL_k0_t1 (F := Ideal) Variants.none c none arg0 harg0 arg1 harg1 arg2 harg2 arg3 harg3 arg4 harg4 arg5 harg5 k0_pay14 X ⟨n, hn⟩).2 ++ (pb_k0_t1 (F := Ideal) Variants.none c none arg0 harg0 arg1 harg1 arg2 harg2 arg3 harg3 arg4 harg4 arg5 harg5 k0_pay14 X n).2 := e
    rw [e, trip_zsum]
    have hn40 : n < 40 := trips_40 ▸ hn
    have o1 := k0_off1_eq ⟨n, hn⟩
    have o4 := k0_off4_eq ⟨n, hn⟩
    have o20 : k0_off3 ⟨n, hn⟩ 0#32 = ![2 * n + 0, 0, 0] := k0_off3_eq ⟨n, hn⟩ 0
    have o21 : k0_off3 ⟨n, hn⟩ 1#32 = ![2 * n + 1, 0, 0] := k0_off3_eq ⟨n, hn⟩ 1
    refine ⟨?_, ?_⟩
    · refine List.forall_mem_cons.2 ⟨fun x => ?_, List.forall_mem_cons.2 ⟨fun x => ?_, ih1⟩⟩
      · exact zsum_block x0 ⟨n, hn40⟩ 1 _ _ _ (load_row arg5 X x0 hX ⟨n, hn40⟩ 1 _ (k0_off4_inb ⟨n, hn⟩) o4 0) (load_row arg5 X x0 hX ⟨n, hn40⟩ 1 _ (k0_off4_inb ⟨n, hn⟩) o4 1) (load_row arg5 X x0 hX ⟨n, hn40⟩ 1 _ (k0_off4_inb ⟨n, hn⟩) o4 2) _ o21 (k0_off3_inb ⟨n, hn⟩ 1) x
      · exact zsum_block x0 ⟨n, hn40⟩ 0 _ _ _ (load_row arg5 X x0 hX ⟨n, hn40⟩ 0 _ (k0_off1_inb ⟨n, hn⟩) o1 0) (load_row arg5 X x0 hX ⟨n, hn40⟩ 0 _ (k0_off1_inb ⟨n, hn⟩) o1 1) (load_row arg5 X x0 hX ⟨n, hn40⟩ 0 _ (k0_off1_inb ⟨n, hn⟩) o1 2) _ o20 (k0_off3_inb ⟨n, hn⟩ 0) x
    · intro jb r q h
      by_cases h1 : jb.val = 2 * n + 1
      · exact ⟨_, .head _, mem3a (n := 128) jb _ (o21.trans (by rw [h1])) (k0_off3_inb ⟨n, hn⟩ 1) r q⟩
      · by_cases h0 : jb.val = 2 * n
        · exact ⟨_, .tail _ (.head _), mem3a (n := 128) jb _ (o20.trans (by rw [h0]; rfl)) (k0_off3_inb ⟨n, hn⟩ 0) r q⟩
        · obtain ⟨p, hp, hm⟩ := ih2 jb r q (by omega)
          exact ⟨p, .tail _ (.tail _ hp), hm⟩

include hX in
/-- The left operand after the loop. -/
theorem lhs_read (n : ℕ) (hn : n = 40) {κ : Kind} {sp : Space} (v : View sig κ sp S80x32x1024 .bf16) (f : v.ty.Contents (Elt Ideal)) (y : S80x32x1024.Idx) :
    v.read (Elt Ideal) (v.writes (Elt Ideal) f (pb_k0_t1 (F := Ideal) Variants.none c none arg0 harg0 arg1 harg1 arg2 harg2 arg3 harg3 arg4 harg4 arg5 harg5 k0_pay14 X n).1) y = lhsG x0 y := by
  obtain ⟨h1, h2⟩ := pb_lhs c arg0 harg0 arg1 harg1 arg2 harg2 arg3 harg3 arg4 harg4 arg5 harg5 X x0 hX n (by rw [hn, trips_40])
  refine read_writes_eq v f _ y _ h1 ?_
  rw [eq_ix3 y]
  exact h2 (y 0) (y 1) (y 2) (by have : (y 0).val < 80 := (y 0).isLt; omega)

include hX in
/-- The zero-point sums after the loop. -/
theorem zsum_read (n : ℕ) (hn : n = 40) {κ : Kind} {sp : Space} (v : View sig κ sp S80x32x128 .f32) (f : v.ty.Contents (Elt Ideal)) (y : S80x32x128.Idx) :
    v.read (Elt Ideal) (v.writes (Elt Ideal) f (pb_k0_t1 (F := Ideal) Variants.none c none arg0 harg0 arg1 harg1 arg2 harg2 arg3 harg3 arg4 harg4 arg5 harg5 k0_pay14 X n).2) y = zsumG x0 y := by
  obtain ⟨h1, h2⟩ := pb_zsum c arg0 harg0 arg1 harg1 arg2 harg2 arg3 harg3 arg4 harg4 arg5 harg5 X x0 hX n (by rw [hn, trips_40])
  refine read_writes_eq v f _ y _ h1 ?_
  rw [eq_ix3 y]
  exact h2 (y 0) (y 1) (y 2) (by have : (y 0).val < 80 := (y 0).isLt; omega)

end Cert.KernelIdeal.Run
-- ==== Proof.KernelIdeal.Out0.lean ====
module
public import proofs.«01_k».proof.Proof.KernelIdeal.LhsC
public import proofs.«01_k».proof.Proof.KernelIdeal.TabOut
@[expose] public section

/-! What the tables call's body leaves in its four output blocks. -/
namespace Cert.KernelIdeal.Run
open Idealize.ShloMosaic Idealize.ShloMosaic.TcCoe Cert.KernelIdeal.Gen Idealize.SL Idealize.ShloMosaic.ValueIdx Cert.Spec

section
variable (c : Dev nD) (arg0 : Memref sig .tc .vmem S320x128 .bf16) (harg0 : arg0.IsWhole) (arg1 : Memref sig .tc .vmem S2x16x320x128 .i32) (harg1 : arg1.IsWhole) (arg2 : Memref sig .tc .vmem S320x128 .f32) (harg2 : arg2.IsWhole) (arg3 : Memref sig .tc .vmem S80x32x1024 .bf16) (harg3 : arg3.IsWhole) (arg4 : Memref sig .tc .vmem S80x32x128 .f32) (harg4 : arg4.IsWhole) (arg5 : Memref sig .tc .vmem S2x320x1024 .f32) (harg5 : arg5.IsWhole)
  (x0 : Vec Ideal S320x128 .bf16)

theorem out0_apply_1 (y : S2x16x320x128.Idx) : out0_A_1 (F := Ideal) c arg0 harg0 arg1 harg1 arg2 harg2 arg3 harg3 arg4 harg4 arg5 harg5 x0 y = codesG x0 y := by
  unfold out0_A_1; unfold kernelRun0_A
  exact codes_read c arg0 harg0 x0 _ _ y

theorem out0_apply_2 (y : S320x128.Idx) : out0_A_2 (F := Ideal) c arg0 harg0 arg1 harg1 arg2 harg2 arg3 harg3 arg4 harg4 arg5 harg5 x0 y = scaleG x0 y := by
  unfold out0_A_2; unfold kernelRun0_A
  exact scale_read c arg0 harg0 x0 _ _ y

theorem out0_apply_3 (y : S80x32x1024.Idx) : out0_A_3 (F := Ideal) c arg0 harg0 arg1 harg1 arg2 harg2 arg3 harg3 arg4 harg4 arg5 harg5 x0 y = lhsG x0 y := by
  unfold out0_A_3; unfold kernelRun0_A
  exact lhs_read c arg0 harg0 arg1 harg1 arg2 harg2 arg3 harg3 arg4 harg4 arg5 harg5 _ x0 (fun z => diff_read c arg0 harg0 x0 _ _ z) _ trips_40 _ _ y

theorem out0_apply_4 (y : S80x32x128.Idx) : out0_A_4 (F := Ideal) c arg0 harg0 arg1 harg1 arg2 harg2 arg3 harg3 arg4 harg4 arg5 harg5 x0 y = zsumG x0 y := by
  unfold out0_A_4; unfold kernelRun0_A
  exact zsum_read c arg0 harg0 arg1 harg1 arg2 harg2 arg3 harg3 arg4 harg4 arg5 harg5 _ x0 (fun z => diff_read c arg0 harg0 x0 _ _ z) _ trips_40 _ _ y

end

end Cert.KernelIdeal.Run
-- ==== Proof.KernelIdeal.Arr0.lean ====
module
public import proofs.«01_k».proof.Proof.KernelIdeal.Out0
public import proofs.«01_k».proof.Proof.KernelIdeal.Frame
public import Idealize.ShloMosaic.Lib.Pipeline.ValueKit.Geometry
@[expose] public section

/-! The arrays the tables call leaves. -/
namespace Cert.KernelIdeal.Run
open Idealize.ShloMosaic Idealize.ShloMosaic.TcCoe Cert.KernelIdeal.Gen Idealize.SL Idealize.ShloMosaic.ValueIdx Cert.Spec
open Idealize.ShloMosaic.Pipeline (Dat Cfg Window)

section
variable (V : (c : Dev nD) → (b : Ref sig .tc) → Buf (Elt Ideal) ((c : Thread nD τ).loc b)) (c : Dev nD)

/-- The one point of the tables call's grid. -/
abbrev p00 : Fin cfg0.N := ⟨0, by decide⟩

theorem idx0_0 : ∀ t : Fin cfg0.N, win0_0.index t = ![0, 0] := by decide +kernel

theorem iblk0_0 (t : Fin cfg0.N) (y : S320x128.Idx) : iblk0 (F := Ideal) V c 0 t y = V c main_v3 y := by
  unfold iblk0
  blk_simp
  refine congrArg (V c main_v3) (funext fun a => Fin.ext ?_)
  match a with
  | ⟨0, _⟩ => blk_simp [idx0_0]
  | ⟨1, _⟩ => blk_simp [idx0_0]

theorem iblk0_eq : iblk0 (F := Ideal) V c 0 p00 = V c main_v3 := funext fun y => iblk0_0 V c _ y

theorem outs0_1 (j : S2x16x320x128.Idx) : (outsAt0 (F := Ideal) V c p00).1 j = codesG (V c main_v3) j := by
  unfold outsAt0
  rw [iblk0_eq]
  dsimp only
  exact out0_apply_1 c (ms0_0 p00) (hs0_0 p00) (ms0_1 p00) (hs0_1 p00) (ms0_2 p00) (hs0_2 p00) (ms0_3 p00) (hs0_3 p00) (ms0_4 p00) (hs0_4 p00) scM0_0 (Memref.isWhole_whole _) (V c main_v3) j

theorem whole0_1 : (cfg0.win 1).WholeAt p00 := by decide +kernel

theorem arr0_1 : (dat0 (F := Ideal) V c).arrAt 1 cfg0.N = codesG (V c main_v3) := by
  refine Dat.arrAt_eq_of_after_last (dat0 (F := Ideal) V c) 1 p00 whole0_1 _ fun j => ?_
  refine (congrFun (after0_1 V c p00) j).trans ?_
  exact outs0_1 V c j

theorem outs0_2 (j : S320x128.Idx) : (outsAt0 (F := Ideal) V c p00).2.1 j = scaleG (V c main_v3) j := by
  unfold outsAt0
  rw [iblk0_eq]
  dsimp only
  exact out0_apply_2 c (ms0_0 p00) (hs0_0 p00) (ms0_1 p00) (hs0_1 p00) (ms0_2 p00) (hs0_2 p00) (ms0_3 p00) (hs0_3 p00) (ms0_4 p00) (hs0_4 p00) scM0_0 (Memref.isWhole_whole _) (V c main_v3) j

theorem whole0_2 : (cfg0.win 2).WholeAt p00 := by decide +kernel

theorem arr0_2 : (dat0 (F := Ideal) V c).arrAt 2 cfg0.N = scaleG (V c main_v3) := by
  refine Dat.arrAt_eq_of_after_last (dat0 (F := Ideal) V c) 2 p00 whole0_2 _ fun j => ?_
  refine (congrFun (after0_2 V c p00) j).trans ?_
  exact outs0_2 V c j

theorem outs0_3 (j : S80x32x1024.Idx) : (outsAt0 (F := Ideal) V c p00).2.2.1 j = lhsG (V c main_v3) j := by
  unfold outsAt0
  rw [iblk0_eq]
  dsimp only
  exact out0_apply_3 c (ms0_0 p00) (hs0_0 p00) (ms0_1 p00) (hs0_1 p00) (ms0_2 p00) (hs0_2 p00) (ms0_3 p00) (hs0_3 p00) (ms0_4 p00) (hs0_4 p00) scM0_0 (Memref.isWhole_whole _) (V c main_v3) j

theorem whole0_3 : (cfg0.win 3).WholeAt p00 := by decide +kernel

theorem arr0_3 : (dat0 (F := Ideal) V c).arrAt 3 cfg0.N = lhsG (V c main_v3) := by
  refine Dat.arrAt_eq_of_after_last (dat0 (F := Ideal) V c) 3 p00 whole0_3 _ fun j => ?_
  refine (congrFun (after0_3 V c p00) j).trans ?_
  exact outs0_3 V c j

theorem outs0_4 (j : S80x32x128.Idx) : (outsAt0 (F := Ideal) V c p00).2.2.2 j = zsumG (V c main_v3) j := by
  unfold outsAt0
  rw [iblk0_eq]
  dsimp only
  exact out0_apply_4 c (ms0_0 p00) (hs0_0 p00) (ms0_1 p00) (hs0_1 p00) (ms0_2 p00) (hs0_2 p00) (ms0_3 p00) (hs0_3 p00) (ms0_4 p00) (hs0_4 p00) scM0_0 (Memref.isWhole_whole _) (V c main_v3) j

theorem whole0_4 : (cfg0.win 4).WholeAt p00 := by decide +kernel

theorem arr0_4 : (dat0 (F := Ideal) V c).arrAt 4 cfg0.N = zsumG (V c main_v3) := by
  refine Dat.arrAt_eq_of_after_last (dat0 (F := Ideal) V c) 4 p00 whole0_4 _ fun j => ?_
  refine (congrFun (after0_4 V c p00) j).trans ?_
  exact outs0_4 V c j

end

end Cert.KernelIdeal.Run
-- ==== Proof.KernelIdeal.Arr1.lean ====
module
public import proofs.«01_k».proof.Proof.KernelIdeal.Out1
public import proofs.«01_k».proof.Proof.KernelIdeal.Frame
public import Idealize.ShloMosaic.Lib.Pipeline.ValueKit.Geometry
@[expose] public section

/-! The array the main call leaves. -/
namespace Cert.KernelIdeal.Run
open Idealize.ShloMosaic Idealize.ShloMosaic.TcCoe Cert.KernelIdeal.Gen Idealize.SL Idealize.ShloMosaic.ValueIdx Cert.Spec
open Idealize.ShloMosaic.Pipeline (Dat Cfg Window)

section
variable (V : (c : Dev nD) → (b : Ref sig .tc) → Buf (Elt Ideal) ((c : Thread nD τ).loc b)) (c : Dev nD)

theorem idx1_0 : ∀ t : Fin cfg1.N, win1_0.index t = ![0, t.val, 0] := by decide +kernel
theorem idx1_1 : ∀ t : Fin cfg1.N, win1_1.index t = ![t.val, 0] := by decide +kernel
theorem idx1_2 : ∀ t : Fin cfg1.N, win1_2.index t = ![t.val, 1] := by decide +kernel
theorem idx1_3 : ∀ t : Fin cfg1.N, win1_3.index t = ![t.val, 0] := by decide +kernel
theorem idx1_4 : ∀ t : Fin cfg1.N, win1_4.index t = ![t.val, 1] := by decide +kernel
theorem idx1_5 : ∀ t : Fin cfg1.N, win1_5.index t = ![0, 0, 0] := by decide +kernel
theorem idx1_6 : ∀ t : Fin cfg1.N, win1_6.index t = ![0, 0, 0] := by decide +kernel
theorem idx1_7 : ∀ t : Fin cfg1.N, win1_7.index t = ![0, 0] := by decide +kernel
theorem idx1_8 : ∀ t : Fin cfg1.N, win1_8.index t = ![t.val, 0, 0, 0] := by decide +kernel

theorem lt1 (t : Fin cfg1.N) : t.val < 27 := t.isLt

theorem iblk1_0 (t : Fin cfg1.N) (p : Fin 4) (r : Fin 1024) (j : Fin 640) :
    iblk1 (F := Ideal) V c 0 t (ix3 p r j) = V c main_arg1 (ix3 p ⟨1024 * t.val + r.val, by have := lt1 t; omega⟩ j) := by
  unfold iblk1
  blk_simp
  refine congrArg (V c main_arg1) (funext fun a => Fin.ext ?_)
  match a with
  | ⟨0, _⟩ => blk_simp [idx1_0]
  | ⟨1, _⟩ => blk_simp [idx1_0]; exact (show t.val * 1024 + r.val = 1024 * t.val + r.val by omega)
  | ⟨2, _⟩ => blk_simp [idx1_0]

theorem iblk1_5 (t : Fin cfg1.N) (y : S80x32x1024.Idx) : iblk1 (F := Ideal) V c 5 t y = V c main_v4_2 y := by
  unfold iblk1
  blk_simp
  refine congrArg (V c main_v4_2) (funext fun a => Fin.ext ?_)
  match a with
  | ⟨0, _⟩ => blk_simp [idx1_5]
  | ⟨1, _⟩ => blk_simp [idx1_5]
  | ⟨2, _⟩ => blk_simp [idx1_5]

theorem iblk1_6 (t : Fin cfg1.N) (y : S80x32x128.Idx) : iblk1 (F := Ideal) V c 6 t y = V c main_v4_3 y := by
  unfold iblk1
  blk_simp
  refine congrArg (V c main_v4_3) (funext fun a => Fin.ext ?_)
  match a with
  | ⟨0, _⟩ => blk_simp [idx1_6]
  | ⟨1, _⟩ => blk_simp [idx1_6]
  | ⟨2, _⟩ => blk_simp [idx1_6]

theorem iblk1_7 (t : Fin cfg1.N) (y : S320x128.Idx) : iblk1 (F := Ideal) V c 7 t y = V c main_v4_1 y := by
  unfold iblk1
  blk_simp
  refine congrArg (V c main_v4_1) (funext fun a => Fin.ext ?_)
  match a with
  | ⟨0, _⟩ => blk_simp [idx1_7]
  | ⟨1, _⟩ => blk_simp [idx1_7]

theorem xin1_1_apply (t : Fin cfg1.N) (r : Fin 1024) (l : Fin 128) :
    xin1_1 (F := Ideal) V c t (ix2 r l) = V c main_arg2 (ix2 ⟨1024 * t.val + r.val, by have := lt1 t; omega⟩ ⟨l.val, by omega⟩) := by
  have hm : win1_1.moved (grid1.coords t) (ix2 r l) = true := (Pipeline.Window.moved_iff win1_1 (grid1.coords t) (ix2 r l)).mpr fun a => by
    rw [xsize1_1]
    match a with
    | ⟨0, _⟩ => exact r.isLt
    | ⟨1, _⟩ => exact l.isLt
  unfold xin1_1 Pipeline.Window.fill
  rw [dif_pos hm]
  unfold iblk1
  blk_simp
  refine congrArg (V c main_arg2) (funext fun a => Fin.ext ?_)
  match a with
  | ⟨0, _⟩ => blk_simp [idx1_1]; exact (show t.val * 1024 + r.val = 1024 * t.val + r.val by omega)
  | ⟨1, _⟩ => blk_simp [idx1_1]
theorem xin1_3_apply (t : Fin cfg1.N) (r : Fin 1024) (l : Fin 128) :
    xin1_3 (F := Ideal) V c t (ix2 r l) = V c main_arg3 (ix2 ⟨1024 * t.val + r.val, by have := lt1 t; omega⟩ ⟨l.val, by omega⟩) := by
  have hm : win1_3.moved (grid1.coords t) (ix2 r l) = true := (Pipeline.Window.moved_iff win1_3 (grid1.coords t) (ix2 r l)).mpr fun a => by
    rw [xsize1_3]
    match a with
    | ⟨0, _⟩ => exact r.isLt
    | ⟨1, _⟩ => exact l.isLt
  unfold xin1_3 Pipeline.Window.fill
  rw [dif_pos hm]
  unfold iblk1
  blk_simp
  refine congrArg (V c main_arg3) (funext fun a => Fin.ext ?_)
  match a with
  | ⟨0, _⟩ => blk_simp [idx1_3]; exact (show t.val * 1024 + r.val = 1024 * t.val + r.val by omega)
  | ⟨1, _⟩ => blk_simp [idx1_3]
theorem xin1_2_apply (t : Fin cfg1.N) (r : Fin 1024) (l : Fin 128) (hl : l.val < 32) :
    xin1_2 (F := Ideal) V c t (ix2 r l) = V c main_arg2 (ix2 ⟨1024 * t.val + r.val, by have := lt1 t; omega⟩ ⟨128 + l.val, by omega⟩) := by
  have hm : win1_2.moved (grid1.coords t) (ix2 r l) = true := (Pipeline.Window.moved_iff win1_2 (grid1.coords t) (ix2 r l)).mpr fun a => by
    rw [xsize1_2]
    match a with
    | ⟨0, _⟩ => exact r.isLt
    | ⟨1, _⟩ => exact hl
  unfold xin1_2 Pipeline.Window.fill
  rw [dif_pos hm]
  unfold iblk1
  blk_simp
  refine congrArg (V c main_arg2) (funext fun a => Fin.ext ?_)
  match a with
  | ⟨0, _⟩ => blk_simp [idx1_2]; exact (show t.val * 1024 + r.val = 1024 * t.val + r.val by omega)
  | ⟨1, _⟩ => blk_simp [idx1_2]
theorem xin1_4_apply (t : Fin cfg1.N) (r : Fin 1024) (l : Fin 128) (hl : l.val < 32) :
    xin1_4 (F := Ideal) V c t (ix2 r l) = V c main_arg3 (ix2 ⟨1024 * t.val + r.val, by have := lt1 t; omega⟩ ⟨128 + l.val, by omega⟩) := by
  have hm : win1_4.moved (grid1.coords t) (ix2 r l) = true := (Pipeline.Window.moved_iff win1_4 (grid1.coords t) (ix2 r l)).mpr fun a => by
    rw [xsize1_4]
    match a with
    | ⟨0, _⟩ => exact r.isLt
    | ⟨1, _⟩ => exact hl
  unfold xin1_4 Pipeline.Window.fill
  rw [dif_pos hm]
  unfold iblk1
  blk_simp
  refine congrArg (V c main_arg3) (funext fun a => Fin.ext ?_)
  match a with
  | ⟨0, _⟩ => blk_simp [idx1_4]; exact (show t.val * 1024 + r.val = 1024 * t.val + r.val by omega)
  | ⟨1, _⟩ => blk_simp [idx1_4]
theorem outs1 (xg : Vec Ideal S320x128 .bf16) (h5 : V c main_v4_2 = lhsG xg) (h6 : V c main_v4_3 = zsumG xg) (h7 : V c main_v4_1 = scaleG xg)
    (t : Fin cfg1.N) (y : S1x3x4x256.Idx) : outsAt1 (F := Ideal) V c t y = YG xg (iblk1 V c 0 t) (xin1_1 V c t) (xin1_2 V c t) (xin1_3 V c t) (xin1_4 V c t) y := by
  unfold outsAt1
  exact out1_apply c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) (iblk1 V c 0 t) (xin1_1 V c t) (xin1_2 V c t) (xin1_3 V c t) (xin1_4 V c t) (iblk1 V c 5 t) (iblk1 V c 6 t) (iblk1 V c 7 t) xg (fun z => (iblk1_5 V c t z).trans (congrFun h5 z)) (fun z => (iblk1_6 V c t z).trans (congrFun h6 z)) (fun z => (iblk1_7 V c t z).trans (congrFun h7 z)) y

/-- The main call's array: block `i` holds what the body leaves at point `i`. -/
noncomputable def YA (xg : Vec Ideal S320x128 .bf16) (z : S27x3x4x256.Idx) : EReal :=
  YG xg (iblk1 (F := Ideal) V c 0 (z 0)) (xin1_1 V c (z 0)) (xin1_2 V c (z 0)) (xin1_3 V c (z 0)) (xin1_4 V c (z 0)) (ix4 0 (z 1) (z 2) (z 3))

theorem arr1_8 (xg : Vec Ideal S320x128 .bf16) (h5 : V c main_v4_2 = lhsG xg) (h6 : V c main_v4_3 = zsumG xg) (h7 : V c main_v4_1 = scaleG xg) :
    (dat1 (F := Ideal) V c).arrAt 8 cfg1.N = YA V c xg := by
  refine Dat.arrAt_eq_of_covers (dat1 (F := Ideal) V c) 8 _ (by decide +kernel) fun t hf y => ?_
  refine (congrFun (after1_8 V c t) _).trans ?_
  refine (outs1 V c xg h5 h6 h7 t _).trans ?_
  obtain ⟨e0, e1⟩ : ((cfg1.win 8).blk t).view.emb y 0 = t ∧ (ix4 0 (((cfg1.win 8).blk t).view.emb y 1) (((cfg1.win 8).blk t).view.emb y 2) (((cfg1.win 8).blk t).view.emb y 3) : S1x3x4x256.Idx) = y := by
    constructor
    · apply Fin.ext
      blk_simp [idx1_8]
    · funext a
      apply Fin.ext
      match a with
      | ⟨0, _⟩ => have : (y 0).val < 1 := (y 0).isLt; exact (show 0 = (y 0).val by omega)
      | ⟨1, _⟩ => show (((cfg1.win 8).blk t).view.emb y 1).val = (y 1).val; blk_simp [idx1_8]
      | ⟨2, _⟩ => show (((cfg1.win 8).blk t).view.emb y 2).val = (y 2).val; blk_simp [idx1_8]
      | ⟨3, _⟩ => show (((cfg1.win 8).blk t).view.emb y 3).val = (y 3).val; blk_simp [idx1_8]
  unfold YA
  rw [e0, e1]
end

end Cert.KernelIdeal.Run
-- ==== Proof.KernelIdeal.HostR.lean ====
module
public import proofs.«01_k».proof.Proof.KernelIdeal.Frame
public import proofs.«01_k».proof.Proof.KernelIdeal.Tabs
public import Idealize.ShloMosaic.Lib.StableHlo.RunRead
@[expose] public section

/-! What the host stretches leave, as one expression of their inputs. -/
namespace Cert.KernelIdeal.Run
open Idealize.ShloMosaic Idealize.ShloMosaic.TcCoe Cert.KernelIdeal.Gen Idealize.SL

/-- The main call's result, laid out as the kernel returns it. -/
noncomputable def yOf (v : FVec Ideal S27x3x4x256 .bf16) : FVec Ideal S3x1x27648 .bf16 :=
  shapeCast S3x1x27648 (transpose S3x27x2x128x4 [1, 0, 3, 4, 2] (shapeCast S27x3x4x2x128 v shapeCasts_S27x3x4x256_S27x3x4x2x128) transposes_S27x3x4x2x128_S3x27x2x128x4_1_0_3_4_2) shapeCasts_S3x27x2x128x4_S3x1x27648

/-- The tables call's codes, laid out as the kernel returns them, before the narrowing. -/
def codesOf (v : IVec S2x16x320x128 32) : IVec S3x1x1280x16 32 :=
  shapeCast S3x1x1280x16 (transpose S3x40x2x8x2x16 [3, 2, 0, 5, 4, 1] (shapeCast S2x16x40x3x2x8 (extractStridedSlice S2x16x40x3x1x2x8x1 ![0, 0, 0, 0, 0, 0, 0, 0] (shapeCast S2x16x40x8x2x2x8x4 v shapeCasts_S2x16x320x128_S2x16x40x8x2x2x8x4) slices_S2x16x40x8x2x2x8x4_S2x16x40x3x1x2x8x1_0_0_0_0_0_0_0_0) shapeCasts_S2x16x40x3x1x2x8x1_S2x16x40x3x2x8) transposes_S2x16x40x3x2x8_S3x40x2x8x2x16_3_2_0_5_4_1) shapeCasts_S3x40x2x8x2x16_S3x1x1280x16

/-- The tables call's scales, laid out as the kernel returns them. -/
noncomputable def scalesOf (v : FVec Ideal S320x128 .f32) : FVec Ideal S3x1x40 .f32 :=
  shapeCast S3x1x40 (transpose S3x40 [1, 0] (shapeCast S40x3 (extractStridedSlice S40x3x1 ![0, 0, 0] (shapeCast S40x8x128 v shapeCasts_S320x128_S40x8x128) slices_S40x8x128_S40x3x1_0_0_0) shapeCasts_S40x3x1_S40x3) transposes_S40x3_S3x40_1_0) shapeCasts_S3x40_S3x1x40

/-- The tables call's operand, of the kernel's first argument. -/
noncomputable def xgOf (x : FVec Ideal S3x1x5120 .bf16) : FVec Ideal S320x128 .bf16 :=
  shapeCast S320x128 (pad S40x8x128 ![0, 0, 0] ![0, 5, 0] ![0, 0, 0] (transpose S40x3x128 [1, 0, 2] (shapeCast S3x40x128 x shapeCasts_S3x1x5120_S3x40x128) transposes_S3x40x128_S40x3x128_1_0_2) (sitofp (F := Ideal) .bf16 (constantI S_ 32 0#32)) pads_S40x3x128_S40x8x128_000_050_000 h_S_) shapeCasts_S40x8x128_S320x128

section
variable (m : (ℓ : Loc nD τ sig) → Buf (Elt Ideal) ℓ) (ρ : Dev nD → PrngReg) (c : Dev nD)

theorem v8_eq : W6 (F := Ideal) m ρ c (Proc.devRef .tc main_v8) = yOf (W5 m ρ c (Proc.devRef .tc main_v5)) := by
  unfold W6
  after_reads_simp
  rfl

theorem v14_eq : W6 (F := Ideal) m ρ c (Proc.devRef .tc main_v14) = trunci 8 (codesOf (W5 m ρ c (Proc.devRef .tc main_v4_0))) natLt_8_32 := by
  unfold W6
  after_reads_simp
  rfl

theorem v19_eq : W6 (F := Ideal) m ρ c (Proc.devRef .tc main_v19) = scalesOf (W5 m ρ c (Proc.devRef .tc main_v4_1)) := by
  unfold W6
  after_reads_simp
  rfl

theorem v3_eq : W3 (F := Ideal) m ρ c (Proc.devRef .tc main_v3) = xgOf (m ((c.tc : Thread nD τ).loc main_arg0)) := by
  unfold W3 W2 W1 W0
  after_reads_simp
  rfl
end
end Cert.KernelIdeal.Run
-- ==== Proof.KernelIdeal.HostAt.lean ====
module
public import proofs.«01_k».proof.Proof.KernelIdeal.HostR
public import Idealize.ShloMosaic.Lib.ValueIdxRank6
public import Idealize.ShloMosaic.Lib.KernelVsHost
@[expose] public section

/-! The host stretches at an index. -/
namespace Cert.KernelIdeal.Run
open Idealize.ShloMosaic Idealize.ShloMosaic.TcCoe Cert.KernelIdeal.Gen Idealize.SL Idealize.ShloMosaic.ValueIdx

theorem yOf_at (v : FVec Ideal S27x3x4x256 .bf16) (t : Fin 3) (i : Fin 27) (half : Fin 2) (r : Fin 128) (b : Fin 4) (n : Fin 27648) (hn : n.val = 1024 * i.val + 512 * half.val + 4 * r.val + b.val) :
    yOf v (ix3 t 0 n) = v (ix4 i t b ⟨128 * half.val + r.val, by omega⟩) := by
  unfold yOf
  rw [shapeCast_apply _ shapeCasts_S3x27x2x128x4_S3x1x27648 (ix3 t 0 n) (ix5 t i half r b) (by
    rw [Shape.rowMajor_val_five, Shape.rowMajor_val_three]
    exact (show (((t.val * 27 + i.val) * 2 + half.val) * 128 + r.val) * 4 + b.val = (t.val * 1 + 0) * 27648 + n.val by omega))]
  rw [transpose_apply [1, 0, 3, 4, 2] _ transposes_S27x3x4x2x128_S3x27x2x128x4_1_0_3_4_2 (ix5 t i half r b) (ix5 i t b half r) (fun a => by
    match a with
    | ⟨0, _⟩ => rfl
    | ⟨1, _⟩ => rfl
    | ⟨2, _⟩ => rfl
    | ⟨3, _⟩ => rfl
    | ⟨4, _⟩ => rfl)]
  exact shapeCast_apply _ _ _ _ (by
    rw [Shape.rowMajor_val_five, Shape.rowMajor_val_four]
    exact (show ((i.val * 3 + t.val) * 4 + b.val) * 256 + (128 * half.val + r.val) = (((i.val * 3 + t.val) * 4 + b.val) * 2 + half.val) * 128 + r.val by omega))

theorem scalesOf_at (v : FVec Ideal S320x128 .f32) (t : Fin 3) (g : Fin 40) :
    scalesOf v (ix3 t 0 g) = v (ix2 ⟨8 * g.val + t.val, by omega⟩ 0) := by
  unfold scalesOf
  rw [shapeCast_apply _ shapeCasts_S3x40_S3x1x40 (ix3 t 0 g) (ix2 t g) (by
    rw [Shape.rowMajor_val_two, Shape.rowMajor_val_three]
    exact (show t.val * 40 + g.val = (t.val * 1 + 0) * 40 + g.val by omega))]
  rw [transpose_apply [1, 0] _ transposes_S40x3_S3x40_1_0 (ix2 t g) (ix2 g t) (fun a => by
    match a with
    | ⟨0, _⟩ => rfl
    | ⟨1, _⟩ => rfl)]
  rw [shapeCast_apply _ shapeCasts_S40x3x1_S40x3 (ix2 g t) (ix3 g t 0) (by
    rw [Shape.rowMajor_val_two, Shape.rowMajor_val_three]
    exact (show (g.val * 3 + t.val) * 1 + 0 = g.val * 3 + t.val by omega))]
  rw [extractStridedSlice_apply ![0, 0, 0] _ slices_S40x8x128_S40x3x1_0_0_0 (ix3 g t 0) (ix3 g ⟨t.val, by omega⟩ 0) (fun a => by
    match a with
    | ⟨0, _⟩ => exact (show g.val = 0 + g.val by omega)
    | ⟨1, _⟩ => exact (show t.val = 0 + t.val by omega)
    | ⟨2, _⟩ => rfl)]
  exact shapeCast_apply _ _ _ _ (by
    rw [Shape.rowMajor_val_two, Shape.rowMajor_val_three]
    exact (show (8 * g.val + t.val) * 128 + 0 = (g.val * 8 + t.val) * 128 + 0 by omega))

theorem xgOf_at (x : FVec Ideal S3x1x5120 .bf16) (t : Fin 3) (g : Fin 40) (l : Fin 128) :
    xgOf x (ix2 ⟨8 * g.val + t.val, by omega⟩ l) = x (ix3 t 0 ⟨128 * g.val + l.val, by omega⟩) := by
  unfold xgOf
  rw [shapeCast_apply _ shapeCasts_S40x8x128_S320x128 (ix2 ⟨8 * g.val + t.val, by omega⟩ l) (ix3 g ⟨t.val, by omega⟩ l) (by
    rw [Shape.rowMajor_val_two, Shape.rowMajor_val_three]
    exact (show (g.val * 8 + t.val) * 128 + l.val = (8 * g.val + t.val) * 128 + l.val by omega))]
  rw [pad_apply_of_inside ![0, 0, 0] ![0, 5, 0] ![0, 0, 0] _ _ pads_S40x3x128_S40x8x128_000_050_000 h_S_ (ix3 g ⟨t.val, by omega⟩ l) (ix3 g t l) (fun a => by
    match a with
    | ⟨0, _⟩ => exact (show g.val = 0 + g.val * (0 + 1) by omega)
    | ⟨1, _⟩ => exact (show t.val = 0 + t.val * (0 + 1) by omega)
    | ⟨2, _⟩ => exact (show l.val = 0 + l.val * (0 + 1) by omega))]
  rw [transpose_apply [1, 0, 2] _ transposes_S3x40x128_S40x3x128_1_0_2 (ix3 g t l) (ix3 t g l) (fun a => by
    match a with
    | ⟨0, _⟩ => rfl
    | ⟨1, _⟩ => rfl
    | ⟨2, _⟩ => rfl)]
  exact shapeCast_apply _ _ _ _ (by
    rw [Shape.rowMajor_val_three, Shape.rowMajor_val_three]
    exact (show (t.val * 1 + 0) * 5120 + (128 * g.val + l.val) = (t.val * 40 + g.val) * 128 + l.val by omega))

/-- An index of the codes' rank-8 view. -/
abbrev ix8 {n0 n1 n2 n3 n4 n5 n6 n7 : ℕ} (a0 : Fin n0) (a1 : Fin n1) (a2 : Fin n2) (a3 : Fin n3) (a4 : Fin n4) (a5 : Fin n5) (a6 : Fin n6) (a7 : Fin n7) :
    (⟨8, ![n0, n1, n2, n3, n4, n5, n6, n7]⟩ : Shape).Idx := fun a =>
  match a with
  | ⟨0, _⟩ => a0 | ⟨1, _⟩ => a1 | ⟨2, _⟩ => a2 | ⟨3, _⟩ => a3 | ⟨4, _⟩ => a4 | ⟨5, _⟩ => a5 | ⟨6, _⟩ => a6 | ⟨7, _⟩ => a7

theorem rm8 {n0 n1 n2 n3 n4 n5 n6 n7 : ℕ} (a0 : Fin n0) (a1 : Fin n1) (a2 : Fin n2) (a3 : Fin n3) (a4 : Fin n4) (a5 : Fin n5) (a6 : Fin n6) (a7 : Fin n7) :
    ((⟨8, ![n0, n1, n2, n3, n4, n5, n6, n7]⟩ : Shape).rowMajor (ix8 a0 a1 a2 a3 a4 a5 a6 a7)).val
      = a0.val * (⟨7, ![n1, n2, n3, n4, n5, n6, n7]⟩ : Shape).numel + (a1.val * (⟨6, ![n2, n3, n4, n5, n6, n7]⟩ : Shape).numel
        + (((((a2.val * n3 + a3.val) * n4 + a4.val) * n5 + a5.val) * n6 + a6.val) * n7 + a7.val)) := by
  rw [Shape.rowMajor_val_succ, Shape.rowMajor_val_succ, Shape.rowMajor_val_six]
  rfl

theorem codesOf_at (v : IVec S2x16x320x128 32) (t : Fin 3) (g : Fin 40) (j2 : Fin 2) (m : Fin 8) (par : Fin 2) (e : Fin 16) (q : Fin 1280)
    (hq : q.val = 32 * g.val + 16 * j2.val + 2 * m.val + par.val) :
    codesOf v (ix4 t 0 q e) = v (ix4 j2 e ⟨8 * g.val + t.val, by omega⟩ ⟨32 * par.val + 4 * m.val, by omega⟩) := by
  unfold codesOf
  rw [shapeCast_apply _ shapeCasts_S3x40x2x8x2x16_S3x1x1280x16 (ix4 t 0 q e) (ix6 t g j2 m par e) (by
    rw [Shape.rowMajor_val_six, Shape.rowMajor_val_four]
    exact (show ((((t.val * 40 + g.val) * 2 + j2.val) * 8 + m.val) * 2 + par.val) * 16 + e.val = ((t.val * 1 + 0) * 1280 + q.val) * 16 + e.val by omega))]
  rw [transpose_apply [3, 2, 0, 5, 4, 1] _ transposes_S2x16x40x3x2x8_S3x40x2x8x2x16_3_2_0_5_4_1 (ix6 t g j2 m par e) (ix6 j2 e g t par m) (fun a => by
    match a with
    | ⟨0, _⟩ => rfl
    | ⟨1, _⟩ => rfl
    | ⟨2, _⟩ => rfl
    | ⟨3, _⟩ => rfl
    | ⟨4, _⟩ => rfl
    | ⟨5, _⟩ => rfl)]
  rw [shapeCast_apply _ shapeCasts_S2x16x40x3x1x2x8x1_S2x16x40x3x2x8 (ix6 j2 e g t par m) (ix8 j2 e g t 0 par m 0) (by
    rw [Shape.rowMajor_val_six, rm8]
    rw [show (⟨7, ![16, 40, 3, 1, 2, 8, 1]⟩ : Shape).numel = 30720 by decide +kernel, show (⟨6, ![40, 3, 1, 2, 8, 1]⟩ : Shape).numel = 1920 by decide +kernel]
    exact (show j2.val * 30720 + (e.val * 1920 + (((((g.val * 3 + t.val) * 1 + 0) * 2 + par.val) * 8 + m.val) * 1 + 0)) = ((((j2.val * 16 + e.val) * 40 + g.val) * 3 + t.val) * 2 + par.val) * 8 + m.val by omega))]
  rw [extractStridedSlice_apply ![0, 0, 0, 0, 0, 0, 0, 0] _ slices_S2x16x40x8x2x2x8x4_S2x16x40x3x1x2x8x1_0_0_0_0_0_0_0_0 (ix8 j2 e g t 0 par m 0) (ix8 j2 e g ⟨t.val, by omega⟩ 0 par m 0) (fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm
    | ⟨4, _⟩ => rfl
    | ⟨5, _⟩ => exact (Nat.zero_add _).symm
    | ⟨6, _⟩ => exact (Nat.zero_add _).symm
    | ⟨7, _⟩ => rfl)]
  exact shapeCast_apply _ _ _ _ (by
    rw [rm8, Shape.rowMajor_val_four]
    rw [show (⟨7, ![16, 40, 8, 2, 2, 8, 4]⟩ : Shape).numel = 655360 by decide +kernel, show (⟨6, ![40, 8, 2, 2, 8, 4]⟩ : Shape).numel = 40960 by decide +kernel]
    exact (show ((j2.val * 16 + e.val) * 320 + (8 * g.val + t.val)) * 128 + (32 * par.val + 4 * m.val) = j2.val * 655360 + (e.val * 40960 + (((((g.val * 8 + t.val) * 2 + 0) * 2 + par.val) * 8 + m.val) * 4 + 0)) by omega))

end Cert.KernelIdeal.Run
-- ==== Proof.KernelIdeal.Vals.lean ====
module
public import proofs.«01_k».proof.Proof.KernelIdeal.Arr0
public import proofs.«01_k».proof.Proof.KernelIdeal.Arr1
public import proofs.«01_k».proof.Proof.KernelIdeal.HostAt
@[expose] public section

/-! The kernel's three results, of its arguments. -/
namespace Cert.KernelIdeal.Run
open Idealize.ShloMosaic Idealize.ShloMosaic.TcCoe Cert.KernelIdeal.Gen Idealize.SL Idealize.ShloMosaic.ValueIdx Cert.Spec

section
variable (m : (ℓ : Loc nD τ sig) → Buf (Elt Ideal) ℓ) (ρ : Dev nD → PrngReg) (c : Dev nD)

/-- The tables call's operand. -/
noncomputable abbrev xgM : FVec Ideal S320x128 .bf16 := xgOf (m ((c.tc : Thread nD τ).loc main_arg0))

theorem v40_eq : W4 (F := Ideal) m ρ c (Proc.devRef .tc main_v4_0) = codesG (xgM m c) :=
  (W4_arr m ρ c 1).trans ((arr0_1 (V3 m ρ) c).trans (congrArg codesG (v3_eq m ρ c)))
theorem v41_eq : W4 (F := Ideal) m ρ c (Proc.devRef .tc main_v4_1) = scaleG (xgM m c) :=
  (W4_arr m ρ c 2).trans ((arr0_2 (V3 m ρ) c).trans (congrArg scaleG (v3_eq m ρ c)))
theorem v42_eq : W4 (F := Ideal) m ρ c (Proc.devRef .tc main_v4_2) = lhsG (xgM m c) :=
  (W4_arr m ρ c 3).trans ((arr0_3 (V3 m ρ) c).trans (congrArg lhsG (v3_eq m ρ c)))
theorem v43_eq : W4 (F := Ideal) m ρ c (Proc.devRef .tc main_v4_3) = zsumG (xgM m c) :=
  (W4_arr m ρ c 4).trans ((arr0_4 (V3 m ρ) c).trans (congrArg zsumG (v3_eq m ρ c)))

theorem v50_eq : W5 (F := Ideal) m ρ c (Proc.devRef .tc main_v4_0) = codesG (xgM m c) :=
  (W5_of m ρ c main_v4_0 (by decide)).trans (v40_eq m ρ c)
theorem v51_eq : W5 (F := Ideal) m ρ c (Proc.devRef .tc main_v4_1) = scaleG (xgM m c) :=
  (W5_of m ρ c main_v4_1 (by decide)).trans (v41_eq m ρ c)
theorem v5_eq : W5 (F := Ideal) m ρ c (Proc.devRef .tc main_v5) = YA (V4 m ρ) c (xgM m c) :=
  (W5_arr m ρ c 8).trans (arr1_8 (V4 m ρ) c (xgM m c) (v42_eq m ρ c) (v43_eq m ρ c) (v41_eq m ρ c))

theorem y_at (t : Fin 3) (i : Fin 27) (half : Fin 2) (r : Fin 128) (b : Fin 4) (n : Fin 27648) (hn : n.val = 1024 * i.val + 512 * half.val + 4 * r.val + b.val) :
    W6 (F := Ideal) m ρ c (Proc.devRef .tc main_v8) (ix3 t 0 n)
      = yv (xgM m c) (PWd (iblk1 (F := Ideal) (V4 m ρ) c 0 i)) (Wd (xin1_1 (V4 m ρ) c i) (xin1_2 (V4 m ρ) c i)) (Wd (xin1_3 (V4 m ρ) c i) (xin1_4 (V4 m ρ) c i)) t b half r := by
  refine (congrFun (v8_eq m ρ c) _).trans ?_
  refine (yOf_at _ t i half r b n hn).trans ?_
  rw [v5_eq]
  unfold YA YG
  have e1 : (⟨(128 * half.val + r.val) / 128, by omega⟩ : Fin 2) = half := Fin.ext (show (128 * half.val + r.val) / 128 = half.val by omega)
  have e2 : (⟨(128 * half.val + r.val) % 128, by omega⟩ : Fin 128) = r := Fin.ext (show (128 * half.val + r.val) % 128 = r.val by omega)
  exact congrArg₂ (yv (xgM m c) (PWd (iblk1 (F := Ideal) (V4 m ρ) c 0 i)) (Wd (xin1_1 (V4 m ρ) c i) (xin1_2 (V4 m ρ) c i)) (Wd (xin1_3 (V4 m ρ) c i) (xin1_4 (V4 m ρ) c i)) t b) e1 e2

theorem codes_at (t : Fin 3) (g : Fin 40) (j2 : Fin 2) (q8 : Fin 8) (par : Fin 2) (e : Fin 16) (q : Fin 1280)
    (hq : q.val = 32 * g.val + 16 * j2.val + 2 * q8.val + par.val) :
    W6 (F := Ideal) m ρ c (Proc.devRef .tc main_v14) (ix4 t 0 q e)
      = (BitVec.ofInt 32 (gz (row (xgM m c) ⟨8 * g.val + t.val, by omega⟩) ⟨q.val % 32, by omega⟩ e.val)).setWidth 8 := by
  refine (congrFun (v14_eq m ρ c) _).trans ?_
  show (codesOf _ (ix4 t 0 q e)).setWidth 8 = _
  rw [codesOf_at _ t g j2 q8 par e q hq, v50_eq]
  unfold codesG cz
  have e1 : kq j2 ⟨32 * par.val + 4 * q8.val, by omega⟩ = ⟨q.val % 32, by omega⟩ := by
    unfold kq
    have a1 : (32 * par.val + 4 * q8.val) / 4 % 8 = q8.val := by omega
    have a2 : (32 * par.val + 4 * q8.val) / 32 % 2 = par.val := by
      rcases (show par.val = 0 ∨ par.val = 1 by omega) with h | h <;> rw [h] <;> omega
    have a3 : q.val % 32 = 16 * j2.val + 2 * q8.val + par.val := by omega
    exact Fin.ext (show 16 * j2.val + 2 * ((32 * par.val + 4 * q8.val) / 4 % 8) + (32 * par.val + 4 * q8.val) / 32 % 2 = q.val % 32 by rw [a1, a2, a3])
  exact congrArg (fun z => (BitVec.ofInt 32 (gz (row (xgM m c) ⟨8 * g.val + t.val, by omega⟩) z e.val)).setWidth 8) e1

theorem scales_at (t : Fin 3) (g : Fin 40) :
    W6 (F := Ideal) m ρ c (Proc.devRef .tc main_v19) (ix3 t 0 g) = gscale (row (xgM m c) ⟨8 * g.val + t.val, by omega⟩) := by
  refine (congrFun (v19_eq m ρ c) _).trans ?_
  refine (scalesOf_at _ t g).trans ?_
  rw [v51_eq]
  rfl

theorem planes_at (i : Fin 27) (p : Fin 4) (r : Fin 1024) (j : Fin 640) :
    iblk1 (F := Ideal) (V4 m ρ) c 0 i (ix3 p r j) = m ((c.tc : Thread nD τ).loc main_arg1) (ix3 p ⟨1024 * i.val + r.val, by omega⟩ j) :=
  (iblk1_0 (V4 m ρ) c i p r j).trans (congrFun (W4_args m ρ c main_arg1 (by decide)) _)

theorem ws_at (i : Fin 27) (half : Fin 2) (r : Fin 128) (b : Fin 4) (G : Fin 160) (n : Fin 27648) (hn : n.val = 1024 * i.val + 512 * half.val + 4 * r.val + b.val) :
    Wd (xin1_1 (V4 m ρ) c i) (xin1_2 (V4 m ρ) c i) half ⟨4 * G.val + b.val, by omega⟩ r = m ((c.tc : Thread nD τ).loc main_arg2) (ix2 n G) := by
  unfold Wd
  split
  · rename_i h
    refine (xin1_1_apply (V4 m ρ) c i _ _).trans ((congrFun (W4_args m ρ c main_arg2 (by decide)) _).trans ?_)
    refine congrArg (m ((c.tc : Thread nD τ).loc main_arg2)) (funext fun a => Fin.ext ?_)
    match a with
    | ⟨0, _⟩ => exact (show 1024 * i.val + (512 * half.val + 4 * r.val + (4 * G.val + b.val) % 4) = n.val by omega)
    | ⟨1, _⟩ => exact (show (4 * G.val + b.val) / 4 = G.val by omega)
  · rename_i h
    have h' : ¬ (4 * G.val + b.val) / 4 < 128 := h
    refine (xin1_2_apply (V4 m ρ) c i _ _ (show (4 * G.val + b.val) / 4 - 128 < 32 by omega)).trans ((congrFun (W4_args m ρ c main_arg2 (by decide)) _).trans ?_)
    refine congrArg (m ((c.tc : Thread nD τ).loc main_arg2)) (funext fun a => Fin.ext ?_)
    match a with
    | ⟨0, _⟩ => exact (show 1024 * i.val + (512 * half.val + 4 * r.val + (4 * G.val + b.val) % 4) = n.val by omega)
    | ⟨1, _⟩ => exact (show 128 + ((4 * G.val + b.val) / 4 - 128) = G.val by omega)

theorem wz_at (i : Fin 27) (half : Fin 2) (r : Fin 128) (b : Fin 4) (G : Fin 160) (n : Fin 27648) (hn : n.val = 1024 * i.val + 512 * half.val + 4 * r.val + b.val) :
    Wd (xin1_3 (V4 m ρ) c i) (xin1_4 (V4 m ρ) c i) half ⟨4 * G.val + b.val, by omega⟩ r = m ((c.tc : Thread nD τ).loc main_arg3) (ix2 n G) := by
  unfold Wd
  split
  · rename_i h
    refine (xin1_3_apply (V4 m ρ) c i _ _).trans ((congrFun (W4_args m ρ c main_arg3 (by decide)) _).trans ?_)
    refine congrArg (m ((c.tc : Thread nD τ).loc main_arg3)) (funext fun a => Fin.ext ?_)
    match a with
    | ⟨0, _⟩ => exact (show 1024 * i.val + (512 * half.val + 4 * r.val + (4 * G.val + b.val) % 4) = n.val by omega)
    | ⟨1, _⟩ => exact (show (4 * G.val + b.val) / 4 = G.val by omega)
  · rename_i h
    have h' : ¬ (4 * G.val + b.val) / 4 < 128 := h
    refine (xin1_4_apply (V4 m ρ) c i _ _ (show (4 * G.val + b.val) / 4 - 128 < 32 by omega)).trans ((congrFun (W4_args m ρ c main_arg3 (by decide)) _).trans ?_)
    refine congrArg (m ((c.tc : Thread nD τ).loc main_arg3)) (funext fun a => Fin.ext ?_)
    match a with
    | ⟨0, _⟩ => exact (show 1024 * i.val + (512 * half.val + 4 * r.val + (4 * G.val + b.val) % 4) = n.val by omega)
    | ⟨1, _⟩ => exact (show 128 + ((4 * G.val + b.val) / 4 - 128) = G.val by omega)
end

end Cert.KernelIdeal.Run
-- ==== Proof.KernelIdeal.RunVal.lean ====
module
public import proofs.«01_k».proof.Proof.KernelIdeal.Frame
@[expose] public section

/-! The whole run once more, read at the three results. -/
noncomputable section
namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the same unfolding as for the frame
set_option backward.isDefEq.respectTransparency.types false in
/-- The run with its three results: what the last host stretch leaves in them, the arguments as launched. -/
theorem run_vals : θ_run defs (onTc (τ := τ) (main (F := F))) ⟨m, fun _ => 0, ρ⟩ (fun r => ∀ c : Dev nD,
      r.2.mem ((c.tc : Thread nD τ).loc main_v8) = W6 m ρ c (Proc.devRef .tc main_v8)
      ∧ r.2.mem ((c.tc : Thread nD τ).loc main_v14) = W6 m ρ c (Proc.devRef .tc main_v14)
      ∧ r.2.mem ((c.tc : Thread nD τ).loc main_v19) = W6 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => (fun c =>
      ⟨h c _ (mem_uc main_v8 (by decide)), h c _ (mem_uc main_v14 (by decide)), h c _ (mem_uc main_v19 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩))

end Cert.KernelIdeal.Run

end
-- ==== Proof.Alg.lean ====
module
public import proofs.«01_k».proof.Proof.Agree
public import proofs.«01_k».proof.Proof.KernelIdeal.Vals
public import proofs.«01_k».proof.Proof.KernelIdeal.RunVal
@[expose] public section

/-! The kernel's results are the reference's, element by element. -/
namespace Cert.Agree
open Idealize.ShloMosaic Idealize.ShloMosaic.TcCoe Idealize.ShloMosaic.ValueIdx Cert.Spec Cert.Bits Cert.RefVal
open Cert.KernelIdeal.Run Cert.KernelIdeal

section
variable (m : (ℓ : Loc nD τ sig) → Buf (Elt Ideal) ℓ) (ρ : Dev nD → PrngReg) (c : Dev nD)

theorem row_eq (t : Fin 3) (g : Fin 40) : row (xgM m c) ⟨8 * g.val + t.val, by omega⟩ = xrow (m ((c.tc : Thread nD τ).loc main_arg0)) t g :=
  funext fun l => xgOf_at _ t g l

theorem res_scales : W6 (F := Ideal) m ρ c (Proc.devRef .tc main_v19) = Cert.ReferenceIdeal.Read.val_main_v52 (F := Ideal) (m ((c.tc : Thread nD τ).loc main_arg0)) := by
  funext y
  obtain ⟨t, g, rfl⟩ : ∃ (t : Fin 3) (g : Fin 40), y = (ix3 t 0 g : S3x1x40.Idx) := ⟨y 0, y 2, by
    refine (eq_ix3 y).trans ?_
    exact congrArg (fun z : Fin 1 => (ix3 (y 0) z (y 2) : S3x1x40.Idx)) (Subsingleton.elim _ _)⟩
  refine (scales_at m ρ c t g).trans ?_
  rw [row_eq]
  exact (v52_at _ t g).symm

theorem res_codes : W6 (F := Ideal) m ρ c (Proc.devRef .tc main_v14) = Cert.ReferenceIdeal.Read.val_main_v60 (F := Ideal) (m ((c.tc : Thread nD τ).loc main_arg0)) := by
  funext y
  obtain ⟨t, q, e, rfl⟩ : ∃ (t : Fin 3) (q : Fin 1280) (e : Fin 16), y = (ix4 t 0 q e : S3x1x1280x16.Idx) := ⟨y 0, y 2, y 3, by
    refine (eq_ix4 y).trans ?_
    exact congrArg (fun z : Fin 1 => (ix4 (y 0) z (y 2) (y 3) : S3x1x1280x16.Idx)) (Subsingleton.elim _ _)⟩
  refine (codes_at m ρ c t ⟨q.val / 32, by omega⟩ ⟨q.val % 32 / 16, by omega⟩ ⟨q.val / 2 % 8, by omega⟩ ⟨q.val % 2, by omega⟩ e q
    (show q.val = 32 * (q.val / 32) + 16 * (q.val % 32 / 16) + 2 * (q.val / 2 % 8) + q.val % 2 by omega)).trans ?_
  rw [row_eq]
  exact (v60_at _ t q e).symm

theorem res_y : W6 (F := Ideal) m ρ c (Proc.devRef .tc main_v8) = Cert.ReferenceIdeal.Read.val_main_v134 (F := Ideal) (m ((c.tc : Thread nD τ).loc main_arg0))
    (m ((c.tc : Thread nD τ).loc main_arg1)) (m ((c.tc : Thread nD τ).loc main_arg2)) (m ((c.tc : Thread nD τ).loc main_arg3)) := by
  funext y
  obtain ⟨t, n, rfl⟩ : ∃ (t : Fin 3) (n : Fin 27648), y = (ix3 t 0 n : S3x1x27648.Idx) := ⟨y 0, y 2, by
    refine (eq_ix3 y).trans ?_
    exact congrArg (fun z : Fin 1 => (ix3 (y 0) z (y 2) : S3x1x27648.Idx)) (Subsingleton.elim _ _)⟩
  obtain ⟨i, half, r, b, hn⟩ : ∃ (i : Fin 27) (half : Fin 2) (r : Fin 128) (b : Fin 4), n.val = 1024 * i.val + 512 * half.val + 4 * r.val + b.val :=
    ⟨⟨n.val / 1024, by omega⟩, ⟨n.val / 512 % 2, by omega⟩, ⟨n.val / 4 % 128, by omega⟩, ⟨n.val % 4, by omega⟩,
      show n.val = 1024 * (n.val / 1024) + 512 * (n.val / 512 % 2) + 4 * (n.val / 4 % 128) + n.val % 4 by omega⟩
  refine (y_at m ρ c t i half r b n hn).trans ?_
  refine y_eq (m ((c.tc : Thread nD τ).loc main_arg0)) (m ((c.tc : Thread nD τ).loc main_arg1)) (m ((c.tc : Thread nD τ).loc main_arg2)) (m ((c.tc : Thread nD τ).loc main_arg3))
    _ _ _ _ t b half r n (fun g => row_eq m c t g) (fun p j par => ?_) (fun G => ws_at m ρ c i half r b G n hn) (fun G => wz_at m ρ c i half r b G n hn)
  unfold PWd
  refine (nib_word _ b par).trans ?_
  have hb : iblk1 (F := Ideal) (V4 m ρ) c 0 i (ix3 p ⟨512 * half.val + 4 * r.val + b.val, by omega⟩ j) = m ((c.tc : Thread nD τ).loc main_arg1) (ix3 p n j) := by
    refine (planes_at m ρ c i p _ j).trans (congrArg (m ((c.tc : Thread nD τ).loc main_arg1)) (funext fun a => Fin.ext ?_))
    match a with
    | ⟨0, _⟩ => rfl
    | ⟨1, _⟩ => exact (show 1024 * i.val + (512 * half.val + 4 * r.val + b.val) = n.val by omega)
    | ⟨2, _⟩ => rfl
  exact congrArg (fun v : BitVec 8 => if par = 0 then v.toNat % 16 else v.toNat / 16) hb
end

end Cert.Agree
-- ==== Proof.lean ====
/-
  The proof of this certificate's claims.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal.Run
public import proofs.«01_k».proof.Proof.Gen.ReferenceIdeal.Read
public import proofs.«01_k».proof.Proof.Kernel.Frame
public import proofs.«01_k».proof.Proof.KernelIdeal.Frame
public import proofs.«01_k».proof.Proof.Alg
public import Idealize.ShloMosaic.Adequacy
public import Idealize.ShloMosaic.Init

@[expose] public section

noncomputable section

namespace Cert.Proof

open Idealize.ShloMosaic Idealize.SL.Sem Cert.Kernel

/-- The kernel's frame at the machine's words. -/
theorem frame_k : Cert.quiescent_Kernel := fun m ρ _ => Cert.Kernel.Run.frame m ρ

/-- The kernel's frame at ideal values. -/
theorem frame_ki : Cert.quiescent_KernelIdeal := fun m ρ _ => Cert.KernelIdeal.Run.frame m ρ

/-- The reference's frame: a straight-line host program, which declares no semaphore. -/
theorem frame_ri : Cert.quiescent_ReferenceIdeal := fun m ρ _ =>
  (θ_run Cert.ReferenceIdeal.defs _ _).mono (fun r h => ⟨fun c => ⟨(h c).2.2.2.1, (h c).2.2.2.2.1, (h c).2.2.2.2.2.1, (h c).2.2.2.2.2.2⟩,
    Idealize.ShloMosaic.sem_eq_zero_of_no_sems (by decide) r.2⟩) (Cert.ReferenceIdeal.Value.run m ρ)

/-- The kernel returns the reference's three results. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => Cert.KernelIdeal.Run.W6 m g c (Proc.devRef .tc Cert.KernelIdeal.main_v8), fun c => Cert.KernelIdeal.Run.W6 m g c (Proc.devRef .tc Cert.KernelIdeal.main_v14),
    fun c => Cert.KernelIdeal.Run.W6 m g c (Proc.devRef .tc Cert.KernelIdeal.main_v19), Cert.KernelIdeal.Run.run_vals m g, ?_⟩
  refine (θ_run Cert.ReferenceIdeal.defs _ _).mono (fun r h c => ?_) (Cert.ReferenceIdeal.Value.run m' g')
  obtain ⟨h0, h1, h2, ha⟩ := h c
  obtain ⟨a0, a1, a2, a3⟩ := hm c
  refine ⟨h0.trans ?_, h1.trans ?_, h2.trans ?_, ha⟩
  · rw [Cert.ReferenceIdeal.Read.val_main_v134_eq, a0, a1, a2, a3]
    exact (Cert.Agree.res_y m g c).symm
  · rw [Cert.ReferenceIdeal.Read.val_main_v60_eq, a0]
    exact (Cert.Agree.res_codes m g c).symm
  · rw [Cert.ReferenceIdeal.Read.val_main_v52_eq, a0]
    exact (Cert.Agree.res_scales m g c).symm

theorem claim : Cert.Claim := ⟨Cert.Kernel.Gen.facts, Cert.KernelIdeal.Gen.facts, Cert.ReferenceIdeal.Gen.facts,
  frame_k, frame_ki, frame_ri, trivial, algebraic⟩

end Cert.Proof

end
